-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![1, 1024, 64, 128]⟩ ⟨4, ![1, 8192, 64, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 64, 128]⟩ ⟨4, ![1, 8192, 64, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x64x128 : S_.BroadcastsInDim S1x1024x64x128 (![] : Fin 0 → Fin S1x1024x64x128.rank)
  reducesTo_S1x1024x64x128_S_d0_1_2_3 : S1x1024x64x128.ReducesTo [0, 1, 2, 3] S_

variable [Facts]

def fn {F : FTy → Type} [FloatOps F] (main_arg0 : FVec F S1x1024x1024 .f32) (main_arg1 : FVec F S1024x1024 .f32) (main_arg2 : FVec F S1x1024x64x128 .f32) (main_arg3 : FVec F S1x1024x64x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024x64x128 .f32 := Host.absf main_arg2
  let main_cst_2 : FVec F S_ .f32 := constant S_ .f32 0x7F800000#32
  let main_v10 : FVec F S1x1024x64x128 .f32 := broadcastInDim S1x1024x64x128 ![] bcast_S_S1x1024x64x128 main_cst_2
  let main_v11 : IVec S1x1024x64x128 1 := cmpf .olt main_v9 main_v10
  let main_c_3 : IVec S_ 1 := constantI S_ 1 1#1
  let main_v12 : IVec S_ 1 := (fun x v => Host.reduce IntOp.andi x v reducesTo_S1x1024x64x128_S_d0_1_2_3 h_S_) main_v11 main_c_3
  let main_v13 : IVec S_ 1 := andi main_v8 main_v12
  main_v13
-- ==== Pre_finite_scores_ReferenceIdeal.lean ====
abbrev S1x1024x1024 : Shape := ⟨3, ![1, 1024, 1024]⟩
abbrev S1024x8192 : Shape := ⟨2, ![1024, 8192]⟩
abbrev S1x8192x64x128 : Shape := ⟨4, ![1, 8192, 64, 128]⟩
abbrev S8192x1024 : Shape := ⟨2, ![8192, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x8192x64x128 : S_.BroadcastsInDim S1x8192x64x128 (![] : Fin 0 → Fin S1x8192x64x128.rank)
  reducesTo_S1x8192x64x128_S_d0_1_2_3 : S1x8192x64x128.ReducesTo [0, 1, 2, 3] S_

variable [Facts]

def fn {F : FTy → Type} [FloatOps F] (main_arg0 : FVec F S1x1024x1024 .f32) (main_arg1 : FVec F S1024x8192 .f32) (main_arg2 : FVec F S1x8192x64x128 .f32) (main_arg3 : FVec F S1x8192x64x128 .f32) (main_arg4 : FVec F S8192x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x8192x64x128 .f32 := Host.absf main_arg2
  let main_cst_2 : FVec F S_ .f32 := constant S_ .f32 0x7F800000#32
  let main_v10 : FVec F S1x8192x64x128 .f32 := broadcastInDim S1x8192x64x128 ![] bcast_S_S1x8192x64x128 main_cst_2
  let main_v11 : IVec S1x8192x64x128 1 := cmpf .olt main_v9 main_v10
  let main_c_3 : IVec S_ 1 := constantI S_ 1 1#1
  let main_v12 : IVec S_ 1 := (fun x v => Host.reduce IntOp.andi x v reducesTo_S1x8192x64x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S1280x8x128 : Shape := ⟨3, ![1280, 8, 128]⟩
abbrev S256x64x128 : Shape := ⟨3, ![256, 64, 128]⟩
abbrev S2x256x64x128 : Shape := ⟨4, ![2, 256, 64, 128]⟩
abbrev S128x1024 : Shape := ⟨2, ![128, 1024]⟩
abbrev S8x128x1024 : Shape := ⟨3, ![8, 128, 1024]⟩
abbrev S1 : Shape := ⟨1, ![1]⟩
abbrev S2x8 : Shape := ⟨2, ![2, 8]⟩
abbrev S10 : Shape := ⟨1, ![10]⟩
abbrev S8 : Shape := ⟨1, ![8]⟩
abbrev S_ : Shape := ⟨0, ![]⟩
abbrev S1x256x64x128 : Shape := ⟨4, ![1, 256, 64, 128]⟩
abbrev S1x1 : Shape := ⟨2, ![1, 1]⟩
abbrev S256x8x128 : Shape := ⟨3, ![256, 8, 128]⟩
abbrev S1x256x8x128 : Shape := ⟨4, ![1, 256, 8, 128]⟩
abbrev S128x256 : Shape := ⟨2, ![128, 256]⟩
abbrev S128x128 : Shape := ⟨2, ![128, 128]⟩
abbrev S256x1x128 : Shape := ⟨3, ![256, 1, 128]⟩
abbrev S256x128 : Shape := ⟨2, ![256, 128]⟩
abbrev S128 : Shape := ⟨1, ![128]⟩
abbrev S128x1 : Shape := ⟨2, ![128, 1]⟩
abbrev S1x128x1024 : Shape := ⟨3, ![1, 128, 1024]⟩
abbrev S128x384 : Shape := ⟨2, ![128, 384]⟩
abbrev S384x1x128 : Shape := ⟨3, ![384, 1, 128]⟩
abbrev S384x128 : Shape := ⟨2, ![384, 128]⟩

abbrev nBuf : Space → Nat
  | .hbm => 6
  | .vmem => 12
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x64x128, .f32⟩
  | .hbm, ⟨3, _⟩ => ⟨S1x1024x64x128, .f32⟩
  | .hbm, ⟨4, _⟩ => ⟨S1024x1024, .f32⟩
  | .hbm, ⟨5, _⟩ => ⟨S1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1280x8x128, .bf16⟩
  | .local _ .vmem, ⟨5, _⟩ => ⟨S1280x8x128, .bf16⟩
  | .local _ .vmem, ⟨6, _⟩ => ⟨S256x64x128, .f32⟩
  | .local _ .vmem, ⟨7, _⟩ => ⟨S2x256x64x128, .bf16⟩
  | .local _ .vmem, ⟨8, _⟩ => ⟨S1024x1024, .bf16⟩
  | .local _ .vmem, ⟨9, _⟩ => ⟨S128x1024, .bf16⟩
  | .local _ .vmem, ⟨10, _⟩ => ⟨S8x128x1024, .bf16⟩
  | .local _ .vmem, ⟨11, _⟩ => ⟨S8x128x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  (ofTc nBuf bufTy 1 63 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_1011 : BitVec 32 := 0#32
  let c0_i32_1009 : BitVec 32 := 0#32
  let c1_i32_1010 : BitVec 32 := 1#32
  let v1752 : BitVec 32 := Scalar.muli c0_i32_1009 c1_i32_1010
  let v1753 : BitVec 32 := Scalar.addi c0_i32_1011 v1752
  v1753.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_1011 : BitVec 32 := 0#32
  let c1_i32_1009 : BitVec 32 := 1#32
  let c1_i32_1010 : BitVec 32 := 1#32
  let v1752 : BitVec 32 := Scalar.muli c1_i32_1009 c1_i32_1010
  let v1753 : BitVec 32 := Scalar.addi c0_i32_1011 v1752
  v1753.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_1011 : BitVec 32 := 0#32
  let c2_i32_1009 : BitVec 32 := 2#32
  let c1_i32_1010 : BitVec 32 := 1#32
  let v1752 : BitVec 32 := Scalar.muli c2_i32_1009 c1_i32_1010
  let v1753 : BitVec 32 := Scalar.addi c0_i32_1011 v1752
  v1753.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_1011 : BitVec 32 := 0#32
  let c3_i32_1009 : BitVec 32 := 3#32
  let c1_i32_1010 : BitVec 32 := 1#32
  let v1752 : BitVec 32 := Scalar.muli c3_i32_1009 c1_i32_1010
  let v1753 : BitVec 32 := Scalar.addi c0_i32_1011 v1752
  v1753.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_1011 : BitVec 32 := 0#32
  let c4_i32_1009 : BitVec 32 := 4#32
  let c1_i32_1010 : BitVec 32 := 1#32
  let v1752 : BitVec 32 := Scalar.muli c4_i32_1009 c1_i32_1010
  let v1753 : BitVec 32 := Scalar.addi c0_i32_1011 v1752
  v1753.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_1011 : BitVec 32 := 0#32
  let c5_i32_1009 : BitVec 32 := 5#32
  let c1_i32_1010 : BitVec 32 := 1#32
  let v1752 : BitVec 32 := Scalar.muli c5_i32_1009 c1_i32_1010
  let v1753 : BitVec 32 := Scalar.addi c0_i32_1011 v1752
  v1753.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_1011 : BitVec 32 := 0#32
  let c6_i32_1009 : BitVec 32 := 6#32
  let c1_i32_1010 : BitVec 32 := 1#32
  let v1752 : BitVec 32 := Scalar.muli c6_i32_1009 c1_i32_1010
  let v1753 : BitVec 32 := Scalar.addi c0_i32_1011 v1752
  v1753.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_1011 : BitVec 32 := 0#32
  let c7_i32_1009 : BitVec 32 := 7#32
  let c1_i32_1010 : BitVec 32 := 1#32
  let v1752 : BitVec 32 := Scalar.muli c7_i32_1009 c1_i32_1010
  let v1753 : BitVec 32 := Scalar.addi c0_i32_1011 v1752
  v1753.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v28 : BitVec 1 := Scalar.cmpi .eq v2 c0_i32_10
  let v29 : BitVec 32 := Scalar.extui v28
  let c0_i32_11 : BitVec 32 := 0#32
  let v30 : BitVec 1 := Scalar.cmpi .ne v29 c0_i32_11
  v30

def k0_dev9 : Nat :=
  let c0_i32_1031 : BitVec 32 := 0#32
  let c1_i32_1029 : BitVec 32 := 1#32
  let c1_i32_1030 : BitVec 32 := 1#32
  let v1765 : BitVec 32 := Scalar.muli c1_i32_1029 c1_i32_1030
  let v1766 : BitVec 32 := Scalar.addi c0_i32_1031 v1765
  v1766.toNat
def k0_dev10 : Nat :=
  let c0_i32_1044 : BitVec 32 := 0#32
  let c2_i32_1042 : BitVec 32 := 2#32
  let c1_i32_1043 : BitVec 32 := 1#32
  let v1774 : BitVec 32 := Scalar.muli c2_i32_1042 c1_i32_1043
  let v1775 : BitVec 32 := Scalar.addi c0_i32_1044 v1774
  v1775.toNat
def k0_dev11 : Nat :=
  let c0_i32_1056 : BitVec 32 := 0#32
  let c3_i32_1054 : BitVec 32 := 3#32
  let c1_i32_1055 : BitVec 32 := 1#32
  let v1783 : BitVec 32 := Scalar.muli c3_i32_1054 c1_i32_1055
  let v1784 : BitVec 32 := Scalar.addi c0_i32_1056 v1783
  v1784.toNat
def k0_dev12 : Nat :=
  let c0_i32_1068 : BitVec 32 := 0#32
  let c4_i32_1066 : BitVec 32 := 4#32
  let c1_i32_1067 : BitVec 32 := 1#32
  let v1792 : BitVec 32 := Scalar.muli c4_i32_1066 c1_i32_1067
  let v1793 : BitVec 32 := Scalar.addi c0_i32_1068 v1792
  v1793.toNat
def k0_dev13 : Nat :=
  let c0_i32_1080 : BitVec 32 := 0#32
  let c5_i32_1078 : BitVec 32 := 5#32
  let c1_i32_1079 : BitVec 32 := 1#32
  let v1801 : BitVec 32 := Scalar.muli c5_i32_1078 c1_i32_1079
  let v1802 : BitVec 32 := Scalar.addi c0_i32_1080 v1801
  v1802.toNat
def k0_dev14 : Nat :=
  let c0_i32_1092 : BitVec 32 := 0#32
  let c6_i32_1090 : BitVec 32 := 6#32
  let c1_i32_1091 : BitVec 32 := 1#32
  let v1810 : BitVec 32 := Scalar.muli c6_i32_1090 c1_i32_1091
  let v1811 : BitVec 32 := Scalar.addi c0_i32_1092 v1810
  v1811.toNat
def k0_dev15 : Nat :=
  let c0_i32_1104 : BitVec 32 := 0#32
  let c7_i32_1102 : BitVec 32 := 7#32
  let c1_i32_1103 : BitVec 32 := 1#32
  let v1819 : BitVec 32 := Scalar.muli c7_i32_1102 c1_i32_1103
  let v1820 : BitVec 32 := Scalar.addi c0_i32_1104 v1819
  v1820.toNat
def k0_dev16 : Nat :=
  let c0_i32_1140 : BitVec 32 := 0#32
  let c1_i32_1138 : BitVec 32 := 1#32
  let c1_i32_1139 : BitVec 32 := 1#32
  let v1846 : BitVec 32 := Scalar.muli c1_i32_1138 c1_i32_1139
  let v1847 : BitVec 32 := Scalar.addi c0_i32_1140 v1846
  v1847.toNat
def k0_dev17 : Nat :=
  let c0_i32_1153 : BitVec 32 := 0#32
  let c2_i32_1151 : BitVec 32 := 2#32
  let c1_i32_1152 : BitVec 32 := 1#32
  let v1855 : BitVec 32 := Scalar.muli c2_i32_1151 c1_i32_1152
  let v1856 : BitVec 32 := Scalar.addi c0_i32_1153 v1855
  v1856.toNat
def k0_dev18 : Nat :=
  let c0_i32_1166 : BitVec 32 := 0#32
  let c3_i32_1164 : BitVec 32 := 3#32
  let c1_i32_1165 : BitVec 32 := 1#32
  let v1864 : BitVec 32 := Scalar.muli c3_i32_1164 c1_i32_1165
  let v1865 : BitVec 32 := Scalar.addi c0_i32_1166 v1864
  v1865.toNat
def k0_dev19 : Nat :=
  let c0_i32_1179 : BitVec 32 := 0#32
  let c4_i32_1177 : BitVec 32 := 4#32
  let c1_i32_1178 : BitVec 32 := 1#32
  let v1873 : BitVec 32 := Scalar.muli c4_i32_1177 c1_i32_1178
  let v1874 : BitVec 32 := Scalar.addi c0_i32_1179 v1873
  v1874.toNat
def k0_dev20 : Nat :=
  let c0_i32_1192 : BitVec 32 := 0#32
  let c5_i32_1190 : BitVec 32 := 5#32
  let c1_i32_1191 : BitVec 32 := 1#32
  let v1882 : BitVec 32 := Scalar.muli c5_i32_1190 c1_i32_1191
  let v1883 : BitVec 32 := Scalar.addi c0_i32_1192 v1882
  v1883.toNat
def k0_dev21 : Nat :=
  let c0_i32_1205 : BitVec 32 := 0#32
  let c6_i32_1203 : BitVec 32 := 6#32
  let c1_i32_1204 : BitVec 32 := 1#32
  let v1891 : BitVec 32 := Scalar.muli c6_i32_1203 c1_i32_1204
  let v1892 : BitVec 32 := Scalar.addi c0_i32_1205 v1891
  v1892.toNat
def k0_dev22 : Nat :=
  let c0_i32_1218 : BitVec 32 := 0#32
  let c7_i32_1216 : BitVec 32 := 7#32
  let c1_i32_1217 : BitVec 32 := 1#32
  let v1900 : BitVec 32 := Scalar.muli c7_i32_1216 c1_i32_1217
  let v1901 : BitVec 32 := Scalar.addi c0_i32_1218 v1900
  v1901.toNat
def k0_dev23 : Nat :=
  let c0_i32_1339 : BitVec 32 := 0#32
  let c1_i32_1337 : BitVec 32 := 1#32
  let c1_i32_1338 : BitVec 32 := 1#32
  let v1962 : BitVec 32 := Scalar.muli c1_i32_1337 c1_i32_1338
  let v1963 : BitVec 32 := Scalar.addi c0_i32_1339 v1962
  v1963.toNat
def k0_dev24 : Nat :=
  let c0_i32_1352 : BitVec 32 := 0#32
  let c2_i32_1350 : BitVec 32 := 2#32
  let c1_i32_1351 : BitVec 32 := 1#32
  let v1971 : BitVec 32 := Scalar.muli c2_i32_1350 c1_i32_1351
  let v1972 : BitVec 32 := Scalar.addi c0_i32_1352 v1971
  v1972.toNat
def k0_dev25 : Nat :=
  let c0_i32_1365 : BitVec 32 := 0#32
  let c3_i32_1363 : BitVec 32 := 3#32
  let c1_i32_1364 : BitVec 32 := 1#32
  let v1980 : BitVec 32 := Scalar.muli c3_i32_1363 c1_i32_1364
  let v1981 : BitVec 32 := Scalar.addi c0_i32_1365 v1980
  v1981.toNat
def k0_dev26 : Nat :=
  let c0_i32_1378 : BitVec 32 := 0#32
  let c4_i32_1376 : BitVec 32 := 4#32
  let c1_i32_1377 : BitVec 32 := 1#32
  let v1989 : BitVec 32 := Scalar.muli c4_i32_1376 c1_i32_1377
  let v1990 : BitVec 32 := Scalar.addi c0_i32_1378 v1989
  v1990.toNat
def k0_dev27 : Nat :=
  let c0_i32_1391 : BitVec 32 := 0#32
  let c5_i32_1389 : BitVec 32 := 5#32
  let c1_i32_1390 : BitVec 32 := 1#32
  let v1998 : BitVec 32 := Scalar.muli c5_i32_1389 c1_i32_1390
  let v1999 : BitVec 32 := Scalar.addi c0_i32_1391 v1998
  v1999.toNat
def k0_dev28 : Nat :=
  let c0_i32_1404 : BitVec 32 := 0#32
  let c6_i32_1402 : BitVec 32 := 6#32
  let c1_i32_1403 : BitVec 32 := 1#32
  let v2007 : BitVec 32 := Scalar.muli c6_i32_1402 c1_i32_1403
  let v2008 : BitVec 32 := Scalar.addi c0_i32_1404 v2007
  v2008.toNat
def k0_dev29 : Nat :=
  let c0_i32_1417 : BitVec 32 := 0#32
  let c7_i32_1415 : BitVec 32 := 7#32
  let c1_i32_1416 : BitVec 32 := 1#32
  let v2016 : BitVec 32 := Scalar.muli c7_i32_1415 c1_i32_1416
  let v2017 : BitVec 32 := Scalar.addi c0_i32_1417 v2016
  v2017.toNat
def k0_dev30 : Nat :=
  let c0_i32_1538 : BitVec 32 := 0#32
  let c1_i32_1536 : BitVec 32 := 1#32
  let c1_i32_1537 : BitVec 32 := 1#32
  let v2078 : BitVec 32 := Scalar.muli c1_i32_1536 c1_i32_1537
  let v2079 : BitVec 32 := Scalar.addi c0_i32_1538 v2078
  v2079.toNat
def k0_dev31 : Nat :=
  let c0_i32_1551 : BitVec 32 := 0#32
  let c2_i32_1549 : BitVec 32 := 2#32
  let c1_i32_1550 : BitVec 32 := 1#32
  let v2087 : BitVec 32 := Scalar.muli c2_i32_1549 c1_i32_1550
  let v2088 : BitVec 32 := Scalar.addi c0_i32_1551 v2087
  v2088.toNat
def k0_dev32 : Nat :=
  let c0_i32_1564 : BitVec 32 := 0#32
  let c3_i32_1562 : BitVec 32 := 3#32
  let c1_i32_1563 : BitVec 32 := 1#32
  let v2096 : BitVec 32 := Scalar.muli c3_i32_1562 c1_i32_1563
  let v2097 : BitVec 32 := Scalar.addi c0_i32_1564 v2096
  v2097.toNat
def k0_dev33 : Nat :=
  let c0_i32_1577 : BitVec 32 := 0#32
  let c4_i32_1575 : BitVec 32 := 4#32
  let c1_i32_1576 : BitVec 32 := 1#32
  let v2105 : BitVec 32 := Scalar.muli c4_i32_1575 c1_i32_1576
  let v2106 : BitVec 32 := Scalar.addi c0_i32_1577 v2105
  v2106.toNat
def k0_dev34 : Nat :=
  let c0_i32_1590 : BitVec 32 := 0#32
  let c5_i32_1588 : BitVec 32 := 5#32
  let c1_i32_1589 : BitVec 32 := 1#32
  let v2114 : BitVec 32 := Scalar.muli c5_i32_1588 c1_i32_1589
  let v2115 : BitVec 32 := Scalar.addi c0_i32_1590 v2114
  v2115.toNat
def k0_dev35 : Nat :=
  let c0_i32_1603 : BitVec 32 := 0#32
  let c6_i32_1601 : BitVec 32 := 6#32
  let c1_i32_1602 : BitVec 32 := 1#32
  let v2123 : BitVec 32 := Scalar.muli c6_i32_1601 c1_i32_1602
  let v2124 : BitVec 32 := Scalar.addi c0_i32_1603 v2123
  v2124.toNat
def k0_dev36 : Nat :=
  let c0_i32_1616 : BitVec 32 := 0#32
  let c7_i32_1614 : BitVec 32 := 7#32
  let c1_i32_1615 : BitVec 32 := 1#32
  let v2132 : BitVec 32 := Scalar.muli c7_i32_1614 c1_i32_1615
  let v2133 : BitVec 32 := Scalar.addi c0_i32_1616 v2132
  v2133.toNat
def k0_dev37 : Nat :=
  let c0_i32_1737 : BitVec 32 := 0#32
  let c1_i32_1735 : BitVec 32 := 1#32
  let c1_i32_1736 : BitVec 32 := 1#32
  let v2194 : BitVec 32 := Scalar.muli c1_i32_1735 c1_i32_1736
  let v2195 : BitVec 32 := Scalar.addi c0_i32_1737 v2194
  v2195.toNat
def k0_dev38 : Nat :=
  let c0_i32_1750 : BitVec 32 := 0#32
  let c2_i32_1748 : BitVec 32 := 2#32
  let c1_i32_1749 : BitVec 32 := 1#32
  let v2203 : BitVec 32 := Scalar.muli c2_i32_1748 c1_i32_1749
  let v2204 : BitVec 32 := Scalar.addi c0_i32_1750 v2203
  v2204.toNat
def k0_dev39 : Nat :=
  let c0_i32_1763 : BitVec 32 := 0#32
  let c3_i32_1761 : BitVec 32 := 3#32
  let c1_i32_1762 : BitVec 32 := 1#32
  let v2212 : BitVec 32 := Scalar.muli c3_i32_1761 c1_i32_1762
  let v2213 : BitVec 32 := Scalar.addi c0_i32_1763 v2212
  v2213.toNat
def k0_dev40 : Nat :=
  let c0_i32_1776 : BitVec 32 := 0#32
  let c4_i32_1774 : BitVec 32 := 4#32
  let c1_i32_1775 : BitVec 32 := 1#32
  let v2221 : BitVec 32 := Scalar.muli c4_i32_1774 c1_i32_1775
  let v2222 : BitVec 32 := Scalar.addi c0_i32_1776 v2221
  v2222.toNat
def k0_dev41 : Nat :=
  let c0_i32_1789 : BitVec 32 := 0#32
  let c5_i32_1787 : BitVec 32 := 5#32
  let c1_i32_1788 : BitVec 32 := 1#32
  let v2230 : BitVec 32 := Scalar.muli c5_i32_1787 c1_i32_1788
  let v2231 : BitVec 32 := Scalar.addi c0_i32_1789 v2230
  v2231.toNat
def k0_dev42 : Nat :=
  let c0_i32_1802 : BitVec 32 := 0#32
  let c6_i32_1800 : BitVec 32 := 6#32
  let c1_i32_1801 : BitVec 32 := 1#32
  let v2239 : BitVec 32 := Scalar.muli c6_i32_1800 c1_i32_1801
  let v2240 : BitVec 32 := Scalar.addi c0_i32_1802 v2239
  v2240.toNat
def k0_dev43 : Nat :=
  let c0_i32_1815 : BitVec 32 := 0#32
  let c7_i32_1813 : BitVec 32 := 7#32
  let c1_i32_1814 : BitVec 32 := 1#32
  let v2248 : BitVec 32 := Scalar.muli c7_i32_1813 c1_i32_1814
  let v2249 : BitVec 32 := Scalar.addi c0_i32_1815 v2248
  v2249.toNat
def k0_dev44 : Nat :=
  let c0_i32_1936 : BitVec 32 := 0#32
  let c1_i32_1934 : BitVec 32 := 1#32
  let c1_i32_1935 : BitVec 32 := 1#32
  let v2310 : BitVec 32 := Scalar.muli c1_i32_1934 c1_i32_1935
  let v2311 : BitVec 32 := Scalar.addi c0_i32_1936 v2310
  v2311.toNat
def k0_dev45 : Nat :=
  let c0_i32_1949 : BitVec 32 := 0#32
  let c2_i32_1947 : BitVec 32 := 2#32
  let c1_i32_1948 : BitVec 32 := 1#32
  let v2319 : BitVec 32 := Scalar.muli c2_i32_1947 c1_i32_1948
  let v2320 : BitVec 32 := Scalar.addi c0_i32_1949 v2319
  v2320.toNat
def k0_dev46 : Nat :=
  let c0_i32_1962 : BitVec 32 := 0#32
  let c3_i32_1960 : BitVec 32 := 3#32
  let c1_i32_1961 : BitVec 32 := 1#32
  let v2328 : BitVec 32 := Scalar.muli c3_i32_1960 c1_i32_1961
  let v2329 : BitVec 32 := Scalar.addi c0_i32_1962 v2328
  v2329.toNat
def k0_dev47 : Nat :=
  let c0_i32_1975 : BitVec 32 := 0#32
  let c4_i32_1973 : BitVec 32 := 4#32
  let c1_i32_1974 : BitVec 32 := 1#32
  let v2337 : BitVec 32 := Scalar.muli c4_i32_1973 c1_i32_1974
  let v2338 : BitVec 32 := Scalar.addi c0_i32_1975 v2337
  v2338.toNat
def k0_dev48 : Nat :=
  let c0_i32_1988 : BitVec 32 := 0#32
  let c5_i32_1986 : BitVec 32 := 5#32
  let c1_i32_1987 : BitVec 32 := 1#32
  let v2346 : BitVec 32 := Scalar.muli c5_i32_1986 c1_i32_1987
  let v2347 : BitVec 32 := Scalar.addi c0_i32_1988 v2346
  v2347.toNat
def k0_dev49 : Nat :=
  let c0_i32_2001 : BitVec 32 := 0#32
  let c6_i32_1999 : BitVec 32 := 6#32
  let c1_i32_2000 : BitVec 32 := 1#32
  let v2355 : BitVec 32 := Scalar.muli c6_i32_1999 c1_i32_2000
  let v2356 : BitVec 32 := Scalar.addi c0_i32_2001 v2355
  v2356.toNat
def k0_dev50 : Nat :=
  let c0_i32_2014 : BitVec 32 := 0#32
  let c7_i32_2012 : BitVec 32 := 7#32
  let c1_i32_2013 : BitVec 32 := 1#32
  let v2364 : BitVec 32 := Scalar.muli c7_i32_2012 c1_i32_2013
  let v2365 : BitVec 32 := Scalar.addi c0_i32_2014 v2364
  v2365.toNat
def k0_dev51 : Nat :=
  let c0_i32_2135 : BitVec 32 := 0#32
  let c1_i32_2133 : BitVec 32 := 1#32
  let c1_i32_2134 : BitVec 32 := 1#32
  let v2426 : BitVec 32 := Scalar.muli c1_i32_2133 c1_i32_2134
  let v2427 : BitVec 32 := Scalar.addi c0_i32_2135 v2426
  v2427.toNat
def k0_dev52 : Nat :=
  let c0_i32_2148 : BitVec 32 := 0#32
  let c2_i32_2146 : BitVec 32 := 2#32
  let c1_i32_2147 : BitVec 32 := 1#32
  let v2435 : BitVec 32 := Scalar.muli c2_i32_2146 c1_i32_2147
  let v2436 : BitVec 32 := Scalar.addi c0_i32_2148 v2435
  v2436.toNat
def k0_dev53 : Nat :=
  let c0_i32_2161 : BitVec 32 := 0#32
  let c3_i32_2159 : BitVec 32 := 3#32
  let c1_i32_2160 : BitVec 32 := 1#32
  let v2444 : BitVec 32 := Scalar.muli c3_i32_2159 c1_i32_2160
  let v2445 : BitVec 32 := Scalar.addi c0_i32_2161 v2444
  v2445.toNat
def k0_dev54 : Nat :=
  let c0_i32_2174 : BitVec 32 := 0#32
  let c4_i32_2172 : BitVec 32 := 4#32
  let c1_i32_2173 : BitVec 32 := 1#32
  let v2453 : BitVec 32 := Scalar.muli c4_i32_2172 c1_i32_2173
  let v2454 : BitVec 32 := Scalar.addi c0_i32_2174 v2453
  v2454.toNat
def k0_dev55 : Nat :=
  let c0_i32_2187 : BitVec 32 := 0#32
  let c5_i32_2185 : BitVec 32 := 5#32
  let c1_i32_2186 : BitVec 32 := 1#32
  let v2462 : BitVec 32 := Scalar.muli c5_i32_2185 c1_i32_2186
  let v2463 : BitVec 32 := Scalar.addi c0_i32_2187 v2462
  v2463.toNat
def k0_dev56 : Nat :=
  let c0_i32_2200 : BitVec 32 := 0#32
  let c6_i32_2198 : BitVec 32 := 6#32
  let c1_i32_2199 : BitVec 32 := 1#32
  let v2471 : BitVec 32 := Scalar.muli c6_i32_2198 c1_i32_2199
  let v2472 : BitVec 32 := Scalar.addi c0_i32_2200 v2471
  v2472.toNat
def k0_dev57 : Nat :=
  let c0_i32_2213 : BitVec 32 := 0#32
  let c7_i32_2211 : BitVec 32 := 7#32
  let c1_i32_2212 : BitVec 32 := 1#32
  let v2480 : BitVec 32 := Scalar.muli c7_i32_2211 c1_i32_2212
  let v2481 : BitVec 32 := Scalar.addi c0_i32_2213 v2480
  v2481.toNat
def k0_dev58 : Nat :=
  let c0_i32_2334 : BitVec 32 := 0#32
  let c1_i32_2332 : BitVec 32 := 1#32
  let c1_i32_2333 : BitVec 32 := 1#32
  let v2542 : BitVec 32 := Scalar.muli c1_i32_2332 c1_i32_2333
  let v2543 : BitVec 32 := Scalar.addi c0_i32_2334 v2542
  v2543.toNat
def k0_dev59 : Nat :=
  let c0_i32_2347 : BitVec 32 := 0#32
  let c2_i32_2345 : BitVec 32 := 2#32
  let c1_i32_2346 : BitVec 32 := 1#32
  let v2551 : BitVec 32 := Scalar.muli c2_i32_2345 c1_i32_2346
  let v2552 : BitVec 32 := Scalar.addi c0_i32_2347 v2551
  v2552.toNat
def k0_dev60 : Nat :=
  let c0_i32_2360 : BitVec 32 := 0#32
  let c3_i32_2358 : BitVec 32 := 3#32
  let c1_i32_2359 : BitVec 32 := 1#32
  let v2560 : BitVec 32 := Scalar.muli c3_i32_2358 c1_i32_2359
  let v2561 : BitVec 32 := Scalar.addi c0_i32_2360 v2560
  v2561.toNat
def k0_dev61 : Nat :=
  let c0_i32_2373 : BitVec 32 := 0#32
  let c4_i32_2371 : BitVec 32 := 4#32
  let c1_i32_2372 : BitVec 32 := 1#32
  let v2569 : BitVec 32 := Scalar.muli c4_i32_2371 c1_i32_2372
  let v2570 : BitVec 32 := Scalar.addi c0_i32_2373 v2569
  v2570.toNat
def k0_dev62 : Nat :=
  let c0_i32_2386 : BitVec 32 := 0#32
  let c5_i32_2384 : BitVec 32 := 5#32
  let c1_i32_2385 : BitVec 32 := 1#32
  let v2578 : BitVec 32 := Scalar.muli c5_i32_2384 c1_i32_2385
  let v2579 : BitVec 32 := Scalar.addi c0_i32_2386 v2578
  v2579.toNat
def k0_dev63 : Nat :=
  let c0_i32_2399 : BitVec 32 := 0#32
  let c6_i32_2397 : BitVec 32 := 6#32
  let c1_i32_2398 : BitVec 32 := 1#32
  let v2587 : BitVec 32 := Scalar.muli c6_i32_2397 c1_i32_2398
  let v2588 : BitVec 32 := Scalar.addi c0_i32_2399 v2587
  v2588.toNat
def k0_dev64 : Nat :=
  let c0_i32_2412 : BitVec 32 := 0#32
  let c7_i32_2410 : BitVec 32 := 7#32
  let c1_i32_2411 : BitVec 32 := 1#32
  let v2596 : BitVec 32 := Scalar.muli c7_i32_2410 c1_i32_2411
  let v2597 : BitVec 32 := Scalar.addi c0_i32_2412 v2596
  v2597.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_12 : BitVec 32 := 1#32
  let v31 : BitVec 1 := Scalar.cmpi .eq v2 c1_i32_12
  let v32 : BitVec 32 := Scalar.extui v31
  let c0_i32_13 : BitVec 32 := 0#32
  let v33 : BitVec 1 := Scalar.cmpi .ne v32 c0_i32_13
  v33

def k0_dev65 : Nat :=
  let c0_i32_1031 : BitVec 32 := 0#32
  let c0_i32_1029 : BitVec 32 := 0#32
  let c1_i32_1030 : BitVec 32 := 1#32
  let v1765 : BitVec 32 := Scalar.muli c0_i32_1029 c1_i32_1030
  let v1766 : BitVec 32 := Scalar.addi c0_i32_1031 v1765
  v1766.toNat
def k0_dev66 : Nat :=
  let c0_i32_1043 : BitVec 32 := 0#32
  let c2_i32_1041 : BitVec 32 := 2#32
  let c1_i32_1042 : BitVec 32 := 1#32
  let v1774 : BitVec 32 := Scalar.muli c2_i32_1041 c1_i32_1042
  let v1775 : BitVec 32 := Scalar.addi c0_i32_1043 v1774
  v1775.toNat
def k0_dev67 : Nat :=
  let c0_i32_1055 : BitVec 32 := 0#32
  let c3_i32_1053 : BitVec 32 := 3#32
  let c1_i32_1054 : BitVec 32 := 1#32
  let v1783 : BitVec 32 := Scalar.muli c3_i32_1053 c1_i32_1054
  let v1784 : BitVec 32 := Scalar.addi c0_i32_1055 v1783
  v1784.toNat
def k0_dev68 : Nat :=
  let c0_i32_1067 : BitVec 32 := 0#32
  let c4_i32_1065 : BitVec 32 := 4#32
  let c1_i32_1066 : BitVec 32 := 1#32
  let v1792 : BitVec 32 := Scalar.muli c4_i32_1065 c1_i32_1066
  let v1793 : BitVec 32 := Scalar.addi c0_i32_1067 v1792
  v1793.toNat
def k0_dev69 : Nat :=
  let c0_i32_1079 : BitVec 32 := 0#32
  let c5_i32_1077 : BitVec 32 := 5#32
  let c1_i32_1078 : BitVec 32 := 1#32
  let v1801 : BitVec 32 := Scalar.muli c5_i32_1077 c1_i32_1078
  let v1802 : BitVec 32 := Scalar.addi c0_i32_1079 v1801
  v1802.toNat
def k0_dev70 : Nat :=
  let c0_i32_1091 : BitVec 32 := 0#32
  let c6_i32_1089 : BitVec 32 := 6#32
  let c1_i32_1090 : BitVec 32 := 1#32
  let v1810 : BitVec 32 := Scalar.muli c6_i32_1089 c1_i32_1090
  let v1811 : BitVec 32 := Scalar.addi c0_i32_1091 v1810
  v1811.toNat
def k0_dev71 : Nat :=
  let c0_i32_1103 : BitVec 32 := 0#32
  let c7_i32_1101 : BitVec 32 := 7#32
  let c1_i32_1102 : BitVec 32 := 1#32
  let v1819 : BitVec 32 := Scalar.muli c7_i32_1101 c1_i32_1102
  let v1820 : BitVec 32 := Scalar.addi c0_i32_1103 v1819
  v1820.toNat
def k0_dev72 : Nat :=
  let c0_i32_1220 : BitVec 32 := 0#32
  let c0_i32_1218 : BitVec 32 := 0#32
  let c1_i32_1219 : BitVec 32 := 1#32
  let v1881 : BitVec 32 := Scalar.muli c0_i32_1218 c1_i32_1219
  let v1882 : BitVec 32 := Scalar.addi c0_i32_1220 v1881
  v1882.toNat
def k0_dev73 : Nat :=
  let c0_i32_1233 : BitVec 32 := 0#32
  let c2_i32_1231 : BitVec 32 := 2#32
  let c1_i32_1232 : BitVec 32 := 1#32
  let v1890 : BitVec 32 := Scalar.muli c2_i32_1231 c1_i32_1232
  let v1891 : BitVec 32 := Scalar.addi c0_i32_1233 v1890
  v1891.toNat
def k0_dev74 : Nat :=
  let c0_i32_1246 : BitVec 32 := 0#32
  let c3_i32_1244 : BitVec 32 := 3#32
  let c1_i32_1245 : BitVec 32 := 1#32
  let v1899 : BitVec 32 := Scalar.muli c3_i32_1244 c1_i32_1245
  let v1900 : BitVec 32 := Scalar.addi c0_i32_1246 v1899
  v1900.toNat
def k0_dev75 : Nat :=
  let c0_i32_1259 : BitVec 32 := 0#32
  let c4_i32_1257 : BitVec 32 := 4#32
  let c1_i32_1258 : BitVec 32 := 1#32
  let v1908 : BitVec 32 := Scalar.muli c4_i32_1257 c1_i32_1258
  let v1909 : BitVec 32 := Scalar.addi c0_i32_1259 v1908
  v1909.toNat
def k0_dev76 : Nat :=
  let c0_i32_1272 : BitVec 32 := 0#32
  let c5_i32_1270 : BitVec 32 := 5#32
  let c1_i32_1271 : BitVec 32 := 1#32
  let v1917 : BitVec 32 := Scalar.muli c5_i32_1270 c1_i32_1271
  let v1918 : BitVec 32 := Scalar.addi c0_i32_1272 v1917
  v1918.toNat
def k0_dev77 : Nat :=
  let c0_i32_1285 : BitVec 32 := 0#32
  let c6_i32_1283 : BitVec 32 := 6#32
  let c1_i32_1284 : BitVec 32 := 1#32
  let v1926 : BitVec 32 := Scalar.muli c6_i32_1283 c1_i32_1284
  let v1927 : BitVec 32 := Scalar.addi c0_i32_1285 v1926
  v1927.toNat
def k0_dev78 : Nat :=
  let c0_i32_1298 : BitVec 32 := 0#32
  let c7_i32_1296 : BitVec 32 := 7#32
  let c1_i32_1297 : BitVec 32 := 1#32
  let v1935 : BitVec 32 := Scalar.muli c7_i32_1296 c1_i32_1297
  let v1936 : BitVec 32 := Scalar.addi c0_i32_1298 v1935
  v1936.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_120 : BitVec 32 := 0#32
  let v237 : BitVec 1 := Scalar.cmpi .ne v2 c0_i32_120
  let v238 : BitVec 32 := Scalar.extui v237
  let c0_i32_122 : BitVec 32 := 0#32
  let v239 : BitVec 1 := Scalar.cmpi .ne v238 c0_i32_122
  v239

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1011 : BitVec 32 := 0#32
  let c0_i32_1012 : BitVec 32 := 0#32
  ![v2.toNat, 0, 0]
def k0_dev79 : Nat :=
  let c0_i32_1010 : BitVec 32 := 0#32
  let c0_i32_1008 : BitVec 32 := 0#32
  let c1_i32_1009 : BitVec 32 := 1#32
  let v1752 : BitVec 32 := Scalar.muli c0_i32_1008 c1_i32_1009
  let v1753 : BitVec 32 := Scalar.addi c0_i32_1010 v1752
  v1753.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_228 : BitVec 32 := 1#32
  let v429 : BitVec 1 := Scalar.cmpi .ne v2 c1_i32_228
  let v430 : BitVec 32 := Scalar.extui v429
  let c0_i32_230 : BitVec 32 := 0#32
  let v431 : BitVec 1 := Scalar.cmpi .ne v430 c0_i32_230
  v431

def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1011 : BitVec 32 := 0#32
  let c0_i32_1012 : BitVec 32 := 0#32
  ![v2.toNat, 0, 0]
def k0_dev80 : Nat :=
  let c0_i32_1010 : BitVec 32 := 0#32
  let c1_i32_1008 : BitVec 32 := 1#32
  let c1_i32_1009 : BitVec 32 := 1#32
  let v1752 : BitVec 32 := Scalar.muli c1_i32_1008 c1_i32_1009
  let v1753 : BitVec 32 := Scalar.addi c0_i32_1010 v1752
  v1753.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_333 : BitVec 32 := 2#32
  let v618 : BitVec 1 := Scalar.cmpi .ne v2 c2_i32_333
  let v619 : BitVec 32 := Scalar.extui v618
  let c0_i32_335 : BitVec 32 := 0#32
  let v620 : BitVec 1 := Scalar.cmpi .ne v619 c0_i32_335
  v620

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1011 : BitVec 32 := 0#32
  let c0_i32_1012 : BitVec 32 := 0#32
  ![v2.toNat, 0, 0]
def k0_dev81 : Nat :=
  let c0_i32_1010 : BitVec 32 := 0#32
  let c2_i32_1008 : BitVec 32 := 2#32
  let c1_i32_1009 : BitVec 32 := 1#32
  let v1752 : BitVec 32 := Scalar.muli c2_i32_1008 c1_i32_1009
  let v1753 : BitVec 32 := Scalar.addi c0_i32_1010 v1752
  v1753.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_440 : BitVec 32 := 3#32
  let v810 : BitVec 1 := Scalar.cmpi .ne v2 c3_i32_440
  let v811 : BitVec 32 := Scalar.extui v810
  let c0_i32_442 : BitVec 32 := 0#32
  let v812 : BitVec 1 := Scalar.cmpi .ne v811 c0_i32_442
  v812

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1011 : BitVec 32 := 0#32
  let c0_i32_1012 : BitVec 32 := 0#32
  ![v2.toNat, 0, 0]
def k0_dev82 : Nat :=
  let c0_i32_1010 : BitVec 32 := 0#32
  let c3_i32_1008 : BitVec 32 := 3#32
  let c1_i32_1009 : BitVec 32 := 1#32
  let v1752 : BitVec 32 := Scalar.muli c3_i32_1008 c1_i32_1009
  let v1753 : BitVec 32 := Scalar.addi c0_i32_1010 v1752
  v1753.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_545 : BitVec 32 := 4#32
  let v999 : BitVec 1 := Scalar.cmpi .ne v2 c4_i32_545
  let v1000 : BitVec 32 := Scalar.extui v999
  let c0_i32_547 : BitVec 32 := 0#32
  let v1001 : BitVec 1 := Scalar.cmpi .ne v1000 c0_i32_547
  v1001

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1011 : BitVec 32 := 0#32
  let c0_i32_1012 : BitVec 32 := 0#32
  ![v2.toNat, 0, 0]
def k0_dev83 : Nat :=
  let c0_i32_1010 : BitVec 32 := 0#32
  let c4_i32_1008 : BitVec 32 := 4#32
  let c1_i32_1009 : BitVec 32 := 1#32
  let v1752 : BitVec 32 := Scalar.muli c4_i32_1008 c1_i32_1009
  let v1753 : BitVec 32 := Scalar.addi c0_i32_1010 v1752
  v1753.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_652 : BitVec 32 := 5#32
  let v1191 : BitVec 1 := Scalar.cmpi .ne v2 c5_i32_652
  let v1192 : BitVec 32 := Scalar.extui v1191
  let c0_i32_654 : BitVec 32 := 0#32
  let v1193 : BitVec 1 := Scalar.cmpi .ne v1192 c0_i32_654
  v1193

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1011 : BitVec 32 := 0#32
  let c0_i32_1012 : BitVec 32 := 0#32
  ![v2.toNat, 0, 0]
def k0_dev84 : Nat :=
  let c0_i32_1010 : BitVec 32 := 0#32
  let c5_i32_1008 : BitVec 32 := 5#32
  let c1_i32_1009 : BitVec 32 := 1#32
  let v1752 : BitVec 32 := Scalar.muli c5_i32_1008 c1_i32_1009
  let v1753 : BitVec 32 := Scalar.addi c0_i32_1010 v1752
  v1753.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_757 : BitVec 32 := 6#32
  let v1380 : BitVec 1 := Scalar.cmpi .ne v2 c6_i32_757
  let v1381 : BitVec 32 := Scalar.extui v1380
  let c0_i32_759 : BitVec 32 := 0#32
  let v1382 : BitVec 1 := Scalar.cmpi .ne v1381 c0_i32_759
  v1382

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1011 : BitVec 32 := 0#32
  let c0_i32_1012 : BitVec 32 := 0#32
  ![v2.toNat, 0, 0]
def k0_dev85 : Nat :=
  let c0_i32_1010 : BitVec 32 := 0#32
  let c6_i32_1008 : BitVec 32 := 6#32
  let c1_i32_1009 : BitVec 32 := 1#32
  let v1752 : BitVec 32 := Scalar.muli c6_i32_1008 c1_i32_1009
  let v1753 : BitVec 32 := Scalar.addi c0_i32_1010 v1752
  v1753.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_862 : BitVec 32 := 7#32
  let v1569 : BitVec 1 := Scalar.cmpi .ne v2 c7_i32_862
  let v1570 : BitVec 32 := Scalar.extui v1569
  let c0_i32_864 : BitVec 32 := 0#32
  let v1571 : BitVec 1 := Scalar.cmpi .ne v1570 c0_i32_864
  v1571

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1011 : BitVec 32 := 0#32
  let c0_i32_1012 : BitVec 32 := 0#32
  ![v2.toNat, 0, 0]
def k0_dev86 : Nat :=
  let c0_i32_1010 : BitVec 32 := 0#32
  let c7_i32_1008 : BitVec 32 := 7#32
  let c1_i32_1009 : BitVec 32 := 1#32
  let v1752 : BitVec 32 := Scalar.muli c7_i32_1008 c1_i32_1009
  let v1753 : BitVec 32 := Scalar.addi c0_i32_1010 v1752
  v1753.toNat
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_865 : BitVec 32 := 128#32
  let v1572 : BitVec 32 := Scalar.muli v2 c128_i32_865
  let v1573 : Index := Scalar.indexCast v1572
  let c0_866 : Index := 0#32
  ![v1573.toNat, 0]
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_920 : BitVec 32 := 0#32
  let v1656 : BitVec 1 := Scalar.cmpi .ne v2 c0_i32_920
  let v1657 : BitVec 32 := Scalar.extui v1656
  let c0_i32_922 : BitVec 32 := 0#32
  let v1658 : BitVec 1 := Scalar.cmpi .ne v1657 c0_i32_922
  v1658

def k0_off18 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off19 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1011 : BitVec 32 := 0#32
  let c0_i32_1012 : BitVec 32 := 0#32
  ![v2.toNat, 0, 0]
def k0_dev87 : Nat :=
  let c0_i32_1010 : BitVec 32 := 0#32
  let c0_i32_1008 : BitVec 32 := 0#32
  let c1_i32_1009 : BitVec 32 := 1#32
  let v1752 : BitVec 32 := Scalar.muli c0_i32_1008 c1_i32_1009
  let v1753 : BitVec 32 := Scalar.addi c0_i32_1010 v1752
  v1753.toNat
def k0_cond33 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_923 : BitVec 32 := 1#32
  let v1659 : BitVec 1 := Scalar.cmpi .ne v2 c1_i32_923
  let v1660 : BitVec 32 := Scalar.extui v1659
  let c0_i32_925 : BitVec 32 := 0#32
  let v1661 : BitVec 1 := Scalar.cmpi .ne v1660 c0_i32_925
  v1661

def k0_off20 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1011 : BitVec 32 := 0#32
  let c0_i32_1012 : BitVec 32 := 0#32
  ![v2.toNat, 0, 0]
def k0_dev88 : Nat :=
  let c0_i32_1010 : BitVec 32 := 0#32
  let c1_i32_1008 : BitVec 32 := 1#32
  let c1_i32_1009 : BitVec 32 := 1#32
  let v1752 : BitVec 32 := Scalar.muli c1_i32_1008 c1_i32_1009
  let v1753 : BitVec 32 := Scalar.addi c0_i32_1010 v1752
  v1753.toNat
def k0_cond34 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_926 : BitVec 32 := 2#32
  let v1662 : BitVec 1 := Scalar.cmpi .ne v2 c2_i32_926
  let v1663 : BitVec 32 := Scalar.extui v1662
  let c0_i32_928 : BitVec 32 := 0#32
  let v1664 : BitVec 1 := Scalar.cmpi .ne v1663 c0_i32_928
  v1664

def k0_off22 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off23 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1011 : BitVec 32 := 0#32
  let c0_i32_1012 : BitVec 32 := 0#32
  ![v2.toNat, 0, 0]
def k0_dev89 : Nat :=
  let c0_i32_1010 : BitVec 32 := 0#32
  let c2_i32_1008 : BitVec 32 := 2#32
  let c1_i32_1009 : BitVec 32 := 1#32
  let v1752 : BitVec 32 := Scalar.muli c2_i32_1008 c1_i32_1009
  let v1753 : BitVec 32 := Scalar.addi c0_i32_1010 v1752
  v1753.toNat
def k0_cond35 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_929 : BitVec 32 := 3#32
  let v1665 : BitVec 1 := Scalar.cmpi .ne v2 c3_i32_929
  let v1666 : BitVec 32 := Scalar.extui v1665
  let c0_i32_931 : BitVec 32 := 0#32
  let v1667 : BitVec 1 := Scalar.cmpi .ne v1666 c0_i32_931
  v1667

def k0_off24 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off25 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1011 : BitVec 32 := 0#32
  let c0_i32_1012 : BitVec 32 := 0#32
  ![v2.toNat, 0, 0]
def k0_dev90 : Nat :=
  let c0_i32_1010 : BitVec 32 := 0#32
  let c3_i32_1008 : BitVec 32 := 3#32
  let c1_i32_1009 : BitVec 32 := 1#32
  let v1752 : BitVec 32 := Scalar.muli c3_i32_1008 c1_i32_1009
  let v1753 : BitVec 32 := Scalar.addi c0_i32_1010 v1752
  v1753.toNat
def k0_cond36 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_932 : BitVec 32 := 4#32
  let v1668 : BitVec 1 := Scalar.cmpi .ne v2 c4_i32_932
  let v1669 : BitVec 32 := Scalar.extui v1668
  let c0_i32_934 : BitVec 32 := 0#32
  let v1670 : BitVec 1 := Scalar.cmpi .ne v1669 c0_i32_934
  v1670

def k0_off26 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off27 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1011 : BitVec 32 := 0#32
  let c0_i32_1012 : BitVec 32 := 0#32
  ![v2.toNat, 0, 0]
def k0_dev91 : Nat :=
  let c0_i32_1010 : BitVec 32 := 0#32
  let c4_i32_1008 : BitVec 32 := 4#32
  let c1_i32_1009 : BitVec 32 := 1#32
  let v1752 : BitVec 32 := Scalar.muli c4_i32_1008 c1_i32_1009
  let v1753 : BitVec 32 := Scalar.addi c0_i32_1010 v1752
  v1753.toNat
def k0_cond37 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_935 : BitVec 32 := 5#32
  let v1671 : BitVec 1 := Scalar.cmpi .ne v2 c5_i32_935
  let v1672 : BitVec 32 := Scalar.extui v1671
  let c0_i32_937 : BitVec 32 := 0#32
  let v1673 : BitVec 1 := Scalar.cmpi .ne v1672 c0_i32_937
  v1673

def k0_off28 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off29 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1011 : BitVec 32 := 0#32
  let c0_i32_1012 : BitVec 32 := 0#32
  ![v2.toNat, 0, 0]
def k0_dev92 : Nat :=
  let c0_i32_1010 : BitVec 32 := 0#32
  let c5_i32_1008 : BitVec 32 := 5#32
  let c1_i32_1009 : BitVec 32 := 1#32
  let v1752 : BitVec 32 := Scalar.muli c5_i32_1008 c1_i32_1009
  let v1753 : BitVec 32 := Scalar.addi c0_i32_1010 v1752
  v1753.toNat
def k0_cond38 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_938 : BitVec 32 := 6#32
  let v1674 : BitVec 1 := Scalar.cmpi .ne v2 c6_i32_938
  let v1675 : BitVec 32 := Scalar.extui v1674
  let c0_i32_940 : BitVec 32 := 0#32
  let v1676 : BitVec 1 := Scalar.cmpi .ne v1675 c0_i32_940
  v1676

def k0_off30 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off31 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1011 : BitVec 32 := 0#32
  let c0_i32_1012 : BitVec 32 := 0#32
  ![v2.toNat, 0, 0]
def k0_dev93 : Nat :=
  let c0_i32_1010 : BitVec 32 := 0#32
  let c6_i32_1008 : BitVec 32 := 6#32
  let c1_i32_1009 : BitVec 32 := 1#32
  let v1752 : BitVec 32 := Scalar.muli c6_i32_1008 c1_i32_1009
  let v1753 : BitVec 32 := Scalar.addi c0_i32_1010 v1752
  v1753.toNat
def k0_cond39 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_941 : BitVec 32 := 7#32
  let v1677 : BitVec 1 := Scalar.cmpi .ne v2 c7_i32_941
  let v1678 : BitVec 32 := Scalar.extui v1677
  let c0_i32_943 : BitVec 32 := 0#32
  let v1679 : BitVec 1 := Scalar.cmpi .ne v1678 c0_i32_943
  v1679

def k0_off32 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off33 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1011 : BitVec 32 := 0#32
  let c0_i32_1012 : BitVec 32 := 0#32
  ![v2.toNat, 0, 0]
def k0_dev94 : Nat :=
  let c0_i32_1010 : BitVec 32 := 0#32
  let c7_i32_1008 : BitVec 32 := 7#32
  let c1_i32_1009 : BitVec 32 := 1#32
  let v1752 : BitVec 32 := Scalar.muli c7_i32_1008 c1_i32_1009
  let v1753 : BitVec 32 := Scalar.addi c0_i32_1010 v1752
  v1753.toNat
def k0_cond48 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_960 : BitVec 32 := 0#32
  let v1704 : BitVec 1 := Scalar.cmpi .ne v2 c0_i32_960
  let v1705 : BitVec 32 := Scalar.extui v1704
  let c0_i32_962 : BitVec 32 := 0#32
  let v1706 : BitVec 1 := Scalar.cmpi .ne v1705 c0_i32_962
  v1706

def k0_off34 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1012 : BitVec 32 := 0#32
  let c0_i32_1013 : BitVec 32 := 0#32
  ![v2.toNat, 0, 0]
def k0_cond49 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_963 : BitVec 32 := 1#32
  let v1707 : BitVec 1 := Scalar.cmpi .ne v2 c1_i32_963
  let v1708 : BitVec 32 := Scalar.extui v1707
  let c0_i32_965 : BitVec 32 := 0#32
  let v1709 : BitVec 1 := Scalar.cmpi .ne v1708 c0_i32_965
  v1709

def k0_off35 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1012 : BitVec 32 := 0#32
  let c0_i32_1013 : BitVec 32 := 0#32
  ![v2.toNat, 0, 0]
def k0_cond50 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_966 : BitVec 32 := 2#32
  let v1710 : BitVec 1 := Scalar.cmpi .ne v2 c2_i32_966
  let v1711 : BitVec 32 := Scalar.extui v1710
  let c0_i32_968 : BitVec 32 := 0#32
  let v1712 : BitVec 1 := Scalar.cmpi .ne v1711 c0_i32_968
  v1712

def k0_off36 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1012 : BitVec 32 := 0#32
  let c0_i32_1013 : BitVec 32 := 0#32
  ![v2.toNat, 0, 0]
def k0_cond51 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_969 : BitVec 32 := 3#32
  let v1713 : BitVec 1 := Scalar.cmpi .ne v2 c3_i32_969
  let v1714 : BitVec 32 := Scalar.extui v1713
  let c0_i32_971 : BitVec 32 := 0#32
  let v1715 : BitVec 1 := Scalar.cmpi .ne v1714 c0_i32_971
  v1715

def k0_off37 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1012 : BitVec 32 := 0#32
  let c0_i32_1013 : BitVec 32 := 0#32
  ![v2.toNat, 0, 0]
def k0_cond52 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_972 : BitVec 32 := 4#32
  let v1716 : BitVec 1 := Scalar.cmpi .ne v2 c4_i32_972
  let v1717 : BitVec 32 := Scalar.extui v1716
  let c0_i32_974 : BitVec 32 := 0#32
  let v1718 : BitVec 1 := Scalar.cmpi .ne v1717 c0_i32_974
  v1718

def k0_off38 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1012 : BitVec 32 := 0#32
  let c0_i32_1013 : BitVec 32 := 0#32
  ![v2.toNat, 0, 0]
def k0_cond53 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_975 : BitVec 32 := 5#32
  let v1719 : BitVec 1 := Scalar.cmpi .ne v2 c5_i32_975
  let v1720 : BitVec 32 := Scalar.extui v1719
  let c0_i32_977 : BitVec 32 := 0#32
  let v1721 : BitVec 1 := Scalar.cmpi .ne v1720 c0_i32_977
  v1721

def k0_off39 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1012 : BitVec 32 := 0#32
  let c0_i32_1013 : BitVec 32 := 0#32
  ![v2.toNat, 0, 0]
def k0_cond54 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_978 : BitVec 32 := 6#32
  let v1722 : BitVec 1 := Scalar.cmpi .ne v2 c6_i32_978
  let v1723 : BitVec 32 := Scalar.extui v1722
  let c0_i32_980 : BitVec 32 := 0#32
  let v1724 : BitVec 1 := Scalar.cmpi .ne v1723 c0_i32_980
  v1724

def k0_off40 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1012 : BitVec 32 := 0#32
  let c0_i32_1013 : BitVec 32 := 0#32
  ![v2.toNat, 0, 0]
def k0_cond55 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_981 : BitVec 32 := 7#32
  let v1725 : BitVec 1 := Scalar.cmpi .ne v2 c7_i32_981
  let v1726 : BitVec 32 := Scalar.extui v1725
  let c0_i32_983 : BitVec 32 := 0#32
  let v1727 : BitVec 1 := Scalar.cmpi .ne v1726 c0_i32_983
  v1727

def k0_off41 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1012 : BitVec 32 := 0#32
  let c0_i32_1013 : BitVec 32 := 0#32
  ![v2.toNat, 0, 0]
def k0_cond56 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_984 : BitVec 32 := 0#32
  let v1728 : BitVec 1 := Scalar.cmpi .ne v2 c0_i32_984
  let v1729 : BitVec 32 := Scalar.extui v1728
  let c0_i32_986 : BitVec 32 := 0#32
  let v1730 : BitVec 1 := Scalar.cmpi .ne v1729 c0_i32_986
  v1730

def k0_off42 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1010 : BitVec 32 := 0#32
  let c0_i32_1011 : BitVec 32 := 0#32
  ![v2.toNat, 0, 0]
def k0_cond57 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_987 : BitVec 32 := 1#32
  let v1731 : BitVec 1 := Scalar.cmpi .ne v2 c1_i32_987
  let v1732 : BitVec 32 := Scalar.extui v1731
  let c0_i32_989 : BitVec 32 := 0#32
  let v1733 : BitVec 1 := Scalar.cmpi .ne v1732 c0_i32_989
  v1733

def k0_off43 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1010 : BitVec 32 := 0#32
  let c0_i32_1011 : BitVec 32 := 0#32
  ![v2.toNat, 0, 0]
def k0_cond58 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_990 : BitVec 32 := 2#32
  let v1734 : BitVec 1 := Scalar.cmpi .ne v2 c2_i32_990
  let v1735 : BitVec 32 := Scalar.extui v1734
  let c0_i32_992 : BitVec 32 := 0#32
  let v1736 : BitVec 1 := Scalar.cmpi .ne v1735 c0_i32_992
  v1736

def k0_off44 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1010 : BitVec 32 := 0#32
  let c0_i32_1011 : BitVec 32 := 0#32
  ![v2.toNat, 0, 0]
def k0_cond59 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_993 : BitVec 32 := 3#32
  let v1737 : BitVec 1 := Scalar.cmpi .ne v2 c3_i32_993
  let v1738 : BitVec 32 := Scalar.extui v1737
  let c0_i32_995 : BitVec 32 := 0#32
  let v1739 : BitVec 1 := Scalar.cmpi .ne v1738 c0_i32_995
  v1739

def k0_off45 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1010 : BitVec 32 := 0#32
  let c0_i32_1011 : BitVec 32 := 0#32
  ![v2.toNat, 0, 0]
def k0_cond60 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_996 : BitVec 32 := 4#32
  let v1740 : BitVec 1 := Scalar.cmpi .ne v2 c4_i32_996
  let v1741 : BitVec 32 := Scalar.extui v1740
  let c0_i32_998 : BitVec 32 := 0#32
  let v1742 : BitVec 1 := Scalar.cmpi .ne v1741 c0_i32_998
  v1742

def k0_off46 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1010 : BitVec 32 := 0#32
  let c0_i32_1011 : BitVec 32 := 0#32
  ![v2.toNat, 0, 0]
def k0_cond61 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_999 : BitVec 32 := 5#32
  let v1743 : BitVec 1 := Scalar.cmpi .ne v2 c5_i32_999
  let v1744 : BitVec 32 := Scalar.extui v1743
  let c0_i32_1001 : BitVec 32 := 0#32
  let v1745 : BitVec 1 := Scalar.cmpi .ne v1744 c0_i32_1001
  v1745

def k0_off47 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1010 : BitVec 32 := 0#32
  let c0_i32_1011 : BitVec 32 := 0#32
  ![v2.toNat, 0, 0]
def k0_cond62 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1002 : BitVec 32 := 6#32
  let v1746 : BitVec 1 := Scalar.cmpi .ne v2 c6_i32_1002
  let v1747 : BitVec 32 := Scalar.extui v1746
  let c0_i32_1004 : BitVec 32 := 0#32
  let v1748 : BitVec 1 := Scalar.cmpi .ne v1747 c0_i32_1004
  v1748

def k0_off48 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1010 : BitVec 32 := 0#32
  let c0_i32_1011 : BitVec 32 := 0#32
  ![v2.toNat, 0, 0]
def k0_cond63 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1005 : BitVec 32 := 7#32
  let v1749 : BitVec 1 := Scalar.cmpi .ne v2 c7_i32_1005
  let v1750 : BitVec 32 := Scalar.extui v1749
  let c0_i32_1007 : BitVec 32 := 0#32
  let v1751 : BitVec 1 := Scalar.cmpi .ne v1750 c0_i32_1007
  v1751

def k0_off49 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1010 : BitVec 32 := 0#32
  let c0_i32_1011 : BitVec 32 := 0#32
  ![v2.toNat, 0, 0]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x8192 : Shape := ⟨2, ![1024, 8192]⟩
abbrev S1x8192x64x128 : Shape := ⟨4, ![1, 8192, 64, 128]⟩
abbrev S8192x1024 : Shape := ⟨2, ![8192, 1024]⟩
abbrev S1x1024x8192 : Shape := ⟨3, ![1, 1024, 8192]⟩
abbrev S1x1024x64x128 : Shape := ⟨4, ![1, 1024, 64, 128]⟩
abbrev S1024 : Shape := ⟨1, ![1024]⟩
abbrev S1024x1 : Shape := ⟨2, ![1024, 1]⟩
abbrev S8192 : Shape := ⟨1, ![8192]⟩
abbrev S1x8192 : Shape := ⟨2, ![1, 8192]⟩
abbrev S_ : Shape := ⟨0, ![]⟩
abbrev S1x64x1024x8192 : Shape := ⟨4, ![1, 64, 1024, 8192]⟩
abbrev S1x1x1024x8192 : Shape := ⟨4, ![1, 1, 1024, 8192]⟩
abbrev S1x64x1024 : Shape := ⟨3, ![1, 64, 1024]⟩
abbrev S1x64x1024x1 : Shape := ⟨4, ![1, 64, 1024, 1]⟩
abbrev S1x1x1024x1 : Shape := ⟨4, ![1, 1, 1024, 1]⟩
abbrev S1x64x128x1024 : Shape := ⟨4, ![1, 64, 128, 1024]⟩
abbrev S1024x1024 : Shape := ⟨2, ![1024, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x8192, .f32⟩
  | .hbm, ⟨2, _⟩ => ⟨S1x8192x64x128, .f32⟩
  | .hbm, ⟨3, _⟩ => ⟨S1x8192x64x128, .f32⟩
  | .hbm, ⟨4, _⟩ => ⟨S8192x1024, .f32⟩
  | .hbm, ⟨5, _⟩ => ⟨S1x1024x8192, .f32⟩
  | .hbm, ⟨6, _⟩ => ⟨S1x1024x64x128, .f32⟩
  | .hbm, ⟨7, _⟩ => ⟨S1024, .i32⟩
  | .hbm, ⟨8, _⟩ => ⟨S1024x1, .i32⟩
  | .hbm, ⟨9, _⟩ => ⟨S8192, .i32⟩
  | .hbm, ⟨10, _⟩ => ⟨S1x8192, .i32⟩
  | .hbm, ⟨11, _⟩ => ⟨S1024x8192, .i32⟩
  | .hbm, ⟨12, _⟩ => ⟨S1024x8192, .i32⟩
  | .hbm, ⟨13, _⟩ => ⟨S1024x8192, .i32⟩
  | .hbm, ⟨14, _⟩ => ⟨S1024x8192, .i32⟩
  | .hbm, ⟨15, _⟩ => ⟨S_, .i32⟩
  | .hbm, ⟨16, _⟩ => ⟨S1024x8192, .i32⟩
  | .hbm, ⟨17, _⟩ => ⟨S1024x8192, .i1⟩
  | .hbm, ⟨18, _⟩ => ⟨S1x64x1024x8192, .f32⟩
  | .hbm, ⟨19, _⟩ => ⟨S_, .f32⟩
  | .hbm, ⟨20, _⟩ => ⟨S1x64x1024x8192, .f32⟩
  | .hbm, ⟨21, _⟩ => ⟨S1x64x1024x8192, .f32⟩
  | .hbm, ⟨22, _⟩ => ⟨S1x1x1024x8192, .i1⟩
  | .hbm, ⟨23, _⟩ => ⟨S_, .f32⟩
  | .hbm, ⟨24, _⟩ => ⟨S_, .f32⟩
  | .hbm, ⟨25, _⟩ => ⟨S1x64x1024x8192, .i1⟩
  | .hbm, ⟨26, _⟩ => ⟨S1x64x1024x8192, .f32⟩
  | .hbm, ⟨27, _⟩ => ⟨S1x64x1024x8192, .f32⟩
  | .hbm, ⟨28, _⟩ => ⟨S_, .f32⟩
  | .hbm, ⟨29, _⟩ => ⟨S1x64x1024, .f32⟩
  | .hbm, ⟨30, _⟩ => ⟨S1x64x1024x1, .f32⟩
  | .hbm, ⟨31, _⟩ => ⟨S1x64x1024x8192, .f32⟩
  | .hbm, ⟨32, _⟩ => ⟨S1x64x1024x8192, .f32⟩
  | .hbm, ⟨33, _⟩ => ⟨S1x64x1024x8192, .f32⟩
  | .hbm, ⟨34, _⟩ => ⟨S_, .i1⟩
  | .hbm, ⟨35, _⟩ => ⟨S1024, .i1⟩
  | .hbm, ⟨36, _⟩ => ⟨S1x1x1024x1, .i1⟩
  | .hbm, ⟨37, _⟩ => ⟨S_, .f32⟩
  | .hbm, ⟨38, _⟩ => ⟨S1x64x1024, .f32⟩
  | .hbm, ⟨39, _⟩ => ⟨S1x64x1024x1, .f32⟩
  | .hbm, ⟨40, _⟩ => ⟨S_, .f32⟩
  | .hbm, ⟨41, _⟩ => ⟨S_, .f32⟩
  | .hbm, ⟨42, _⟩ => ⟨S1x64x1024x1, .i1⟩
  | .hbm, ⟨43, _⟩ => ⟨S1x64x1024x1, .f32⟩
  | .hbm, ⟨44, _⟩ => ⟨S1x64x1024x1, .f32⟩
  | .hbm, ⟨45, _⟩ => ⟨S1x64x1024x8192, .f32⟩
  | .hbm, ⟨46, _⟩ => ⟨S1x64x1024x8192, .f32⟩
  | .hbm, ⟨47, _⟩ => ⟨S1x1x1024x1, .i1⟩
  | .hbm, ⟨48, _⟩ => ⟨S_, .f32⟩
  | .hbm, ⟨49, _⟩ => ⟨S_, .f32⟩
  | .hbm, ⟨50, _⟩ => ⟨S1x64x1024x8192, .i1⟩
  | .hbm, ⟨51, _⟩ => ⟨S1x64x1024x8192, .f32⟩
  | .hbm, ⟨52, _⟩ => ⟨S1x64x1024x8192, .f32⟩
  | .hbm, ⟨53, _⟩ => ⟨S1x64x128x1024, .f32⟩
  | .hbm, ⟨54, _⟩ => ⟨S1x1024x64x128, .f32⟩
  | .hbm, ⟨55, _⟩ => ⟨S1x1024x8192, .f32⟩
  | .hbm, ⟨56, _⟩ => ⟨S1x1024x1024, .f32⟩
  | .hbm, ⟨57, _⟩ => ⟨S1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]

def κ : String → Option EReal := fun
  | "mask" => some ⊥
  | _ => none
-- ==== Proof.Prog.lean ====
/-
  The kernel's body on the buffers the pipeline calls it with, written as loops over devices, chunks and
  query tiles.
-/
module

public import proofs.«01_k».proof.Proof.Gen.KernelIdeal.Skeleton
public import proofs.«01_k».proof.Proof.Gen.KernelIdeal.Points

@[expose] public section

noncomputable section

namespace Cert.KernelIdeal

open Idealize.ShloMosaic Idealize.SL.Sem Cert.KernelIdeal.Gen

variable {F : FTy → Type} [FloatOps F] [Named F]

/-- Programs of this kernel's core. -/
abbrev PG (F : FTy → Type) [FloatOps F] [Named F] (α : Type) := Prog (TpuEff nD τ sig (Elt F) Λ₀ .tc) α

/-- A step taken only under a condition. -/
def ifT {c : Prop} [Decidable c] (A : c → PG F PUnit) : PG F PUnit := if h : c then A h else pure ⟨⟩

/-- A step for each entry of a list, in order. -/
def forL {α : Type} (f : α → PG F PUnit) : List α → PG F PUnit
  | [] => pure ⟨⟩
  | a :: l => f a >>= fun _ => forL f l

/-! ## The device's place -/

/-- The device's index along the mesh axis, as a word. -/
def v2 (c : Dev nD) : BitVec 32 := Scalar.remsi (Scalar.divsi (Dev.word c) 1#32) 8#32
/-- The printed condition `my_i ≠ j`. -/
def neB (c : Dev nD) (j : Nat) : BitVec 1 :=
  Scalar.cmpi .ne (Scalar.extui (Scalar.cmpi .ne (v2 c) (BitVec.ofNat 32 j)) : BitVec 32) 0#32
/-- The printed condition `my_i = j`. -/
def eqB (c : Dev nD) (j : Nat) : BitVec 1 :=
  Scalar.cmpi .ne (Scalar.extui (Scalar.cmpi .eq (v2 c) (BitVec.ofNat 32 j)) : BitVec 32) 0#32
theorem v2_lt (c : Dev nD) : (v2 c).toNat < 8 := by revert c; decide
/-- The device's index, as the printed offsets read it. -/
def wi (c : Dev nD) : Fin 8 := ⟨(v2 c).toNat, v2_lt c⟩
theorem wi_eq (c : Dev nD) : wi c = c := by revert c; decide
theorem neB_iff (c : Dev nD) (j : Fin 8) : neB c j = 1#1 ↔ c ≠ j := by revert c j; decide
theorem eqB_iff (c : Dev nD) (j : Fin 8) : eqB c j = 1#1 ↔ c = j := by revert c j; decide
/-- The first output row of the device's own tile, as printed. -/
def ro (c : Dev nD) : Nat := (Scalar.indexCast (Scalar.muli (v2 c) 128#32)).toNat
theorem ro_eq (c : Dev nD) : ro c = 128 * c.val := by revert c; decide
theorem ro_le (c : Dev nD) : ro c + 128 ≤ 1024 := by revert c; decide

/-! ## Buffers and their parts -/

abbrev xM : Memref sig .tc .vmem S1x1024x1024 .f32 := Memref.whole cc0_stg0_0
abbrev wqM : Memref sig .tc .vmem S1024x1024 .f32 := Memref.whole cc0_stg1_0
abbrev woM : Memref sig .tc .vmem S1024x1024 .f32 := Memref.whole cc0_stg2_0
abbrev outM : Memref sig .tc .vmem S1024x1024 .f32 := Memref.whole cc0_stg3_0
abbrev stagM : Memref sig .tc .vmem S256x64x128 .f32 := Memref.whole cc0_scratch2
abbrev cM : Memref sig .tc .vmem S2x256x64x128 .bf16 := Memref.whole cc0_scratch3
abbrev sM : Memref sig .tc .vmem S1024x1024 .bf16 := Memref.whole cc0_scratch4
abbrev aM : Memref sig .tc .vmem S128x1024 .bf16 := Memref.whole cc0_scratch5
abbrev rM : Memref sig .tc .vmem S8x128x1024 .bf16 := Memref.whole cc0_scratch6
abbrev gM : Memref sig .tc .vmem S8x128x1024 .bf16 := Memref.whole cc0_scratch7
/-- The key buffer (0) or the value buffer (1) of the window. -/
def bM : Fin 2 → Memref sig .tc .vmem S1280x8x128 .bf16
  | 0 => Memref.whole cc0_scratch0
  | 1 => Memref.whole cc0_scratch1
/-- This device's keys (0) or values (1). -/
def hM : Fin 2 → Memref sig .tc .hbm S1x1024x64x128 .f32
  | 0 => Memref.whole main_arg2
  | 1 => Memref.whole main_arg3
theorem bM_whole : ∀ b, (bM b).IsWhole
  | 0 => Memref.isWhole_whole _
  | 1 => Memref.isWhole_whole _

theorem inb_h : ∀ (q : Fin 4) (a), (![0, 256 * q.val, 0, 0] : Fin 4 → Nat) a + S1x256x64x128.size a ≤ S1x1024x64x128.size a := by decide
theorem inb_b : ∀ (q : Fin 5) (a), (![256 * q.val, 0, 0] : Fin 3 → Nat) a + S256x8x128.size a ≤ S1280x8x128.size a := by decide
theorem inb_c : ∀ (b : Fin 2) (a), (![b.val, 0, 0, 0] : Fin 4 → Nat) a + S1x256x64x128.size a ≤ S2x256x64x128.size a := by decide
theorem inb_cw : ∀ (b : Fin 2) (j : Fin 8) (a), (![b.val, 0, 8 * j.val, 0] : Fin 4 → Nat) a + S1x256x8x128.size a ≤ S2x256x64x128.size a := by decide
theorem inb_o (o : Nat) (ho : o + 128 ≤ 1024) : ∀ a, (![o, 0] : Fin 2 → Nat) a + S128x1024.size a ≤ S1024x1024.size a := by
  intro a; match a with
  | 0 => exact ho
  | 1 => exact Nat.le_refl _
theorem inb_s : ∀ (j : Fin 8) (a), (![j.val, 0, 0] : Fin 3 → Nat) a + S1x128x1024.size a ≤ S8x128x1024.size a := by decide
theorem inb_8 : ∀ (j : Fin 8) (a), (![j.val] : Fin 1 → Nat) a + S1.size a ≤ S8.size a := by decide
theorem inb_10 : ∀ (k : Fin 10) (a), (![k.val] : Fin 1 → Nat) a + S1.size a ≤ S10.size a := by decide
theorem inb_28 : ∀ (b : Fin 2) (j : Fin 8) (a), (![b.val, j.val] : Fin 2 → Nat) a + S1x1.size a ≤ S2x8.size a := by decide
theorem inb_l3 : ∀ (i : Fin 7) (h : Fin 8) (a), (![128 * i.val, h.val, 0] : Fin 3 → Nat) a + S384x1x128.size a ≤ S1280x8x128.size a := by decide
theorem inb_l2 : ∀ (h : Fin 8) (a), (![0, h.val, 0] : Fin 3 → Nat) a + S256x1x128.size a ≤ S1280x8x128.size a := by decide

abbrev hR (q : Fin 4) : Rect S1x1024x64x128 := Rect.unit (s := S1x1024x64x128) ![0, 256 * q.val, 0, 0] S1x256x64x128.size (inb_h q)
abbrev bR (q : Fin 5) : Rect S1280x8x128 := Rect.unit (s := S1280x8x128) ![256 * q.val, 0, 0] S256x8x128.size (inb_b q)
abbrev cR (b : Fin 2) : Rect S2x256x64x128 := Rect.unit (s := S2x256x64x128) ![b.val, 0, 0, 0] S1x256x64x128.size (inb_c b)
abbrev cwR (b : Fin 2) (j : Fin 8) : Rect S2x256x64x128 := Rect.unit (s := S2x256x64x128) ![b.val, 0, 8 * j.val, 0] S1x256x8x128.size (inb_cw b j)
abbrev oR (o : Nat) (ho : o + 128 ≤ 1024) : Rect S1024x1024 := Rect.unit (s := S1024x1024) ![o, 0] S128x1024.size (inb_o o ho)
abbrev sR (j : Fin 8) : Rect S8x128x1024 := Rect.unit (s := S8x128x1024) ![j.val, 0, 0] S1x128x1024.size (inb_s j)
abbrev l3R (i : Fin 7) (h : Fin 8) : Rect S1280x8x128 := Rect.unit (s := S1280x8x128) ![128 * i.val, h.val, 0] S384x1x128.size (inb_l3 i h)
abbrev l2R (h : Fin 8) : Rect S1280x8x128 := Rect.unit (s := S1280x8x128) ![0, h.val, 0] S256x1x128.size (inb_l2 h)
theorem t8_le (t : Fin 8) : 128 * t.val + 128 ≤ 1024 := by omega
abbrev tR (t : Fin 8) : Rect S1024x1024 := oR (128 * t.val) (t8_le t)

theorem wh_bR : ∀ q, (bR q).WholeWords (EltTy.packing .bf16) := by decide
theorem pk_bR : ∀ q, (bR q).PackedRows (EltTy.packing .bf16) := by decide
theorem pk_cR : ∀ b, (cR b).PackedRows (EltTy.packing .bf16) := by decide
theorem wh_cwR : ∀ b j, (cwR b j).WholeWords (EltTy.packing .bf16) := by decide
theorem wh_tR : ∀ t, (tR t).WholeWords (EltTy.packing .bf16) := by decide
theorem pk_tR : ∀ t, (tR t).PackedRows (EltTy.packing .bf16) := by decide
theorem wh_sR : ∀ j, (sR j).WholeWords (EltTy.packing .bf16) := by decide

/-- Rows `256 q …` of this device's keys or values, all heads. -/
abbrev hChunk (b : Fin 2) (q : Fin 4) : Memref sig .tc .hbm S256x64x128 .f32 :=
  ((hM b).slice (hR q) (fun _ => rfl)).squeeze S256x64x128 squeezes_S1x256x64x128_S256x64x128
/-- Rows `256 q …` of the key or value buffer. -/
abbrev bChunk (b : Fin 2) (q : Fin 5) : Memref sig .tc .vmem S256x8x128 .bf16 := (bM b).slice (bR q) (fun _ => rfl)
/-- The heads of device `j` in the converted chunk. -/
abbrev cWin (b : Fin 2) (j : Fin 8) : Memref sig .tc .vmem S256x8x128 .bf16 :=
  (cM.slice (cwR b j) (fun _ => rfl)).squeeze S256x8x128 squeezes_S1x256x8x128_S256x8x128
/-- Tile `t` of the rounded partial results. -/
abbrev sTile (t : Fin 8) : Memref sig .tc .vmem S128x1024 .bf16 := sM.slice (tR t) (fun _ => rfl)
/-- Slot `j` of the buffer of received partial results. -/
abbrev rSlot (j : Fin 8) : Memref sig .tc .vmem S128x1024 .bf16 :=
  (rM.slice (sR j) (fun _ => rfl)).squeeze S128x1024 squeezes_S1x128x1024_S128x1024
/-- Slot `j` of the buffer of received sums. -/
abbrev gSlot (j : Fin 8) : Memref sig .tc .vmem S128x1024 .bf16 :=
  (gM.slice (sR j) (fun _ => rfl)).squeeze S128x1024 squeezes_S1x128x1024_S128x1024

theorem hChunk_we (b : Fin 2) (q : Fin 4) : (hChunk b q).view.WordExact := (View.wordExact_bits rfl).reshape _ _
theorem bChunk_we (b : Fin 2) (q : Fin 5) : (bChunk b q).view.WordExact := (bM_whole b).wordExact_slice rfl _ (wh_bR q)
theorem cWin_we (b : Fin 2) (j : Fin 8) : (cWin b j).view.WordExact :=
  ((Memref.isWhole_whole cc0_scratch3).wordExact_slice rfl _ (wh_cwR b j)).reshape _ _
theorem sTile_we (t : Fin 8) : (sTile t).view.WordExact := (Memref.isWhole_whole cc0_scratch4).wordExact_slice rfl _ (wh_tR t)
theorem rSlot_we (j : Fin 8) : (rSlot j).view.WordExact :=
  ((Memref.isWhole_whole cc0_scratch6).wordExact_slice rfl _ (wh_sR j)).reshape _ _
theorem gSlot_we (j : Fin 8) : (gSlot j).view.WordExact :=
  ((Memref.isWhole_whole cc0_scratch7).wordExact_slice rfl _ (wh_sR j)).reshape _ _

/-! ## Semaphores -/

abbrev barA : Sems sig S_ := SemArray.scalar (sig.barrier 0 rfl)
abbrev barS := barA.sem
abbrev locS := ((cc0_scratch8.slice (Rect.unit (s := S1) ![0] S1.size inb_S1_S1_0)).squeeze S_ squeezes_S1_S_).sem
abbrev gsS (b : Fin 2) (j : Fin 8) :=
  ((cc0_scratch9.slice (Rect.unit (s := S2x8) ![b.val, j.val] S1x1.size (inb_28 b j))).squeeze S_ squeezes_S1x1_S_).sem
abbrev grS (k : Fin 10) := ((cc0_scratch10.slice (Rect.unit (s := S10) ![k.val] S1.size (inb_10 k))).squeeze S_ squeezes_S1_S_).sem
abbrev at8 (A : DmaSems sig S8) (j : Fin 8) := ((A.slice (Rect.unit (s := S8) ![j.val] S1.size (inb_8 j))).squeeze S_ squeezes_S1_S_).sem
abbrev s1S (t : Fin 8) := at8 cc0_scratch11 t
abbrev r1S (t : Fin 8) := at8 cc0_scratch12 t
abbrev s2S (t : Fin 8) := at8 cc0_scratch13 t
abbrev r2S (t : Fin 8) := at8 cc0_scratch14 t

/-! ## Steps -/

/-- Tell device `j` that this device has entered. -/
def sigStep (c : Dev nD) (j : Fin 8) : PG F PUnit :=
  ifT (c := neB c j = 1#1) fun _ => semSignalWord (j : Dev nD) barS 1#32

/-- Bring a chunk of keys or values in and round it. -/
def loadConv (b : Fin 2) (q : Fin 4) : PG F PUnit := do
  Prog.lift (.enqueueDma (hChunk b q) (.here stagM) (.dma locS) (hChunk_we b q) (Memref.isWhole_whole cc0_scratch2).wordExact ⟨Or.inl rfl, trivial⟩)
  Prog.lift (.waitDma2 locS (hChunk b q) stagM (hChunk_we b q) (Memref.isWhole_whole cc0_scratch2).wordExact)
  let v ← Prog.lift (.load stagM (Rect.unit (s := S256x64x128) ![0, 0, 0] S256x64x128.size inb_S256x64x128_S256x64x128_0_0_0).toLoadRect (View.loadsAt_vmem h_S256x64x128))
  let _ ← Prog.lift (.load cM (cR b).toLoadRect (View.loadsAt_vmem h_S1x256x64x128))
  Prog.lift (.store cM (cR b) (k0_pay1 v) Finset.univ (View.stores_vmem h_S1x256x64x128 ((Memref.isWhole_whole cc0_scratch3).storeExact_slice rfl _ (pk_cR b)) (fun _ => rfl)) (.inl rfl))

/-- Send device `j` its heads of the rounded chunk. -/
def sendKV (b : Fin 2) (q : Fin 5) (k : Fin 10) (j : Fin 8) : PG F PUnit :=
  Prog.lift (.enqueueDma (cWin b j) (.remote (Dev.tc (j : Dev nD)) (bChunk b q) (.dma (gsS b j))) (.dma (grS k)) (cWin_we b j) (bChunk_we b q) ⟨⟨rfl, Or.inl rfl⟩, trivial⟩)

/-- Keep this device's own heads of the rounded chunk. -/
def keepKV (o : Fin 8) (b : Fin 2) (q : Fin 5) : PG F PUnit := do
  let v ← Prog.lift (.load cM (cwR b o).toLoadRect (View.loadsAt_vmem h_S1x256x8x128))
  let _ ← Prog.lift (.load (bM b) (bR q).toLoadRect (View.loadsAt_vmem h_S256x8x128))
  Prog.lift (.store (bM b) (bR q) (k0_pay2 v) Finset.univ (View.stores_vmem h_S256x8x128 ((bM_whole b).storeExact_slice rfl _ (pk_bR q)) (fun _ => rfl)) (.inl rfl))

/-- Wait until a sent chunk has left. -/
def waitKV (b : Fin 2) (q : Fin 5) (j : Fin 8) : PG F PUnit :=
  Prog.lift (.waitDma2 (gsS b j) (bChunk b q) (cWin b j) (bChunk_we b q) (cWin_we b j))

/-- One chunk: bring it in, send the other devices their heads, keep this device's own. -/
def seg (o : Fin 8) (js : List (Fin 8)) (b : Fin 2) (hq : Fin 4) (q : Fin 5) (k : Fin 10) : PG F PUnit := do
  loadConv b hq
  forL (sendKV b q k) js
  keepKV o b q

/-- The other devices, as device 0 and as device 1 run through them. -/
def js0 : List (Fin 8) := [1, 2, 3, 4, 5, 6, 7]
@[inherit_doc js0] def js1 : List (Fin 8) := [0, 2, 3, 4, 5, 6, 7]

/-- Device 0's chunk of index `q` after the first. -/
def chunk0 (q : Fin 3) : PG F PUnit := do
  forL (waitKV 0 ⟨q.val, by omega⟩) js0
  seg 0 js0 0 q.succ ⟨q.val + 1, by omega⟩ ⟨2 * q.val + 2, by omega⟩
  forL (waitKV 1 ⟨q.val, by omega⟩) js0
  seg 0 js0 1 q.succ ⟨q.val + 1, by omega⟩ ⟨2 * q.val + 3, by omega⟩

/-- Device 0 spreads its keys and values. -/
def dev0 : PG F PUnit := do
  seg 0 js0 0 0 0 0
  seg 0 js0 1 0 0 1
  forL chunk0 [0, 1, 2]
  forL (waitKV 0 3) js0
  forL (waitKV 1 3) js0

/-- Device 1's keys or values. -/
def chunk1 (b : Fin 2) : PG F PUnit := do
  seg 1 js1 b 0 4 ⟨b.val + 8, by omega⟩
  forL (waitKV b 4) js1

/-- Device 1 spreads the first rows of its keys and values. -/
def dev1 : PG F PUnit := forL chunk1 [0, 1]

/-- Wait for a chunk of keys or values to arrive. -/
def recvKV (b : Fin 2) (q : Fin 5) (k : Fin 10) : PG F PUnit :=
  Prog.lift (.waitDma2 (grS k) (cWin 0 0) (bChunk b q) (cWin_we 0 0) (bChunk_we b q))

/-- Wait for chunk `q` of device 0's keys and values. -/
def recvStep (c : Dev nD) (q : Fin 4) : PG F PUnit :=
  ifT (c := neB c 0 = 1#1) fun _ => do
    recvKV 0 ⟨q.val, by omega⟩ ⟨2 * q.val, by omega⟩
    recvKV 1 ⟨q.val, by omega⟩ ⟨2 * q.val + 1, by omega⟩

/-- Wait for device 1's keys and values. -/
def recvStep1 (c : Dev nD) : PG F PUnit :=
  ifT (c := neB c 1 = 1#1) fun _ => do
    recvKV 0 4 8
    recvKV 1 4 9

abbrev KV2 (F : FTy → Type) [FloatOps F] [Named F] := Vec F S256x1x128 .bf16 × Vec F S256x1x128 .bf16
abbrev KV3 (F : FTy → Type) [FloatOps F] [Named F] := Vec F S384x1x128 .bf16 × Vec F S384x1x128 .bf16

/-- The window of tile 0 at head `h`. -/
def ld2 (h : Fin 8) : PG F (KV2 F) := do
  let k ← Prog.lift (.load (bM 0) (l2R h).toLoadRect (View.loadsAt_vmem h_S256x1x128))
  let v ← Prog.lift (.load (bM 1) (l2R h).toLoadRect (View.loadsAt_vmem h_S256x1x128))
  pure (k, v)

/-- The window of tile `i + 1` at head `h`. -/
def ld3 (i : Fin 7) (h : Fin 8) : PG F (KV3 F) := do
  let k ← Prog.lift (.load (bM 0) (l3R i h).toLoadRect (View.loadsAt_vmem h_S384x1x128))
  let v ← Prog.lift (.load (bM 1) (l3R i h).toLoadRect (View.loadsAt_vmem h_S384x1x128))
  pure (k, v)

/-- Eight reads, one for each head. -/
def eight {α : Type} (f : Fin 8 → PG F α) : PG F (Fin 8 → α) := do
  let a0 ← f 0
  let a1 ← f 1
  let a2 ← f 2
  let a3 ← f 3
  let a4 ← f 4
  let a5 ← f 5
  let a6 ← f 6
  let a7 ← f 7
  pure ![a0, a1, a2, a3, a4, a5, a6, a7]

/-- Tile 0 of the partial result. -/
def outPay2 (x : Vec F S1x1024x1024 .f32) (wq wo : Vec F S1024x1024 .f32) (kv : Fin 8 → KV2 F) : Vec F S128x1024 .f32 :=
  k0_pay45 (k0_pay25 wo) k0_pay26 (k0_pay29 k0_pay26 (k0_pay27 x wq) (k0_pay28 (kv 0).1) (kv 0).2) (k0_pay30 (k0_pay24 x wq) k0_pay26 (kv 1).1 (kv 1).2) (k0_pay31 (k0_pay24 x wq) k0_pay26 (kv 2).1 (kv 2).2) (k0_pay35 (k0_pay32 (kv 3).2) (k0_pay33 (k0_pay24 x wq) k0_pay26 (kv 3).1) (k0_pay34 (k0_pay24 x wq) k0_pay26 (kv 3).1)) (k0_pay36 (k0_pay24 x wq) k0_pay26 (kv 4).1 (kv 4).2) (k0_pay40 (k0_pay37 (kv 5).2) (k0_pay38 (k0_pay24 x wq) k0_pay26 (kv 5).1) (k0_pay39 (k0_pay24 x wq) k0_pay26 (kv 5).1)) (k0_pay41 (k0_pay24 x wq) k0_pay26 (kv 6).1 (kv 6).2) (k0_pay42 (kv 7).2) (k0_pay43 (k0_pay24 x wq) (kv 7).1) (k0_pay44 (F := F))
/-- Tile 0 of the partial result, rounded. -/
def sPay2 (x : Vec F S1x1024x1024 .f32) (wq wo : Vec F S1024x1024 .f32) (kv : Fin 8 → KV2 F) : Vec F S128x1024 .bf16 :=
  k0_pay46 (k0_pay25 wo) k0_pay26 (k0_pay29 k0_pay26 (k0_pay27 x wq) (k0_pay28 (kv 0).1) (kv 0).2) (k0_pay30 (k0_pay24 x wq) k0_pay26 (kv 1).1 (kv 1).2) (k0_pay31 (k0_pay24 x wq) k0_pay26 (kv 2).1 (kv 2).2) (k0_pay35 (k0_pay32 (kv 3).2) (k0_pay33 (k0_pay24 x wq) k0_pay26 (kv 3).1) (k0_pay34 (k0_pay24 x wq) k0_pay26 (kv 3).1)) (k0_pay36 (k0_pay24 x wq) k0_pay26 (kv 4).1 (kv 4).2) (k0_pay40 (k0_pay37 (kv 5).2) (k0_pay38 (k0_pay24 x wq) k0_pay26 (kv 5).1) (k0_pay39 (k0_pay24 x wq) k0_pay26 (kv 5).1)) (k0_pay41 (k0_pay24 x wq) k0_pay26 (kv 6).1 (kv 6).2) (k0_pay42 (kv 7).2) (k0_pay43 (k0_pay24 x wq) (kv 7).1) (k0_pay44 (F := F))
/-- Tile `i + 1` of the partial result. -/
def outPay3 (i : Fin 7) (x : Vec F S1x1024x1024 .f32) (wq wo : Vec F S1024x1024 .f32) (kv : Fin 8 → KV3 F) : Vec F S128x1024 .f32 :=
  match i with
  | 0 => k0_pay66 (k0_pay25 wo) k0_pay47 (k0_pay49 k0_pay47 (k0_pay48 (k0_pay24 x wq)) (kv 0).1 (kv 0).2) (k0_pay53 (k0_pay50 (kv 1).2) (k0_pay51 (k0_pay24 x wq) k0_pay47 (kv 1).1) (k0_pay52 (k0_pay24 x wq) k0_pay47 (kv 1).1)) (k0_pay54 (k0_pay24 x wq) k0_pay47 (kv 2).1 (kv 2).2) (k0_pay58 (k0_pay55 (kv 3).2) (k0_pay56 (k0_pay24 x wq) k0_pay47 (kv 3).1) (k0_pay57 (k0_pay24 x wq) k0_pay47 (kv 3).1)) (k0_pay59 (k0_pay24 x wq) k0_pay47 (kv 4).1 (kv 4).2) (k0_pay62 k0_pay47 (k0_pay60 (kv 5).2) (k0_pay61 (k0_pay24 x wq) (kv 5).1)) (k0_pay63 (k0_pay24 x wq) k0_pay47 (kv 6).1 (kv 6).2) (k0_pay64 (k0_pay24 x wq)) (k0_pay65 (kv 7).1) (kv 7).2
  | 1 => k0_pay88 (k0_pay25 wo) k0_pay68 (k0_pay70 k0_pay68 (k0_pay69 (k0_pay24 x wq)) (kv 0).1 (kv 0).2) (k0_pay74 (k0_pay71 (kv 1).2) (k0_pay72 (k0_pay24 x wq) k0_pay68 (kv 1).1) (k0_pay73 (k0_pay24 x wq) k0_pay68 (kv 1).1)) (k0_pay75 (k0_pay24 x wq) k0_pay68 (kv 2).1 (kv 2).2) (k0_pay79 (k0_pay76 (kv 3).2) (k0_pay77 (k0_pay24 x wq) k0_pay68 (kv 3).1) (k0_pay78 (k0_pay24 x wq) k0_pay68 (kv 3).1)) (k0_pay80 (k0_pay24 x wq) k0_pay68 (kv 4).1 (kv 4).2) (k0_pay83 k0_pay68 (k0_pay81 (kv 5).2) (k0_pay82 (k0_pay24 x wq) (kv 5).1) (Named.named κ "mask" 0xCE6E6B28#32)) (k0_pay84 (k0_pay24 x wq) k0_pay68 (kv 6).1 (kv 6).2) (k0_pay85 (k0_pay24 x wq)) (k0_pay86 (kv 7).1) (k0_pay87 (kv 7).2)
  | 2 => k0_pay109 (k0_pay25 wo) (k0_pay91 k0_pay90) (k0_pay92 (k0_pay24 x wq) k0_pay90 (kv 0).1 (kv 0).2) (k0_pay95 (k0_pay93 (kv 1).2) (k0_pay94 (k0_pay24 x wq) k0_pay90 (kv 1).1)) (k0_pay96 (k0_pay24 x wq) (k0_pay91 k0_pay90) (kv 2).1 (kv 2).2) (k0_pay100 (k0_pay91 k0_pay90) (k0_pay97 (kv 3).2) (k0_pay98 (k0_pay24 x wq) (kv 3).1) (k0_pay99 (F := F))) (k0_pay101 (k0_pay24 x wq) (k0_pay91 k0_pay90) (kv 4).1 (kv 4).2) (k0_pay105 (k0_pay91 k0_pay90) (k0_pay102 (k0_pay24 x wq)) (k0_pay103 (kv 5).1) (k0_pay104 (kv 5).2) (constant S128x384 .f32 0x00000000#32)) (k0_pay106 (k0_pay24 x wq) (k0_pay91 k0_pay90) (kv 6).1 (kv 6).2) (k0_pay107 (k0_pay24 x wq)) (k0_pay108 (kv 7).1) (kv 7).2
  | 3 => k0_pay128 (k0_pay25 wo) (k0_pay112 k0_pay111 128#32) (k0_pay113 (k0_pay24 x wq) k0_pay111 128#32 (kv 0).1 (kv 0).2) (k0_pay116 (k0_pay114 (kv 1).2) (k0_pay115 (k0_pay24 x wq) k0_pay111 128#32 (kv 1).1)) (k0_pay117 (k0_pay24 x wq) (k0_pay112 k0_pay111 128#32) (kv 2).1 (kv 2).2) (k0_pay120 (k0_pay118 (kv 3).2) (k0_pay119 (k0_pay24 x wq) (k0_pay112 k0_pay111 128#32) (kv 3).1)) (k0_pay121 (k0_pay24 x wq) (k0_pay112 k0_pay111 128#32) (kv 4).1 (kv 4).2) (k0_pay124 (k0_pay112 k0_pay111 128#32) (k0_pay122 (kv 5).2) (k0_pay123 (k0_pay24 x wq) (kv 5).1)) (k0_pay125 (k0_pay24 x wq) (k0_pay112 k0_pay111 128#32) (kv 6).1 (kv 6).2) (k0_pay126 (k0_pay24 x wq)) (k0_pay127 (kv 7).1) (kv 7).2
  | 4 => k0_pay146 (k0_pay25 wo) (k0_pay131 k0_pay130 (iota .tc S128x384 32 [1] Gen.iota_S128x384_d1_w32) 512#32) (k0_pay132 (k0_pay24 x wq) k0_pay130 (iota .tc S128x384 32 [1] Gen.iota_S128x384_d1_w32) 512#32 (kv 0).1 (kv 0).2) (k0_pay135 (k0_pay133 (kv 1).2) (k0_pay134 (k0_pay24 x wq) k0_pay130 (iota .tc S128x384 32 [1] Gen.iota_S128x384_d1_w32) 512#32 (kv 1).1)) (k0_pay136 (k0_pay24 x wq) (k0_pay131 k0_pay130 (iota .tc S128x384 32 [1] Gen.iota_S128x384_d1_w32) 512#32) (kv 2).1 (kv 2).2) (k0_pay139 (k0_pay131 k0_pay130 (iota .tc S128x384 32 [1] Gen.iota_S128x384_d1_w32) 512#32) (k0_pay137 (kv 3).2) (k0_pay138 (k0_pay24 x wq) (kv 3).1) (Scalar.ofBits .f32 0x3DB504F3#32)) (k0_pay140 (k0_pay24 x wq) (k0_pay131 k0_pay130 (iota .tc S128x384 32 [1] Gen.iota_S128x384_d1_w32) 512#32) (kv 4).1 (kv 4).2) (k0_pay143 (k0_pay131 k0_pay130 (iota .tc S128x384 32 [1] Gen.iota_S128x384_d1_w32) 512#32) (k0_pay141 (k0_pay24 x wq)) (k0_pay142 (kv 5).1) (kv 5).2) (k0_pay144 (k0_pay24 x wq) (k0_pay131 k0_pay130 (iota .tc S128x384 32 [1] Gen.iota_S128x384_d1_w32) 512#32) (kv 6).1 (kv 6).2) (k0_pay145 (k0_pay24 x wq)) (kv 7).1 (kv 7).2
  | 5 => k0_pay167 (k0_pay25 wo) (k0_pay150 k0_pay148 (iota .tc S128x384 32 [1] Gen.iota_S128x384_d1_w32) k0_pay149) (k0_pay151 (k0_pay24 x wq) k0_pay148 (iota .tc S128x384 32 [1] Gen.iota_S128x384_d1_w32) k0_pay149 (kv 0).1 (kv 0).2) (k0_pay155 (k0_pay152 (kv 1).2) (k0_pay153 (k0_pay24 x wq) k0_pay148 (iota .tc S128x384 32 [1] Gen.iota_S128x384_d1_w32) k0_pay149 (kv 1).1) (k0_pay154 (k0_pay24 x wq) k0_pay148 (iota .tc S128x384 32 [1] Gen.iota_S128x384_d1_w32) k0_pay149 (kv 1).1)) (k0_pay156 (k0_pay24 x wq) (k0_pay150 k0_pay148 (iota .tc S128x384 32 [1] Gen.iota_S128x384_d1_w32) k0_pay149) (kv 2).1 (kv 2).2) (k0_pay160 (k0_pay150 k0_pay148 (iota .tc S128x384 32 [1] Gen.iota_S128x384_d1_w32) k0_pay149) (k0_pay157 (kv 3).2) (k0_pay158 (k0_pay24 x wq) (kv 3).1) (k0_pay159 (F := F))) (k0_pay161 (k0_pay24 x wq) (k0_pay150 k0_pay148 (iota .tc S128x384 32 [1] Gen.iota_S128x384_d1_w32) k0_pay149) (kv 4).1 (kv 4).2) (k0_pay164 (k0_pay150 k0_pay148 (iota .tc S128x384 32 [1] Gen.iota_S128x384_d1_w32) k0_pay149) (k0_pay162 (k0_pay24 x wq)) (k0_pay163 (kv 5).1) (kv 5).2) (k0_pay165 (k0_pay24 x wq) (k0_pay150 k0_pay148 (iota .tc S128x384 32 [1] Gen.iota_S128x384_d1_w32) k0_pay149) (kv 6).1 (kv 6).2) (k0_pay166 (k0_pay24 x wq)) (kv 7).1 (kv 7).2
  | 6 => k0_pay187 (k0_pay25 wo) (k0_pay171 k0_pay169 k0_pay170) (k0_pay172 (k0_pay24 x wq) k0_pay169 k0_pay170 (kv 0).1 (kv 0).2) (k0_pay176 (k0_pay173 (kv 1).2) (k0_pay174 (k0_pay24 x wq) k0_pay169 k0_pay170 (kv 1).1) (k0_pay175 (k0_pay24 x wq) k0_pay169 k0_pay170 (kv 1).1)) (k0_pay177 (k0_pay24 x wq) (k0_pay171 k0_pay169 k0_pay170) (kv 2).1 (kv 2).2) (k0_pay180 (k0_pay171 k0_pay169 k0_pay170) (k0_pay178 (kv 3).2) (k0_pay179 (k0_pay24 x wq) (kv 3).1)) (k0_pay181 (k0_pay24 x wq) (k0_pay171 k0_pay169 k0_pay170) (kv 4).1 (kv 4).2) (k0_pay184 (k0_pay171 k0_pay169 k0_pay170) (k0_pay182 (k0_pay24 x wq)) (k0_pay183 (kv 5).1) (kv 5).2) (k0_pay185 (k0_pay24 x wq) (k0_pay171 k0_pay169 k0_pay170) (kv 6).1 (kv 6).2) (k0_pay186 (k0_pay24 x wq)) (kv 7).1 (kv 7).2
/-- Tile `i + 1` of the partial result, rounded. -/
def sPay3 (i : Fin 7) (x : Vec F S1x1024x1024 .f32) (wq wo : Vec F S1024x1024 .f32) (kv : Fin 8 → KV3 F) : Vec F S128x1024 .bf16 :=
  match i with
  | 0 => k0_pay67 (k0_pay25 wo) k0_pay47 (k0_pay49 k0_pay47 (k0_pay48 (k0_pay24 x wq)) (kv 0).1 (kv 0).2) (k0_pay53 (k0_pay50 (kv 1).2) (k0_pay51 (k0_pay24 x wq) k0_pay47 (kv 1).1) (k0_pay52 (k0_pay24 x wq) k0_pay47 (kv 1).1)) (k0_pay54 (k0_pay24 x wq) k0_pay47 (kv 2).1 (kv 2).2) (k0_pay58 (k0_pay55 (kv 3).2) (k0_pay56 (k0_pay24 x wq) k0_pay47 (kv 3).1) (k0_pay57 (k0_pay24 x wq) k0_pay47 (kv 3).1)) (k0_pay59 (k0_pay24 x wq) k0_pay47 (kv 4).1 (kv 4).2) (k0_pay62 k0_pay47 (k0_pay60 (kv 5).2) (k0_pay61 (k0_pay24 x wq) (kv 5).1)) (k0_pay63 (k0_pay24 x wq) k0_pay47 (kv 6).1 (kv 6).2) (k0_pay64 (k0_pay24 x wq)) (k0_pay65 (kv 7).1) (kv 7).2
  | 1 => k0_pay89 (k0_pay25 wo) k0_pay68 (k0_pay70 k0_pay68 (k0_pay69 (k0_pay24 x wq)) (kv 0).1 (kv 0).2) (k0_pay74 (k0_pay71 (kv 1).2) (k0_pay72 (k0_pay24 x wq) k0_pay68 (kv 1).1) (k0_pay73 (k0_pay24 x wq) k0_pay68 (kv 1).1)) (k0_pay75 (k0_pay24 x wq) k0_pay68 (kv 2).1 (kv 2).2) (k0_pay79 (k0_pay76 (kv 3).2) (k0_pay77 (k0_pay24 x wq) k0_pay68 (kv 3).1) (k0_pay78 (k0_pay24 x wq) k0_pay68 (kv 3).1)) (k0_pay80 (k0_pay24 x wq) k0_pay68 (kv 4).1 (kv 4).2) (k0_pay83 k0_pay68 (k0_pay81 (kv 5).2) (k0_pay82 (k0_pay24 x wq) (kv 5).1) (Named.named κ "mask" 0xCE6E6B28#32)) (k0_pay84 (k0_pay24 x wq) k0_pay68 (kv 6).1 (kv 6).2) (k0_pay85 (k0_pay24 x wq)) (k0_pay86 (kv 7).1) (k0_pay87 (kv 7).2)
  | 2 => k0_pay110 (k0_pay25 wo) (k0_pay91 k0_pay90) (k0_pay92 (k0_pay24 x wq) k0_pay90 (kv 0).1 (kv 0).2) (k0_pay95 (k0_pay93 (kv 1).2) (k0_pay94 (k0_pay24 x wq) k0_pay90 (kv 1).1)) (k0_pay96 (k0_pay24 x wq) (k0_pay91 k0_pay90) (kv 2).1 (kv 2).2) (k0_pay100 (k0_pay91 k0_pay90) (k0_pay97 (kv 3).2) (k0_pay98 (k0_pay24 x wq) (kv 3).1) (k0_pay99 (F := F))) (k0_pay101 (k0_pay24 x wq) (k0_pay91 k0_pay90) (kv 4).1 (kv 4).2) (k0_pay105 (k0_pay91 k0_pay90) (k0_pay102 (k0_pay24 x wq)) (k0_pay103 (kv 5).1) (k0_pay104 (kv 5).2) (constant S128x384 .f32 0x00000000#32)) (k0_pay106 (k0_pay24 x wq) (k0_pay91 k0_pay90) (kv 6).1 (kv 6).2) (k0_pay107 (k0_pay24 x wq)) (k0_pay108 (kv 7).1) (kv 7).2
  | 3 => k0_pay129 (k0_pay25 wo) (k0_pay112 k0_pay111 128#32) (k0_pay113 (k0_pay24 x wq) k0_pay111 128#32 (kv 0).1 (kv 0).2) (k0_pay116 (k0_pay114 (kv 1).2) (k0_pay115 (k0_pay24 x wq) k0_pay111 128#32 (kv 1).1)) (k0_pay117 (k0_pay24 x wq) (k0_pay112 k0_pay111 128#32) (kv 2).1 (kv 2).2) (k0_pay120 (k0_pay118 (kv 3).2) (k0_pay119 (k0_pay24 x wq) (k0_pay112 k0_pay111 128#32) (kv 3).1)) (k0_pay121 (k0_pay24 x wq) (k0_pay112 k0_pay111 128#32) (kv 4).1 (kv 4).2) (k0_pay124 (k0_pay112 k0_pay111 128#32) (k0_pay122 (kv 5).2) (k0_pay123 (k0_pay24 x wq) (kv 5).1)) (k0_pay125 (k0_pay24 x wq) (k0_pay112 k0_pay111 128#32) (kv 6).1 (kv 6).2) (k0_pay126 (k0_pay24 x wq)) (k0_pay127 (kv 7).1) (kv 7).2
  | 4 => k0_pay147 (k0_pay25 wo) (k0_pay131 k0_pay130 (iota .tc S128x384 32 [1] Gen.iota_S128x384_d1_w32) 512#32) (k0_pay132 (k0_pay24 x wq) k0_pay130 (iota .tc S128x384 32 [1] Gen.iota_S128x384_d1_w32) 512#32 (kv 0).1 (kv 0).2) (k0_pay135 (k0_pay133 (kv 1).2) (k0_pay134 (k0_pay24 x wq) k0_pay130 (iota .tc S128x384 32 [1] Gen.iota_S128x384_d1_w32) 512#32 (kv 1).1)) (k0_pay136 (k0_pay24 x wq) (k0_pay131 k0_pay130 (iota .tc S128x384 32 [1] Gen.iota_S128x384_d1_w32) 512#32) (kv 2).1 (kv 2).2) (k0_pay139 (k0_pay131 k0_pay130 (iota .tc S128x384 32 [1] Gen.iota_S128x384_d1_w32) 512#32) (k0_pay137 (kv 3).2) (k0_pay138 (k0_pay24 x wq) (kv 3).1) (Scalar.ofBits .f32 0x3DB504F3#32)) (k0_pay140 (k0_pay24 x wq) (k0_pay131 k0_pay130 (iota .tc S128x384 32 [1] Gen.iota_S128x384_d1_w32) 512#32) (kv 4).1 (kv 4).2) (k0_pay143 (k0_pay131 k0_pay130 (iota .tc S128x384 32 [1] Gen.iota_S128x384_d1_w32) 512#32) (k0_pay141 (k0_pay24 x wq)) (k0_pay142 (kv 5).1) (kv 5).2) (k0_pay144 (k0_pay24 x wq) (k0_pay131 k0_pay130 (iota .tc S128x384 32 [1] Gen.iota_S128x384_d1_w32) 512#32) (kv 6).1 (kv 6).2) (k0_pay145 (k0_pay24 x wq)) (kv 7).1 (kv 7).2
  | 5 => k0_pay168 (k0_pay25 wo) (k0_pay150 k0_pay148 (iota .tc S128x384 32 [1] Gen.iota_S128x384_d1_w32) k0_pay149) (k0_pay151 (k0_pay24 x wq) k0_pay148 (iota .tc S128x384 32 [1] Gen.iota_S128x384_d1_w32) k0_pay149 (kv 0).1 (kv 0).2) (k0_pay155 (k0_pay152 (kv 1).2) (k0_pay153 (k0_pay24 x wq) k0_pay148 (iota .tc S128x384 32 [1] Gen.iota_S128x384_d1_w32) k0_pay149 (kv 1).1) (k0_pay154 (k0_pay24 x wq) k0_pay148 (iota .tc S128x384 32 [1] Gen.iota_S128x384_d1_w32) k0_pay149 (kv 1).1)) (k0_pay156 (k0_pay24 x wq) (k0_pay150 k0_pay148 (iota .tc S128x384 32 [1] Gen.iota_S128x384_d1_w32) k0_pay149) (kv 2).1 (kv 2).2) (k0_pay160 (k0_pay150 k0_pay148 (iota .tc S128x384 32 [1] Gen.iota_S128x384_d1_w32) k0_pay149) (k0_pay157 (kv 3).2) (k0_pay158 (k0_pay24 x wq) (kv 3).1) (k0_pay159 (F := F))) (k0_pay161 (k0_pay24 x wq) (k0_pay150 k0_pay148 (iota .tc S128x384 32 [1] Gen.iota_S128x384_d1_w32) k0_pay149) (kv 4).1 (kv 4).2) (k0_pay164 (k0_pay150 k0_pay148 (iota .tc S128x384 32 [1] Gen.iota_S128x384_d1_w32) k0_pay149) (k0_pay162 (k0_pay24 x wq)) (k0_pay163 (kv 5).1) (kv 5).2) (k0_pay165 (k0_pay24 x wq) (k0_pay150 k0_pay148 (iota .tc S128x384 32 [1] Gen.iota_S128x384_d1_w32) k0_pay149) (kv 6).1 (kv 6).2) (k0_pay166 (k0_pay24 x wq)) (kv 7).1 (kv 7).2
  | 6 => k0_pay188 (k0_pay25 wo) (k0_pay171 k0_pay169 k0_pay170) (k0_pay172 (k0_pay24 x wq) k0_pay169 k0_pay170 (kv 0).1 (kv 0).2) (k0_pay176 (k0_pay173 (kv 1).2) (k0_pay174 (k0_pay24 x wq) k0_pay169 k0_pay170 (kv 1).1) (k0_pay175 (k0_pay24 x wq) k0_pay169 k0_pay170 (kv 1).1)) (k0_pay177 (k0_pay24 x wq) (k0_pay171 k0_pay169 k0_pay170) (kv 2).1 (kv 2).2) (k0_pay180 (k0_pay171 k0_pay169 k0_pay170) (k0_pay178 (kv 3).2) (k0_pay179 (k0_pay24 x wq) (kv 3).1)) (k0_pay181 (k0_pay24 x wq) (k0_pay171 k0_pay169 k0_pay170) (kv 4).1 (kv 4).2) (k0_pay184 (k0_pay171 k0_pay169 k0_pay170) (k0_pay182 (k0_pay24 x wq)) (k0_pay183 (kv 5).1) (kv 5).2) (k0_pay185 (k0_pay24 x wq) (k0_pay171 k0_pay169 k0_pay170) (kv 6).1 (kv 6).2) (k0_pay186 (k0_pay24 x wq)) (kv 7).1 (kv 7).2

/-- Send the rounded partial tile to the device that sums it. -/
def sendTile (c : Dev nD) (o : Fin 8) (t : Fin 8) : PG F PUnit :=
  ifT (c := neB c t = 1#1) fun _ =>
    Prog.lift (.enqueueDma (sTile t) (.remote (Dev.tc (t : Dev nD)) (rSlot o) (.dma (s1S t))) (.dma (r1S o)) (sTile_we t) (rSlot_we o) ⟨⟨rfl, Or.inl rfl⟩, trivial⟩)

/-- Store 128 rows of the result. -/
def stOut (o : Nat) (ho : o + 128 ≤ 1024) (p : Vec F S128x1024 .f32) : PG F PUnit := do
  let _ ← Prog.lift (.load outM (oR o ho).toLoadRect (View.loadsAt_vmem h_S128x1024))
  Prog.lift (.store outM (oR o ho) p Finset.univ (View.stores_vmem_bits_univ h_S128x1024 rfl) (.inl rfl))

/-- Store tile `t` rounded. -/
def stS (t : Fin 8) (p : Vec F S128x1024 .bf16) : PG F PUnit := do
  let _ ← Prog.lift (.load sM (tR t).toLoadRect (View.loadsAt_vmem h_S128x1024))
  Prog.lift (.store sM (tR t) p Finset.univ (View.stores_vmem h_S128x1024 ((Memref.isWhole_whole cc0_scratch4).storeExact_slice rfl _ (pk_tR t)) (fun _ => rfl)) (.inl rfl))

/-- Tile 0: its window, its partial result, its send. -/
def tile2 (c : Dev nD) (x : Vec F S1x1024x1024 .f32) (wq wo : Vec F S1024x1024 .f32) : PG F PUnit := do
  let kv ← eight ld2
  stOut 0 (by decide) (outPay2 x wq wo kv)
  stS 0 (sPay2 x wq wo kv)
  sendTile c (wi c) 0

/-- Tile `i + 1`. -/
def tile3 (c : Dev nD) (x : Vec F S1x1024x1024 .f32) (wq wo : Vec F S1024x1024 .f32) (i : Fin 7) : PG F PUnit := do
  let kv ← eight (ld3 i)
  stOut (128 * i.succ.val) (t8_le i.succ) (outPay3 i x wq wo kv)
  stS i.succ (sPay3 i x wq wo kv)
  sendTile c (wi c) i.succ

/-- The eight query tiles, each once the chunks of its window are in. -/
def tiles (c : Dev nD) (x : Vec F S1x1024x1024 .f32) (wq wo : Vec F S1024x1024 .f32) : PG F PUnit := do
  recvStep c 0
  tile2 c x wq wo
  recvStep c 1
  forL (tile3 c x wq wo) [0, 1]
  recvStep c 2
  forL (tile3 c x wq wo) [2, 3]
  recvStep c 3
  forL (tile3 c x wq wo) [4, 5, 6]

/-- Wait for device `j`'s partial of this device's tile. -/
def waitR1 (c : Dev nD) (j : Fin 8) : PG F PUnit :=
  ifT (c := neB c j = 1#1) fun _ =>
    Prog.lift (.waitDma2 (r1S j) (rSlot j) (rSlot j) (rSlot_we j) (rSlot_we j))

/-- Device `j`'s partial of this device's tile. -/
def redStep (c : Dev nD) (j : Fin 8) : PG F (Vec F S1x128x1024 .bf16) := do
  waitR1 c j
  Prog.lift (.load rM (sR j).toLoadRect (View.loadsAt_vmem h_S1x128x1024))

/-- The eight partials of this device's tile summed, its own in full precision. -/
def accPay (c : Dev nD) (own : Vec F S128x1024 .f32) (r : Fin 8 → Vec F S1x128x1024 .bf16) : Vec F S128x1024 .f32 :=
  k0_pay194 (k0_pay189 own) (k0_pay193 (v2 c) (k0_pay189 own) (k0_pay191 (v2 c) (k0_pay189 own) (k0_pay190 (F := F)) (r 0) (r 1) (r 2)) (Scalar.cmpi .eq (v2 c) 3#32) (k0_pay192 (r 3)) (r 4) (r 5) (r 6)) (Scalar.cmpi .eq (v2 c) 7#32) (r 7)
/-- That sum, rounded. -/
def accPayB (c : Dev nD) (own : Vec F S128x1024 .f32) (r : Fin 8 → Vec F S1x128x1024 .bf16) : Vec F S128x1024 .bf16 :=
  k0_pay195 (k0_pay189 own) (k0_pay193 (v2 c) (k0_pay189 own) (k0_pay191 (v2 c) (k0_pay189 own) (k0_pay190 (F := F)) (r 0) (r 1) (r 2)) (Scalar.cmpi .eq (v2 c) 3#32) (k0_pay192 (r 3)) (r 4) (r 5) (r 6)) (Scalar.cmpi .eq (v2 c) 7#32) (r 7)

/-- Sum this device's tile. -/
def reduce (c : Dev nD) (o : Nat) (ho : o + 128 ≤ 1024) : PG F PUnit := do
  let own ← Prog.lift (.load outM (oR o ho).toLoadRect (View.loadsAt_vmem h_S128x1024))
  let r ← eight (redStep c)
  stOut o ho (accPay c own r)
  let _ ← Prog.lift (.load aM (Rect.unit (s := S128x1024) ![0, 0] S128x1024.size inb_S128x1024_S128x1024_0_0).toLoadRect (View.loadsAt_vmem h_S128x1024))
  Prog.lift (.store aM (Rect.unit (s := S128x1024) ![0, 0] S128x1024.size inb_S128x1024_S128x1024_0_0) (accPayB c own r) Finset.univ (View.stores_vmem h_S128x1024 ((Memref.isWhole_whole cc0_scratch5).storeExact_slice rfl _ packedbf16_S128x1024_S128x1024_0_0) (fun _ => rfl)) (.inl rfl))

/-- Send the rounded sum to device `j`. -/
def sendSum (c : Dev nD) (o : Fin 8) (j : Fin 8) : PG F PUnit :=
  ifT (c := neB c j = 1#1) fun _ =>
    Prog.lift (.enqueueDma aM (.remote (Dev.tc (j : Dev nD)) (gSlot o) (.dma (s2S j))) (.dma (r2S o)) (Memref.isWhole_whole cc0_scratch5).wordExact (gSlot_we o) ⟨⟨rfl, Or.inl rfl⟩, trivial⟩)

/-- Device `j`'s sum, into the result. -/
def gather (c : Dev nD) (j : Fin 8) : PG F PUnit :=
  ifT (c := neB c j = 1#1) fun _ => do
    Prog.lift (.waitDma2 (r2S j) (gSlot j) (gSlot j) (gSlot_we j) (gSlot_we j))
    let v ← Prog.lift (.load gM (sR j).toLoadRect (View.loadsAt_vmem h_S1x128x1024))
    stOut (128 * j.val) (t8_le j) (k0_pay196 v)

/-- Wait until the rounded partial tile `t` has left. -/
def waitS1 (c : Dev nD) (o : Fin 8) (t : Fin 8) : PG F PUnit :=
  ifT (c := neB c t = 1#1) fun _ => Prog.lift (.waitDma2 (s1S t) (rSlot o) (sTile t) (rSlot_we o) (sTile_we t))

/-- Wait until the rounded sum for device `j` has left. -/
def waitS2 (c : Dev nD) (o : Fin 8) (j : Fin 8) : PG F PUnit :=
  ifT (c := neB c j = 1#1) fun _ => Prog.lift (.waitDma2 (s2S j) (gSlot o) aM (gSlot_we o) (Memref.isWhole_whole cc0_scratch5).wordExact)

/-- Every device. -/
def all8 : List (Fin 8) := [0, 1, 2, 3, 4, 5, 6, 7]

/-- The body after the device has read its index. -/
def prog (c : Dev nD) : PG F PUnit := do
  forL (sigStep c) all8
  semWaitWord barS 7#32
  ifT (c := eqB c 0 = 1#1) fun _ => dev0
  ifT (c := eqB c 1 = 1#1) fun _ => dev1
  let x ← Prog.lift (.load xM (Rect.unit (s := S1x1024x1024) ![0, 0, 0] S1x1024x1024.size inb_S1x1024x1024_S1x1024x1024_0_0_0).toLoadRect (View.loadsAt_vmem h_S1x1024x1024))
  let wq ← Prog.lift (.load wqM (Rect.unit (s := S1024x1024) ![0, 0] S1024x1024.size inb_S1024x1024_S1024x1024_0_0).toLoadRect (View.loadsAt_vmem h_S1024x1024))
  recvStep1 c
  let wo ← Prog.lift (.load woM (Rect.unit (s := S1024x1024) ![0, 0] S1024x1024.size inb_S1024x1024_S1024x1024_0_0).toLoadRect (View.loadsAt_vmem h_S1024x1024))
  tiles c x wq wo
  reduce c (ro c) (ro_le c)
  forL (sendSum c (wi c)) all8
  forL (gather c) all8
  forL (waitS1 c (wi c)) all8
  forL (waitS2 c (wi c)) all8

end Cert.KernelIdeal
end
-- ==== Proof.Sets.lean ====
/-
  The parts the buffers are divided into, by the coordinate that tells them apart.
-/
module

public import proofs.«01_k».proof.Proof.Prog
public import Idealize.ShloMosaic.Lib.ShareLeaves
public import Idealize.ShloMosaic.Lib.Tactic

@[expose] public section

noncomputable section

namespace Cert.KernelIdeal

open Idealize.ShloMosaic Idealize.SL Idealize.SL.RA Idealize.SL.BI Idealize.SL.Sem Cert.KernelIdeal.Gen
open scoped Idealize.SL.BI
open Idealize.SL.BI.BIBase Idealize.SL.BI.Laws Idealize.SL.ProofMode

theorem mem_bR (q : Fin 5) (i : S1280x8x128.Idx) : i ∈ (bR q).set ↔ (i 0).val / 256 = q.val := by
  have h1 := (i 1).isLt
  have h2 := (i 2).isLt
  rw [Rect.mem_set_unit]
  constructor
  · intro h
    have h0 := h 0
    simp only [Matrix.cons_val_zero, Matrix.cons_val] at h0
    omega
  · intro h a
    match a with
    | 0 => show 256 * q.val ≤ (i 0).val ∧ (i 0).val < 256 * q.val + 256; omega
    | 1 => exact ⟨Nat.zero_le _, by show (i 1).val < 0 + 8; change (i 1).val < 8 at h1; omega⟩
    | 2 => exact ⟨Nat.zero_le _, by show (i 2).val < 0 + 128; change (i 2).val < 128 at h2; omega⟩

theorem mem_sR (j : Fin 8) (i : S8x128x1024.Idx) : i ∈ (sR j).set ↔ (i 0).val = j.val := by
  have h1 := (i 1).isLt
  have h2 := (i 2).isLt
  rw [Rect.mem_set_unit]
  constructor
  · intro h
    have h0 : j.val ≤ (i 0).val ∧ (i 0).val < j.val + 1 := h 0
    omega
  · intro h a
    match a with
    | 0 => show j.val ≤ (i 0).val ∧ (i 0).val < j.val + 1; omega
    | 1 => exact ⟨Nat.zero_le _, by show (i 1).val < 0 + 128; change (i 1).val < 128 at h1; omega⟩
    | 2 => exact ⟨Nat.zero_le _, by show (i 2).val < 0 + 1024; change (i 2).val < 1024 at h2; omega⟩

theorem mem_tR (t : Fin 8) (i : S1024x1024.Idx) : i ∈ (tR t).set ↔ (i 0).val / 128 = t.val := by
  have h1 := (i 1).isLt
  rw [Rect.mem_set_unit]
  constructor
  · intro h
    have h0 : 128 * t.val ≤ (i 0).val ∧ (i 0).val < 128 * t.val + 128 := h 0
    omega
  · intro h a
    match a with
    | 0 => show 128 * t.val ≤ (i 0).val ∧ (i 0).val < 128 * t.val + 128; omega
    | 1 => exact ⟨Nat.zero_le _, by show (i 1).val < 0 + 1024; change (i 1).val < 1024 at h1; omega⟩

theorem mem_cR (b : Fin 2) (i : S2x256x64x128.Idx) : i ∈ (cR b).set ↔ (i 0).val = b.val := by
  have h1 := (i 1).isLt
  have h2 := (i 2).isLt
  have h3 := (i 3).isLt
  rw [Rect.mem_set_unit]
  constructor
  · intro h
    have h0 : b.val ≤ (i 0).val ∧ (i 0).val < b.val + 1 := h 0
    omega
  · intro h a
    match a with
    | 0 => show b.val ≤ (i 0).val ∧ (i 0).val < b.val + 1; omega
    | 1 => exact ⟨Nat.zero_le _, by show (i 1).val < 0 + 256; change (i 1).val < 256 at h1; omega⟩
    | 2 => exact ⟨Nat.zero_le _, by show (i 2).val < 0 + 64; change (i 2).val < 64 at h2; omega⟩
    | 3 => exact ⟨Nat.zero_le _, by show (i 3).val < 0 + 128; change (i 3).val < 128 at h3; omega⟩

theorem mem_cwR (b : Fin 2) (j : Fin 8) (i : S2x256x64x128.Idx) :
    i ∈ (cwR b j).set ↔ (i 0).val = b.val ∧ (i 2).val / 8 = j.val := by
  have h1 := (i 1).isLt
  have h2 := (i 2).isLt
  have h3 := (i 3).isLt
  rw [Rect.mem_set_unit]
  constructor
  · intro h
    have h0 : b.val ≤ (i 0).val ∧ (i 0).val < b.val + 1 := h 0
    have h0' : 8 * j.val ≤ (i 2).val ∧ (i 2).val < 8 * j.val + 8 := h 2
    omega
  · intro h a
    match a with
    | 0 => show b.val ≤ (i 0).val ∧ (i 0).val < b.val + 1; omega
    | 1 => exact ⟨Nat.zero_le _, by show (i 1).val < 0 + 256; change (i 1).val < 256 at h1; omega⟩
    | 2 => show 8 * j.val ≤ (i 2).val ∧ (i 2).val < 8 * j.val + 8; omega
    | 3 => exact ⟨Nat.zero_le _, by show (i 3).val < 0 + 128; change (i 3).val < 128 at h3; omega⟩

theorem mem_hR (q : Fin 4) (i : S1x1024x64x128.Idx) : i ∈ (hR q).set ↔ (i 1).val / 256 = q.val := by
  have h0 := (i 0).isLt
  have h2 := (i 2).isLt
  have h3 := (i 3).isLt
  rw [Rect.mem_set_unit]
  constructor
  · intro h
    have h0 : 256 * q.val ≤ (i 1).val ∧ (i 1).val < 256 * q.val + 256 := h 1
    omega
  · intro h a
    match a with
    | 0 => exact ⟨Nat.zero_le _, by show (i 0).val < 0 + 1; change (i 0).val < 1 at h0; omega⟩
    | 1 => show 256 * q.val ≤ (i 1).val ∧ (i 1).val < 256 * q.val + 256; omega
    | 2 => exact ⟨Nat.zero_le _, by show (i 2).val < 0 + 64; change (i 2).val < 64 at h2; omega⟩
    | 3 => exact ⟨Nat.zero_le _, by show (i 3).val < 0 + 128; change (i 3).val < 128 at h3; omega⟩

/-- The rows of a window of 384. -/
theorem mem_l3R {i : Fin 7} {h : Fin 8} {x : S1280x8x128.Idx} (hx : x ∈ (l3R i h).set) :
    128 * i.val ≤ (x 0).val ∧ (x 0).val < 128 * i.val + 384 := by
  rw [Rect.mem_set_unit] at hx; exact hx 0
/-- The rows of the first window. -/
theorem mem_l2R {h : Fin 8} {x : S1280x8x128.Idx} (hx : x ∈ (l2R h).set) : (x 0).val < 256 := by
  rw [Rect.mem_set_unit] at hx
  have : (0 : Nat) ≤ (x 0).val ∧ (x 0).val < 0 + 256 := hx 0
  omega

/-! ## Splitting and joining along such parts -/

section Parts
variable {M : Type} [URA M]
variable {nD' : Nat} {τ' : Topo} {sig' : RefSig} {Ix : Type} [DecidableEq Ix] {Val : EltTy → Type} {Name : Type} [DecidableEq Name]
variable {U : Type} [URA U] {Lvl : Type}

local notation "𝕄" => MT nD' τ' sig' Ix Val Name U Lvl

theorem parts_disjoint {ι α : Type} [DecidableEq α] {K : ι → Finset α} {cl : α → ι} (h : ∀ q i, i ∈ K q ↔ cl i = q) {q q' : ι} (hq : q ≠ q') :
    Disjoint (K q) (K q') :=
  Finset.disjoint_left.mpr fun i hi hi' => hq (((h q i).mp hi).symm.trans ((h q' i).mp hi'))

theorem parts_cover {ι α : Type} [Fintype ι] [DecidableEq α] [Fintype α] {K : ι → Finset α} {cl : α → ι} (h : ∀ q i, i ∈ K q ↔ cl i = q) :
    (Finset.univ : Finset ι).biUnion K = Finset.univ :=
  Finset.eq_univ_iff_forall.mpr fun i => Finset.mem_biUnion.mpr ⟨cl i, Finset.mem_univ _, (h _ i).mpr rfl⟩

/-- A whole buffer is its parts. -/
theorem pts_parts {ι : Type} [Fintype ι] {ℓ : Loc nD' τ' sig'} {q : PosShare TreeShare} {f : Buf Val ℓ} {K : ι → Finset (Idx ℓ)} {cl : Idx ℓ → ι}
    (h : ∀ q i, i ∈ K q ↔ cl i = q) : (ℓ ↦{q} f : sProp 𝕄) = bigSep Finset.univ fun t => ℓ ↦[K t]{q} f := by
  classical
  rw [← pointsTo_biUnion Finset.univ K fun t _ t' _ ht => parts_disjoint h ht, parts_cover h]

/-- The parts of a buffer at some contents each are the whole at some contents. -/
theorem pts_parts_join {ι : Type} [Fintype ι] {ℓ : Loc nD' τ' sig'} {q : PosShare TreeShare} (f₀ : Buf Val ℓ) {K : ι → Finset (Idx ℓ)} {cl : Idx ℓ → ι}
    (h : ∀ q i, i ∈ K q ↔ cl i = q) : (bigSep Finset.univ fun t => iprop(∃ f, ℓ ↦[K t]{q} f) : sProp 𝕄) ⊢ iprop(∃ f, ℓ ↦{q} f) := by
  classical
  haveI : Nonempty (Buf Val ℓ) := ⟨f₀⟩
  refine (bigSep_exists_pi Finset.univ (fun t (f : Buf Val ℓ) => (ℓ ↦[K t]{q} f : sProp 𝕄))).trans ?_
  iintro ⟨%fs, H⟩
  ihave H' := (pointsTo_biUnion_join Finset.univ K fs f₀ fun t _ t' _ ht => parts_disjoint h ht) $$ H
  icases H' with ⟨%g, -, Hg⟩
  iexists g
  rw [parts_cover h]
  iexact Hg

end Parts

/-- Contents that read the same through a view are the same on its elements. -/
theorem eq_of_read_eq {sig' : RefSig} {κ : Kind} {sp : _} {s : Shape} {e : EltTy} {Val : EltTy → Type} {v : View sig' κ sp s e} {f g : v.ty.Contents Val}
    (h : v.read Val f = v.read Val g) : ∀ i ∈ v.set, f i = g i := by
  intro i hi
  obtain ⟨x, _, rfl⟩ := Finset.mem_map.mp hi
  have := congrFun h x
  rw [View.read_apply, View.read_apply] at this
  exact (cast_inj _).mp this

end Cert.KernelIdeal
end
-- ==== Proof.Sched.lean ====
/-
  The kernel's protocol: its cells, what each buffer part holds when it changes hands, the schedule of duties.
-/
module

public import proofs.«01_k».proof.Proof.Sets
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

variable (m : (ℓ : Loc nD τ sig) → Buf (Elt F) ℓ) (ρ : Dev nD → PrngReg)

/-! ## Cells -/

/-- The kernel's own cells: the local copy, the chunks sent (buffer, device), the chunks received, the partial tiles
    sent and received, the sums sent and received. -/
abbrev OK : Type := Unit ⊕ (Fin 2 × Fin 8) ⊕ Fin 10 ⊕ Fin 8 ⊕ Fin 8 ⊕ Fin 8 ⊕ Fin 8
/-- All cells: the barrier's and the kernel's own. -/
abbrev CK : Type := Unit ⊕ OK

set_option synthInstance.maxSize 1000 in
instance : DecidableEq OK := inferInstance
set_option synthInstance.maxSize 1000 in
instance : DecidableEq CK := inferInstance

@[match_pattern] abbrev kBar : CK := .inl ()
@[match_pattern] abbrev kLoc : CK := .inr (.inl ())
@[match_pattern] abbrev kGs (b : Fin 2) (j : Fin 8) : CK := .inr (.inr (.inl (b, j)))
@[match_pattern] abbrev kGr (k : Fin 10) : CK := .inr (.inr (.inr (.inl k)))
@[match_pattern] abbrev kS1 (t : Fin 8) : CK := .inr (.inr (.inr (.inr (.inl t))))
@[match_pattern] abbrev kR1 (t : Fin 8) : CK := .inr (.inr (.inr (.inr (.inr (.inl t)))))
@[match_pattern] abbrev kS2 (t : Fin 8) : CK := .inr (.inr (.inr (.inr (.inr (.inr (.inl t))))))
@[match_pattern] abbrev kR2 (t : Fin 8) : CK := .inr (.inr (.inr (.inr (.inr (.inr (.inr t))))))

def osem : OK → SemLoc sig
  | .inl _ => .dma locS
  | .inr (.inl (b, j)) => .dma (gsS b j)
  | .inr (.inr (.inl k)) => .dma (grS k)
  | .inr (.inr (.inr (.inl t))) => .dma (s1S t)
  | .inr (.inr (.inr (.inr (.inl t)))) => .dma (r1S t)
  | .inr (.inr (.inr (.inr (.inr (.inl t))))) => .dma (s2S t)
  | .inr (.inr (.inr (.inr (.inr (.inr t))))) => .dma (r2S t)
def csem : CK → SemLoc sig
  | .inl _ => .reg barS
  | .inr k => osem k
def kcell (e : Dev nD × CK) : GSem nD τ sig := ((e.1 : Thread nD τ), csem e.2)

theorem ownSemFacts : Pipeline.OwnSemFacts cfg0.spec osem := by decide +kernel

theorem osem_ne_bar : ∀ k : OK, osem k ≠ .reg barS := by decide +kernel

theorem csem_injective : Function.Injective csem := by
  rintro (a | a) (b | b) h
  · rfl
  · exact absurd h.symm (osem_ne_bar b)
  · exact absurd h (osem_ne_bar a)
  · exact congrArg Sum.inr (ownSemFacts.inj h)
theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]

/-- Credit of a chunk, of a tile, of the staged chunk. -/
abbrev NK : ℕ := (bChunk 0 0).view.dmaCredit
abbrev NT : ℕ := (rSlot 0).view.dmaCredit
abbrev NL : ℕ := stagM.view.dmaCredit

theorem credit_bChunk (b : Fin 2) (q : Fin 5) : (bChunk b q).view.dmaCredit = NK := by revert b q; decide +kernel
theorem credit_cWin (b : Fin 2) (j : Fin 8) : (cWin b j).view.dmaCredit = NK := by revert b j; decide +kernel
theorem credit_rSlot (j : Fin 8) : (rSlot j).view.dmaCredit = NT := by revert j; decide +kernel
theorem credit_gSlot (j : Fin 8) : (gSlot j).view.dmaCredit = NT := by revert j; decide +kernel
theorem credit_sTile (j : Fin 8) : (sTile j).view.dmaCredit = NT := by revert j; decide +kernel
theorem credit_aM : aM.view.dmaCredit = NT := by decide +kernel

def Am : CK → ℕ
  | kBar => 1
  | kLoc => NL
  | kGs _ _ => NK
  | kGr _ => NK
  | .inr (.inr (.inr (.inr _))) => NT

theorem Am_pos : ∀ k, 0 < Am k := by decide +kernel

/-! ## Chunks -/

/-- Chunk `k` of the window: keys or values; its place in the buffer; the device it comes from; its place there. -/
def kb (k : Fin 10) : Fin 2 := ⟨k.val % 2, Nat.mod_lt _ (by decide)⟩
@[inherit_doc kb] def kq (k : Fin 10) : Fin 5 := ⟨k.val / 2, by omega⟩
@[inherit_doc kb] def snd (k : Fin 10) : Fin 8 := if k.val < 8 then 0 else 1
@[inherit_doc kb] def kh (k : Fin 10) : Fin 4 := if h : k.val < 8 then ⟨k.val / 2, by omega⟩ else 0
/-- The chunk at a place of a buffer. -/
def kk (b : Fin 2) (q : Fin 5) : Fin 10 := ⟨2 * q.val + b.val, by omega⟩
theorem kb_kk : ∀ b q, kb (kk b q) = b := by decide
theorem kq_kk : ∀ b q, kq (kk b q) = q := by decide
theorem kk_kb : ∀ k, kk (kb k) (kq k) = k := by decide

/-! ## Contents -/

abbrev Pts (c : Dev nD) {sp : _} {s : Shape} {e : EltTy} (M : Memref sig .tc sp s e) (f : M.view.ty.Contents (Elt F)) : sProp 𝕄 :=
  (M.view.loc (c : Thread nD τ) ↦[M.view.set]{fullShare} f)
/-- The part `M` of device `c`'s memory, at some contents; -/
def some (c : Dev nD) {sp : _} {s : Shape} {e : EltTy} (M : Memref sig .tc sp s e) : sProp 𝕄 :=
  iprop(∃ f, Pts (F := F) c M f)
/-- reading as `X`. -/
def hold (c : Dev nD) {sp : _} {s : Shape} {e : EltTy} (M : Memref sig .tc sp s e) (X : s.Idx → Elt F e) : sProp 𝕄 :=
  iprop(∃ f, ⌜M.view.read (Elt F) f = X⌝ ∗ Pts (F := F) c M f)

instance some_storable (c : Dev nD) {sp : _} {s : Shape} {e : EltTy} (M : Memref sig .tc sp s e) :
    BI.Storable (upEmb : UEmb _ 𝕄) (some (F := F) c M) := by unfold some; infer_instance
instance hold_storable (c : Dev nD) {sp : _} {s : Shape} {e : EltTy} (M : Memref sig .tc sp s e) (X : s.Idx → Elt F e) :
    BI.Storable (upEmb : UEmb _ 𝕄) (hold (F := F) c M X) := by unfold hold; infer_instance

theorem some_intro (c : Dev nD) {sp : _} {s : Shape} {e : EltTy} (M : Memref sig .tc sp s e) (f) : Pts (F := F) c M f ⊢ some c M := by
  unfold some; iintro H; iexists f; iexact H
theorem hold_some (c : Dev nD) {sp : _} {s : Shape} {e : EltTy} (M : Memref sig .tc sp s e) (X) : hold (F := F) c M X ⊢ some c M := by
  unfold some hold; iintro ⟨%f, -, H⟩; iexists f; iexact H

/-- Chunk `q` of device `o`'s keys or values. -/
def LV (o : Dev nD) (b : Fin 2) (q : Fin 4) : Vec F S256x64x128 .f32 :=
  (hChunk b q).view.read (Elt F) (m ((hChunk b q).view.loc (o : Thread nD τ)))
/-- The buffer of rounded chunks with that chunk in it. -/
def CB (o : Dev nD) (b : Fin 2) (q : Fin 4) : cM.view.ty.Contents (Elt F) :=
  (cM.access (cR b)).write (Elt F) (m (cM.view.loc (o : Thread nD τ))) (k0_pay1 (LV m o b q)) Finset.univ
/-- Chunk `k` of device `c`'s window. -/
def KC (c : Dev nD) (k : Fin 10) : Vec F S256x8x128 .bf16 :=
  if snd k = c then k0_pay2 (cM.view.readAt (Elt F) (cwR (kb k) c).toLoadRect (CB m (snd k) (kb k) (kh k)))
  else (cWin (kb k) c).view.read (Elt F) (CB m (snd k) (kb k) (kh k))
def rowq (i : S1280x8x128.Idx) : Fin 5 := ⟨(i 0).val / 256, by have : (i 0).val < 1280 := (i 0).isLt; omega⟩
/-- Device `c`'s window of keys or values. -/
def KB (c : Dev nD) : ∀ b : Fin 2, (bM b).view.ty.Contents (Elt F)
  | 0 => fun (i : S1280x8x128.Idx) => (bChunk 0 (rowq i)).view.write (Elt F) (m ((bM 0).view.loc (c : Thread nD τ))) (KC m c (kk 0 (rowq i))) Finset.univ i
  | 1 => fun (i : S1280x8x128.Idx) => (bChunk 1 (rowq i)).view.write (Elt F) (m ((bM 1).view.loc (c : Thread nD τ))) (KC m c (kk 1 (rowq i))) Finset.univ i

theorem KB_read (c : Dev nD) : ∀ (b : Fin 2) (q : Fin 5), (bChunk b q).view.read (Elt F) (KB m c b) = KC m c (kk b q)
  | 0, q => (View.read_congr (g := (bChunk 0 q).view.write (Elt F) (m ((bM 0).view.loc (c : Thread nD τ))) (KC m c (kk 0 q)) Finset.univ) fun i hi => by
      have hi' : i ∈ (bR q).set := by rw [← View.set_slice_whole cc0_scratch0 (bR q)]; exact hi
      have h : rowq i = q := Fin.ext ((mem_bR q i).mp hi')
      show (bChunk 0 (rowq i)).view.write (Elt F) _ (KC m c (kk 0 (rowq i))) Finset.univ i = _
      rw [h]).trans (View.read_write_univ _ _)
  | 1, q => (View.read_congr (g := (bChunk 1 q).view.write (Elt F) (m ((bM 1).view.loc (c : Thread nD τ))) (KC m c (kk 1 q)) Finset.univ) fun i hi => by
      have hi' : i ∈ (bR q).set := by rw [← View.set_slice_whole cc0_scratch1 (bR q)]; exact hi
      have h : rowq i = q := Fin.ext ((mem_bR q i).mp hi')
      show (bChunk 1 (rowq i)).view.write (Elt F) _ (KC m c (kk 1 (rowq i))) Finset.univ i = _
      rw [h]).trans (View.read_write_univ _ _)

/-- The staged inputs. -/
def xst (c : Dev nD) : (cc0_stg0_0 : Ref sig .tc).ty.Contents (Elt F) := (win0_0.blk (0 : Fin 1)).view.read (Elt F) (m ((c : Thread nD τ).loc main_arg0))
@[inherit_doc xst] def wqst (c : Dev nD) : (cc0_stg1_0 : Ref sig .tc).ty.Contents (Elt F) := (win0_1.blk (0 : Fin 1)).view.read (Elt F) (m ((c : Thread nD τ).loc main_arg1))
@[inherit_doc xst] def wost (c : Dev nD) : (cc0_stg2_0 : Ref sig .tc).ty.Contents (Elt F) := (win0_2.blk (0 : Fin 1)).view.read (Elt F) (m ((c : Thread nD τ).loc main_arg4))

def kv2 (c : Dev nD) (h : Fin 8) : KV2 F :=
  ((bM 0).view.readAt (Elt F) (l2R h).toLoadRect (KB m c 0), (bM 1).view.readAt (Elt F) (l2R h).toLoadRect (KB m c 1))
def kv3 (c : Dev nD) (i : Fin 7) (h : Fin 8) : KV3 F :=
  ((bM 0).view.readAt (Elt F) (l3R i h).toLoadRect (KB m c 0), (bM 1).view.readAt (Elt F) (l3R i h).toLoadRect (KB m c 1))

/-- Tile `t` of device `c`'s partial result, -/
def PT (c : Dev nD) (t : Fin 8) : Vec F S128x1024 .f32 :=
  Fin.cases (outPay2 (xst m c) (wqst m c) (wost m c) (kv2 m c)) (fun i : Fin 7 => outPay3 i (xst m c) (wqst m c) (wost m c) (kv3 m c i)) t
/-- rounded. -/
def ST (c : Dev nD) (t : Fin 8) : Vec F S128x1024 .bf16 :=
  Fin.cases (sPay2 (xst m c) (wqst m c) (wost m c) (kv2 m c)) (fun i : Fin 7 => sPay3 i (xst m c) (wqst m c) (wost m c) (kv3 m c i)) t
/-- Device `j`'s partial of device `c`'s tile, as loaded. -/
def RV (c : Dev nD) (j : Fin 8) : Vec F S1x128x1024 .bf16 :=
  rM.view.readAt (Elt F) (sR j).toLoadRect ((rSlot j).view.write (Elt F) (m (rM.view.loc (c : Thread nD τ))) (ST m j c) Finset.univ)
/-- Device `c`'s tile summed; -/
def AC (c : Dev nD) : Vec F S128x1024 .f32 := accPay c (PT m c c) (RV m c)
/-- rounded. -/
def AB (c : Dev nD) : Vec F S128x1024 .bf16 := accPayB c (PT m c c) (RV m c)
/-- Device `j`'s sum, as loaded. -/
def GV (c : Dev nD) (j : Fin 8) : Vec F S1x128x1024 .bf16 :=
  gM.view.readAt (Elt F) (sR j).toLoadRect ((gSlot j).view.write (Elt F) (m (gM.view.loc (c : Thread nD τ))) (AB m j) Finset.univ)
/-- Tile `t` of the result. -/
def OT (c : Dev nD) (t : Fin 8) : Vec F S128x1024 .f32 := if t = c then AC m c else k0_pay196 (GV m c t)
def rowt (i : S1024x1024.Idx) : Fin 8 := ⟨(i 0).val / 128, by have : (i 0).val < 1024 := (i 0).isLt; omega⟩
/-- The result. -/
def OUT (c : Dev nD) : (cc0_stg3_0 : Ref sig .tc).ty.Contents (Elt F) := fun (i : S1024x1024.Idx) =>
  (outM.access (tR (rowt i))).write (Elt F) (m (outM.view.loc (c : Thread nD τ))) (OT m c (rowt i)) Finset.univ i

/-- Contents whose tiles are the result's are the result. -/
theorem OUT_eq (c : Dev nD) (f : outM.view.ty.Contents (Elt F)) (h : ∀ t, outM.view.readAt (Elt F) (tR t).toLoadRect f = OT m c t) : f = OUT m c := by
  funext (i : S1024x1024.Idx)
  have hm : i ∈ (outM.access (tR (rowt i))).set := by
    rw [View.set_slice_whole cc0_stg3_0 (tR (rowt i))]; exact (mem_tR _ i).mpr rfl
  refine eq_of_read_eq (v := outM.access (tR (rowt i))) (g := (outM.access (tR (rowt i))).write (Elt F) (m (outM.view.loc (c : Thread nD τ))) (OT m c (rowt i)) Finset.univ) ?_ i hm
  rw [View.read_write_univ]
  exact h _

/-! ## The schedule -/

/-- What device `d` hands device `c` on entering: the parts of `d`'s buffers `c` writes. -/
def Give (d c : Dev nD) : sProp 𝕄 :=
  iprop(some (F := F) d (rSlot c) ∗ some (F := F) d (gSlot c) ∗ bigSep Finset.univ fun k : Fin 10 => if snd k = c then some (F := F) d (bChunk (kb k) (kq k)) else iprop(emp))

/-- The duties of device `c`'s cells, by payer. -/
def D (c : Dev nD) : CK → ℕ → Finset (Fin 8)
  | kBar, r => if r = 0 then Finset.univ.erase c else ∅
  | kLoc, r => if (c = 0 ∧ r < 8) ∨ (c = 1 ∧ r < 2) then {c} else ∅
  | kGs _ j, r => if (c = 0 ∧ j ≠ c ∧ r < 4) ∨ (c = 1 ∧ j ≠ c ∧ r < 1) then {c} else ∅
  | kGr k, r => if r = 0 ∧ snd k ≠ c then {snd k} else ∅
  | kS1 t, r => if r = 0 ∧ t ≠ c then {c} else ∅
  | kR1 j, r => if r = 0 ∧ j ≠ c then {j} else ∅
  | kS2 j, r => if r = 0 ∧ j ≠ c then {c} else ∅
  | kR2 j, r => if r = 0 ∧ j ≠ c then {j} else ∅

/-- The chunk of the local copy's round. -/
def lb (r : ℕ) : Fin 2 := ⟨r % 2, Nat.mod_lt _ (by decide)⟩
@[inherit_doc lb] def lh (r : ℕ) : Fin 4 := ⟨r / 2 % 4, Nat.mod_lt _ (by decide)⟩
/-- The leaf shares of the sum's buffer, one for each device. -/
def sh (j : Fin 8) : PosShare TreeShare := ShareLeaves.leaf 3 fullShare j

/-- What a duty delivers. -/
def Pay (c : Dev nD) : CK → ℕ → Fin 8 → sProp 𝕄
  | kBar, _, d => Give (F := F) d c
  | kLoc, r, _ => iprop(hold (F := F) c stagM (LV m c (lb r) (lh r)) ∗ Pts (F := F) c (hChunk (lb r) (lh r)) (m ((hChunk (lb r) (lh r)).view.loc (c : Thread nD τ))))
  | kGs b j, _, _ => some (F := F) c (cWin b j)
  | kGr k, _, _ => hold (F := F) c (bChunk (kb k) (kq k)) (KC m c k)
  | kS1 t, _, _ => some (F := F) c (sTile t)
  | kR1 j, _, _ => hold (F := F) c (rSlot j) (ST m j c)
  | kS2 j, _, _ => (aM.view.loc (c : Thread nD τ) ↦[aM.view.set]{sh j} AB m c)
  | kR2 j, _, _ => hold (F := F) c (gSlot j) (AB m j)

instance Give_storable (d c : Dev nD) : BI.Storable (upEmb : UEmb _ 𝕄) (Give (F := F) d c) := by
  unfold Give
  haveI : ∀ k : Fin 10, BI.Storable (upEmb : UEmb _ 𝕄) (if snd k = c then some (F := F) d (bChunk (kb k) (kq k)) else iprop(emp)) := fun k => by split <;> infer_instance
  infer_instance

instance Pay_storable (c : Dev nD) (k : CK) (r : ℕ) (d : Fin 8) : BI.Storable (upEmb : UEmb _ 𝕄) (Pay m c k r d) := by
  unfold Pay; split <;> infer_instance

def Rd : Rounds.Schedule (GSem nD τ sig) (Fin 8) 𝕄 where
  duties g := Function.extend kcell (fun e => D e.1 e.2) (fun _ _ => ∅) g
  unitless _ := False
  amount g _ _ := Function.extend kcell (fun e => Am e.2) (fun _ => 1) g
  payload g := Function.extend kcell (fun e => Pay m e.1 e.2) (fun _ _ _ => iprop(emp)) g
  amount_pos g _ _ _ := by
    unfold Function.extend
    split
    · exact Am_pos _
    · exact Nat.one_pos

instance Rd_storable (g : GSem nD τ sig) (r : ℕ) (d : Fin 8) : BI.Storable (upEmb : UEmb _ 𝕄) ((Rd (F := F) m).payload g r d) := by
  dsimp only [Rd]
  unfold Function.extend
  split <;> infer_instance

theorem Rd_duties (c : Dev nD) (k : CK) (r : ℕ) : (Rd (F := F) m).duties (kcell (c, k)) r = D c k r := by
  dsimp only [Rd]; rw [kcell_injective.extend_apply]
theorem Rd_amount (c : Dev nD) (k : CK) (r : ℕ) (d : Fin 8) : (Rd (F := F) m).amount (kcell (c, k)) r d = Am k := by
  dsimp only [Rd]; rw [kcell_injective.extend_apply]
theorem Rd_payload (c : Dev nD) (k : CK) (r : ℕ) (d : Fin 8) : (Rd (F := F) m).payload (kcell (c, k)) r d = Pay m c k r d := by
  dsimp only [Rd]; rw [kcell_injective.extend_apply]
theorem Rd_expect (c : Dev nD) (k : CK) (r : ℕ) : (Rd (F := F) m).expect (kcell (c, k)) r = (D c k r).card * Am k := by
  unfold Schedule.expect Schedule.amountOf
  rw [Rd_duties, Finset.sum_congr rfl fun d _ => Rd_amount m c k r d, Finset.sum_const, smul_eq_mul]

/-! ## Levels and what is owed -/

def lvl : CK → ℕ
  | kBar => 1
  | kGr _ => 2
  | kR1 _ => 3
  | kR2 _ => 4
  | _ => 0
def lv (g : GSem nD τ sig) (_ : Unit) : ℕ := Function.extend kcell (fun e => lvl e.2) (fun _ => 0) g
def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl
theorem lv_kcell (e : Dev nD × CK) (u : Unit) : lv (kcell e) u = lvl e.2 := kcell_injective.extend_apply _ _ _

/-- The credit of a list of cells. -/
def OW : List (Dev nD × CK) → CellTallies nD τ sig Unit
  | [] => 0
  | e :: l => OW l + tallyAt (kcell e) () (Am e.2)

theorem OW_pos {g : GSem nD τ sig} {u : Unit} : ∀ {l : List (Dev nD × CK)}, 0 < OW l g u → ∃ e ∈ l, g = kcell e
  | [], h => absurd h (Nat.lt_irrefl 0)
  | e :: l, h => by
    unfold OW at h
    rw [Pi.add_apply, Finsupp.add_apply, tallyAt_apply] at h
    by_cases he : g = kcell e ∧ u = ()
    · exact ⟨e, List.mem_cons_self, he.1⟩
    · rw [if_neg he, Nat.add_zero] at h
      obtain ⟨e', h1, h2⟩ := OW_pos h
      exact ⟨e', List.mem_cons_of_mem _ h1, h2⟩

/-- A cell may be waited for while only cells above it are owed. -/
theorem mayWait (c : Dev nD) (sm : SemLoc sig) (n : ℕ) (l : List (Dev nD × CK)) (hn : lv ((c : Thread nD τ), sm) () ≤ n) (hl : ∀ e ∈ l, n < lvl e.2) :
    (levAts L lv : sProp 𝕄) ⊢ MayWait (c : Thread nD τ) sm () (OW l) :=
  MayOwe.of_cut (L := L) (lev := lv) n (fun p hp => by rw [Finset.mem_singleton.mp hp, L_tc]; exact Finset.mem_singleton_self _)
    (fun g u hg => by obtain ⟨e, _, rfl⟩ := OW_pos hg; exact Finset.mem_singleton_self _)
    (fun p hp => by rw [Finset.mem_singleton.mp hp]; exact hn)
    (fun g u hg => by obtain ⟨e, he, rfl⟩ := OW_pos hg; rw [lv_kcell]; exact hl e he)

/-- Device `c` owes the credit of `l`. -/
def ow (c : Dev nD) (l : List (Dev nD × CK)) : sProp 𝕄 := iprop(∃ W, owes (c : Thread nD τ) (OW l) W)

/-- Every cell's invariant, every cell at its first round, and the levels. -/
def ctx (K : Dev nD × CK → ℕ) : sProp 𝕄 :=
  iprop((bigSep Finset.univ fun e : Dev nD × CK => cellInv ER (Rd m) (K e) (kcell e))
    ∗ (bigSep Finset.univ fun e : Dev nD × CK => reached ER (kcell e) 0) ∗ levAts L lv)
instance ctx_persistent (K : Dev nD × CK → ℕ) : BI.Persistent (ctx m K) := by unfold ctx; infer_instance
theorem inv_at (K : Dev nD × CK → ℕ) (e : Dev nD × CK) :
    (bigSep Finset.univ fun e : Dev nD × CK => (cellInv ER (Rd m) (K e) (kcell e) : sProp 𝕄)) ⊢ cellInv ER (Rd m) (K e) (kcell e) :=
  bigSep_elim (Finset.mem_univ e)
theorem reached_at (e : Dev nD × CK) :
    (bigSep Finset.univ fun e : Dev nD × CK => (reached ER (kcell e) 0 : sProp 𝕄)) ⊢ reached ER (kcell e) 0 :=
  bigSep_elim (Finset.mem_univ e)
theorem ctx_inv (K : Dev nD × CK → ℕ) (e : Dev nD × CK) : ctx m K ⊢ cellInv ER (Rd m) (K e) (kcell e) := by
  unfold ctx; iintro ⟨H, -, -⟩; iapply (inv_at m K e); iexact H
theorem ctx_reached (K : Dev nD × CK → ℕ) (e : Dev nD × CK) : ctx m K ⊢ reached ER (kcell e) 0 := by
  unfold ctx; iintro ⟨-, H, -⟩; iapply (reached_at (F := F) e); iexact H
theorem ctx_lev (K : Dev nD × CK → ℕ) : ctx m K ⊢ levAts L lv := by
  unfold ctx; iintro ⟨-, -, H⟩; iexact H

abbrev tok (d : Dev nD) (k : CK) (r : ℕ) (p : Fin 8) : sProp 𝕄 := dutyTok ER (kcell (d, k)) r p
abbrev pos (d : Dev nD) (k : CK) (r : ℕ) : sProp 𝕄 := atPos ER (kcell (d, k)) r ∅ 0
abbrev rch (d : Dev nD) (k : CK) (r : ℕ) : sProp 𝕄 := reached ER (kcell (d, k)) r
abbrev crd (d : Dev nD) (k : CK) : sProp 𝕄 := cred (tallyAt (kcell (d, k)) () (Am k))

end Cert.KernelIdeal
end
-- ==== Proof.Steps.lean ====
/-
  One rule for each kind of step the body takes: signal, wait, copy, send, load, store; and loops.
-/
module

public import proofs.«01_k».proof.Proof.Sched

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The weakest precondition of a program of device `c`. -/
def W (c : Dev nD) {α : Type} (p : PG F α) (Q : α → sProp 𝕄) : sProp 𝕄 :=
  wp frame (wpE (defs₀ (F := F)) 𝒱₀ (c : Thread nD τ) none) Set.univ p Q

theorem W_use {c : Dev nD} {α β : Type} {p : PG F α} {k : α → PG F β} {P : sProp 𝕄} {R : α → sProp 𝕄} {Q : β → sProp 𝕄} (h : P ⊢ W c p R) :
    P ⊢ iprop((∀ a, R a -∗ W c (k a) Q) -∗ W c (p >>= k) Q) := by
  unfold W at *
  rw [wp_bind]
  exact h.trans (wp_wand _ _ _)
theorem W_last {c : Dev nD} {α : Type} {p : PG F α} {P : sProp 𝕄} {R Q : α → sProp 𝕄} (h : P ⊢ W c p R) :
    P ⊢ iprop((∀ a, R a -∗ Q a) -∗ W c p Q) := by
  unfold W at *
  exact h.trans (wp_wand _ _ _)
theorem W_pure {c : Dev nD} {α : Type} {a : α} {Q : α → sProp 𝕄} : Q a ⊢ W c (pure a : PG F α) Q := by
  unfold W
  show Q a ⊢ wp frame _ Set.univ (Prog.ret a) Q
  rw [wp_ret]; iintro H; imodintro; iexact H
theorem W_ifT {c : Dev nD} {b : Prop} [Decidable b] {A : b → PG F PUnit} {P : sProp 𝕄} {Q : PUnit → sProp 𝕄}
    (h1 : ∀ h : b, P ⊢ W c (A h) Q) (h2 : ¬ b → P ⊢ Q ⟨⟩) : P ⊢ W c (ifT A) Q := by
  unfold ifT
  by_cases h : b
  · rw [dif_pos h]; exact h1 h
  · rw [dif_neg h]; exact (h2 h).trans W_pure

theorem bigSep_ins {α : Type} [DecidableEq α] {s : Finset α} {i : α} (h : i ∉ s) {Φ : α → sProp 𝕄} : bigSep (insert i s) Φ = iprop(Φ i ∗ bigSep s Φ) := bigSep_insert h

/-- A loop over a list: each step takes its entry's resource and what is kept to its entry's result and what is kept. -/
theorem W_loop {c : Dev nD} {α : Type} [DecidableEq α] {step : α → PG F PUnit} (C : sProp 𝕄) [BI.Persistent C] (Pre Post : α → sProp 𝕄) (I : List α → sProp 𝕄)
    (S : α → Prop) (h : ∀ j js, S j → iprop(C ∗ Pre j ∗ I (j :: js)) ⊢ W c (step j) (fun _ => iprop(Post j ∗ I js))) :
    ∀ l : List α, l.Nodup → (∀ j ∈ l, S j) → iprop(C ∗ bigSep l.toFinset Pre ∗ I l) ⊢ W c (forL step l) (fun _ => iprop(bigSep l.toFinset Post ∗ I []))
  | [], _, _ => by
    unfold forL
    rw [List.toFinset_nil]
    refine (show iprop(C ∗ bigSep ∅ Pre ∗ I []) ⊢ iprop(bigSep ∅ Post ∗ I []) from ?_).trans (W_pure (c := c) (a := PUnit.unit) (Q := fun _ => iprop(bigSep ∅ Post ∗ I [])))
    iintro ⟨-, HP, HI⟩
    isplitl [HP]; · iapply (show (bigSep ∅ Pre ⊢ bigSep ∅ Post) from Entails.of_eq rfl); iexact HP
    iexact HI
  | a :: l, nd, hS => by
    have ha : a ∉ l.toFinset := by rw [List.mem_toFinset]; exact (List.nodup_cons.mp nd).1
    unfold forL
    rw [List.toFinset_cons, bigSep_ins ha, bigSep_ins ha]
    iintro ⟨#HC, ⟨Ha, Hl⟩, HI⟩
    iapply (W_use (h a l (hS a List.mem_cons_self))) $$ [Ha HI]
    · isplitr; · iexact HC
      isplitl [Ha]; · iexact Ha
      iexact HI
    iintro %_ ⟨Ha, HI⟩
    iapply (W_last (W_loop C Pre Post I S h l (List.nodup_cons.mp nd).2 (fun j hj => hS j (List.mem_cons_of_mem _ hj)))) $$ [Hl HI]
    · isplitr; · iexact HC
      isplitl [Hl]; · iexact Hl
      iexact HI
    iintro %_ ⟨Hl, HI⟩
    isplitl [Ha Hl]
    · isplitl [Ha]; · iexact Ha
      iexact Hl
    iexact HI

variable (m : (ℓ : Loc nD τ sig) → Buf (Elt F) ℓ) (K : Dev nD × CK → ℕ)

/-- A wait for the rest of a cell's round. -/
theorem st_waits (c : Dev nD) (k : CK) (r n : ℕ) (l : List (Dev nD × CK)) {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (csem k) n Q)
    (hn : n = (D c k r).card * Am k) (hl : ∀ e ∈ l, lvl k < lvl e.2) :
    iprop(ctx m K ∗ cred (tallyAt (kcell (c, k)) () n) ∗ pos c k r ∗ ow c l)
      ⊢ W c (Prog.op w .ret) (fun _ => iprop(pos c k (r + 1) ∗ rch c k (r + 1) ∗ bigSep (D c k r) (Pay m c k r) ∗ ow c l)) := by
  iintro ⟨#HC, Hc, Hp, HO⟩
  unfold ow W
  icases HO with ⟨%Ws, HO⟩
  iapply (Rounds.wp_wait_rest_token 𝒱₀ ER (Rd m) (c : Thread nD τ) none (κ := K (c, k)) (sm := csem k) (k' := n)
    hw (Set.mem_univ _) () (O := OW l) (W := Ws) (R := r) (m := 0) (T := ∅)
    (by rw [Nat.zero_add]; exact hn.trans (Rd_expect m c k r).symm)) $$ [Hc Hp HO]
  · isplitr; · iapply (ctx_inv m K (c, k)); iexact HC
    isplitl [Hc]; · iexact Hc
    isplitl [HO]; · iexact HO
    isplitr
    · iapply (mayWait (F := F) c (csem k) (lvl k) l (le_of_eq (lv_kcell (c, k) ())) hl); iapply (ctx_lev m K); iexact HC
    iexact Hp
  iintro ⟨HO, Hp, Hr, Hpay⟩
  rw [wp_ret]; imodintro
  isplitl [Hp]; · iexact Hp
  isplitl [Hr]; · iexact Hr
  isplitl [Hpay]
  · iapply (Entails.of_eq (show bigSep ((Rd m).duties (kcell (c, k)) r \ ∅) (fun d => (Rd m).payload (kcell (c, k)) r d) = bigSep (D c k r) (Pay m c k r) from by
      rw [Finset.sdiff_empty, Rd_duties]; exact bigSep_congr fun d _ => Rd_payload m c k r d))
    iexact Hpay
  iexists _; iexact HO

/-- A wait for a cell with one duty. -/
theorem st_wait {c : Dev nD} {k : CK} {r : ℕ} {d : Fin 8} {l : List (Dev nD × CK)} {sp sp' : Space} {s s' : Shape} {e e' : EltTy} {sm : DmaSem sig}
    {src : Memref sig .tc sp' s' e'} {dst : Memref sig .tc sp s e} {hsrc : src.view.WordExact} {hdst : dst.view.WordExact}
    (hs : csem k = .dma sm) (hN : dst.view.dmaCredit = Am k) (hD : D c k r = {d}) (hl : ∀ e ∈ l, lvl k < lvl e.2) :
    iprop(ctx m K ∗ crd c k ∗ pos c k r ∗ ow c l)
      ⊢ W c (Prog.lift (.waitDma2 sm src dst hsrc hdst) : PG F PUnit) (fun _ => iprop(pos c k (r + 1) ∗ rch c k (r + 1) ∗ Pay m c k r d ∗ ow c l)) := by
  have h := st_waits m K c k r (Am k) l (w := .waitDma2 sm src dst hsrc hdst) (fun Q => by rw [hs, ← hN]; exact wpE_waitDma2_eq 𝒱₀ (c : Thread nD τ) none Set.univ Q)
    (by rw [hD, Finset.card_singleton, Nat.one_mul]) hl
  rw [hD, bigSep_singleton] at h
  exact h

/-- Entering is told to device `j`. -/
theorem st_sig {c j : Dev nD} {l : List (Dev nD × CK)} (h : c ≠ j) :
    iprop(ctx m K ∗ ow c ((j, kBar) :: l) ∗ tok j kBar 0 c ∗ Give (F := F) c j)
      ⊢ W c (semSignalWord j barS 1#32 : PG F PUnit) (fun _ => ow c l) := by
  iintro ⟨#HC, HO, Ht, Hg⟩
  unfold ow W semSignalWord
  icases HO with ⟨%Ws, HO⟩
  iapply (Rounds.wp_signal 𝒱₀ ER (Rd m) (c : Thread nD τ) none (dst := (j : Thread nD τ)) (κ := K (j, kBar)) (r := 0)
      (d := c) (by rw [show ((j : Thread nD τ), SemLoc.reg barS) = kcell (j, kBar) from rfl, Rd_duties]
                   exact Finset.mem_erase.mpr ⟨h, Finset.mem_univ _⟩) ((Rd_amount m j kBar 0 c).trans (by decide)) () (OW l) (by rfl))
    $$ [HO Ht Hg]
  · isplitr; · iapply (ctx_inv m K (j, kBar)); iexact HC
    isplitl [HO]; · iexact HO
    isplitl [Ht]; · iexact Ht
    isplitl [Hg]
    · iapply (Entails.of_eq (show Give (F := F) c j = (Rd m).payload ((j : Thread nD τ), .reg barS) 0 c from (Rd_payload m j kBar 0 c).symm)); iexact Hg
    iapply (ctx_reached m K (j, kBar)); iexact HC
  iintro HO
  rw [wp_ret]; imodintro
  iexists _; iexact HO

/-- A part is sent to a device. -/
theorem st_send {c c' : Dev nD} {k₁ k₂ : CK} {r₁ : ℕ} {d : Fin 8} {l : List (Dev nD × CK)} {sp sp' : Space} {s : Shape} {e : EltTy}
    {src : Memref sig .tc sp s e} {dst : Memref sig .tc sp' s e} {hsc : dst.view.ref.isScScratch = false} {sS sem : SemLoc sig}
    {hsrc : src.view.WordExact} {hdst : dst.view.WordExact} {hsem : DmaTarget.Typed sp sem (.remote (Dev.tc c' : Thread nD τ) dst sS hsc)}
    {q : PosShare TreeShare} {fs : Buf (Elt F) (src.view.loc (c : Thread nD τ))} {fd : Buf (Elt F) (dst.view.loc (c' : Thread nD τ))}
    (h₁ : csem k₁ = sS) (h₂ : csem k₂ = sem) (hN : dst.view.amount sem = Am k₂) (hA : Am k₁ = Am k₂)
    (hD₁ : D c k₁ r₁ = {c}) (hD₂ : D c' k₂ 0 = {c})
    (hpay₁ : (src.view.loc (c : Thread nD τ) ↦[src.view.set]{q} fs) ⊢ Pay m c k₁ r₁ c)
    (hpay₂ : Pts (F := F) c' dst (dst.view.write (Elt F) fd (src.view.read (Elt F) fs) Finset.univ) ⊢ Pay m c' k₂ 0 c) :
    iprop(ctx m K ∗ (src.view.loc (c : Thread nD τ) ↦[src.view.set]{q} fs) ∗ Pts (F := F) c' dst fd ∗ ow c ((c', k₂) :: l)
        ∗ tok c k₁ r₁ c ∗ rch c k₁ r₁ ∗ tok c' k₂ 0 c)
      ⊢ W c (Prog.lift (.enqueueDma src (.remote (Dev.tc c' : Thread nD τ) dst sS hsc) sem hsrc hdst hsem) : PG F PUnit) (fun _ => iprop(crd c k₁ ∗ ow c l)) := by
  subst h₁; subst h₂
  iintro ⟨#HC, Hs, Hd, HO, Ht₁, Hr₁, Ht₂⟩
  unfold ow W
  icases HO with ⟨%Ws, HO⟩
  iapply (Rounds.wp_send_pointsTo 𝒱₀ ER (Rd m) (c : Thread nD τ) none (c' := (c' : Thread nD τ)) (κ₁ := K (c, k₁)) (κ₂ := K (c', k₂))
    (r₁ := r₁) (r₂ := 0) (d₁ := c) (d₂ := c) (fd := fd)
    (by rw [show ((c : Thread nD τ), csem k₁) = kcell (c, k₁) from rfl, Rd_duties, hD₁]; exact Finset.mem_singleton_self _)
    (by rw [show ((c' : Thread nD τ), csem k₂) = kcell (c', k₂) from rfl, Rd_duties, hD₂]; exact Finset.mem_singleton_self _)
    () () (Am k₂) hN ((Rd_amount m c k₁ r₁ c).trans hA) (Rd_amount m c' k₂ 0 c) (OW l) rfl (W := Ws)
    (hpay₁.trans (Entails.of_eq (Rd_payload m c k₁ r₁ c).symm)) (hpay₂.trans (Entails.of_eq (Rd_payload m c' k₂ 0 c).symm)))
    $$ [Hs Hd HO Ht₁ Hr₁ Ht₂]
  · isplitr; · iapply (ctx_inv m K (c, k₁)); iexact HC
    isplitr; · iapply (ctx_inv m K (c', k₂)); iexact HC
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iapply (ctx_reached m K (c', k₂)); iexact HC
  iintro ⟨Hc, HO⟩
  rw [wp_ret]; imodintro
  isplitl [Hc]; · rw [← hA]; iexact Hc
  iexists _; iexact HO

/-- A part is copied on the device. -/
theorem st_copy {c : Dev nD} {k : CK} {r : ℕ} {sp sp' : Space} {s : Shape} {e : EltTy}
    {src : Memref sig .tc sp s e} {dst : Memref sig .tc sp' s e} {sem : SemLoc sig}
    {hsrc : src.view.WordExact} {hdst : dst.view.WordExact} {hsem : DmaTarget.Typed (nD := nD) sp sem (.here (p := (c : Thread nD τ).2) dst)}
    {q : PosShare TreeShare} {fs : Buf (Elt F) (src.view.loc (c : Thread nD τ))} {fd : Buf (Elt F) (dst.view.loc (c : Thread nD τ))}
    (h : csem k = sem) (hN : dst.view.amount sem = Am k) (hD : D c k r = {c})
    (hpay : iprop(Pts (F := F) c dst (dst.view.write (Elt F) fd (src.view.read (Elt F) fs) Finset.univ) ∗ (src.view.loc (c : Thread nD τ) ↦[src.view.set]{q} fs)) ⊢ Pay m c k r c) :
    iprop(ctx m K ∗ (src.view.loc (c : Thread nD τ) ↦[src.view.set]{q} fs) ∗ Pts (F := F) c dst fd ∗ tok c k r c ∗ rch c k r)
      ⊢ W c (Prog.lift (.enqueueDma src (.here dst) sem hsrc hdst hsem) : PG F PUnit) (fun _ => crd c k) := by
  subst h
  iintro ⟨#HC, Hs, Hd, Ht, Hr⟩
  unfold W
  iapply (Rounds.wp_copy_pointsTo 𝒱₀ ER (Rd m) (c : Thread nD τ) none (κ := K (c, k)) (r := r) (d := c) (fd := fd)
    (by rw [show ((c : Thread nD τ), csem k) = kcell (c, k) from rfl, Rd_duties, hD]; exact Finset.mem_singleton_self _)
    () (Am k) hN (Rd_amount m c k r c) (hpay.trans (Entails.of_eq (Rd_payload m c k r c).symm)))
    $$ [Hs Hd Ht Hr]
  · isplitr; · iapply (ctx_inv m K (c, k)); iexact HC
    isplitl [Hs]; · iexact Hs
    isplitl [Hd]; · iexact Hd
    isplitl [Ht]; · iexact Ht
    iexact Hr
  iintro Hc
  rw [wp_ret]; imodintro
  iexact Hc

/-- A load. -/
theorem st_load {c : Dev nD} {cs : CoreSpace} {s : Shape} {e : EltTy} {M : Memref sig .tc cs s e} {r : LoadRect s} {hl : M.view.LoadsAt r}
    {S : Finset (Idx (M.view.loc (c : Thread nD τ)))} {q : PosShare TreeShare} {f : Buf (Elt F) (M.view.loc (c : Thread nD τ))}
    (hS : M.view.setOn r.set ⊆ S) :
    (M.view.loc (c : Thread nD τ) ↦[S]{q} f)
      ⊢ W c (Prog.lift (.load M r hl) : PG F _) (fun v => iprop(⌜v = M.view.readAt (Elt F) r f⌝ ∗ (M.view.loc (c : Thread nD τ) ↦[S]{q} f))) := by
  unfold W
  iintro H
  iapply (wp_load 𝒱₀ (c : Thread nD τ) none Set.univ (m := M) hS) $$ H
  iintro H
  rw [wp_ret]; imodintro
  isplitr; · ipureintro; rfl
  iexact H

/-- A store. -/
theorem st_store {c : Dev nD} {cs : CoreSpace} {s : Shape} {e : EltTy} {M : Memref sig .tc cs s e} {r : Rect s} {w : r.shape.Idx → Elt F e}
    {hx : (M.access r).Stores Finset.univ} {hm : (Finset.univ : Finset r.shape.Idx) = Finset.univ ∨ ∀ a, r.stride a = 1}
    {S : Finset (Idx (M.view.loc (c : Thread nD τ)))} {f : Buf (Elt F) (M.view.loc (c : Thread nD τ))}
    (hS : (M.access r).set ⊆ S) :
    (M.view.loc (c : Thread nD τ) ↦[S]{fullShare} f)
      ⊢ W c (Prog.lift (.store M r w Finset.univ hx hm) : PG F _) (fun _ => (M.view.loc (c : Thread nD τ) ↦[S]{fullShare} ((M.access r).write (Elt F) f w Finset.univ))) := by
  unfold W
  iintro H
  iapply (wp_store 𝒱₀ (c : Thread nD τ) none Set.univ (m := M) (r := r) (Mk := Finset.univ) (by rw [View.setOn_univ]; exact hS)) $$ H
  iintro H
  rw [wp_ret]; imodintro
  iexact H

end Cert.KernelIdeal
end
-- ==== Proof.Spread.lean ====
/-
  Entering, and how devices 0 and 1 spread the keys and values of the window.
-/
module

public import proofs.«01_k».proof.Proof.Steps

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CK → ℕ)

/-! ## What is owed along a loop that skips the device itself -/

def OWL (c : Dev nD) (f : Fin 8 → Dev nD × CK) (js : List (Fin 8)) (l : List (Dev nD × CK)) : List (Dev nD × CK) :=
  (js.filter fun j => decide (c ≠ j)).map f ++ l
theorem OWL_self (c : Dev nD) (f) (js l) : OWL c f (c :: js) l = OWL c f js l := by
  unfold OWL; rw [List.filter_cons_of_neg (by simp)]
theorem OWL_ne {c j : Dev nD} (h : c ≠ j) (f) (js l) : OWL c f (j :: js) l = f j :: OWL c f js l := by
  unfold OWL; rw [List.filter_cons_of_pos (by simpa using h)]; rfl
theorem OWL_mem {c : Dev nD} {f : Fin 8 → Dev nD × CK} {js l} {e} (h : e ∈ OWL c f js l) : (∃ j, e = f j) ∨ e ∈ l := by
  unfold OWL at h
  rcases List.mem_append.mp h with h | h
  · obtain ⟨j, _, rfl⟩ := List.mem_map.mp h; exact .inl ⟨j, rfl⟩
  · exact .inr h
theorem nodup_all8 : all8.Nodup := by decide
theorem toFinset_all8 : all8.toFinset = (Finset.univ : Finset (Fin 8)) := by decide

/-! ## Entering -/

theorem sig_step (c j : Dev nD) (js l) :
    iprop(ctx m K ∗ (tok j kBar 0 c ∗ Give (F := F) c j) ∗ ow c (OWL c (fun j => (j, kBar)) (j :: js) l))
      ⊢ W c (sigStep c j) (fun _ => iprop((if j = c then Give (F := F) c c else iprop(emp)) ∗ ow c (OWL c (fun j => (j, kBar)) js l))) := by
  unfold sigStep
  by_cases h : c = j
  · subst h
    rw [OWL_self, if_pos rfl]
    refine W_ifT (fun h => absurd rfl ((neB_iff c c).mp h)) fun _ => ?_
    iintro ⟨-, ⟨-, HG⟩, HO⟩
    isplitl [HG]; · iexact HG
    iexact HO
  · rw [OWL_ne h, if_neg (fun e => h e.symm)]
    refine W_ifT (fun _ => ?_) fun h' => absurd ((neB_iff c j).mpr h) h'
    iintro ⟨#HC, ⟨Ht, HG⟩, HO⟩
    iapply (W_last (st_sig m K (l := OWL c (fun j => (j, kBar)) js l) h)) $$ [Ht HG HO]
    · isplitr; · iexact HC
      isplitl [HO]; · iexact HO
      isplitl [Ht]; · iexact Ht
      iexact HG
    iintro %_ HO
    isplitr; · iempintro
    iexact HO

theorem sigs (c : Dev nD) (l) :
    iprop(ctx m K ∗ (bigSep Finset.univ fun j : Fin 8 => iprop(tok j kBar 0 c ∗ Give (F := F) c j)) ∗ ow c (OWL c (fun j => (j, kBar)) all8 l))
      ⊢ W c (forL (sigStep c) all8) (fun _ => iprop((bigSep Finset.univ fun j : Fin 8 => if j = c then Give (F := F) c c else iprop(emp)) ∗ ow c l)) := by
  have h := W_loop (c := c) (step := sigStep (F := F) c) (ctx m K) (fun j => iprop(tok j kBar 0 c ∗ Give (F := F) c j))
    (fun j => if j = c then Give (F := F) c c else iprop(emp)) (fun js => ow c (OWL c (fun j => (j, kBar)) js l)) (fun _ => True)
    (fun j js _ => sig_step m K c j js l) all8 nodup_all8 (fun _ _ => trivial)
  rw [toFinset_all8] at h
  exact h

theorem bar_wait (c : Dev nD) (l) (hl : ∀ e ∈ l, 1 < lvl e.2) :
    iprop(ctx m K ∗ cred (tallyAt (kcell (c, kBar)) () 7) ∗ pos c kBar 0 ∗ ow c l)
      ⊢ W c (semWaitWord barS 7#32 : PG F PUnit) (fun _ => iprop(pos c kBar 1 ∗ (bigSep (Finset.univ.erase c) fun d => Give (F := F) d c) ∗ ow c l)) := by
  unfold semWaitWord
  have h := st_waits m K c kBar 0 7 l (w := .semWait barS (7#32).toInt) (fun Q => wpE_semWait_eq 𝒱₀ (c : Thread nD τ) none Set.univ Q)
    (by show 7 = (if (0 : ℕ) = 0 then Finset.univ.erase c else ∅ : Finset (Fin 8)).card * 1
        rw [if_pos rfl, Finset.card_erase_of_mem (Finset.mem_univ _)]; rfl) hl
  iintro H
  iapply (W_last h) $$ H
  iintro %_ ⟨Hp, -, Hpay, HO⟩
  isplitl [Hp]; · iexact Hp
  isplitl [Hpay]; · iexact Hpay
  iexact HO

/-! ## A chunk -/

/-- The local copy's cell at round `r`, with the staging buffer and the two arguments it copies from. -/
def LS (c : Dev nD) (r : ℕ) : sProp 𝕄 :=
  iprop(pos c kLoc r ∗ rch c kLoc r ∗ some (F := F) c stagM ∗ ((hM 0).view.loc (c : Thread nD τ) ↦{fullShare} m ((hM 0).view.loc (c : Thread nD τ)))
    ∗ ((hM 1).view.loc (c : Thread nD τ) ↦{fullShare} m ((hM 1).view.loc (c : Thread nD τ))))

abbrev CP (c : Dev nD) (S : Finset S2x256x64x128.Idx) (f : cM.view.ty.Contents (Elt F)) : sProp 𝕄 :=
  (cM.view.loc (c : Thread nD τ) ↦[S]{fullShare} f)

theorem cWin_set (b : Fin 2) (j : Fin 8) : (cWin b j).view.set = (cwR b j).set := by
  show ((cM.view.slice (cwR b j)).reshape _ _).set = _
  rw [View.set_reshape, View.set_slice_whole]
theorem cR_set (b : Fin 2) : (cM.access (cR b)).set = (cR b).set := View.set_slice_whole _ _
theorem cR_windows (b : Fin 2) : (cR b).set = (Finset.univ : Finset (Fin 8)).biUnion fun j => (cwR b j).set := by
  ext i
  rw [mem_cR, Finset.mem_biUnion]
  constructor
  · intro h
    have h2 : (i 2).val < 64 := (i 2).isLt
    exact ⟨⟨(i 2).val / 8, by omega⟩, Finset.mem_univ _, (mem_cwR _ _ _).mpr ⟨h, rfl⟩⟩
  · rintro ⟨j, -, h⟩
    exact ((mem_cwR _ _ _).mp h).1
theorem cW_disj (b : Fin 2) : ∀ t ∈ (Finset.univ : Finset (Fin 8)), ∀ t' ∈ (Finset.univ : Finset (Fin 8)), t ≠ t' → Disjoint (cwR b t).set (cwR b t').set :=
  fun t _ t' _ h => Finset.disjoint_left.mpr fun i hi hi' => h (Fin.ext (((mem_cwR _ _ _).mp hi).2.symm.trans ((mem_cwR _ _ _).mp hi').2))

section Parts
variable {nD' : Nat} {τ' : Topo} {sig' : RefSig} {Ix : Type} [DecidableEq Ix] {Val : EltTy → Type} {Name : Type} [DecidableEq Name]
variable {U : Type} [URA U] {Lvl : Type}

theorem some_parts_join {ι : Type} [Fintype ι] {ℓ : Loc nD' τ' sig'} {q : PosShare TreeShare} (f₀ : Buf Val ℓ) {K : ι → Finset (Idx ℓ)} {S : Finset (Idx ℓ)}
    (hS : S = Finset.univ.biUnion K) (hd : ∀ t ∈ (Finset.univ : Finset ι), ∀ t' ∈ (Finset.univ : Finset ι), t ≠ t' → Disjoint (K t) (K t')) :
    (bigSep Finset.univ fun t => iprop(∃ f, ℓ ↦[K t]{q} f) : sProp (MT nD' τ' sig' Ix Val Name U Lvl)) ⊢ iprop(∃ f, ℓ ↦[S]{q} f) := by
  classical
  haveI : Nonempty (Buf Val ℓ) := ⟨f₀⟩
  refine (bigSep_exists_pi Finset.univ (fun t (f : Buf Val ℓ) => (ℓ ↦[K t]{q} f : sProp _))).trans ?_
  iintro ⟨%fs, H⟩
  ihave H' := (pointsTo_biUnion_join Finset.univ K fs f₀ hd) $$ H
  icases H' with ⟨%g, -, Hg⟩
  iexists g
  rw [hS]
  iexact Hg
end Parts

theorem some_cWin (c : Dev nD) (b : Fin 2) (j : Fin 8) : some (F := F) c (cWin b j) = iprop(∃ f, CP (F := F) c (cwR b j).set f) := by
  unfold some Pts; rw [cWin_set]
theorem windows_join (f₀ : cM.view.ty.Contents (Elt F)) (c : Dev nD) (b : Fin 2) : (bigSep Finset.univ fun j : Fin 8 => some (F := F) c (cWin b j)) ⊢ iprop(∃ f, CP (F := F) c (cR b).set f) := by
  rw [bigSep_congr fun j _ => some_cWin (F := F) c b j]
  exact some_parts_join (ℓ := cM.view.loc (c : Thread nD τ)) f₀ (cR_windows b) (cW_disj b)
theorem cWin_pts (c : Dev nD) (b : Fin 2) (j : Fin 8) (f : cM.view.ty.Contents (Elt F)) : Pts (F := F) c (cWin b j) f = CP (F := F) c (cwR b j).set f := by
  unfold Pts; rw [cWin_set]
theorem windows_split (c : Dev nD) (b : Fin 2) (f : cM.view.ty.Contents (Elt F)) : CP (F := F) c (cR b).set f = bigSep Finset.univ fun j : Fin 8 => Pts (F := F) c (cWin b j) f := by
  rw [bigSep_congr fun j _ => cWin_pts (F := F) c b j f, cR_windows]
  exact pointsTo_biUnion (ℓ := cM.view.loc (c : Thread nD τ)) Finset.univ (fun j => (cwR b j).set) (cW_disj b)

theorem arg_take (c : Dev nD) (r : ℕ) (b : Fin 2) (q : Fin 4) :
    LS m c r ⊢ iprop(pos c kLoc r ∗ rch c kLoc r ∗ some (F := F) c stagM ∗ Pts (F := F) c (hChunk b q) (m ((hChunk b q).view.loc (c : Thread nD τ)))
      ∗ (∀ r', (pos c kLoc r' ∗ rch c kLoc r' ∗ some (F := F) c stagM ∗ Pts (F := F) c (hChunk b q) (m ((hChunk b q).view.loc (c : Thread nD τ)))) -∗ LS m c r')) := by
  unfold LS
  match b with
  | 0 =>
    iintro ⟨Hp, Hr, Hs, H0, H1⟩
    ihave H0 := (pointsTo_split_subset (Finset.subset_univ (hChunk 0 q).view.set)).1 $$ H0
    icases H0 with ⟨Ha, Hb⟩
    isplitl [Hp]; · iexact Hp
    isplitl [Hr]; · iexact Hr
    isplitl [Hs]; · iexact Hs
    isplitl [Ha]; · iexact Ha
    iintro %r' ⟨Hp, Hr, Hs, Ha⟩
    isplitl [Hp]; · iexact Hp
    isplitl [Hr]; · iexact Hr
    isplitl [Hs]; · iexact Hs
    isplitl [Ha Hb]
    · iapply (pointsTo_split_subset (Finset.subset_univ (hChunk 0 q).view.set)).2
      isplitl [Ha]; · iexact Ha
      iexact Hb
    iexact H1
  | 1 =>
    iintro ⟨Hp, Hr, Hs, H0, H1⟩
    ihave H1 := (pointsTo_split_subset (Finset.subset_univ (hChunk 1 q).view.set)).1 $$ H1
    icases H1 with ⟨Ha, Hb⟩
    isplitl [Hp]; · iexact Hp
    isplitl [Hr]; · iexact Hr
    isplitl [Hs]; · iexact Hs
    isplitl [Ha]; · iexact Ha
    iintro %r' ⟨Hp, Hr, Hs, Ha⟩
    isplitl [Hp]; · iexact Hp
    isplitl [Hr]; · iexact Hr
    isplitl [Hs]; · iexact Hs
    isplitl [H0]; · iexact H0
    iapply (pointsTo_split_subset (Finset.subset_univ (hChunk 1 q).view.set)).2
    isplitl [Ha]; · iexact Ha
    iexact Hb

theorem hold_intro (c : Dev nD) {sp : _} {s : Shape} {e : EltTy} (M : Memref sig .tc sp s e) (X : s.Idx → Elt F e) (f : M.view.ty.Contents (Elt F))
    (h : M.view.read (Elt F) f = X) : Pts (F := F) c M f ⊢ hold c M X := by
  unfold hold
  iintro H
  iexists f
  isplitr; · ipureintro; exact h
  iexact H

theorem some_elim (c : Dev nD) {sp : _} {s : Shape} {e : EltTy} (M : Memref sig .tc sp s e) : some (F := F) c M ⊢ iprop(∃ f, Pts (F := F) c M f) := by
  unfold some; exact Entails.rfl
theorem hold_elim (c : Dev nD) {sp : _} {s : Shape} {e : EltTy} (M : Memref sig .tc sp s e) (X : s.Idx → Elt F e) :
    hold (F := F) c M X ⊢ iprop(∃ f, ⌜M.view.read (Elt F) f = X⌝ ∗ Pts (F := F) c M f) := by
  unfold hold; exact Entails.rfl

/-- A part loaded and stored over. -/
theorem st_put {c : Dev nD} {cs : CoreSpace} {s : Shape} {e : EltTy} {M : Memref sig .tc cs s e} {r : Rect s} {w : r.shape.Idx → Elt F e} {hl : M.view.LoadsAt r.toLoadRect}
    {hx : (M.access r).Stores Finset.univ} {hm : (Finset.univ : Finset r.shape.Idx) = Finset.univ ∨ ∀ a, r.stride a = 1}
    {S : Finset (Idx (M.view.loc (c : Thread nD τ)))} {f : Buf (Elt F) (M.view.loc (c : Thread nD τ))} (hS : (M.access r).set ⊆ S) :
    (M.view.loc (c : Thread nD τ) ↦[S]{fullShare} f)
      ⊢ W c (do let _ ← Prog.lift (.load M r.toLoadRect hl); Prog.lift (.store M r w Finset.univ hx hm) : PG F _)
          (fun _ => (M.view.loc (c : Thread nD τ) ↦[S]{fullShare} ((M.access r).write (Elt F) f w Finset.univ))) := by
  iintro H
  iapply (W_use (st_load (c := c) (M := M) (r := r.toLoadRect) (S := S) (f := f) (q := fullShare) ((View.set_slice M.view r).symm.subset.trans hS))) $$ [H]
  · iexact H
  iintro %_ ⟨-, H⟩
  iapply (W_last (st_store (c := c) (M := M) (r := r) (S := S) (f := f) (w := w) hS)) $$ [H]
  · iexact H
  iintro %_ H
  iexact H

theorem pay_copy (c : Dev nD) (r : ℕ) (fs : stagM.view.ty.Contents (Elt F)) :
    iprop(Pts (F := F) c stagM (stagM.view.write (Elt F) fs ((hChunk (lb r) (lh r)).view.read (Elt F) (m ((hChunk (lb r) (lh r)).view.loc (c : Thread nD τ)))) Finset.univ)
        ∗ Pts (F := F) c (hChunk (lb r) (lh r)) (m ((hChunk (lb r) (lh r)).view.loc (c : Thread nD τ))))
      ⊢ Pay m c kLoc r c := by
  show _ ⊢ iprop(hold (F := F) c stagM (LV m c (lb r) (lh r)) ∗ Pts (F := F) c (hChunk (lb r) (lh r)) (m ((hChunk (lb r) (lh r)).view.loc (c : Thread nD τ))))
  iintro ⟨H, Ha⟩
  isplitl [H]
  · iapply (hold_intro c stagM _ _ (View.read_write_univ _ _)); iexact H
  iexact Ha

theorem load_conv (c : Dev nD) (b : Fin 2) (q : Fin 4) (r : ℕ) (l : List (Dev nD × CK)) (hb : lb r = b) (hq : lh r = q) (hD : D c kLoc r = {c}) (hl : ∀ e ∈ l, 0 < lvl e.2) :
    iprop(ctx m K ∗ LS m c r ∗ tok c kLoc r c ∗ (bigSep Finset.univ fun j : Fin 8 => some (F := F) c (cWin b j)) ∗ ow c l)
      ⊢ W c (loadConv b q) (fun _ => iprop(LS m c (r + 1) ∗ (bigSep Finset.univ fun j : Fin 8 => Pts (F := F) c (cWin b j) (CB m c b q)) ∗ ow c l)) := by
  subst hb; subst hq
  unfold loadConv
  iintro ⟨#HC, HL, Ht, Hw, HO⟩
  ihave HL := (arg_take m c r (lb r) (lh r)) $$ HL
  icases HL with ⟨Hp, #Hr, Hs, Ha, Hback⟩
  ihave Hs := (some_elim c stagM) $$ Hs
  icases Hs with ⟨%fs, Hs⟩
  iapply (W_use (st_copy m K (c := c) (k := kLoc) (r := r) (src := hChunk (lb r) (lh r)) (dst := stagM) (fd := fs) (q := fullShare) rfl rfl hD (pay_copy m c r fs))) $$ [Ha Hs Ht]
  · isplitr; · iexact HC
    isplitl [Ha]; · iexact Ha
    isplitl [Hs]; · iexact Hs
    isplitl [Ht]; · iexact Ht
    iexact Hr
  iintro %_ Hc
  iapply (W_use (st_wait m K (c := c) (k := kLoc) (r := r) (d := c) (l := l) rfl rfl hD hl)) $$ [Hc Hp HO]
  · isplitr; · iexact HC
    isplitl [Hc]; · iexact Hc
    isplitl [Hp]; · iexact Hp
    iexact HO
  iintro %_ ⟨Hp, #Hr', Hpay, HO⟩
  ihave Hpay := (show Pay m c kLoc r c ⊢ iprop(hold (F := F) c stagM (LV m c (lb r) (lh r)) ∗ Pts (F := F) c (hChunk (lb r) (lh r)) (m ((hChunk (lb r) (lh r)).view.loc (c : Thread nD τ)))) from Entails.of_eq rfl) $$ Hpay
  icases Hpay with ⟨Hs, Ha⟩
  ihave Hs := (hold_elim c stagM _) $$ Hs
  icases Hs with ⟨%g, %hg, Hs⟩
  iapply (W_use (st_load (c := c) (M := stagM) (S := stagM.view.set) (f := g) (q := fullShare) (by rw [View.set_whole]; exact Finset.subset_univ _))) $$ [Hs]
  · iexact Hs
  iintro %v ⟨%hv, Hs⟩
  have hv' : v = LV m c (lb r) (lh r) := by
    rw [hv]
    exact (Memref.readAt_unit_zero (Elt F) cc0_scratch2 (by decide) _ g).trans hg
  subst hv'
  ihave Hw := (windows_join (m (cM.view.loc (c : Thread nD τ))) c (lb r)) $$ [Hw]
  · iexact Hw
  icases Hw with ⟨%f, Hw⟩
  iapply (W_last (st_put (c := c) (M := cM) (r := cR (lb r)) (S := (cR (lb r)).set) (f := f) (w := k0_pay1 (LV m c (lb r) (lh r))) (cR_set (lb r)).subset)) $$ [Hw]
  · iexact Hw
  iintro %_ Hw
  isplitl [Hp Ha Hs Hback]
  · iapply Hback
    isplitl [Hp]; · iexact Hp
    isplitr; · iexact Hr'
    isplitl [Hs]; · iapply (some_intro c stagM g); iexact Hs
    iexact Ha
  have hcb : ∀ i ∈ (cR (lb r)).set, (cM.access (cR (lb r))).write (Elt F) f (k0_pay1 (LV m c (lb r) (lh r))) Finset.univ i = CB m c (lb r) (lh r) i := by
    rw [← cR_set]
    exact eq_of_read_eq (v := cM.access (cR (lb r))) (by unfold CB; rw [View.read_write_univ, View.read_write_univ])
  isplitl [Hw]
  · iapply (Entails.of_eq (windows_split (F := F) c (lb r) (CB m c (lb r) (lh r))))
    iapply (Entails.of_eq (pointsTo_congr (ℓ := cM.view.loc (c : Thread nD τ)) (I := (cR (lb r)).set) (q := fullShare) hcb))
    iexact Hw
  iexact HO

/-! ## Sending and keeping a chunk -/

theorem D_gr {c j : Dev nD} {k : Fin 10} (hk : snd k = c) (h : c ≠ j) : D j (kGr k) 0 = {c} := by
  show (if (0 : ℕ) = 0 ∧ snd k ≠ j then {snd k} else ∅ : Finset (Fin 8)) = _
  rw [hk, if_pos ⟨rfl, h⟩]

/-- The local round that brings chunk `k` in. -/
def kr (k : Fin 10) : ℕ := 2 * (kh k).val + (kb k).val
theorem kr_spec : ∀ k, lb (kr k) = kb k ∧ lh (kr k) = kh k := by decide
theorem D_loc : ∀ k, D (snd k) kLoc (kr k) = {snd k} := by decide
theorem D_gs : ∀ (k : Fin 10) (j : Fin 8), snd k ≠ j → D (snd k) (kGs (kb k) j) (kh k).val = {snd k} := by decide

theorem send_step (k : Fin 10) (j : Fin 8) (js l) (h : snd k ≠ j) :
    iprop(ctx m K ∗ (Pts (F := F) (snd k) (cWin (kb k) j) (CB m (snd k) (kb k) (kh k)) ∗ some (F := F) j (bChunk (kb k) (kq k))
        ∗ tok j (kGr k) 0 (snd k) ∗ tok (snd k) (kGs (kb k) j) (kh k).val (snd k) ∗ rch (snd k) (kGs (kb k) j) (kh k).val)
        ∗ ow (snd k) ((j :: js).map (fun j => (j, kGr k)) ++ l))
      ⊢ W (snd k) (sendKV (kb k) (kq k) k j) (fun _ => iprop(crd (snd k) (kGs (kb k) j) ∗ ow (snd k) (js.map (fun j => (j, kGr k)) ++ l))) := by
  unfold sendKV
  iintro ⟨#HC, ⟨Hw, Hd, Ht2, Ht1, Hr⟩, HO⟩
  ihave Hd := (some_elim j (bChunk (kb k) (kq k))) $$ Hd
  icases Hd with ⟨%fd, Hd⟩
  iapply (W_last (st_send m K (c := snd k) (c' := j) (k₁ := kGs (kb k) j) (k₂ := kGr k) (r₁ := (kh k).val) (d := snd k) (l := js.map (fun j => (j, kGr k)) ++ l)
    (src := cWin (kb k) j) (dst := bChunk (kb k) (kq k)) (q := fullShare) (fs := CB m (snd k) (kb k) (kh k)) (fd := fd) rfl rfl (credit_bChunk _ _) rfl
    (D_gs k j h) (D_gr rfl h) (some_intro (snd k) (cWin (kb k) j) _) (hold_intro j (bChunk (kb k) (kq k)) (KC m j k) _ (by
      rw [View.read_write_univ]; unfold KC; rw [if_neg h])))) $$ [Hw Hd HO Ht2 Ht1 Hr]
  · isplitr; · iexact HC
    isplitl [Hw]; · iexact Hw
    isplitl [Hd]; · iexact Hd
    isplitl [HO]; · iexact HO
    isplitl [Ht1]; · iexact Ht1
    isplitl [Hr]; · iexact Hr
    iexact Ht2
  iintro %_ H
  iexact H

theorem keep_step (k : Fin 10) :
    iprop(Pts (F := F) (snd k) (cWin (kb k) (snd k)) (CB m (snd k) (kb k) (kh k)) ∗ some (F := F) (snd k) (bChunk (kb k) (kq k)))
      ⊢ W (snd k) (keepKV (snd k) (kb k) (kq k)) (fun _ => iprop(some (F := F) (snd k) (cWin (kb k) (snd k)) ∗ hold (F := F) (snd k) (bChunk (kb k) (kq k)) (KC m (snd k) k))) := by
  unfold keepKV
  iintro ⟨Hw, Hd⟩
  iapply (W_use (st_load (c := snd k) (M := cM) (r := (cwR (kb k) (snd k)).toLoadRect) (S := (cWin (kb k) (snd k)).view.set) (f := CB m (snd k) (kb k) (kh k)) (q := fullShare)
    (by rw [cWin_set]; exact ((View.set_slice cM.view (cwR (kb k) (snd k))).symm.trans (View.set_slice_whole _ _)).subset))) $$ [Hw]
  · iexact Hw
  iintro %v ⟨%hv, Hw⟩
  subst hv
  ihave Hd := (some_elim (snd k) (bChunk (kb k) (kq k))) $$ Hd
  icases Hd with ⟨%fd, Hd⟩
  have hr := (View.read_write_univ (v := (bChunk (kb k) (kq k)).view) (Val := Elt F) fd (k0_pay2 (cM.view.readAt (Elt F) (cwR (kb k) (snd k)).toLoadRect (CB m (snd k) (kb k) (kh k))))).trans
    (show _ = KC m (snd k) k by unfold KC; rw [if_pos rfl])
  iapply (W_last (st_put (c := snd k) (M := bM (kb k)) (r := bR (kq k)) (S := (bChunk (kb k) (kq k)).view.set) (f := fd) (Finset.Subset.refl _))) $$ [Hd]
  · iexact Hd
  iintro %_ Hd
  isplitl [Hw]; · iapply (some_intro (snd k) (cWin (kb k) (snd k)) _); iexact Hw
  iapply (hold_intro (snd k) (bChunk (kb k) (kq k)) (KC m (snd k) k) _ hr)
  iexact Hd

theorem Pay_gs (c : Dev nD) (b : Fin 2) (j : Fin 8) (r : ℕ) (d : Fin 8) : Pay m c (kGs b j) r d ⊢ some (F := F) c (cWin b j) := Entails.of_eq rfl

theorem wait_step (c : Dev nD) (b : Fin 2) (q : Fin 5) (h : ℕ) (j : Fin 8) (l) (hD : D c (kGs b j) h = {c}) (hl : ∀ e ∈ l, 0 < lvl e.2) :
    iprop(ctx m K ∗ (pos c (kGs b j) h ∗ crd c (kGs b j)) ∗ ow c l)
      ⊢ W c (waitKV b q j) (fun _ => iprop((pos c (kGs b j) (h + 1) ∗ rch c (kGs b j) (h + 1) ∗ some (F := F) c (cWin b j)) ∗ ow c l)) := by
  unfold waitKV
  iintro ⟨#HC, ⟨Hp, Hc⟩, HO⟩
  iapply (W_last (st_wait m K (c := c) (k := kGs b j) (r := h) (d := c) (l := l) rfl (credit_cWin _ _) hD hl)) $$ [Hp Hc HO]
  · isplitr; · iexact HC
    isplitl [Hc]; · iexact Hc
    isplitl [Hp]; · iexact Hp
    iexact HO
  iintro %_ ⟨Hp, Hr, Hpay, HO⟩
  isplitr [HO]
  · isplitl [Hp]; · iexact Hp
    isplitl [Hr]; · iexact Hr
    iapply (Pay_gs m c b j h c); iexact Hpay
  iexact HO

end Cert.KernelIdeal
end
-- ==== Proof.Spread2.lean ====
/-
  Devices 0 and 1 spread the keys and values of the window, chunk by chunk.
-/
module

public import proofs.«01_k».proof.Proof.Spread

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CK → ℕ)

theorem bigSep_join {α : Type} (s : Finset α) (A B : α → sProp 𝕄) :
    iprop(bigSep s A ∗ bigSep s B) ⊢ bigSep s fun j => iprop(A j ∗ B j) := Entails.of_eq (bigSep_sep' ..).symm
theorem bigSep_split {α : Type} (s : Finset α) (A B : α → sProp 𝕄) :
    (bigSep s fun j => iprop(A j ∗ B j)) ⊢ iprop(bigSep s A ∗ bigSep s B) := Entails.of_eq (bigSep_sep' ..)
theorem bigSep_take {α : Type} [DecidableEq α] {s : Finset α} {i : α} (h : i ∈ s) (A : α → sProp 𝕄) :
    bigSep s A ⊢ iprop(A i ∗ bigSep (s.erase i) A) := Entails.of_eq (bigSep_erase h)
theorem bigSep_give {α : Type} [DecidableEq α] {s : Finset α} {i : α} (h : i ∈ s) (A : α → sProp 𝕄) :
    iprop(A i ∗ bigSep (s.erase i) A) ⊢ bigSep s A := Entails.of_eq (bigSep_erase h).symm

/-- The rounded chunks of buffer `b`, its sends of round `h` still to come; -/
def WB (c : Dev nD) (b : Fin 2) (h : ℕ) : sProp 𝕄 :=
  iprop(some (F := F) c (cWin b c) ∗ bigSep (Finset.univ.erase c) fun j : Fin 8 => iprop((pos c (kGs b j) h ∗ rch c (kGs b j) h) ∗ some (F := F) c (cWin b j)))
/-- on their way. -/
def SB (c : Dev nD) (b : Fin 2) (h : ℕ) : sProp 𝕄 :=
  iprop(some (F := F) c (cWin b c) ∗ bigSep (Finset.univ.erase c) fun j : Fin 8 => iprop(pos c (kGs b j) h ∗ crd c (kGs b j)))
/-- What it takes to spread chunk `k`. -/
def SK (c : Dev nD) (k : Fin 10) : sProp 𝕄 :=
  iprop(tok c kLoc (kr k) c ∗ some (F := F) c (bChunk (kb k) (kq k))
    ∗ bigSep (Finset.univ.erase c) fun j : Fin 8 => iprop(some (F := F) j (bChunk (kb k) (kq k)) ∗ tok j (kGr k) 0 c ∗ tok c (kGs (kb k) j) (kh k).val c))

/-- The credit of chunk `k`'s sends. -/
def OK1 (js : List (Fin 8)) (k : Fin 10) : List (Dev nD × CK) := js.map fun j => (j, kGr k)

theorem OK1_lvl {js : List (Fin 8)} {k : Fin 10} {l : List (Dev nD × CK)} (hl : ∀ e ∈ l, 0 < lvl e.2) : ∀ e ∈ OK1 js k ++ l, 0 < lvl e.2 := by
  intro e he
  rcases List.mem_append.mp he with h | h
  · obtain ⟨j, _, rfl⟩ := List.mem_map.mp h
    show 0 < 2
    decide
  · exact hl e h

theorem seg_step (k : Fin 10) (js : List (Fin 8)) (hjs : js.toFinset = Finset.univ.erase (snd k)) (nd : js.Nodup) (l) (hl : ∀ e ∈ l, 0 < lvl e.2) :
    iprop(ctx m K ∗ LS m (snd k) (kr k) ∗ WB (F := F) (snd k) (kb k) (kh k).val ∗ SK (F := F) (snd k) k ∗ ow (snd k) (OK1 js k ++ l))
      ⊢ W (snd k) (seg (snd k) js (kb k) (kh k) (kq k) k)
          (fun _ => iprop(LS m (snd k) (kr k + 1) ∗ SB (F := F) (snd k) (kb k) (kh k).val ∗ hold (F := F) (snd k) (bChunk (kb k) (kq k)) (KC m (snd k) k) ∗ ow (snd k) l)) := by
  unfold seg WB SK
  iintro ⟨#HC, HL, ⟨Hw, Hws⟩, ⟨Htl, Hd, Hds⟩, HO⟩
  ihave Hws := (bigSep_split (F := F) _ _ _) $$ Hws
  icases Hws with ⟨Hps, Hws⟩
  iapply (W_use (load_conv m K (snd k) (kb k) (kh k) (kr k) (OK1 js k ++ l) (kr_spec k).1 (kr_spec k).2 (D_loc k) (OK1_lvl hl))) $$ [HL Htl Hw Hws HO]
  · isplitr; · iexact HC
    isplitl [HL]; · iexact HL
    isplitl [Htl]; · iexact Htl
    isplitl [Hw Hws]
    · iapply (bigSep_give (F := F) (Finset.mem_univ (snd k)) fun j : Fin 8 => some (F := F) (snd k) (cWin (kb k) j))
      isplitl [Hw]; · iexact Hw
      iexact Hws
    iexact HO
  iintro %_ ⟨HL, Hws, HO⟩
  ihave Hws := (bigSep_take (F := F) (Finset.mem_univ (snd k)) fun j : Fin 8 => Pts (F := F) (snd k) (cWin (kb k) j) (CB m (snd k) (kb k) (kh k))) $$ Hws
  icases Hws with ⟨Hw, Hws⟩
  ihave Hps := (bigSep_split (F := F) _ _ _) $$ Hps
  icases Hps with ⟨Hps, Hrs⟩
  have hloop := W_loop (c := snd k) (step := sendKV (F := F) (kb k) (kq k) k) (ctx m K)
    (fun j => iprop(Pts (F := F) (snd k) (cWin (kb k) j) (CB m (snd k) (kb k) (kh k)) ∗ some (F := F) j (bChunk (kb k) (kq k))
        ∗ tok j (kGr k) 0 (snd k) ∗ tok (snd k) (kGs (kb k) j) (kh k).val (snd k) ∗ rch (snd k) (kGs (kb k) j) (kh k).val))
    (fun j => crd (snd k) (kGs (kb k) j)) (fun js => ow (snd k) (OK1 js k ++ l)) (fun j => snd k ≠ j)
    (fun j js h => send_step m K k j js l h) js nd (fun j hj => by
      have := List.mem_toFinset.mpr hj
      rw [hjs] at this
      exact (Finset.ne_of_mem_erase this).symm)
  rw [hjs] at hloop
  iapply (W_use hloop) $$ [Hws Hds Hrs HO]
  · isplitr; · iexact HC
    isplitr [HO]
    · ihave Hds := (bigSep_split (F := F) _ _ _) $$ Hds
      icases Hds with ⟨Hda, Hds⟩
      ihave Hds := (bigSep_split (F := F) _ _ _) $$ Hds
      icases Hds with ⟨Hdb, Hdc⟩
      iapply (bigSep_join (F := F) _ _ _)
      isplitl [Hws]; · iexact Hws
      iapply (bigSep_join (F := F) _ _ _)
      isplitl [Hda]; · iexact Hda
      iapply (bigSep_join (F := F) _ _ _)
      isplitl [Hdb]; · iexact Hdb
      iapply (bigSep_join (F := F) _ _ _)
      isplitl [Hdc]; · iexact Hdc
      iexact Hrs
    iexact HO
  iintro %_ ⟨Hcs, HO⟩
  iapply (W_last (keep_step m k)) $$ [Hw Hd]
  · isplitl [Hw]; · iexact Hw
    iexact Hd
  iintro %_ ⟨Hw, Hd⟩
  isplitl [HL]; · iexact HL
  isplitl [Hw Hps Hcs]
  · unfold SB
    isplitl [Hw]; · iexact Hw
    iapply (bigSep_join (F := F) _ _ _)
    isplitl [Hps]; · iexact Hps
    iexact Hcs
  isplitl [Hd]; · iexact Hd
  iexact HO

theorem waits_step (c : Dev nD) (b : Fin 2) (q : Fin 5) (h : ℕ) (js : List (Fin 8)) (hjs : js.toFinset = Finset.univ.erase c) (nd : js.Nodup) (l)
    (hD : ∀ j, c ≠ j → D c (kGs b j) h = {c}) (hl : ∀ e ∈ l, 0 < lvl e.2) :
    iprop(ctx m K ∗ SB (F := F) c b h ∗ ow c l) ⊢ W c (forL (waitKV b q) js) (fun _ => iprop(WB (F := F) c b (h + 1) ∗ ow c l)) := by
  have hloop := W_loop (c := c) (step := waitKV (F := F) b q) (ctx m K) (fun j => iprop(pos c (kGs b j) h ∗ crd c (kGs b j)))
    (fun j => iprop(pos c (kGs b j) (h + 1) ∗ rch c (kGs b j) (h + 1) ∗ some (F := F) c (cWin b j))) (fun js => ow c l) (fun j => c ≠ j)
    (fun j js h' => wait_step m K c b q h j l (hD j h') hl) js nd (fun j hj => by
      have := List.mem_toFinset.mpr hj
      rw [hjs] at this
      exact (Finset.ne_of_mem_erase this).symm)
  rw [hjs] at hloop
  unfold SB WB
  iintro ⟨#HC, ⟨Hw, Hs⟩, HO⟩
  iapply (W_last hloop) $$ [Hs HO]
  · isplitr; · iexact HC
    isplitl [Hs]; · iexact Hs
    iexact HO
  iintro %_ ⟨Hs, HO⟩
  isplitr [HO]
  · isplitl [Hw]; · iexact Hw
    ihave Hs := (bigSep_split (F := F) _ _ _) $$ Hs
    icases Hs with ⟨Ha, Hs⟩
    ihave Hs := (bigSep_split (F := F) _ _ _) $$ Hs
    icases Hs with ⟨Hb, Hs⟩
    iapply (bigSep_join (F := F) _ _ _)
    isplitr [Hs]
    · iapply (bigSep_join (F := F) _ _ _)
      isplitl [Ha]; · iexact Ha
      iexact Hb
    iexact Hs
  iexact HO

/-! ## Device 0 and device 1 -/

theorem js0_set : js0.toFinset = Finset.univ.erase (0 : Fin 8) := by decide
theorem js1_set : js1.toFinset = Finset.univ.erase (1 : Fin 8) := by decide

/-- Chunk `k` of device `c`'s window, there. -/
abbrev HK (c : Dev nD) (k : Fin 10) : sProp 𝕄 := hold (F := F) c (bChunk (kb k) (kq k)) (KC m c k)

theorem OW2_lvl {js : List (Fin 8)} {k : Fin 10} {l : List (Dev nD × CK)} (hl : ∀ e ∈ l, 0 < lvl e.2) : ∀ e ∈ OK1 js k ++ l, 0 < lvl e.2 := OK1_lvl hl

theorem chunk0_step (q : Fin 3) (k₀ k₁ : Fin 10) (h₀ : k₀ = ⟨2 * q.val + 2, by omega⟩) (h₁ : k₁ = ⟨2 * q.val + 3, by omega⟩) (l) (hl : ∀ e ∈ l, 0 < lvl e.2) :
    iprop(ctx m K ∗ LS m 0 (2 * q.val + 2) ∗ SB (F := F) 0 0 q.val ∗ SB (F := F) 0 1 q.val ∗ SK (F := F) 0 k₀ ∗ SK (F := F) 0 k₁ ∗ ow 0 (OK1 js0 k₀ ++ (OK1 js0 k₁ ++ l)))
      ⊢ W 0 (chunk0 q) (fun _ => iprop(LS m 0 (2 * q.val + 4) ∗ SB (F := F) 0 0 (q.val + 1) ∗ SB (F := F) 0 1 (q.val + 1) ∗ HK m 0 k₀ ∗ HK m 0 k₁ ∗ ow 0 l)) := by
  subst h₀; subst h₁
  have hD : ∀ (q : Fin 3) (b : Fin 2) (j : Dev nD), (0 : Dev nD) ≠ j → D 0 (kGs b j) q.val = {0} := by decide
  have hs0 : ∀ q : Fin 3, snd ⟨2 * q.val + 2, by omega⟩ = 0 ∧ kb ⟨2 * q.val + 2, by omega⟩ = 0 ∧ kh ⟨2 * q.val + 2, by omega⟩ = q.succ ∧ kq ⟨2 * q.val + 2, by omega⟩ = ⟨q.val + 1, by omega⟩
    ∧ kr ⟨2 * q.val + 2, by omega⟩ = 2 * q.val + 2 := by decide
  have hs1 : ∀ q : Fin 3, snd ⟨2 * q.val + 3, by omega⟩ = 0 ∧ kb ⟨2 * q.val + 3, by omega⟩ = 1 ∧ kh ⟨2 * q.val + 3, by omega⟩ = q.succ ∧ kq ⟨2 * q.val + 3, by omega⟩ = ⟨q.val + 1, by omega⟩
    ∧ kr ⟨2 * q.val + 3, by omega⟩ = 2 * q.val + 3 := by decide
  have e0 := seg_step m K ⟨2 * q.val + 2, by omega⟩ js0 (by rw [(hs0 q).1]; exact js0_set) (by decide) (OK1 js0 ⟨2 * q.val + 3, by omega⟩ ++ l) (OK1_lvl hl)
  have e1 := seg_step m K ⟨2 * q.val + 3, by omega⟩ js0 (by rw [(hs1 q).1]; exact js0_set) (by decide) l hl
  rw [(hs0 q).1, (hs0 q).2.1, (hs0 q).2.2.1, (hs0 q).2.2.2.1, (hs0 q).2.2.2.2] at e0
  rw [(hs1 q).1, (hs1 q).2.1, (hs1 q).2.2.1, (hs1 q).2.2.2.1, (hs1 q).2.2.2.2] at e1
  unfold chunk0
  iintro ⟨#HC, HL, H0, H1, K0, K1, HO⟩
  iapply (W_use (waits_step m K 0 0 ⟨q.val, Nat.lt_of_lt_of_le q.isLt (by decide)⟩ q.val js0 js0_set (by decide) (OK1 js0 ⟨2 * q.val + 2, by omega⟩ ++ (OK1 js0 ⟨2 * q.val + 3, by omega⟩ ++ l)) (hD q 0) (OK1_lvl (OK1_lvl hl)))) $$ [H0 HO]
  · isplitr; · iexact HC
    isplitl [H0]; · iexact H0
    iexact HO
  iintro %_ ⟨H0, HO⟩
  iapply (W_use e0) $$ [HL H0 K0 HO]
  · isplitr; · iexact HC
    isplitl [HL]; · iexact HL
    isplitl [H0]; · iexact H0
    isplitl [K0]; · iexact K0
    iexact HO
  iintro %_ ⟨HL, H0, K0, HO⟩
  iapply (W_use (waits_step m K 0 1 ⟨q.val, Nat.lt_of_lt_of_le q.isLt (by decide)⟩ q.val js0 js0_set (by decide) (OK1 js0 ⟨2 * q.val + 3, by omega⟩ ++ l) (hD q 1) (OK1_lvl hl))) $$ [H1 HO]
  · isplitr; · iexact HC
    isplitl [H1]; · iexact H1
    iexact HO
  iintro %_ ⟨H1, HO⟩
  iapply (W_last e1) $$ [HL H1 K1 HO]
  · isplitr; · iexact HC
    isplitl [HL]; · iexact HL
    isplitl [H1]; · iexact H1
    isplitl [K1]; · iexact K1
    iexact HO
  iintro %_ ⟨HL, H1, K1, HO⟩
  isplitl [HL]; · iexact HL
  isplitl [H0]; · iexact H0
  isplitl [H1]; · iexact H1
  isplitl [K0]; · unfold HK; rw [(hs0 q).2.1, (hs0 q).2.2.2.1]; iexact K0
  isplitl [K1]; · unfold HK; rw [(hs1 q).2.1, (hs1 q).2.2.2.1]; iexact K1
  iexact HO

/-- The credit of device 0's sends of chunks. -/
def O0 (l : List (Dev nD × CK)) : List (Dev nD × CK) :=
  OK1 js0 0 ++ (OK1 js0 1 ++ (OK1 js0 2 ++ (OK1 js0 3 ++ (OK1 js0 4 ++ (OK1 js0 5 ++ (OK1 js0 6 ++ (OK1 js0 7 ++ l)))))))
/-- The credit of device 1's. -/
def O1 (l : List (Dev nD × CK)) : List (Dev nD × CK) := OK1 js1 8 ++ (OK1 js1 9 ++ l)

theorem dev0_step (l) (hl : ∀ e ∈ l, 0 < lvl e.2) :
    iprop(ctx m K ∗ LS m 0 0 ∗ WB (F := F) 0 0 0 ∗ WB (F := F) 0 1 0
        ∗ (SK (F := F) 0 0 ∗ SK (F := F) 0 1 ∗ SK (F := F) 0 2 ∗ SK (F := F) 0 3 ∗ SK (F := F) 0 4 ∗ SK (F := F) 0 5 ∗ SK (F := F) 0 6 ∗ SK (F := F) 0 7) ∗ ow 0 (O0 l))
      ⊢ W 0 dev0 (fun _ => iprop(LS m 0 8 ∗ WB (F := F) 0 0 4 ∗ WB (F := F) 0 1 4
        ∗ (HK m 0 0 ∗ HK m 0 1 ∗ HK m 0 2 ∗ HK m 0 3 ∗ HK m 0 4 ∗ HK m 0 5 ∗ HK m 0 6 ∗ HK m 0 7) ∗ ow 0 l)) := by
  unfold dev0 O0
  simp only [forL]
  iintro ⟨#HC, HL, H0, H1, ⟨K0, K1, K2, K3, K4, K5, K6, K7⟩, HO⟩
  iapply (W_use (seg_step m K 0 js0 js0_set (by decide) (OK1 js0 1 ++ (OK1 js0 2 ++ (OK1 js0 3 ++ (OK1 js0 4 ++ (OK1 js0 5 ++ (OK1 js0 6 ++ (OK1 js0 7 ++ l)))))))
    (OK1_lvl (OK1_lvl (OK1_lvl (OK1_lvl (OK1_lvl (OK1_lvl (OK1_lvl hl))))))))) $$ [HL H0 K0 HO]
  · isplitr; · iexact HC
    isplitl [HL]; · iexact HL
    isplitl [H0]; · iexact H0
    isplitl [K0]; · iexact K0
    iexact HO
  iintro %_ ⟨HL, H0, K0, HO⟩
  iapply (W_use (seg_step m K 1 js0 js0_set (by decide) (OK1 js0 2 ++ (OK1 js0 3 ++ (OK1 js0 4 ++ (OK1 js0 5 ++ (OK1 js0 6 ++ (OK1 js0 7 ++ l))))))
    (OK1_lvl (OK1_lvl (OK1_lvl (OK1_lvl (OK1_lvl (OK1_lvl hl)))))))) $$ [HL H1 K1 HO]
  · isplitr; · iexact HC
    isplitl [HL]; · iexact HL
    isplitl [H1]; · iexact H1
    isplitl [K1]; · iexact K1
    iexact HO
  iintro %_ ⟨HL, H1, K1, HO⟩
  iapply (W_use (c := 0) (k := fun _ => (do forL (waitKV 0 3) js0; forL (waitKV 1 3) js0 : PG F PUnit)) (p := (do chunk0 0; chunk0 1; chunk0 2; pure ⟨⟩ : PG F PUnit))
    (R := fun _ => iprop(LS m 0 8 ∗ SB (F := F) 0 0 3 ∗ SB (F := F) 0 1 3 ∗ (HK m 0 2 ∗ HK m 0 3 ∗ HK m 0 4 ∗ HK m 0 5 ∗ HK m 0 6 ∗ HK m 0 7) ∗ ow 0 l)) (Entails.rfl)) $$ [HL H0 H1 K2 K3 K4 K5 K6 K7 HO]
  · iapply (W_use (chunk0_step m K 0 2 3 rfl rfl (OK1 js0 4 ++ (OK1 js0 5 ++ (OK1 js0 6 ++ (OK1 js0 7 ++ l)))) (OK1_lvl (OK1_lvl (OK1_lvl (OK1_lvl hl)))))) $$ [HL H0 H1 K2 K3 HO]
    · isplitr; · iexact HC
      isplitl [HL]; · iexact HL
      isplitl [H0]; · iexact H0
      isplitl [H1]; · iexact H1
      isplitl [K2]; · iexact K2
      isplitl [K3]; · iexact K3
      iexact HO
    iintro %_ ⟨HL, H0, H1, K2, K3, HO⟩
    iapply (W_use (chunk0_step m K 1 4 5 rfl rfl (OK1 js0 6 ++ (OK1 js0 7 ++ l)) (OK1_lvl (OK1_lvl hl)))) $$ [HL H0 H1 K4 K5 HO]
    · isplitr; · iexact HC
      isplitl [HL]; · iexact HL
      isplitl [H0]; · iexact H0
      isplitl [H1]; · iexact H1
      isplitl [K4]; · iexact K4
      isplitl [K5]; · iexact K5
      iexact HO
    iintro %_ ⟨HL, H0, H1, K4, K5, HO⟩
    iapply (W_use (chunk0_step m K 2 6 7 rfl rfl l hl)) $$ [HL H0 H1 K6 K7 HO]
    · isplitr; · iexact HC
      isplitl [HL]; · iexact HL
      isplitl [H0]; · iexact H0
      isplitl [H1]; · iexact H1
      isplitl [K6]; · iexact K6
      isplitl [K7]; · iexact K7
      iexact HO
    iintro %_ ⟨HL, H0, H1, K6, K7, HO⟩
    iapply W_pure
    isplitl [HL]; · iexact HL
    isplitl [H0]; · iexact H0
    isplitl [H1]; · iexact H1
    isplitr [HO]
    · isplitl [K2]; · iexact K2
      isplitl [K3]; · iexact K3
      isplitl [K4]; · iexact K4
      isplitl [K5]; · iexact K5
      isplitl [K6]; · iexact K6
      iexact K7
    iexact HO
  iintro %_ ⟨HL, H0, H1, ⟨K2, K3, K4, K5, K6, K7⟩, HO⟩
  iapply (W_use (waits_step m K 0 0 3 3 js0 js0_set (by decide) l (by decide) hl)) $$ [H0 HO]
  · isplitr; · iexact HC
    isplitl [H0]; · iexact H0
    iexact HO
  iintro %_ ⟨H0, HO⟩
  iapply (W_last (waits_step m K 0 1 3 3 js0 js0_set (by decide) l (by decide) hl)) $$ [H1 HO]
  · isplitr; · iexact HC
    isplitl [H1]; · iexact H1
    iexact HO
  iintro %_ ⟨H1, HO⟩
  isplitl [HL]; · iexact HL
  isplitl [H0]; · iexact H0
  isplitl [H1]; · iexact H1
  isplitr [HO]
  · isplitl [K0]; · iexact K0
    isplitl [K1]; · iexact K1
    isplitl [K2]; · iexact K2
    isplitl [K3]; · iexact K3
    isplitl [K4]; · iexact K4
    isplitl [K5]; · iexact K5
    isplitl [K6]; · iexact K6
    iexact K7
  iexact HO

theorem dev1_step (l) (hl : ∀ e ∈ l, 0 < lvl e.2) :
    iprop(ctx m K ∗ LS m 1 0 ∗ WB (F := F) 1 0 0 ∗ WB (F := F) 1 1 0 ∗ (SK (F := F) 1 8 ∗ SK (F := F) 1 9) ∗ ow 1 (O1 l))
      ⊢ W 1 dev1 (fun _ => iprop(LS m 1 2 ∗ WB (F := F) 1 0 1 ∗ WB (F := F) 1 1 1 ∗ (HK m 1 8 ∗ HK m 1 9) ∗ ow 1 l)) := by
  unfold dev1 O1
  simp only [forL]
  iintro ⟨#HC, HL, H0, H1, ⟨K0, K1⟩, HO⟩
  iapply (W_use (p := chunk1 0) (R := fun _ => iprop(LS m 1 1 ∗ WB (F := F) 1 0 1 ∗ HK m 1 8 ∗ ow 1 (OK1 js1 9 ++ l))) Entails.rfl) $$ [HL H0 K0 HO]
  · unfold chunk1
    iapply (W_use (seg_step m K 8 js1 js1_set (by decide) (OK1 js1 9 ++ l) (OK1_lvl hl))) $$ [HL H0 K0 HO]
    · isplitr; · iexact HC
      isplitl [HL]; · iexact HL
      isplitl [H0]; · iexact H0
      isplitl [K0]; · iexact K0
      iexact HO
    iintro %_ ⟨HL, H0, K0, HO⟩
    iapply (W_last (waits_step m K 1 0 4 0 js1 js1_set (by decide) (OK1 js1 9 ++ l) (by decide) (OK1_lvl hl))) $$ [H0 HO]
    · isplitr; · iexact HC
      isplitl [H0]; · iexact H0
      iexact HO
    iintro %_ ⟨H0, HO⟩
    isplitl [HL]; · iexact HL
    isplitl [H0]; · iexact H0
    isplitl [K0]; · iexact K0
    iexact HO
  iintro %_ ⟨HL, H0, K0, HO⟩
  iapply (W_use (p := chunk1 1) (R := fun _ => iprop(LS m 1 2 ∗ WB (F := F) 1 1 1 ∗ HK m 1 9 ∗ ow 1 l)) Entails.rfl) $$ [HL H1 K1 HO]
  · unfold chunk1
    iapply (W_use (seg_step m K 9 js1 js1_set (by decide) l hl)) $$ [HL H1 K1 HO]
    · isplitr; · iexact HC
      isplitl [HL]; · iexact HL
      isplitl [H1]; · iexact H1
      isplitl [K1]; · iexact K1
      iexact HO
    iintro %_ ⟨HL, H1, K1, HO⟩
    iapply (W_last (waits_step m K 1 1 4 0 js1 js1_set (by decide) l (by decide) hl)) $$ [H1 HO]
    · isplitr; · iexact HC
      isplitl [H1]; · iexact H1
      iexact HO
    iintro %_ ⟨H1, HO⟩
    isplitl [HL]; · iexact HL
    isplitl [H1]; · iexact H1
    isplitl [K1]; · iexact K1
    iexact HO
  iintro %_ ⟨HL, H1, K1, HO⟩
  iapply W_pure
  isplitl [HL]; · iexact HL
  isplitl [H0]; · iexact H0
  isplitl [H1]; · iexact H1
  isplitl [K0 K1]
  · isplitl [K0]; · iexact K0
    iexact K1
  iexact HO

end Cert.KernelIdeal
end
-- ==== Proof.Tiles.lean ====
/-
  Receiving the window's chunks, and the eight query tiles.
-/
module

public import proofs.«01_k».proof.Proof.Spread2

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CK → ℕ)

theorem fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-! ## Receiving -/

/-- Chunk `k`, its own or awaited; -/
def Pend (c : Dev nD) (k : Fin 10) : sProp 𝕄 := iprop(pos c (kGr k) 0 ∗ (if snd k = c then HK m c k else crd c (kGr k)))
/-- there. -/
def Got (c : Dev nD) (k : Fin 10) : sProp 𝕄 := iprop(pos c (kGr k) (if snd k = c then 0 else 1) ∗ HK m c k)

theorem D_gr' {c : Dev nD} {k : Fin 10} (h : snd k ≠ c) : D c (kGr k) 0 = {snd k} := if_pos ⟨rfl, h⟩
theorem Pay_gr (c : Dev nD) (k : Fin 10) (r : ℕ) (d : Fin 8) : Pay m c (kGr k) r d ⊢ HK m c k := Entails.of_eq rfl

theorem recv_step (c : Dev nD) (k : Fin 10) (l) (h : snd k ≠ c) (hl : ∀ e ∈ l, 2 < lvl e.2) :
    iprop(ctx m K ∗ Pend m c k ∗ ow c l) ⊢ W c (recvKV (kb k) (kq k) k) (fun _ => iprop(Got m c k ∗ ow c l)) := by
  unfold recvKV Pend Got
  rw [if_neg h, if_neg h]
  iintro ⟨#HC, ⟨Hp, Hc⟩, HO⟩
  iapply (W_last (st_wait m K (c := c) (k := kGr k) (r := 0) (d := snd k) (l := l) rfl (credit_bChunk _ _) (D_gr' h) hl)) $$ [Hp Hc HO]
  · isplitr; · iexact HC
    isplitl [Hc]; · iexact Hc
    isplitl [Hp]; · iexact Hp
    iexact HO
  iintro %_ ⟨Hp, -, Hpay, HO⟩
  isplitr [HO]
  · isplitl [Hp]; · iexact Hp
    iapply (Pay_gr m c k 0 (snd k)); iexact Hpay
  iexact HO

theorem Pend_own {c : Dev nD} {k : Fin 10} (h : snd k = c) : Pend m c k ⊢ Got m c k := by
  unfold Pend Got; rw [if_pos h, if_pos h]

theorem recv_two (c : Dev nD) (b : BitVec 1) (s : Fin 8) (hb : b = 1#1 ↔ c ≠ s) (k₀ k₁ : Fin 10) (h₀ : snd k₀ = s) (h₁ : snd k₁ = s) (l) (hl : ∀ e ∈ l, 2 < lvl e.2) :
    iprop(ctx m K ∗ Pend m c k₀ ∗ Pend m c k₁ ∗ ow c l)
      ⊢ W c (ifT (c := b = 1#1) fun _ => do recvKV (kb k₀) (kq k₀) k₀; recvKV (kb k₁) (kq k₁) k₁) (fun _ => iprop(Got m c k₀ ∗ Got m c k₁ ∗ ow c l)) := by
  refine W_ifT (fun h => ?_) (fun h => ?_)
  · have hne := hb.mp h
    iintro ⟨#HC, H0, H1, HO⟩
    iapply (W_use (recv_step m K c k₀ l (by rw [h₀]; exact hne.symm) hl)) $$ [H0 HO]
    · isplitr; · iexact HC
      isplitl [H0]; · iexact H0
      iexact HO
    iintro %_ ⟨H0, HO⟩
    iapply (W_last (recv_step m K c k₁ l (by rw [h₁]; exact hne.symm) hl)) $$ [H1 HO]
    · isplitr; · iexact HC
      isplitl [H1]; · iexact H1
      iexact HO
    iintro %_ ⟨H1, HO⟩
    isplitl [H0]; · iexact H0
    isplitl [H1]; · iexact H1
    iexact HO
  · have he : c = s := Classical.not_not.mp fun e => h (hb.mpr e)
    iintro ⟨-, H0, H1, HO⟩
    isplitl [H0]; · iapply (Pend_own m (h₀.trans he.symm)); iexact H0
    isplitl [H1]; · iapply (Pend_own m (h₁.trans he.symm)); iexact H1
    iexact HO

/-! ## The window so far -/

/-- The rows of the chunks of `S`. -/
def RS (S : Finset (Fin 5)) : Finset S1280x8x128.Idx := Finset.univ.filter fun i => rowq i ∈ S
theorem mem_RS {S : Finset (Fin 5)} {i : S1280x8x128.Idx} : i ∈ RS S ↔ rowq i ∈ S := by unfold RS; rw [Finset.mem_filter]; exact and_iff_right (Finset.mem_univ _)

/-- Rows `S` of device `c`'s window. -/
def BP (c : Dev nD) : Fin 2 → Finset S1280x8x128.Idx → sProp 𝕄
  | 0, S => ((bM 0).view.loc (c : Thread nD τ) ↦[S]{fullShare} KB m c 0)
  | 1, S => ((bM 1).view.loc (c : Thread nD τ) ↦[S]{fullShare} KB m c 1)

theorem BP0 (c : Dev nD) (S) : BP m c 0 S = ((bM 0).view.loc (c : Thread nD τ) ↦[S]{fullShare} KB m c 0) := rfl
theorem BP1 (c : Dev nD) (S) : BP m c 1 S = ((bM 1).view.loc (c : Thread nD τ) ↦[S]{fullShare} KB m c 1) := rfl

theorem mem_bR' (q : Fin 5) (i : S1280x8x128.Idx) : i ∈ (bR q).set ↔ rowq i = q :=
  (mem_bR q i).trans ⟨fun h => Fin.ext h, fun h => congrArg Fin.val h⟩
theorem bChunk_set0 (q : Fin 5) : (bChunk 0 q).view.set = (bR q).set := View.set_slice_whole cc0_scratch0 (bR q)
theorem bChunk_set1 (q : Fin 5) : (bChunk 1 q).view.set = (bR q).set := View.set_slice_whole cc0_scratch1 (bR q)

theorem hold_BP (c : Dev nD) : ∀ (b : Fin 2) (q : Fin 5), hold (F := F) c (bChunk b q) (KC m c (kk b q)) ⊢ BP m c b (bR q).set
  | 0, q => by
    iintro H
    ihave H := (hold_elim c (bChunk 0 q) _) $$ H
    icases H with ⟨%f, %hf, H⟩
    iapply (show Pts (F := F) c (bChunk 0 q) f ⊢ BP m c 0 (bR q).set by
      unfold Pts BP
      rw [← bChunk_set0]
      exact Entails.of_eq (pointsTo_congr (eq_of_read_eq (v := (bChunk 0 q).view) (hf.trans (KB_read m c 0 q).symm))))
    iexact H
  | 1, q => by
    iintro H
    ihave H := (hold_elim c (bChunk 1 q) _) $$ H
    icases H with ⟨%f, %hf, H⟩
    iapply (show Pts (F := F) c (bChunk 1 q) f ⊢ BP m c 1 (bR q).set by
      unfold Pts BP
      rw [← bChunk_set1]
      exact Entails.of_eq (pointsTo_congr (eq_of_read_eq (v := (bChunk 1 q).view) (hf.trans (KB_read m c 1 q).symm))))
    iexact H

theorem BP_union (c : Dev nD) (S T : Finset S1280x8x128.Idx) (h : Disjoint S T) : ∀ b : Fin 2, iprop(BP m c b S ∗ BP m c b T) ⊢ BP m c b (S ∪ T)
  | 0 => (pointsTo_union h).2
  | 1 => (pointsTo_union h).2
theorem RS_insert {q : Fin 5} {S : Finset (Fin 5)} : (bR q).set ∪ RS S = RS (insert q S) := by
  ext i; rw [Finset.mem_union, mem_bR', mem_RS, mem_RS, Finset.mem_insert]
theorem RS_single {q : Fin 5} : (bR q).set = RS {q} := by
  ext i; rw [mem_bR', mem_RS, Finset.mem_singleton]
theorem RS_disj {q : Fin 5} {S : Finset (Fin 5)} (h : q ∉ S) : Disjoint (bR q).set (RS S) :=
  Finset.disjoint_left.mpr fun i hi hi' => h ((mem_bR' q i).mp hi ▸ mem_RS.mp hi')

/-- The chunks of `S`, keys and values. -/
def KVs (c : Dev nD) (S : Finset (Fin 5)) : sProp 𝕄 := iprop(BP m c 0 (RS S) ∗ BP m c 1 (RS S))
/-- Where the cell of chunk `k` stands in the end. -/
abbrev posGr (c : Dev nD) (k : Fin 10) : sProp 𝕄 := pos c (kGr k) (if snd k = c then 0 else 1)

theorem kv_first (c : Dev nD) (q : Fin 5) : iprop(Got m c (kk 0 q) ∗ Got m c (kk 1 q)) ⊢ iprop(KVs m c {q} ∗ posGr c (kk 0 q) ∗ posGr c (kk 1 q)) := by
  unfold Got KVs HK
  rw [kb_kk, kq_kk, kb_kk, kq_kk, ← RS_single]
  iintro ⟨⟨Hp0, H0⟩, Hp1, H1⟩
  isplitl [H0 H1]
  · isplitl [H0]; · iapply (hold_BP m c 0 q); iexact H0
    iapply (hold_BP m c 1 q); iexact H1
  isplitl [Hp0]; · iexact Hp0
  iexact Hp1
theorem kv_more (c : Dev nD) (q : Fin 5) (S : Finset (Fin 5)) (h : q ∉ S) :
    iprop(KVs m c S ∗ Got m c (kk 0 q) ∗ Got m c (kk 1 q)) ⊢ iprop(KVs m c (insert q S) ∗ posGr c (kk 0 q) ∗ posGr c (kk 1 q)) := by
  unfold Got KVs HK
  rw [kb_kk, kq_kk, kb_kk, kq_kk, ← RS_insert]
  iintro ⟨⟨HS0, HS1⟩, ⟨Hp0, H0⟩, Hp1, H1⟩
  isplitl [H0 H1 HS0 HS1]
  · isplitl [H0 HS0]
    · iapply (BP_union m c _ _ (RS_disj h) 0)
      isplitl [H0]; · iapply (hold_BP m c 0 q); iexact H0
      iexact HS0
    · iapply (BP_union m c _ _ (RS_disj h) 1)
      isplitl [H1]; · iapply (hold_BP m c 1 q); iexact H1
      iexact HS1
  isplitl [Hp0]; · iexact Hp0
  iexact Hp1

theorem bigSep_emps (s : Finset (Fin 8)) : bigSep s (fun _ => (iprop(emp) : sProp 𝕄)) = iprop(emp) := bigSep_emp_const s

/-! ## Eight reads -/

theorem eight_step {c : Dev nD} {α : Type} {f : Fin 8 → PG F α} (C : sProp 𝕄) [BI.Persistent C] (Pre Post : Fin 8 → sProp 𝕄) (I : sProp 𝕄) (φ : Fin 8 → α → Prop)
    (h : ∀ j, iprop(C ∗ Pre j ∗ I) ⊢ W c (f j) (fun v => iprop(⌜φ j v⌝ ∗ Post j ∗ I))) :
    iprop(C ∗ bigSep Finset.univ Pre ∗ I) ⊢ W c (eight f) (fun r => iprop(⌜∀ j, φ j (r j)⌝ ∗ bigSep Finset.univ Post ∗ I)) := by
  unfold eight
  rw [fin8, fin8]
  iintro ⟨#HC, ⟨H0, H1, H2, H3, H4, H5, H6, H7⟩, HI⟩
  iapply (W_use (h 0)) $$ [H0 HI]
  · isplitr; · iexact HC
    isplitl [H0]; · iexact H0
    iexact HI
  iintro %a0 ⟨%p0, H0, HI⟩
  iapply (W_use (h 1)) $$ [H1 HI]
  · isplitr; · iexact HC
    isplitl [H1]; · iexact H1
    iexact HI
  iintro %a1 ⟨%p1, H1, HI⟩
  iapply (W_use (h 2)) $$ [H2 HI]
  · isplitr; · iexact HC
    isplitl [H2]; · iexact H2
    iexact HI
  iintro %a2 ⟨%p2, H2, HI⟩
  iapply (W_use (h 3)) $$ [H3 HI]
  · isplitr; · iexact HC
    isplitl [H3]; · iexact H3
    iexact HI
  iintro %a3 ⟨%p3, H3, HI⟩
  iapply (W_use (h 4)) $$ [H4 HI]
  · isplitr; · iexact HC
    isplitl [H4]; · iexact H4
    iexact HI
  iintro %a4 ⟨%p4, H4, HI⟩
  iapply (W_use (h 5)) $$ [H5 HI]
  · isplitr; · iexact HC
    isplitl [H5]; · iexact H5
    iexact HI
  iintro %a5 ⟨%p5, H5, HI⟩
  iapply (W_use (h 6)) $$ [H6 HI]
  · isplitr; · iexact HC
    isplitl [H6]; · iexact H6
    iexact HI
  iintro %a6 ⟨%p6, H6, HI⟩
  iapply (W_use (h 7)) $$ [H7 HI]
  · isplitr; · iexact HC
    isplitl [H7]; · iexact H7
    iexact HI
  iintro %a7 ⟨%p7, H7, HI⟩
  iapply W_pure
  isplitr
  · ipureintro
    intro j
    match j with
    | 0 => exact p0
    | 1 => exact p1
    | 2 => exact p2
    | 3 => exact p3
    | 4 => exact p4
    | 5 => exact p5
    | 6 => exact p6
    | 7 => exact p7
  isplitr [HI]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact HI

/-! ## A tile -/

/-- Tile `t` of the result. -/
abbrev outTile (t : Fin 8) : Memref sig .tc .vmem S128x1024 .f32 := outM.slice (tR t) (fun _ => rfl)

theorem l3_rows (S : Finset (Fin 5)) (i : Fin 7) (h : Fin 8) (hS : ∀ q : Fin 5, i.val / 2 ≤ q.val → q.val ≤ (i.val + 2) / 2 → q ∈ S) : (l3R i h).set ⊆ RS S := by
  intro x hx
  have := mem_l3R hx
  exact mem_RS.mpr (hS (rowq x) (by show i.val / 2 ≤ (x 0).val / 256; omega) (by show (x 0).val / 256 ≤ (i.val + 2) / 2; omega))
theorem l2_rows (S : Finset (Fin 5)) (h : Fin 8) (hS : 0 ∈ S) : (l2R h).set ⊆ RS S := by
  intro x hx
  have := mem_l2R hx
  exact mem_RS.mpr (by rw [show rowq x = 0 from Fin.ext (by show (x 0).val / 256 = 0; omega)]; exact hS)

theorem whole_setOn (b : Ref sig .tc) (r : Rect b.ty.shape) : (Memref.whole b).view.setOn r.toLoadRect.set = r.set :=
  (View.set_slice (Memref.whole b).view r).symm.trans (View.set_slice_whole b r)

theorem ld3_step (c : Dev nD) (S : Finset (Fin 5)) (i : Fin 7) (hS : ∀ q : Fin 5, i.val / 2 ≤ q.val → q.val ≤ (i.val + 2) / 2 → q ∈ S) (h : Fin 8) :
    iprop(emp ∗ emp ∗ KVs m c S) ⊢ W c (ld3 i h) (fun v => iprop(⌜v = kv3 m c i h⌝ ∗ emp ∗ KVs m c S)) := by
  unfold ld3 KVs
  rw [BP0, BP1]
  iintro ⟨-, -, H0, H1⟩
  iapply (W_use (st_load (c := c) (M := bM 0) (r := (l3R i h).toLoadRect) (S := RS S) (f := KB m c 0) (q := fullShare)
    ((whole_setOn cc0_scratch0 (l3R i h)).subset.trans (l3_rows S i h hS)))) $$ [H0]
  · iexact H0
  iintro %v ⟨%hv, H0⟩
  iapply (W_use (st_load (c := c) (M := bM 1) (r := (l3R i h).toLoadRect) (S := RS S) (f := KB m c 1) (q := fullShare)
    ((whole_setOn cc0_scratch1 (l3R i h)).subset.trans (l3_rows S i h hS)))) $$ [H1]
  · iexact H1
  iintro %w ⟨%hw, H1⟩
  iapply W_pure
  isplitr; · ipureintro; rw [hv, hw]; rfl
  isplitr; · iempintro
  isplitl [H0]; · iexact H0
  iexact H1
theorem ld2_step (c : Dev nD) (S : Finset (Fin 5)) (hS : 0 ∈ S) (h : Fin 8) :
    iprop(emp ∗ emp ∗ KVs m c S) ⊢ W c (ld2 h) (fun v => iprop(⌜v = kv2 m c h⌝ ∗ emp ∗ KVs m c S)) := by
  unfold ld2 KVs
  rw [BP0, BP1]
  iintro ⟨-, -, H0, H1⟩
  iapply (W_use (st_load (c := c) (M := bM 0) (r := (l2R h).toLoadRect) (S := RS S) (f := KB m c 0) (q := fullShare)
    ((whole_setOn cc0_scratch0 (l2R h)).subset.trans (l2_rows S h hS)))) $$ [H0]
  · iexact H0
  iintro %v ⟨%hv, H0⟩
  iapply (W_use (st_load (c := c) (M := bM 1) (r := (l2R h).toLoadRect) (S := RS S) (f := KB m c 1) (q := fullShare)
    ((whole_setOn cc0_scratch1 (l2R h)).subset.trans (l2_rows S h hS)))) $$ [H1]
  · iexact H1
  iintro %w ⟨%hw, H1⟩
  iapply W_pure
  isplitr; · ipureintro; rw [hv, hw]; rfl
  isplitr; · iempintro
  isplitl [H0]; · iexact H0
  iexact H1

theorem ld3s (c : Dev nD) (S : Finset (Fin 5)) (i : Fin 7) (hS : ∀ q : Fin 5, i.val / 2 ≤ q.val → q.val ≤ (i.val + 2) / 2 → q ∈ S) :
    KVs m c S ⊢ W c (eight (ld3 i)) (fun v => iprop(⌜v = kv3 m c i⌝ ∗ KVs m c S)) := by
  have h := eight_step (c := c) (f := ld3 (F := F) i) iprop(emp) (fun _ => iprop(emp)) (fun _ => iprop(emp)) (KVs m c S) (fun j v => v = kv3 m c i j) (ld3_step m c S i hS)
  rw [bigSep_emps] at h
  iintro H
  iapply (W_last h) $$ [H]
  · isplitr; · iempintro
    isplitr; · iempintro
    iexact H
  iintro %r ⟨%hr, -, H⟩
  isplitr; · ipureintro; exact funext hr
  iexact H
theorem ld2s (c : Dev nD) (S : Finset (Fin 5)) (hS : 0 ∈ S) :
    KVs m c S ⊢ W c (eight ld2) (fun v => iprop(⌜v = kv2 m c⌝ ∗ KVs m c S)) := by
  have h := eight_step (c := c) (f := ld2 (F := F)) iprop(emp) (fun _ => iprop(emp)) (fun _ => iprop(emp)) (KVs m c S) (fun j v => v = kv2 m c j) (ld2_step m c S hS)
  rw [bigSep_emps] at h
  iintro H
  iapply (W_last h) $$ [H]
  · isplitr; · iempintro
    isplitr; · iempintro
    iexact H
  iintro %r ⟨%hr, -, H⟩
  isplitr; · ipureintro; exact funext hr
  iexact H

/-- Tile `t` before it is computed, -/
def TP (c : Dev nD) (t : Fin 8) : sProp 𝕄 :=
  iprop(some (F := F) c (outTile t) ∗ some (F := F) c (sTile t) ∗ (if t = c then iprop(emp) else iprop(some (F := F) t (rSlot c) ∗ tok c (kS1 t) 0 c ∗ tok t (kR1 c) 0 c)))
/-- and after. -/
def TQ (c : Dev nD) (t : Fin 8) : sProp 𝕄 :=
  iprop(hold (F := F) c (outTile t) (PT m c t) ∗ (if t = c then some (F := F) c (sTile t) else crd c (kS1 t)))

theorem stOut_step (c : Dev nD) (t : Fin 8) (p : Vec F S128x1024 .f32) :
    some (F := F) c (outTile t) ⊢ W c (stOut (128 * t.val) (t8_le t) p) (fun _ => hold (F := F) c (outTile t) p) := by
  unfold stOut
  iintro H
  ihave H := (some_elim c (outTile t)) $$ H
  icases H with ⟨%f, H⟩
  iapply (W_last (st_put (c := c) (M := outM) (r := tR t) (S := (outTile t).view.set) (f := f) (w := p) (Finset.Subset.refl _))) $$ [H]
  · iexact H
  iintro %_ H
  iapply (hold_intro c (outTile t) p _ (View.read_write_univ f p)); iexact H
theorem stS_step (c : Dev nD) (t : Fin 8) (p : Vec F S128x1024 .bf16) :
    some (F := F) c (sTile t) ⊢ W c (stS t p) (fun _ => hold (F := F) c (sTile t) p) := by
  unfold stS
  iintro H
  ihave H := (some_elim c (sTile t)) $$ H
  icases H with ⟨%f, H⟩
  iapply (W_last (st_put (c := c) (M := sM) (r := tR t) (S := (sTile t).view.set) (f := f) (w := p) (Finset.Subset.refl _))) $$ [H]
  · iexact H
  iintro %_ H
  iapply (hold_intro c (sTile t) p _ (View.read_write_univ f p)); iexact H

theorem D_s1 {c : Dev nD} {t : Fin 8} (h : c ≠ t) : D c (kS1 t) 0 = {c} := if_pos ⟨rfl, h.symm⟩
theorem D_r1 {c t : Dev nD} (h : c ≠ t) : D t (kR1 c) 0 = {c} := if_pos ⟨rfl, h⟩

theorem sendTile_step (c : Dev nD) (t : Fin 8) (js l) :
    iprop(ctx m K ∗ hold (F := F) c (sTile t) (ST m c t) ∗ (if t = c then iprop(emp) else iprop(some (F := F) t (rSlot c) ∗ tok c (kS1 t) 0 c ∗ tok t (kR1 c) 0 c))
        ∗ ow c (OWL c (fun j => (j, kR1 c)) (t :: js) l))
      ⊢ W c (sendTile c (wi c) t) (fun _ => iprop((if t = c then some (F := F) c (sTile t) else crd c (kS1 t)) ∗ ow c (OWL c (fun j => (j, kR1 c)) js l))) := by
  unfold sendTile
  rw [wi_eq]
  by_cases h : c = t
  · subst h
    rw [OWL_self, if_pos rfl, if_pos rfl]
    refine W_ifT (fun h => absurd rfl ((neB_iff c c).mp h)) fun _ => ?_
    iintro ⟨-, Hs, -, HO⟩
    isplitl [Hs]; · iapply (hold_some c (sTile c) _); iexact Hs
    iexact HO
  · rw [OWL_ne h, if_neg (fun e => h e.symm), if_neg (fun e => h e.symm)]
    refine W_ifT (fun _ => ?_) fun h' => absurd ((neB_iff c t).mpr h) h'
    iintro ⟨#HC, Hs, ⟨Hd, Ht1, Ht2⟩, HO⟩
    ihave Hs := (hold_elim c (sTile t) _) $$ Hs
    icases Hs with ⟨%fs, %hfs, Hs⟩
    ihave Hd := (some_elim t (rSlot c)) $$ Hd
    icases Hd with ⟨%fd, Hd⟩
    iapply (W_last (st_send m K (c := c) (c' := t) (k₁ := kS1 t) (k₂ := kR1 c) (r₁ := 0) (d := c) (l := OWL c (fun j => (j, kR1 c)) js l)
      (src := sTile t) (dst := rSlot c) (q := fullShare) (fs := fs) (fd := fd) rfl rfl (credit_rSlot _) rfl
      (D_s1 h) (D_r1 h) (some_intro c (sTile t) _) (hold_intro t (rSlot c) (ST m c t) _ ((View.read_write_univ _ _).trans hfs)))) $$ [Hs Hd HO Ht1 Ht2]
    · isplitr; · iexact HC
      isplitl [Hs]; · iexact Hs
      isplitl [Hd]; · iexact Hd
      isplitl [HO]; · iexact HO
      isplitl [Ht1]; · iexact Ht1
      isplitr; · iapply (ctx_reached m K (c, kS1 t)); iexact HC
      iexact Ht2
    iintro %_ H
    iexact H

theorem tile3_step (c : Dev nD) (S : Finset (Fin 5)) (i : Fin 7) (hS : ∀ q : Fin 5, i.val / 2 ≤ q.val → q.val ≤ (i.val + 2) / 2 → q ∈ S) (js l) :
    iprop(ctx m K ∗ KVs m c S ∗ TP (F := F) c i.succ ∗ ow c (OWL c (fun j => (j, kR1 c)) (i.succ :: js) l))
      ⊢ W c (tile3 c (xst m c) (wqst m c) (wost m c) i) (fun _ => iprop(KVs m c S ∗ TQ m c i.succ ∗ ow c (OWL c (fun j => (j, kR1 c)) js l))) := by
  unfold tile3 TP TQ
  iintro ⟨#HC, HK, ⟨Ho, Hs, Hd⟩, HO⟩
  iapply (W_use (ld3s m c S i hS)) $$ [HK]
  · iexact HK
  iintro %kv ⟨%hkv, HK⟩
  subst hkv
  iapply (W_use (stOut_step c i.succ (outPay3 i (xst m c) (wqst m c) (wost m c) (kv3 m c i)))) $$ [Ho]
  · iexact Ho
  iintro %_ Ho
  iapply (W_use (stS_step c i.succ (sPay3 i (xst m c) (wqst m c) (wost m c) (kv3 m c i)))) $$ [Hs]
  · iexact Hs
  iintro %_ Hs
  iapply (W_last (sendTile_step m K c i.succ js l)) $$ [Hs Hd HO]
  · isplitr; · iexact HC
    isplitl [Hs]; · iexact Hs
    isplitl [Hd]; · iexact Hd
    iexact HO
  iintro %_ ⟨Hc, HO⟩
  isplitl [HK]; · iexact HK
  isplitl [Ho Hc]
  · isplitl [Ho]; · iexact Ho
    iexact Hc
  iexact HO

theorem tile2_step (c : Dev nD) (S : Finset (Fin 5)) (hS : 0 ∈ S) (js l) :
    iprop(ctx m K ∗ KVs m c S ∗ TP (F := F) c 0 ∗ ow c (OWL c (fun j => (j, kR1 c)) (0 :: js) l))
      ⊢ W c (tile2 c (xst m c) (wqst m c) (wost m c)) (fun _ => iprop(KVs m c S ∗ TQ m c 0 ∗ ow c (OWL c (fun j => (j, kR1 c)) js l))) := by
  unfold tile2 TP TQ
  iintro ⟨#HC, HK, ⟨Ho, Hs, Hd⟩, HO⟩
  iapply (W_use (ld2s m c S hS)) $$ [HK]
  · iexact HK
  iintro %kv ⟨%hkv, HK⟩
  subst hkv
  iapply (W_use (stOut_step c 0 (outPay2 (xst m c) (wqst m c) (wost m c) (kv2 m c)))) $$ [Ho]
  · iexact Ho
  iintro %_ Ho
  iapply (W_use (stS_step c 0 (sPay2 (xst m c) (wqst m c) (wost m c) (kv2 m c)))) $$ [Hs]
  · iexact Hs
  iintro %_ Hs
  iapply (W_last (sendTile_step m K c 0 js l)) $$ [Hs Hd HO]
  · isplitr; · iexact HC
    isplitl [Hs]; · iexact Hs
    isplitl [Hd]; · iexact Hd
    iexact HO
  iintro %_ ⟨Hc, HO⟩
  isplitl [HK]; · iexact HK
  isplitl [Ho Hc]
  · isplitl [Ho]; · iexact Ho
    iexact Hc
  iexact HO

end Cert.KernelIdeal
end
-- ==== Proof.Sum.lean ====
/-
  The eight query tiles together, and this device's tile summed.
-/
module

public import proofs.«01_k».proof.Proof.Tiles

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CK → ℕ)

theorem OWL_lvl {c : Dev nD} {f : Fin 8 → Dev nD × CK} {js : List (Fin 8)} {l : List (Dev nD × CK)} {n : ℕ} (hf : ∀ j, n < lvl (f j).2) (hl : ∀ e ∈ l, n < lvl e.2) :
    ∀ e ∈ OWL c f js l, n < lvl e.2 := by
  intro e he
  rcases OWL_mem he with ⟨j, rfl⟩ | h
  · exact hf j
  · exact hl e h

/-- What the tiles' sends are owed by. -/
abbrev fR1 (c : Dev nD) (j : Fin 8) : Dev nD × CK := (j, kR1 c)
@[inherit_doc fR1] abbrev fR2 (c : Dev nD) (j : Fin 8) : Dev nD × CK := (j, kR2 c)

theorem recvStep_0 (c : Dev nD) (l) (hl : ∀ e ∈ l, 2 < lvl e.2) :
    iprop(ctx m K ∗ Pend m c 0 ∗ Pend m c 1 ∗ ow c l) ⊢ W c (recvStep c 0) (fun _ => iprop(Got m c 0 ∗ Got m c 1 ∗ ow c l)) :=
  recv_two m K c (neB c 0) 0 (neB_iff c 0) 0 1 rfl rfl l hl
theorem recvStep_1 (c : Dev nD) (l) (hl : ∀ e ∈ l, 2 < lvl e.2) :
    iprop(ctx m K ∗ Pend m c 2 ∗ Pend m c 3 ∗ ow c l) ⊢ W c (recvStep c 1) (fun _ => iprop(Got m c 2 ∗ Got m c 3 ∗ ow c l)) :=
  recv_two m K c (neB c 0) 0 (neB_iff c 0) 2 3 rfl rfl l hl
theorem recvStep_2 (c : Dev nD) (l) (hl : ∀ e ∈ l, 2 < lvl e.2) :
    iprop(ctx m K ∗ Pend m c 4 ∗ Pend m c 5 ∗ ow c l) ⊢ W c (recvStep c 2) (fun _ => iprop(Got m c 4 ∗ Got m c 5 ∗ ow c l)) :=
  recv_two m K c (neB c 0) 0 (neB_iff c 0) 4 5 rfl rfl l hl
theorem recvStep_3 (c : Dev nD) (l) (hl : ∀ e ∈ l, 2 < lvl e.2) :
    iprop(ctx m K ∗ Pend m c 6 ∗ Pend m c 7 ∗ ow c l) ⊢ W c (recvStep c 3) (fun _ => iprop(Got m c 6 ∗ Got m c 7 ∗ ow c l)) :=
  recv_two m K c (neB c 0) 0 (neB_iff c 0) 6 7 rfl rfl l hl
theorem recvStep1_step (c : Dev nD) (l) (hl : ∀ e ∈ l, 2 < lvl e.2) :
    iprop(ctx m K ∗ Pend m c 8 ∗ Pend m c 9 ∗ ow c l) ⊢ W c (recvStep1 c) (fun _ => iprop(Got m c 8 ∗ Got m c 9 ∗ ow c l)) :=
  recv_two m K c (neB c 1) 1 (neB_iff c 1) 8 9 rfl rfl l hl

theorem tiles_step (c : Dev nD) (l) (hl : ∀ e ∈ l, 2 < lvl e.2) :
    iprop(ctx m K ∗ KVs m c {4} ∗ (Pend m c 0 ∗ Pend m c 1 ∗ Pend m c 2 ∗ Pend m c 3 ∗ Pend m c 4 ∗ Pend m c 5 ∗ Pend m c 6 ∗ Pend m c 7)
        ∗ bigSep Finset.univ (TP (F := F) c) ∗ ow c (OWL c (fR1 c) all8 l))
      ⊢ W c (tiles c (xst m c) (wqst m c) (wost m c)) (fun _ => iprop(KVs m c (insert 3 (insert 2 (insert 1 (insert 0 (singleton 4)))))
        ∗ (posGr c 0 ∗ posGr c 1 ∗ posGr c 2 ∗ posGr c 3 ∗ posGr c 4 ∗ posGr c 5 ∗ posGr c 6 ∗ posGr c 7) ∗ bigSep Finset.univ (TQ m c) ∗ ow c l)) := by
  unfold tiles
  rw [fin8, fin8]
  simp only [forL, all8]
  have hf : ∀ j, 2 < lvl (fR1 c j).2 := fun _ => by show 2 < 3; decide
  iintro ⟨#HC, HK, ⟨P0, P1, P2, P3, P4, P5, P6, P7⟩, ⟨T0, T1, T2, T3, T4, T5, T6, T7⟩, HO⟩
  iapply (W_use (recvStep_0 m K c (OWL c (fR1 c) [0, 1, 2, 3, 4, 5, 6, 7] l) (OWL_lvl hf hl))) $$ [P0 P1 HO]
  · isplitr; · iexact HC
    isplitl [P0]; · iexact P0
    isplitl [P1]; · iexact P1
    iexact HO
  iintro %_ ⟨P0, P1, HO⟩
  ihave HK := (kv_more m c 0 (singleton 4) (by decide)) $$ [HK P0 P1]
  · isplitl [HK]; · iexact HK
    isplitl [P0]; · iexact P0
    iexact P1
  icases HK with ⟨HK, P0, P1⟩
  iapply (W_use (tile2_step m K c (insert 0 (singleton 4)) (by decide) [1, 2, 3, 4, 5, 6, 7] l)) $$ [HK T0 HO]
  · isplitr; · iexact HC
    isplitl [HK]; · iexact HK
    isplitl [T0]; · iexact T0
    iexact HO
  iintro %_ ⟨HK, T0, HO⟩
  iapply (W_use (recvStep_1 m K c (OWL c (fR1 c) [1, 2, 3, 4, 5, 6, 7] l) (OWL_lvl hf hl))) $$ [P2 P3 HO]
  · isplitr; · iexact HC
    isplitl [P2]; · iexact P2
    isplitl [P3]; · iexact P3
    iexact HO
  iintro %_ ⟨P2, P3, HO⟩
  ihave HK := (kv_more m c 1 (insert 0 (singleton 4)) (by decide)) $$ [HK P2 P3]
  · isplitl [HK]; · iexact HK
    isplitl [P2]; · iexact P2
    iexact P3
  icases HK with ⟨HK, P2, P3⟩
  iapply (W_use (p := (do tile3 c (xst m c) (wqst m c) (wost m c) 0; tile3 c (xst m c) (wqst m c) (wost m c) 1; pure PUnit.unit : PG F PUnit)) (R := fun _ => iprop(KVs m c (insert 1 (insert 0 (singleton 4))) ∗ (TQ m c 1 ∗ TQ m c 2) ∗ ow c (OWL c (fR1 c) [3, 4, 5, 6, 7] l))) Entails.rfl) $$ [HK T1 T2 HO]
  · iapply (W_use (tile3_step m K c (insert 1 (insert 0 (singleton 4))) 0 (by decide) [2, 3, 4, 5, 6, 7] l)) $$ [HK T1 HO]
    · isplitr; · iexact HC
      isplitl [HK]; · iexact HK
      isplitl [T1]; · iexact T1
      iexact HO
    iintro %_ ⟨HK, T1, HO⟩
    iapply (W_use (tile3_step m K c (insert 1 (insert 0 (singleton 4))) 1 (by decide) [3, 4, 5, 6, 7] l)) $$ [HK T2 HO]
    · isplitr; · iexact HC
      isplitl [HK]; · iexact HK
      isplitl [T2]; · iexact T2
      iexact HO
    iintro %_ ⟨HK, T2, HO⟩
    iapply W_pure
    isplitl [HK]; · iexact HK
    isplitr [HO]
    · isplitl [T1]; · iexact T1
      iexact T2
    iexact HO
  iintro %_ ⟨HK, ⟨T1, T2⟩, HO⟩
  iapply (W_use (recvStep_2 m K c (OWL c (fR1 c) [3, 4, 5, 6, 7] l) (OWL_lvl hf hl))) $$ [P4 P5 HO]
  · isplitr; · iexact HC
    isplitl [P4]; · iexact P4
    isplitl [P5]; · iexact P5
    iexact HO
  iintro %_ ⟨P4, P5, HO⟩
  ihave HK := (kv_more m c 2 (insert 1 (insert 0 (singleton 4))) (by decide)) $$ [HK P4 P5]
  · isplitl [HK]; · iexact HK
    isplitl [P4]; · iexact P4
    iexact P5
  icases HK with ⟨HK, P4, P5⟩
  iapply (W_use (p := (do tile3 c (xst m c) (wqst m c) (wost m c) 2; tile3 c (xst m c) (wqst m c) (wost m c) 3; pure PUnit.unit : PG F PUnit)) (R := fun _ => iprop(KVs m c (insert 2 (insert 1 (insert 0 (singleton 4)))) ∗ (TQ m c 3 ∗ TQ m c 4) ∗ ow c (OWL c (fR1 c) [5, 6, 7] l))) Entails.rfl) $$ [HK T3 T4 HO]
  · iapply (W_use (tile3_step m K c (insert 2 (insert 1 (insert 0 (singleton 4)))) 2 (by decide) [4, 5, 6, 7] l)) $$ [HK T3 HO]
    · isplitr; · iexact HC
      isplitl [HK]; · iexact HK
      isplitl [T3]; · iexact T3
      iexact HO
    iintro %_ ⟨HK, T3, HO⟩
    iapply (W_use (tile3_step m K c (insert 2 (insert 1 (insert 0 (singleton 4)))) 3 (by decide) [5, 6, 7] l)) $$ [HK T4 HO]
    · isplitr; · iexact HC
      isplitl [HK]; · iexact HK
      isplitl [T4]; · iexact T4
      iexact HO
    iintro %_ ⟨HK, T4, HO⟩
    iapply W_pure
    isplitl [HK]; · iexact HK
    isplitr [HO]
    · isplitl [T3]; · iexact T3
      iexact T4
    iexact HO
  iintro %_ ⟨HK, ⟨T3, T4⟩, HO⟩
  iapply (W_use (recvStep_3 m K c (OWL c (fR1 c) [5, 6, 7] l) (OWL_lvl hf hl))) $$ [P6 P7 HO]
  · isplitr; · iexact HC
    isplitl [P6]; · iexact P6
    isplitl [P7]; · iexact P7
    iexact HO
  iintro %_ ⟨P6, P7, HO⟩
  ihave HK := (kv_more m c 3 (insert 2 (insert 1 (insert 0 (singleton 4)))) (by decide)) $$ [HK P6 P7]
  · isplitl [HK]; · iexact HK
    isplitl [P6]; · iexact P6
    iexact P7
  icases HK with ⟨HK, P6, P7⟩
  iapply (W_last (p := (do tile3 c (xst m c) (wqst m c) (wost m c) 4; tile3 c (xst m c) (wqst m c) (wost m c) 5; tile3 c (xst m c) (wqst m c) (wost m c) 6; pure PUnit.unit : PG F PUnit)) (R := fun _ => iprop(KVs m c (insert 3 (insert 2 (insert 1 (insert 0 (singleton 4))))) ∗ (TQ m c 5 ∗ TQ m c 6 ∗ TQ m c 7) ∗ ow c (OWL c (fR1 c) [] l))) Entails.rfl) $$ [HK T5 T6 T7 HO]
  · iapply (W_use (tile3_step m K c (insert 3 (insert 2 (insert 1 (insert 0 (singleton 4))))) 4 (by decide) [6, 7] l)) $$ [HK T5 HO]
    · isplitr; · iexact HC
      isplitl [HK]; · iexact HK
      isplitl [T5]; · iexact T5
      iexact HO
    iintro %_ ⟨HK, T5, HO⟩
    iapply (W_use (tile3_step m K c (insert 3 (insert 2 (insert 1 (insert 0 (singleton 4))))) 5 (by decide) [7] l)) $$ [HK T6 HO]
    · isplitr; · iexact HC
      isplitl [HK]; · iexact HK
      isplitl [T6]; · iexact T6
      iexact HO
    iintro %_ ⟨HK, T6, HO⟩
    iapply (W_use (tile3_step m K c (insert 3 (insert 2 (insert 1 (insert 0 (singleton 4))))) 6 (by decide) [] l)) $$ [HK T7 HO]
    · isplitr; · iexact HC
      isplitl [HK]; · iexact HK
      isplitl [T7]; · iexact T7
      iexact HO
    iintro %_ ⟨HK, T7, HO⟩
    iapply W_pure
    isplitl [HK]; · iexact HK
    isplitr [HO]
    · isplitl [T5]; · iexact T5
      isplitl [T6]; · iexact T6
      iexact T7
    iexact HO
  iintro %_ ⟨HK, ⟨T5, T6, T7⟩, HO⟩
  isplitl [HK]; · iexact HK
  isplitl [P0 P1 P2 P3 P4 P5 P6 P7]
  · isplitl [P0]; · iexact P0
    isplitl [P1]; · iexact P1
    isplitl [P2]; · iexact P2
    isplitl [P3]; · iexact P3
    isplitl [P4]; · iexact P4
    isplitl [P5]; · iexact P5
    isplitl [P6]; · iexact P6
    iexact P7
  isplitr [HO]
  · isplitl [T0]; · iexact T0
    isplitl [T1]; · iexact T1
    isplitl [T2]; · iexact T2
    isplitl [T3]; · iexact T3
    isplitl [T4]; · iexact T4
    isplitl [T5]; · iexact T5
    isplitl [T6]; · iexact T6
    iexact T7
  iexact HO

/-! ## The sum -/

/-- What stands for device `j` in device `c`'s sum. -/
def pk (c : Dev nD) (own : Vec F S128x1024 .f32) (r : Fin 8 → Vec F S1x128x1024 .bf16) (j : Fin 8) : FVec F S128x1024 .f32 :=
  Scalar.select (Scalar.cmpi .eq (v2 c) (BitVec.ofNat 32 j.val)) (k0_pay189 own) (extf .f32 (shapeCast S128x1024 (r j) shapeCasts_S1x128x1024_S128x1024) bitsLt_bf16_f32)
theorem accPay_eq (c : Dev nD) (own : Vec F S128x1024 .f32) (r : Fin 8 → Vec F S1x128x1024 .bf16) :
    accPay c own r = addf (addf (addf (addf (addf (addf (addf (addf (k0_pay190 (F := F)) (pk c own r 0)) (pk c own r 1)) (pk c own r 2)) (pk c own r 3)) (pk c own r 4)) (pk c own r 5)) (pk c own r 6)) (pk c own r 7) := rfl
theorem accPayB_eq (c : Dev nD) (own : Vec F S128x1024 .f32) (r : Fin 8 → Vec F S1x128x1024 .bf16) :
    accPayB c own r = shapeCast S128x1024 (truncf .bf16 (accPay c own r) bitsLt_bf16_f32) shapeCasts_S128x1024_S128x1024 := rfl
theorem eq_word : ∀ (c j : Fin 8), Scalar.cmpi .eq (v2 c) (BitVec.ofNat 32 j.val) = 1#1 ↔ c = j := by decide
theorem pk_congr (c : Dev nD) (own : Vec F S128x1024 .f32) (r r' : Fin 8 → Vec F S1x128x1024 .bf16) (h : ∀ j, c ≠ j → r j = r' j) (j : Fin 8) : pk c own r j = pk c own r' j := by
  unfold pk Scalar.select
  by_cases e : c = j
  · have e1 : Scalar.cmpi .eq (v2 c) (BitVec.ofNat 32 j.val) = 1 := (eq_word c j).mpr e
    rw [if_pos e1, if_pos e1]
  · rw [h j e]
theorem accPay_congr (c : Dev nD) (own : Vec F S128x1024 .f32) (r r' : Fin 8 → Vec F S1x128x1024 .bf16) (h : ∀ j, c ≠ j → r j = r' j) : accPay c own r = accPay c own r' := by
  rw [accPay_eq, accPay_eq]
  simp only [pk_congr c own r r' h]
theorem accPayB_congr (c : Dev nD) (own : Vec F S128x1024 .f32) (r r' : Fin 8 → Vec F S1x128x1024 .bf16) (h : ∀ j, c ≠ j → r j = r' j) : accPayB c own r = accPayB c own r' := by
  rw [accPayB_eq, accPayB_eq, accPay_congr c own r r' h]

theorem rSlot_set (j : Fin 8) : (rSlot j).view.set = (sR j).set := by
  show ((rM.view.slice (sR j)).reshape _ _).set = _
  rw [View.set_reshape, View.set_slice_whole]
theorem gSlot_set (j : Fin 8) : (gSlot j).view.set = (sR j).set := by
  show ((gM.view.slice (sR j)).reshape _ _).set = _
  rw [View.set_reshape, View.set_slice_whole]

theorem D_r1' {c : Dev nD} {j : Fin 8} (h : c ≠ j) : D c (kR1 j) 0 = {j} := if_pos ⟨rfl, h.symm⟩
theorem D_r2' {c : Dev nD} {j : Fin 8} (h : c ≠ j) : D c (kR2 j) 0 = {j} := if_pos ⟨rfl, h.symm⟩
theorem D_s2 {c : Dev nD} {j : Fin 8} (h : c ≠ j) : D c (kS2 j) 0 = {c} := if_pos ⟨rfl, h.symm⟩
theorem D_r2 {c j : Dev nD} (h : c ≠ j) : D j (kR2 c) 0 = {c} := if_pos ⟨rfl, h⟩
theorem Pay_r1 (c : Dev nD) (j : Fin 8) (r : ℕ) (d : Fin 8) : Pay m c (kR1 j) r d ⊢ hold (F := F) c (rSlot j) (ST m j c) := Entails.of_eq rfl
theorem Pay_r2 (c : Dev nD) (j : Fin 8) (r : ℕ) (d : Fin 8) : Pay m c (kR2 j) r d ⊢ hold (F := F) c (gSlot j) (AB m j) := Entails.of_eq rfl
theorem Pay_s1 (c : Dev nD) (j : Fin 8) (r : ℕ) (d : Fin 8) : Pay m c (kS1 j) r d ⊢ some (F := F) c (sTile j) := Entails.of_eq rfl
theorem Pay_s2 (c : Dev nD) (j : Fin 8) (r : ℕ) (d : Fin 8) : Pay m c (kS2 j) r d ⊢ (aM.view.loc (c : Thread nD τ) ↦[aM.view.set]{sh j} AB m c) := Entails.of_eq rfl

theorem read_slot (c : Dev nD) (j : Fin 8) (f : rM.view.ty.Contents (Elt F)) (hf : (rSlot j).view.read (Elt F) f = ST m j c) :
    rM.view.readAt (Elt F) (sR j).toLoadRect f = RV m c j := by
  unfold RV
  refine View.readAt_congr fun i hi => ?_
  rw [whole_setOn cc0_scratch6 (sR j), ← rSlot_set] at hi
  exact eq_of_read_eq (v := (rSlot j).view) (hf.trans (View.read_write_univ _ _).symm) i hi
theorem read_gslot (c : Dev nD) (j : Fin 8) (f : gM.view.ty.Contents (Elt F)) (hf : (gSlot j).view.read (Elt F) f = AB m j) :
    gM.view.readAt (Elt F) (sR j).toLoadRect f = GV m c j := by
  unfold GV
  refine View.readAt_congr fun i hi => ?_
  rw [whole_setOn cc0_scratch7 (sR j), ← gSlot_set] at hi
  exact eq_of_read_eq (v := (gSlot j).view) (hf.trans (View.read_write_univ _ _).symm) i hi

/-- Where the cells of one round stand in the end. -/
def fr (c j : Fin 8) : ℕ := if j = c then 0 else 1

theorem fr_self (c : Fin 8) : fr c c = 0 := if_pos rfl
theorem fr_ne {c j : Fin 8} (h : c ≠ j) : fr c j = 1 := if_neg h.symm

/-- Slot `j` of the received partials, awaited; its own is not used. -/
def RP (c : Dev nD) (j : Fin 8) : sProp 𝕄 := iprop(pos c (kR1 j) 0 ∗ (if j = c then some (F := F) c (rSlot c) else crd c (kR1 j)))
/-- Slot `j`, read. -/
def RQ (c : Dev nD) (j : Fin 8) : sProp 𝕄 := iprop(pos c (kR1 j) (fr c j) ∗ some (F := F) c (rSlot j))

theorem rslot_load (c : Dev nD) (j : Fin 8) (f : rM.view.ty.Contents (Elt F)) :
    Pts (F := F) c (rSlot j) f ⊢ W c (Prog.lift (.load rM (sR j).toLoadRect (View.loadsAt_vmem h_S1x128x1024)) : PG F _)
      (fun v => iprop(⌜v = rM.view.readAt (Elt F) (sR j).toLoadRect f⌝ ∗ Pts (F := F) c (rSlot j) f)) :=
  st_load (c := c) (M := rM) (r := (sR j).toLoadRect) (S := (rSlot j).view.set) (f := f) (q := fullShare) (by rw [rSlot_set]; exact (whole_setOn cc0_scratch6 (sR j)).subset)
theorem gslot_load (c : Dev nD) (j : Fin 8) (f : gM.view.ty.Contents (Elt F)) :
    Pts (F := F) c (gSlot j) f ⊢ W c (Prog.lift (.load gM (sR j).toLoadRect (View.loadsAt_vmem h_S1x128x1024)) : PG F _)
      (fun v => iprop(⌜v = gM.view.readAt (Elt F) (sR j).toLoadRect f⌝ ∗ Pts (F := F) c (gSlot j) f)) :=
  st_load (c := c) (M := gM) (r := (sR j).toLoadRect) (S := (gSlot j).view.set) (f := f) (q := fullShare) (by rw [gSlot_set]; exact (whole_setOn cc0_scratch7 (sR j)).subset)

theorem waitR1_step (c : Dev nD) (j : Fin 8) (l) (hl : ∀ e ∈ l, 3 < lvl e.2) :
    iprop(ctx m K ∗ RP (F := F) c j ∗ ow c l)
      ⊢ W c (waitR1 c j) (fun _ => iprop((pos c (kR1 j) (fr c j) ∗ (if j = c then some (F := F) c (rSlot c) else hold (F := F) c (rSlot j) (ST m j c))) ∗ ow c l)) := by
  unfold waitR1 RP
  by_cases h : c = j
  · subst h
    rw [if_pos rfl, if_pos rfl, fr_self]
    refine W_ifT (fun h => absurd rfl ((neB_iff c c).mp h)) fun _ => ?_
    iintro ⟨-, H, HO⟩
    isplitl [H]; · iexact H
    iexact HO
  · rw [if_neg (fun e => h e.symm), if_neg (fun e => h e.symm), fr_ne h]
    refine W_ifT (fun _ => ?_) fun h' => absurd ((neB_iff c j).mpr h) h'
    iintro ⟨#HC, ⟨Hp, Hc⟩, HO⟩
    iapply (W_last (st_wait m K (c := c) (k := kR1 j) (r := 0) (d := j) (l := l) rfl (credit_rSlot _) (D_r1' h) hl)) $$ [Hp Hc HO]
    · isplitr; · iexact HC
      isplitl [Hc]; · iexact Hc
      isplitl [Hp]; · iexact Hp
      iexact HO
    iintro %_ ⟨Hp, -, Hpay, HO⟩
    isplitr [HO]
    · isplitl [Hp]; · iexact Hp
      iapply (Pay_r1 m c j 0 j); iexact Hpay
    iexact HO

theorem redStep_step (c : Dev nD) (l) (hl : ∀ e ∈ l, 3 < lvl e.2) (j : Fin 8) :
    iprop(ctx m K ∗ RP (F := F) c j ∗ ow c l)
      ⊢ W c (redStep c j) (fun v => iprop(⌜c ≠ j → v = RV m c j⌝ ∗ RQ (F := F) c j ∗ ow c l)) := by
  unfold redStep RQ
  by_cases h : c = j
  · subst h
    iintro H
    iapply (W_use (waitR1_step m K c c l hl)) $$ H
    iintro %_ ⟨⟨Hp, H⟩, HO⟩
    ihave H := (Entails.of_eq (if_pos (rfl : c = c))) $$ H
    ihave H := (some_elim c (rSlot c)) $$ H
    icases H with ⟨%f, H⟩
    iapply (W_last (rslot_load c c f)) $$ [H]
    · iexact H
    iintro %v ⟨-, H⟩
    isplitr; · ipureintro; intro h; exact absurd rfl h
    isplitr [HO]
    · isplitl [Hp]; · iexact Hp
      iapply (some_intro c (rSlot c) f); iexact H
    iexact HO
  · iintro H
    iapply (W_use (waitR1_step m K c j l hl)) $$ H
    iintro %_ ⟨⟨Hp, H⟩, HO⟩
    ihave H := (Entails.of_eq (if_neg (fun e : j = c => h e.symm))) $$ H
    ihave H := (hold_elim c (rSlot j) _) $$ H
    icases H with ⟨%f, %hf, H⟩
    iapply (W_last (rslot_load c j f)) $$ [H]
    · iexact H
    iintro %v ⟨%hv, H⟩
    isplitr; · ipureintro; intro _; exact hv.trans (read_slot m c j f hf)
    isplitr [HO]
    · isplitl [Hp]; · iexact Hp
      iapply (some_intro c (rSlot j) f); iexact H
    iexact HO

theorem reduce_step (c : Dev nD) (o : Nat) (ho : o + 128 ≤ 1024) (e : o = 128 * c.val) (l) (hl : ∀ e ∈ l, 3 < lvl e.2) :
    iprop(ctx m K ∗ hold (F := F) c (outTile c) (PT m c c) ∗ bigSep Finset.univ (RP (F := F) c) ∗ some (F := F) c aM ∗ ow c l)
      ⊢ W c (reduce c o ho) (fun _ => iprop(hold (F := F) c (outTile c) (AC m c) ∗ bigSep Finset.univ (RQ (F := F) c) ∗ Pts (F := F) c aM (AB m c) ∗ ow c l)) := by
  subst e
  unfold reduce
  iintro ⟨#HC, Ho, HR, Ha, HO⟩
  ihave Ho := (hold_elim c (outTile c) _) $$ Ho
  icases Ho with ⟨%f, %hf, Ho⟩
  iapply (W_use (st_load (c := c) (M := outM) (r := (tR c).toLoadRect) (S := (outTile c).view.set) (f := f) (q := fullShare) ((View.set_slice outM.view (tR c)).symm.subset))) $$ [Ho]
  · iexact Ho
  iintro %own ⟨%hown, Ho⟩
  have hown' : own = PT m c c := hown.trans hf
  subst hown'
  iapply (W_use (eight_step (c := c) (f := redStep (F := F) c) (ctx m K) (RP (F := F) c) (RQ (F := F) c) (ow c l) (fun j v => c ≠ j → v = RV m c j) (redStep_step m K c l hl))) $$ [HR HO]
  · isplitr; · iexact HC
    isplitl [HR]; · iexact HR
    iexact HO
  iintro %r ⟨%hr, HR, HO⟩
  rw [accPay_congr c (PT m c c) r (RV m c) hr, accPayB_congr c (PT m c c) r (RV m c) hr]
  iapply (W_use (stOut_step c c (accPay c (PT m c c) (RV m c)))) $$ [Ho]
  · iapply (some_intro c (outTile c) f); iexact Ho
  iintro %_ Ho
  ihave Ha := (some_elim c aM) $$ Ha
  icases Ha with ⟨%fa, Ha⟩
  iapply (W_last (st_put (c := c) (M := aM) (r := Rect.unit (s := S128x1024) ![0, 0] S128x1024.size inb_S128x1024_S128x1024_0_0) (S := aM.view.set) (f := fa)
    (w := accPayB c (PT m c c) (RV m c)) (by rw [View.set_whole]; exact Finset.subset_univ _))) $$ [Ha]
  · iexact Ha
  iintro %_ Ha
  isplitl [Ho]; · iexact Ho
  isplitl [HR]; · iexact HR
  isplitl [Ha]
  · iapply (Entails.of_eq (congrArg (Pts (F := F) c aM) (Memref.write_access_unit_zero_univ (Elt F) cc0_scratch5 (by decide) inb_S128x1024_S128x1024_0_0 fa (accPayB c (PT m c c) (RV m c)))))
    iexact Ha
  iexact HO

end Cert.KernelIdeal
end
-- ==== Proof.Sum2.lean ====
/-
  The sums sent round, received and awaited.
-/
module

public import proofs.«01_k».proof.Proof.Sum

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CK → ℕ)

theorem aM_leaves (c : Dev nD) : Pts (F := F) c aM (AB m c) = bigSep Finset.univ fun j : Fin 8 => (aM.view.loc (c : Thread nD τ) ↦[aM.view.set]{sh j} AB m c) :=
  ShareLeaves.pointsTo_leaves _ _ 3 fullShare

/-- The sum's buffer, the slice of it that goes to device `j`. -/
def AP (c : Dev nD) (j : Fin 8) : sProp 𝕄 := (aM.view.loc (c : Thread nD τ) ↦[aM.view.set]{sh j} AB m c)
/-- What it takes to send the sum to device `j`. -/
def SP (c : Dev nD) (j : Fin 8) : sProp 𝕄 :=
  iprop(AP m c j ∗ (if j = c then iprop(emp) else iprop(some (F := F) j (gSlot c) ∗ tok c (kS2 j) 0 c ∗ tok j (kR2 c) 0 c)))
/-- The sum sent. -/
def SQ (c : Dev nD) (j : Fin 8) : sProp 𝕄 := if j = c then AP m c j else crd c (kS2 j)

theorem sendSum_one (c : Dev nD) (j : Fin 8) (js l) :
    iprop(ctx m K ∗ SP m c j ∗ ow c (OWL c (fR2 c) (j :: js) l))
      ⊢ W c (sendSum c (wi c) j) (fun _ => iprop(SQ m c j ∗ ow c (OWL c (fR2 c) js l))) := by
  unfold sendSum SP SQ AP
  rw [wi_eq]
  by_cases h : c = j
  · subst h
    rw [OWL_self, if_pos rfl, if_pos rfl]
    refine W_ifT (fun h => absurd rfl ((neB_iff c c).mp h)) fun _ => ?_
    iintro ⟨-, ⟨Hs, -⟩, HO⟩
    isplitl [Hs]; · iexact Hs
    iexact HO
  · rw [OWL_ne h, if_neg (fun e => h e.symm), if_neg (fun e => h e.symm)]
    refine W_ifT (fun _ => ?_) fun h' => absurd ((neB_iff c j).mpr h) h'
    iintro ⟨#HC, ⟨Hs, Hd, Ht1, Ht2⟩, HO⟩
    ihave Hd := (some_elim j (gSlot c)) $$ Hd
    icases Hd with ⟨%fd, Hd⟩
    iapply (W_last (st_send m K (c := c) (c' := j) (k₁ := kS2 j) (k₂ := kR2 c) (r₁ := 0) (d := c) (l := OWL c (fR2 c) js l)
      (src := aM) (dst := gSlot c) (q := sh j) (fs := AB m c) (fd := fd) rfl rfl (credit_gSlot _) rfl
      (D_s2 h) (D_r2 h) (Entails.of_eq rfl) (hold_intro j (gSlot c) (AB m c) _ (View.read_write_univ _ _)))) $$ [Hs Hd HO Ht1 Ht2]
    · isplitr; · iexact HC
      isplitl [Hs]; · iexact Hs
      isplitl [Hd]; · iexact Hd
      isplitl [HO]; · iexact HO
      isplitl [Ht1]; · iexact Ht1
      isplitr; · iapply (ctx_reached m K (c, kS2 j)); iexact HC
      iexact Ht2
    iintro %_ H
    iexact H

theorem sendSums (c : Dev nD) (l) :
    iprop(ctx m K ∗ bigSep Finset.univ (SP m c) ∗ ow c (OWL c (fR2 c) all8 l))
      ⊢ W c (forL (sendSum c (wi c)) all8) (fun _ => iprop(bigSep Finset.univ (SQ m c) ∗ ow c l)) := by
  have h := W_loop (c := c) (step := sendSum (F := F) c (wi c)) (ctx m K) (SP m c) (SQ m c) (fun js => ow c (OWL c (fR2 c) js l)) (fun _ => True)
    (fun j js _ => sendSum_one m K c j js l) all8 nodup_all8 (fun _ _ => trivial)
  rw [toFinset_all8] at h
  exact h

/-- Tile `j` of the result awaited; this device's own is there. -/
def GP (c : Dev nD) (j : Fin 8) : sProp 𝕄 :=
  iprop(pos c (kR2 j) 0 ∗ (if j = c then iprop(hold (F := F) c (outTile c) (AC m c) ∗ some (F := F) c (gSlot c)) else iprop(some (F := F) c (outTile j) ∗ crd c (kR2 j))))
/-- Tile `j` of the result there. -/
def GQ (c : Dev nD) (j : Fin 8) : sProp 𝕄 :=
  iprop(pos c (kR2 j) (fr c j) ∗ hold (F := F) c (outTile j) (OT m c j) ∗ some (F := F) c (gSlot j))

theorem gather_one (c : Dev nD) (j : Fin 8) : iprop(ctx m K ∗ GP m c j ∗ ow c []) ⊢ W c (gather c j) (fun _ => iprop(GQ m c j ∗ ow c [])) := by
  unfold gather GP GQ OT
  by_cases h : c = j
  · subst h
    rw [if_pos rfl, if_pos rfl, fr_self]
    refine W_ifT (fun h => absurd rfl ((neB_iff c c).mp h)) fun _ => ?_
    iintro ⟨-, ⟨Hp, Ho, Hg⟩, HO⟩
    isplitr [HO]
    · isplitl [Hp]; · iexact Hp
      isplitl [Ho]; · iexact Ho
      iexact Hg
    iexact HO
  · rw [if_neg (fun e => h e.symm), if_neg (fun e => h e.symm), fr_ne h]
    refine W_ifT (fun _ => ?_) fun h' => absurd ((neB_iff c j).mpr h) h'
    iintro ⟨#HC, ⟨Hp, Ho, Hc⟩, HO⟩
    iapply (W_use (st_wait m K (c := c) (k := kR2 j) (r := 0) (d := j) (l := []) rfl (credit_gSlot _) (D_r2' h) (fun e he => absurd he List.not_mem_nil))) $$ [Hp Hc HO]
    · isplitr; · iexact HC
      isplitl [Hc]; · iexact Hc
      isplitl [Hp]; · iexact Hp
      iexact HO
    iintro %_ ⟨Hp, -, Hpay, HO⟩
    ihave Hpay := (Pay_r2 m c j 0 j) $$ Hpay
    ihave Hpay := (hold_elim c (gSlot j) _) $$ Hpay
    icases Hpay with ⟨%f, %hf, Hg⟩
    iapply (W_use (gslot_load c j f)) $$ [Hg]
    · iexact Hg
    iintro %v ⟨%hv, Hg⟩
    have hv' : v = GV m c j := hv.trans (read_gslot m c j f hf)
    subst hv'
    iapply (W_last (stOut_step c j (k0_pay196 (GV m c j)))) $$ [Ho]
    · iexact Ho
    iintro %_ Ho
    isplitr [HO]
    · isplitl [Hp]; · iexact Hp
      isplitl [Ho]; · iexact Ho
      iapply (some_intro c (gSlot j) f); iexact Hg
    iexact HO

theorem gathers (c : Dev nD) :
    iprop(ctx m K ∗ bigSep Finset.univ (GP m c) ∗ ow c []) ⊢ W c (forL (gather c) all8) (fun _ => iprop(bigSep Finset.univ (GQ m c) ∗ ow c [])) := by
  have h := W_loop (c := c) (step := gather (F := F) c) (ctx m K) (GP m c) (GQ m c) (fun _ => ow c []) (fun _ => True)
    (fun j js _ => gather_one m K c j) all8 nodup_all8 (fun _ _ => trivial)
  rw [toFinset_all8] at h
  exact h

/-- A partial tile on its way; -/
def S1P (c : Dev nD) (t : Fin 8) : sProp 𝕄 := iprop(pos c (kS1 t) 0 ∗ (if t = c then some (F := F) c (sTile t) else crd c (kS1 t)))
/-- gone. -/
def S1Q (c : Dev nD) (t : Fin 8) : sProp 𝕄 := iprop(pos c (kS1 t) (fr c t) ∗ some (F := F) c (sTile t))
/-- A sum on its way; -/
def S2P (c : Dev nD) (t : Fin 8) : sProp 𝕄 := iprop(pos c (kS2 t) 0 ∗ SQ m c t)
/-- gone. -/
def S2Q (c : Dev nD) (t : Fin 8) : sProp 𝕄 := iprop(pos c (kS2 t) (fr c t) ∗ AP m c t)

theorem waitS1_one (c : Dev nD) (j : Fin 8) : iprop(ctx m K ∗ S1P (F := F) c j ∗ ow c []) ⊢ W c (waitS1 c (wi c) j) (fun _ => iprop(S1Q (F := F) c j ∗ ow c [])) := by
  unfold waitS1 S1P S1Q
  by_cases h : c = j
  · subst h
    rw [if_pos rfl, fr_self]
    refine W_ifT (fun h => absurd rfl ((neB_iff c c).mp h)) fun _ => ?_
    iintro ⟨-, H, HO⟩
    isplitl [H]; · iexact H
    iexact HO
  · rw [if_neg (fun e => h e.symm), fr_ne h]
    refine W_ifT (fun _ => ?_) fun h' => absurd ((neB_iff c j).mpr h) h'
    iintro ⟨#HC, ⟨Hp, Hc⟩, HO⟩
    iapply (W_last (st_wait m K (c := c) (k := kS1 j) (r := 0) (d := c) (l := []) rfl (credit_sTile _) (D_s1 h) (fun e he => absurd he List.not_mem_nil))) $$ [Hp Hc HO]
    · isplitr; · iexact HC
      isplitl [Hc]; · iexact Hc
      isplitl [Hp]; · iexact Hp
      iexact HO
    iintro %_ ⟨Hp, -, Hpay, HO⟩
    isplitr [HO]
    · isplitl [Hp]; · iexact Hp
      iapply (Pay_s1 m c j 0 c); iexact Hpay
    iexact HO
theorem waitS2_one (c : Dev nD) (j : Fin 8) : iprop(ctx m K ∗ S2P m c j ∗ ow c []) ⊢ W c (waitS2 c (wi c) j) (fun _ => iprop(S2Q m c j ∗ ow c [])) := by
  unfold waitS2 S2P S2Q SQ AP
  by_cases h : c = j
  · subst h
    rw [if_pos rfl, fr_self]
    refine W_ifT (fun h => absurd rfl ((neB_iff c c).mp h)) fun _ => ?_
    iintro ⟨-, H, HO⟩
    isplitl [H]; · iexact H
    iexact HO
  · rw [if_neg (fun e => h e.symm), fr_ne h]
    refine W_ifT (fun _ => ?_) fun h' => absurd ((neB_iff c j).mpr h) h'
    iintro ⟨#HC, ⟨Hp, Hc⟩, HO⟩
    iapply (W_last (st_wait m K (c := c) (k := kS2 j) (r := 0) (d := c) (l := []) rfl credit_aM (D_s2 h) (fun e he => absurd he List.not_mem_nil))) $$ [Hp Hc HO]
    · isplitr; · iexact HC
      isplitl [Hc]; · iexact Hc
      isplitl [Hp]; · iexact Hp
      iexact HO
    iintro %_ ⟨Hp, -, Hpay, HO⟩
    isplitr [HO]
    · isplitl [Hp]; · iexact Hp
      iapply (Pay_s2 m c j 0 c); iexact Hpay
    iexact HO
theorem waitS1s (c : Dev nD) :
    iprop(ctx m K ∗ bigSep Finset.univ (S1P (F := F) c) ∗ ow c []) ⊢ W c (forL (waitS1 c (wi c)) all8) (fun _ => iprop(bigSep Finset.univ (S1Q (F := F) c) ∗ ow c [])) := by
  have h := W_loop (c := c) (step := waitS1 (F := F) c (wi c)) (ctx m K) (S1P (F := F) c) (S1Q (F := F) c) (fun _ => ow c []) (fun _ => True)
    (fun j js _ => waitS1_one m K c j) all8 nodup_all8 (fun _ _ => trivial)
  rw [toFinset_all8] at h
  exact h
theorem waitS2s (c : Dev nD) :
    iprop(ctx m K ∗ bigSep Finset.univ (S2P m c) ∗ ow c []) ⊢ W c (forL (waitS2 c (wi c)) all8) (fun _ => iprop(bigSep Finset.univ (S2Q m c) ∗ ow c [])) := by
  have h := W_loop (c := c) (step := waitS2 (F := F) c (wi c)) (ctx m K) (S2P m c) (S2Q m c) (fun _ => ow c []) (fun _ => True)
    (fun j js _ => waitS2_one m K c j) all8 nodup_all8 (fun _ _ => trivial)
  rw [toFinset_all8] at h
  exact h

end Cert.KernelIdeal
end
-- ==== Proof.Parts.lean ====
/-
  What a device starts from and ends with: the buffers in parts, the cells one by one.
-/
module

public import proofs.«01_k».proof.Proof.Sum2

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CK → ℕ)

/-! ## Families with one entry apart -/

theorem ite_split (c : Fin 8) (A : Fin 8 → sProp 𝕄) (B : sProp 𝕄) :
    bigSep Finset.univ (fun j : Fin 8 => if j = c then B else A j) = iprop(B ∗ bigSep (Finset.univ.erase c) A) := by
  rw [bigSep_erase (Finset.mem_univ c), if_pos rfl, bigSep_congr fun j hj => if_neg (Finset.ne_of_mem_erase hj)]
  rfl
theorem emps {α : Type} (s : Finset α) : (bigSep s fun _ => (iprop(emp) : sProp 𝕄)) = iprop(emp) := bigSep_emp_const s
theorem ite_one (c : Fin 8) (B : sProp 𝕄) :
    bigSep Finset.univ (fun j : Fin 8 => if c = j then B else iprop(emp)) ⊣⊢ B := by
  rw [bigSep_erase (Finset.mem_univ c), if_pos rfl, bigSep_congr fun j hj => if_neg fun e => Finset.ne_of_mem_erase hj e.symm, emps]
  exact sep_emp
theorem fin2 (Φ : Fin 2 → sProp 𝕄) : bigSep Finset.univ Φ = iprop(Φ 0 ∗ Φ 1) := bigSep_univ_eq_bigSepL [0, 1] (by decide) (by decide) Φ
theorem fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
theorem fin1 (Φ : Unit → sProp 𝕄) : bigSep Finset.univ Φ = Φ () := bigSep_univ_eq_bigSepL [()] (by decide) (by decide) Φ
theorem swap {α β : Type} [Fintype α] [Fintype β] (Φ : α → β → sProp 𝕄) :
    (bigSep Finset.univ fun a => bigSep Finset.univ fun b => Φ a b) = bigSep Finset.univ fun b => bigSep Finset.univ fun a => Φ a b := by
  rw [← bigSep_univ_prod (fun x : α × β => Φ x.1 x.2), bigSep_univ_equiv (Equiv.prodComm β α), bigSep_univ_prod]
  rfl
theorem zip {α : Type} {s : Finset α} {A B C : α → sProp 𝕄} (h : ∀ j ∈ s, iprop(A j ∗ B j) ⊢ C j) : iprop(bigSep s A ∗ bigSep s B) ⊢ bigSep s C :=
  (bigSep_join s A B).trans (bigSep_mono h)
theorem unzip {α : Type} {s : Finset α} {A B C : α → sProp 𝕄} (h : ∀ j ∈ s, C j ⊢ iprop(A j ∗ B j)) : bigSep s C ⊢ iprop(bigSep s A ∗ bigSep s B) :=
  (bigSep_mono h).trans (bigSep_split s A B)

/-! ## Cells one by one -/

theorem cells_eq (Φ : CK → sProp 𝕄) : bigSep Finset.univ Φ
    = iprop(Φ kBar ∗ Φ kLoc ∗ ((bigSep Finset.univ fun j : Fin 8 => Φ (kGs 0 j)) ∗ bigSep Finset.univ fun j : Fin 8 => Φ (kGs 1 j))
      ∗ (bigSep Finset.univ fun k : Fin 10 => Φ (kGr k)) ∗ (bigSep Finset.univ fun j : Fin 8 => Φ (kS1 j)) ∗ (bigSep Finset.univ fun j : Fin 8 => Φ (kR1 j))
      ∗ (bigSep Finset.univ fun j : Fin 8 => Φ (kS2 j)) ∗ bigSep Finset.univ fun j : Fin 8 => Φ (kR2 j)) := by
  rw [bigSep_univ_sum, fin1, bigSep_univ_sum, fin1, bigSep_univ_sum, bigSep_univ_prod, fin2, bigSep_univ_sum, bigSep_univ_sum, bigSep_univ_sum, bigSep_univ_sum]
  rfl

/-- The duties a device pays: entering, its local copies, the chunks' sends and arrivals, the tiles', the sums'. -/
abbrev TI : Type := Fin 8 ⊕ Fin 10 ⊕ (Fin 10 × Fin 8) ⊕ (Fin 10 × Fin 8) ⊕ Fin 8 ⊕ Fin 8 ⊕ Fin 8 ⊕ Fin 8
/-- The round in which chunk `k` goes through the local copy, if it is device `c`'s to send; -/
def rk (c : Fin 8) (k : Fin 10) : ℕ := if snd k = c then kr k else 100 + k.val
/-- and in which it is sent. -/
def rg (c : Fin 8) (k : Fin 10) : ℕ := if snd k = c then (kh k).val else 100 + k.val
theorem rk_inj : ∀ (c : Fin 8), Function.Injective (rk c) := by decide
theorem rg_inj : ∀ (c : Fin 8), Function.Injective fun k : Fin 10 => (kb k, rg c k) := by decide
def tk (e : Dev nD × TI) : (Dev nD × CK) × ℕ × Fin 8 := match e.2 with
  | .inl j => ((j, kBar), 0, e.1)
  | .inr (.inl k) => ((e.1, kLoc), rk e.1 k, e.1)
  | .inr (.inr (.inl (k, j))) => ((e.1, kGs (kb k) j), rg e.1 k, e.1)
  | .inr (.inr (.inr (.inl (k, j)))) => ((j, kGr k), 0, e.1)
  | .inr (.inr (.inr (.inr (.inl j)))) => ((e.1, kS1 j), 0, e.1)
  | .inr (.inr (.inr (.inr (.inr (.inl j))))) => ((j, kR1 e.1), 0, e.1)
  | .inr (.inr (.inr (.inr (.inr (.inr (.inl j)))))) => ((e.1, kS2 j), 0, e.1)
  | .inr (.inr (.inr (.inr (.inr (.inr (.inr j)))))) => ((j, kR2 e.1), 0, e.1)
/-- Which duty it is. -/
def tkInv (x : (Dev nD × CK) × ℕ × Fin 8) : Dev nD × TI := (x.2.2, match x.1.2 with
  | kBar => .inl x.1.1
  | kLoc => .inr (.inl (Function.invFun (rk x.2.2) x.2.1))
  | kGs b j => .inr (.inr (.inl (Function.invFun (fun k : Fin 10 => (kb k, rg x.2.2 k)) (b, x.2.1), j)))
  | kGr k => .inr (.inr (.inr (.inl (k, x.1.1))))
  | kS1 j => .inr (.inr (.inr (.inr (.inl j))))
  | kR1 _ => .inr (.inr (.inr (.inr (.inr (.inl x.1.1)))))
  | kS2 j => .inr (.inr (.inr (.inr (.inr (.inr (.inl j))))))
  | kR2 _ => .inr (.inr (.inr (.inr (.inr (.inr (.inr x.1.1)))))))
theorem tk_inv (e : Dev nD × TI) : tkInv (tk e) = e := by
  obtain ⟨c, j | k | ⟨k, j⟩ | ⟨k, j⟩ | j | j | j | j⟩ := e
  · rfl
  · exact Prod.ext rfl (congrArg (fun x => (Sum.inr (Sum.inl x) : TI)) (Function.leftInverse_invFun (rk_inj c) k))
  · exact Prod.ext rfl (congrArg (fun x => (Sum.inr (Sum.inr (Sum.inl (x, j))) : TI)) (Function.leftInverse_invFun (rg_inj c) k))
  · rfl
  · rfl
  · rfl
  · rfl
  · rfl
theorem tk_injective : Function.Injective tk := Function.LeftInverse.injective tk_inv

/-- The tokens of the duties device `c` pays. -/
def TOK (c : Dev nD) : sProp 𝕄 := bigSep Finset.univ fun i : TI => dutyTok ER (kcell (tk (c, i)).1) (tk (c, i)).2.1 (tk (c, i)).2.2
theorem TOK_eq (c : Dev nD) : TOK (F := F) c
    = iprop((bigSep Finset.univ fun j : Fin 8 => tok j kBar 0 c) ∗ (bigSep Finset.univ fun k : Fin 10 => tok c kLoc (rk c k) c)
      ∗ (bigSep Finset.univ fun k : Fin 10 => bigSep Finset.univ fun j : Fin 8 => tok c (kGs (kb k) j) (rg c k) c)
      ∗ (bigSep Finset.univ fun k : Fin 10 => bigSep Finset.univ fun j : Fin 8 => tok j (kGr k) 0 c)
      ∗ (bigSep Finset.univ fun j : Fin 8 => tok c (kS1 j) 0 c) ∗ (bigSep Finset.univ fun j : Fin 8 => tok j (kR1 c) 0 c)
      ∗ (bigSep Finset.univ fun j : Fin 8 => tok c (kS2 j) 0 c) ∗ bigSep Finset.univ fun j : Fin 8 => tok j (kR2 c) 0 c) := by
  unfold TOK
  rw [bigSep_univ_sum, bigSep_univ_sum, bigSep_univ_sum, bigSep_univ_prod, bigSep_univ_sum, bigSep_univ_prod, bigSep_univ_sum, bigSep_univ_sum, bigSep_univ_sum]
  rfl

/-! ## Buffers in parts -/

section Whole
variable {nD' : Nat} {τ' : Topo} {sig' : RefSig} {Ix : Type} [DecidableEq Ix] {Val : EltTy → Type} {Name : Type} [DecidableEq Name]
variable {U : Type} [URA U] {Lvl : Type}

theorem part_intro {ℓ : Loc nD' τ' sig'} {q : PosShare TreeShare} {K : Finset (Idx ℓ)} (f : Buf Val ℓ) :
    (ℓ ↦[K]{q} f : sProp (MT nD' τ' sig' Ix Val Name U Lvl)) ⊢ iprop(∃ f, ℓ ↦[K]{q} f) := by
  iintro H; iexists f; iexact H
theorem whole_parts {ι : Type} [Fintype ι] {ℓ : Loc nD' τ' sig'} {q : PosShare TreeShare} {K : ι → Finset (Idx ℓ)} {cl : Idx ℓ → ι}
    (h : ∀ q i, i ∈ K q ↔ cl i = q) : iprop(∃ f, ℓ ↦{q} f) ⊢ (bigSep Finset.univ fun t => iprop(∃ f, ℓ ↦[K t]{q} f) : sProp (MT nD' τ' sig' Ix Val Name U Lvl)) := by
  iintro ⟨%f, H⟩
  iapply (show (ℓ ↦{q} f : sProp (MT nD' τ' sig' Ix Val Name U Lvl)) ⊢ (bigSep Finset.univ fun t => iprop(∃ f, ℓ ↦[K t]{q} f)) from by
    rw [pts_parts h]
    exact bigSep_mono fun t _ => part_intro f)
  iexact H
end Whole

/-- A whole buffer at some contents. -/
abbrev whole (c : Dev nD) (b : Ref sig .tc) : sProp 𝕄 := iprop(∃ f : Buf (Elt F) ((c : Thread nD τ).loc b), ((c : Thread nD τ).loc b) ↦{fullShare} f)
theorem some_whole (c : Dev nD) (b : Ref sig .tc) : some (F := F) c (Memref.whole b) = whole c b := by
  unfold some Pts; rw [View.set_whole]

theorem some_rSlot (c : Dev nD) (j : Fin 8) : some (F := F) c (rSlot j) = iprop(∃ f, rM.view.loc (c : Thread nD τ) ↦[(sR j).set]{fullShare} f) := by
  unfold some Pts; rw [rSlot_set]
theorem some_gSlot (c : Dev nD) (j : Fin 8) : some (F := F) c (gSlot j) = iprop(∃ f, gM.view.loc (c : Thread nD τ) ↦[(sR j).set]{fullShare} f) := by
  unfold some Pts; rw [gSlot_set]
theorem some_outTile (c : Dev nD) (j : Fin 8) : some (F := F) c (outTile j) = iprop(∃ f, outM.view.loc (c : Thread nD τ) ↦[(tR j).set]{fullShare} f) := by
  unfold some Pts; rw [show (outTile j).view.set = (tR j).set from View.set_slice_whole cc0_stg3_0 (tR j)]
theorem some_sTile (c : Dev nD) (j : Fin 8) : some (F := F) c (sTile j) = iprop(∃ f, sM.view.loc (c : Thread nD τ) ↦[(tR j).set]{fullShare} f) := by
  unfold some Pts; rw [show (sTile j).view.set = (tR j).set from View.set_slice_whole cc0_scratch4 (tR j)]
theorem some_bChunk0 (c : Dev nD) (q : Fin 5) : some (F := F) c (bChunk 0 q) = iprop(∃ f, (bM 0).view.loc (c : Thread nD τ) ↦[(bR q).set]{fullShare} f) := by
  unfold some Pts; rw [bChunk_set0]
theorem some_bChunk1 (c : Dev nD) (q : Fin 5) : some (F := F) c (bChunk 1 q) = iprop(∃ f, (bM 1).view.loc (c : Thread nD τ) ↦[(bR q).set]{fullShare} f) := by
  unfold some Pts; rw [bChunk_set1]

def cls (i : S8x128x1024.Idx) : Fin 8 := ⟨(i 0).val, (i 0).isLt⟩
theorem mem_cls (j : Fin 8) (i : S8x128x1024.Idx) : i ∈ (sR j).set ↔ cls i = j := (mem_sR j i).trans ⟨fun h => Fin.ext h, fun h => congrArg Fin.val h⟩
theorem mem_rowt (t : Fin 8) (i : S1024x1024.Idx) : i ∈ (tR t).set ↔ rowt i = t := (mem_tR t i).trans ⟨fun h => Fin.ext h, fun h => congrArg Fin.val h⟩
def clc (i : S2x256x64x128.Idx) : Fin 2 := ⟨(i 0).val, (i 0).isLt⟩
theorem mem_clc (b : Fin 2) (i : S2x256x64x128.Idx) : i ∈ (cR b).set ↔ clc i = b := (mem_cR b i).trans ⟨fun h => Fin.ext h, fun h => congrArg Fin.val h⟩

theorem r_split (c : Dev nD) : whole (F := F) c cc0_scratch6 ⊢ bigSep Finset.univ fun j : Fin 8 => some (F := F) c (rSlot j) := by
  rw [bigSep_congr fun j _ => some_rSlot (F := F) c j]; exact whole_parts (ℓ := rM.view.loc (c : Thread nD τ)) mem_cls
theorem g_split (c : Dev nD) : whole (F := F) c cc0_scratch7 ⊢ bigSep Finset.univ fun j : Fin 8 => some (F := F) c (gSlot j) := by
  rw [bigSep_congr fun j _ => some_gSlot (F := F) c j]; exact whole_parts (ℓ := gM.view.loc (c : Thread nD τ)) mem_cls
theorem s_split (c : Dev nD) : whole (F := F) c cc0_scratch4 ⊢ bigSep Finset.univ fun j : Fin 8 => some (F := F) c (sTile j) := by
  rw [bigSep_congr fun j _ => some_sTile (F := F) c j]; exact whole_parts (ℓ := sM.view.loc (c : Thread nD τ)) mem_rowt
theorem out_split (c : Dev nD) : whole (F := F) c cc0_stg3_0 ⊢ bigSep Finset.univ fun j : Fin 8 => some (F := F) c (outTile j) := by
  rw [bigSep_congr fun j _ => some_outTile (F := F) c j]; exact whole_parts (ℓ := outM.view.loc (c : Thread nD τ)) mem_rowt
theorem b0_split (c : Dev nD) : whole (F := F) c cc0_scratch0 ⊢ bigSep Finset.univ fun q : Fin 5 => some (F := F) c (bChunk 0 q) := by
  rw [bigSep_congr fun j _ => some_bChunk0 (F := F) c j]; exact whole_parts (ℓ := (bM 0).view.loc (c : Thread nD τ)) mem_bR'
theorem b1_split (c : Dev nD) : whole (F := F) c cc0_scratch1 ⊢ bigSep Finset.univ fun q : Fin 5 => some (F := F) c (bChunk 1 q) := by
  rw [bigSep_congr fun j _ => some_bChunk1 (F := F) c j]; exact whole_parts (ℓ := (bM 1).view.loc (c : Thread nD τ)) mem_bR'
include m in
theorem r_join (c : Dev nD) : (bigSep Finset.univ fun j : Fin 8 => some (F := F) c (rSlot j)) ⊢ whole (F := F) c cc0_scratch6 := by
  rw [bigSep_congr fun j _ => some_rSlot (F := F) c j]; exact pts_parts_join (ℓ := rM.view.loc (c : Thread nD τ)) (m _) mem_cls
include m in
theorem g_join (c : Dev nD) : (bigSep Finset.univ fun j : Fin 8 => some (F := F) c (gSlot j)) ⊢ whole (F := F) c cc0_scratch7 := by
  rw [bigSep_congr fun j _ => some_gSlot (F := F) c j]; exact pts_parts_join (ℓ := gM.view.loc (c : Thread nD τ)) (m _) mem_cls
include m in
theorem s_join (c : Dev nD) : (bigSep Finset.univ fun j : Fin 8 => some (F := F) c (sTile j)) ⊢ whole (F := F) c cc0_scratch4 := by
  rw [bigSep_congr fun j _ => some_sTile (F := F) c j]; exact pts_parts_join (ℓ := sM.view.loc (c : Thread nD τ)) (m _) mem_rowt

theorem c_split (c : Dev nD) : whole (F := F) c cc0_scratch3 ⊢ iprop((bigSep Finset.univ fun j : Fin 8 => some (F := F) c (cWin 0 j)) ∗ bigSep Finset.univ fun j : Fin 8 => some (F := F) c (cWin 1 j)) := by
  have h : ∀ b : Fin 2, iprop(∃ f, CP (F := F) c (cR b).set f) ⊢ bigSep Finset.univ fun j : Fin 8 => some (F := F) c (cWin b j) := fun b => by
    iintro ⟨%f, H⟩
    iapply ((Entails.of_eq (windows_split (F := F) c b f)).trans (bigSep_mono fun j _ => some_intro c (cWin b j) f))
    iexact H
  exact (whole_parts (ℓ := cM.view.loc (c : Thread nD τ)) mem_clc).trans ((bigSep_mono fun b _ => h b).trans (Entails.of_eq (fin2 _)))
include m in
theorem c_join (c : Dev nD) : iprop((bigSep Finset.univ fun j : Fin 8 => some (F := F) c (cWin 0 j)) ∗ bigSep Finset.univ fun j : Fin 8 => some (F := F) c (cWin 1 j)) ⊢ whole (F := F) c cc0_scratch3 :=
  (Entails.of_eq (fin2 fun b => bigSep Finset.univ fun j : Fin 8 => some (F := F) c (cWin b j)).symm).trans
    ((bigSep_mono fun b _ => windows_join (F := F) (m (cM.view.loc (c : Thread nD τ))) c b).trans (pts_parts_join (ℓ := cM.view.loc (c : Thread nD τ)) (m _) mem_clc))

/-- The two buffers of the window, chunk by chunk. -/
theorem b_split (c : Dev nD) : iprop(whole (F := F) c cc0_scratch0 ∗ whole (F := F) c cc0_scratch1) ⊢ bigSep Finset.univ fun k : Fin 10 => some (F := F) c (bChunk (kb k) (kq k)) := by
  refine (BI.sep_mono (b0_split c) (b1_split c)).trans ?_
  rw [fin5, fin5, fin10]
  refine (show iprop((some (F := F) c (bChunk 0 0) ∗ some (F := F) c (bChunk 0 1) ∗ some (F := F) c (bChunk 0 2) ∗ some (F := F) c (bChunk 0 3) ∗ some (F := F) c (bChunk 0 4))
      ∗ some (F := F) c (bChunk 1 0) ∗ some (F := F) c (bChunk 1 1) ∗ some (F := F) c (bChunk 1 2) ∗ some (F := F) c (bChunk 1 3) ∗ some (F := F) c (bChunk 1 4))
    ⊢ iprop(some (F := F) c (bChunk 0 0) ∗ some (F := F) c (bChunk 1 0) ∗ some (F := F) c (bChunk 0 1) ∗ some (F := F) c (bChunk 1 1) ∗ some (F := F) c (bChunk 0 2) ∗ some (F := F) c (bChunk 1 2)
      ∗ some (F := F) c (bChunk 0 3) ∗ some (F := F) c (bChunk 1 3) ∗ some (F := F) c (bChunk 0 4) ∗ some (F := F) c (bChunk 1 4)) from ?_)
  iintro ⟨⟨A0, A1, A2, A3, A4⟩, B0, B1, B2, B3, B4⟩
  isplitl [A0]; · iexact A0
  isplitl [B0]; · iexact B0
  isplitl [A1]; · iexact A1
  isplitl [B1]; · iexact B1
  isplitl [A2]; · iexact A2
  isplitl [B2]; · iexact B2
  isplitl [A3]; · iexact A3
  isplitl [B3]; · iexact B3
  isplitl [A4]; · iexact A4
  iexact B4

theorem RS_all : RS (insert 3 (insert 2 (insert 1 (insert 0 {4})))) = (Finset.univ : Finset S1280x8x128.Idx) :=
  Finset.eq_univ_iff_forall.mpr fun i => mem_RS.mpr ((by decide : ∀ q : Fin 5, q ∈ insert 3 (insert 2 (insert 1 (insert 0 ({4} : Finset (Fin 5)))))) _)
theorem b_join (c : Dev nD) : KVs m c (insert 3 (insert 2 (insert 1 (insert 0 {4})))) ⊢ iprop(whole (F := F) c cc0_scratch0 ∗ whole (F := F) c cc0_scratch1) := by
  unfold KVs
  rw [RS_all, BP0, BP1]
  iintro ⟨H0, H1⟩
  isplitl [H0]
  · iexists _; iexact H0
  · iexists _; iexact H1

theorem OUT_read (c : Dev nD) (t : Fin 8) : (outTile t).view.read (Elt F) (OUT m c) = OT m c t :=
  (View.read_congr (g := (outTile t).view.write (Elt F) (m (outM.view.loc (c : Thread nD τ))) (OT m c t) Finset.univ) fun i hi => by
    have hi' : i ∈ (tR t).set := by rw [← View.set_slice_whole cc0_stg3_0 (tR t)]; exact hi
    have h : rowt i = t := (mem_rowt t i).mp hi'
    show (outM.access (tR (rowt i))).write (Elt F) _ (OT m c (rowt i)) Finset.univ i = _
    rw [h]).trans (View.read_write_univ _ _)
theorem out_one (c : Dev nD) (t : Fin 8) : hold (F := F) c (outTile t) (OT m c t) ⊢ (outM.view.loc (c : Thread nD τ) ↦[(tR t).set]{fullShare} OUT m c) := by
  iintro H
  ihave H := (hold_elim c (outTile t) _) $$ H
  icases H with ⟨%f, %hf, H⟩
  iapply (show Pts (F := F) c (outTile t) f ⊢ (outM.view.loc (c : Thread nD τ) ↦[(tR t).set]{fullShare} OUT m c) by
    unfold Pts
    rw [← show (outTile t).view.set = (tR t).set from View.set_slice_whole cc0_stg3_0 (tR t)]
    exact Entails.of_eq (pointsTo_congr (eq_of_read_eq (v := (outTile t).view) (hf.trans (OUT_read m c t).symm))))
  iexact H
theorem out_join (c : Dev nD) : (bigSep Finset.univ fun t : Fin 8 => hold (F := F) c (outTile t) (OT m c t)) ⊢ (outM.view.loc (c : Thread nD τ) ↦{fullShare} OUT m c) := by
  rw [pts_parts (ℓ := outM.view.loc (c : Thread nD τ)) (f := OUT m c) mem_rowt]
  exact bigSep_mono fun t _ => out_one m c t

/-! ## What is handed over on entering -/

theorem give_all (c : Dev nD) : iprop((bigSep Finset.univ fun j : Fin 8 => some (F := F) c (rSlot j)) ∗ (bigSep Finset.univ fun j : Fin 8 => some (F := F) c (gSlot j))
      ∗ bigSep Finset.univ fun k : Fin 10 => some (F := F) c (bChunk (kb k) (kq k)))
    ⊢ bigSep Finset.univ fun j : Fin 8 => Give (F := F) c j := by
  have h : (bigSep Finset.univ fun k : Fin 10 => some (F := F) c (bChunk (kb k) (kq k)))
      ⊢ bigSep Finset.univ fun j : Fin 8 => bigSep Finset.univ fun k : Fin 10 => if snd k = j then some (F := F) c (bChunk (kb k) (kq k)) else iprop(emp) :=
    (bigSep_mono fun k _ => (ite_one (snd k) (some (F := F) c (bChunk (kb k) (kq k)))).2).trans
      (Entails.of_eq (swap fun (k : Fin 10) (j : Fin 8) => if snd k = j then some (F := F) c (bChunk (kb k) (kq k)) else iprop(emp)))
  refine (sep_mono_right (sep_mono_right h)).trans ((sep_mono_right (bigSep_join _ _ _)).trans (bigSep_join _ _ _))

theorem give_got (c : Dev nD) : (bigSep Finset.univ fun d : Fin 8 => Give (F := F) d c)
    ⊢ iprop((bigSep Finset.univ fun j : Fin 8 => some (F := F) j (rSlot c)) ∗ (bigSep Finset.univ fun j : Fin 8 => some (F := F) j (gSlot c))
      ∗ bigSep Finset.univ fun k : Fin 10 => bigSep Finset.univ fun j : Fin 8 => if snd k = c then some (F := F) j (bChunk (kb k) (kq k)) else iprop(emp)) :=
  (bigSep_split _ _ _).trans (sep_mono_right ((bigSep_split _ _ _).trans (sep_mono_right
    (Entails.of_eq (swap fun (j : Fin 8) (k : Fin 10) => if snd k = c then some (F := F) j (bChunk (kb k) (kq k)) else iprop(emp))))))

theorem SK_one (c : Dev nD) (k : Fin 10) : iprop(tok c kLoc (rk c k) c ∗ (bigSep Finset.univ fun j : Fin 8 => tok c (kGs (kb k) j) (rg c k) c)
      ∗ (bigSep Finset.univ fun j : Fin 8 => tok j (kGr k) 0 c) ∗ bigSep Finset.univ fun j : Fin 8 => if snd k = c then some (F := F) j (bChunk (kb k) (kq k)) else iprop(emp))
    ⊢ (if snd k = c then SK (F := F) c k else iprop(emp)) := by
  by_cases h : snd k = c
  · unfold SK rk rg
    simp only [if_pos h]
    iintro ⟨Hl, Hg, Hr, Hs⟩
    ihave Hs := (bigSep_take (F := F) (Finset.mem_univ c) fun j : Fin 8 => some (F := F) j (bChunk (kb k) (kq k))) $$ Hs
    icases Hs with ⟨Hs, Hss⟩
    ihave Hg := (bigSep_take (F := F) (Finset.mem_univ c) fun j : Fin 8 => tok c (kGs (kb k) j) (kh k).val c) $$ Hg
    icases Hg with ⟨-, Hg⟩
    ihave Hr := (bigSep_take (F := F) (Finset.mem_univ c) fun j : Fin 8 => tok j (kGr k) 0 c) $$ Hr
    icases Hr with ⟨-, Hr⟩
    isplitl [Hl]; · iexact Hl
    isplitl [Hs]; · iexact Hs
    iapply (zip (F := F) (s := Finset.univ.erase c) (A := fun j : Fin 8 => some (F := F) j (bChunk (kb k) (kq k))) (B := fun j : Fin 8 => iprop(tok j (kGr k) 0 c ∗ tok c (kGs (kb k) j) (kh k).val c)) fun j _ => Entails.rfl)
    isplitl [Hss]; · iexact Hss
    iapply (bigSep_join (F := F) (Finset.univ.erase c) (fun j : Fin 8 => tok j (kGr k) 0 c) (fun j : Fin 8 => tok c (kGs (kb k) j) (kh k).val c))
    isplitl [Hr]; · iexact Hr
    iexact Hg
  · rw [if_neg h]
    iintro -
    iempintro
/-- What it takes to spread the chunks that are device `c`'s. -/
theorem SKs (c : Dev nD) : iprop((bigSep Finset.univ fun k : Fin 10 => tok c kLoc (rk c k) c)
      ∗ (bigSep Finset.univ fun k : Fin 10 => bigSep Finset.univ fun j : Fin 8 => tok c (kGs (kb k) j) (rg c k) c)
      ∗ (bigSep Finset.univ fun k : Fin 10 => bigSep Finset.univ fun j : Fin 8 => tok j (kGr k) 0 c)
      ∗ bigSep Finset.univ fun k : Fin 10 => bigSep Finset.univ fun j : Fin 8 => if snd k = c then some (F := F) j (bChunk (kb k) (kq k)) else iprop(emp))
    ⊢ bigSep Finset.univ fun k : Fin 10 => if snd k = c then SK (F := F) c k else iprop(emp) := by
  refine ((sep_mono_right (sep_mono_right (bigSep_join _ _ _))).trans ((sep_mono_right (bigSep_join _ _ _)).trans (bigSep_join _ _ _))).trans (bigSep_mono fun k _ => SK_one c k)

/-! ## Spreading, whichever the device -/

def hfin (c : Fin 8) : ℕ := if c = 0 then 4 else if c = 1 then 1 else 0
def lfin (c : Fin 8) : ℕ := if c = 0 then 8 else if c = 1 then 2 else 0
/-- Before spreading, -/
def SPRE (c : Dev nD) : sProp 𝕄 := iprop(LS m c 0 ∗ WB (F := F) c 0 0 ∗ WB (F := F) c 1 0 ∗ bigSep Finset.univ fun k : Fin 10 => if snd k = c then SK (F := F) c k else iprop(emp))
/-- and after. -/
def SPOST (c : Dev nD) : sProp 𝕄 := iprop(LS m c (lfin c) ∗ WB (F := F) c 0 (hfin c) ∗ WB (F := F) c 1 (hfin c) ∗ bigSep Finset.univ fun k : Fin 10 => if snd k = c then HK m c k else iprop(emp))
def GSL (c : Dev nD) (l : List (Dev nD × CK)) : List (Dev nD × CK) := if c = 0 then O0 l else if c = 1 then O1 l else l

theorem ten0 (A : Fin 10 → sProp 𝕄) : (bigSep Finset.univ fun k : Fin 10 => if snd k = (0 : Fin 8) then A k else iprop(emp)) ⊣⊢ iprop(A 0 ∗ A 1 ∗ A 2 ∗ A 3 ∗ A 4 ∗ A 5 ∗ A 6 ∗ A 7) := by
  rw [fin10, if_pos (by decide), if_pos (by decide), if_pos (by decide), if_pos (by decide), if_pos (by decide), if_pos (by decide), if_pos (by decide), if_pos (by decide), if_neg (by decide), if_neg (by decide)]
  constructor
  · iintro ⟨H0, H1, H2, H3, H4, H5, H6, H7, -, -⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨H0, H1, H2, H3, H4, H5, H6, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitr; · iempintro
    iempintro
theorem ten1 (A : Fin 10 → sProp 𝕄) : (bigSep Finset.univ fun k : Fin 10 => if snd k = (1 : Fin 8) then A k else iprop(emp)) ⊣⊢ iprop(A 8 ∗ A 9) := by
  rw [fin10, if_neg (by decide), if_neg (by decide), if_neg (by decide), if_neg (by decide), if_neg (by decide), if_neg (by decide), if_neg (by decide), if_neg (by decide), if_pos (by decide), if_pos (by decide)]
  constructor
  · iintro ⟨-, -, -, -, -, -, -, -, H8, H9⟩
    isplitl [H8]; · iexact H8
    iexact H9
  · iintro ⟨H8, H9⟩
    isplitr; · iempintro
    isplitr; · iempintro
    isplitr; · iempintro
    isplitr; · iempintro
    isplitr; · iempintro
    isplitr; · iempintro
    isplitr; · iempintro
    isplitr; · iempintro
    isplitl [H8]; · iexact H8
    iexact H9
theorem snd_lt : ∀ k : Fin 10, snd k = 0 ∨ snd k = 1 := by decide
theorem tenN (c : Fin 8) (h0 : c ≠ 0) (h1 : c ≠ 1) (A : Fin 10 → sProp 𝕄) : (bigSep Finset.univ fun k : Fin 10 => if snd k = c then A k else iprop(emp)) = iprop(emp) :=
  (bigSep_congr fun k _ => if_neg fun e => by rcases snd_lt k with h | h <;> rw [h] at e <;> first | exact h0 e.symm | exact h1 e.symm).trans (emps _)

theorem spread0 (c : Dev nD) (l) (hl : ∀ e ∈ l, 0 < lvl e.2) :
    iprop(ctx m K ∗ SPRE m c ∗ ow c (GSL c l))
      ⊢ W c (ifT (c := eqB c 0 = 1#1) fun _ => dev0) (fun _ => iprop((if c = 0 then SPOST m c else SPRE m c) ∗ ow c (if c = 0 then l else GSL c l))) := by
  by_cases h : c = 0
  · subst h
    rw [if_pos rfl, if_pos rfl]
    refine W_ifT (fun _ => ?_) fun h' => absurd ((eqB_iff 0 0).mpr rfl) h'
    unfold SPRE SPOST GSL lfin hfin
    rw [if_pos rfl, if_pos rfl, if_pos rfl]
    iintro ⟨#HC, ⟨HL, H0, H1, HS⟩, HO⟩
    ihave HS := (ten0 (F := F) (SK (F := F) 0)).1 $$ HS
    iapply (W_last (dev0_step m K l hl)) $$ [HL H0 H1 HS HO]
    · isplitr; · iexact HC
      isplitl [HL]; · iexact HL
      isplitl [H0]; · iexact H0
      isplitl [H1]; · iexact H1
      isplitl [HS]; · iexact HS
      iexact HO
    iintro %_ ⟨HL, H0, H1, HS, HO⟩
    isplitr [HO]
    · isplitl [HL]; · iexact HL
      isplitl [H0]; · iexact H0
      isplitl [H1]; · iexact H1
      iapply (ten0 (F := F) (HK m 0)).2; iexact HS
    iexact HO
  · rw [if_neg h, if_neg h]
    refine W_ifT (fun h' => absurd ((eqB_iff c 0).mp h') h) fun _ => ?_
    iintro ⟨-, HS, HO⟩
    isplitl [HS]; · iexact HS
    iexact HO

theorem spread1 (c : Dev nD) (l) (hl : ∀ e ∈ l, 0 < lvl e.2) :
    iprop(ctx m K ∗ (if c = 0 then SPOST m c else SPRE m c) ∗ ow c (if c = 0 then l else GSL c l))
      ⊢ W c (ifT (c := eqB c 1 = 1#1) fun _ => dev1) (fun _ => iprop(SPOST m c ∗ ow c l)) := by
  by_cases h0 : c = 0
  · rw [if_pos h0, if_pos h0]
    refine W_ifT (fun h' => absurd ((eqB_iff c 1).mp h') (by rw [h0]; decide)) fun _ => ?_
    iintro ⟨-, HS, HO⟩
    isplitl [HS]; · iexact HS
    iexact HO
  rw [if_neg h0, if_neg h0]
  by_cases h : c = 1
  · subst h
    refine W_ifT (fun _ => ?_) fun h' => absurd ((eqB_iff 1 1).mpr rfl) h'
    unfold SPRE SPOST GSL lfin hfin
    rw [if_neg h0, if_neg h0, if_neg h0, if_pos rfl, if_pos rfl, if_pos rfl]
    iintro ⟨#HC, ⟨HL, H0, H1, HS⟩, HO⟩
    ihave HS := (ten1 (F := F) (SK (F := F) 1)).1 $$ HS
    iapply (W_last (dev1_step m K l hl)) $$ [HL H0 H1 HS HO]
    · isplitr; · iexact HC
      isplitl [HL]; · iexact HL
      isplitl [H0]; · iexact H0
      isplitl [H1]; · iexact H1
      isplitl [HS]; · iexact HS
      iexact HO
    iintro %_ ⟨HL, H0, H1, HS, HO⟩
    isplitr [HO]
    · isplitl [HL]; · iexact HL
      isplitl [H0]; · iexact H0
      isplitl [H1]; · iexact H1
      iapply (ten1 (F := F) (HK m 1)).2; iexact HS
    iexact HO
  · refine W_ifT (fun h' => absurd ((eqB_iff c 1).mp h') h) fun _ => ?_
    unfold SPRE SPOST GSL lfin hfin
    rw [if_neg h0, if_neg h0, if_neg h0, if_neg h, if_neg h, if_neg h, tenN c h0 h, tenN c h0 h]
    iintro ⟨-, HS, HO⟩
    isplitl [HS]; · iexact HS
    iexact HO

/-- A cell's windows: their positions and the buffer. -/
theorem WB_intro (c : Dev nD) (b : Fin 2) :
    iprop(ctx m K ∗ (bigSep Finset.univ fun j : Fin 8 => pos c (kGs b j) 0) ∗ bigSep Finset.univ fun j : Fin 8 => some (F := F) c (cWin b j)) ⊢ iprop(WB (F := F) c b 0 ∗ pos c (kGs b c) 0) := by
  unfold WB
  iintro ⟨#HC, Hp, Hw⟩
  ihave Hp := (bigSep_take (F := F) (Finset.mem_univ c) fun j : Fin 8 => pos c (kGs b j) 0) $$ Hp
  icases Hp with ⟨Hp0, Hp⟩
  ihave Hw := (bigSep_take (F := F) (Finset.mem_univ c) fun j : Fin 8 => some (F := F) c (cWin b j)) $$ Hw
  icases Hw with ⟨Hw0, Hw⟩
  isplitr [Hp0]
  · isplitl [Hw0]; · iexact Hw0
    iapply (zip (F := F) (s := Finset.univ.erase c) (A := fun j : Fin 8 => iprop(pos c (kGs b j) 0 ∗ rch c (kGs b j) 0)) (B := fun j : Fin 8 => some (F := F) c (cWin b j)) fun j _ => Entails.rfl)
    isplitr [Hw]
    · iapply (bigSep_with_persistent (R := ctx m K) (Φ := fun j : Fin 8 => pos c (kGs b j) 0) (Ψ := fun j : Fin 8 => iprop(pos c (kGs b j) 0 ∗ rch c (kGs b j) 0)) fun j _ => by
        iintro ⟨#HC, H⟩
        isplitl [H]; · iexact H
        iapply (ctx_reached m K (c, kGs b j)); iexact HC)
      isplitr; · iexact HC
      iexact Hp
    iexact Hw
  iexact Hp0
theorem WB_elim (c : Dev nD) (b : Fin 2) (h : ℕ) :
    iprop(WB (F := F) c b h ∗ pos c (kGs b c) 0) ⊢ iprop((bigSep Finset.univ fun j : Fin 8 => pos c (kGs b j) (if j = c then 0 else h)) ∗ bigSep Finset.univ fun j : Fin 8 => some (F := F) c (cWin b j)) := by
  unfold WB
  iintro ⟨⟨Hw0, H⟩, Hp0⟩
  ihave H := (unzip (F := F) (s := Finset.univ.erase c) (A := fun j : Fin 8 => pos c (kGs b j) (if j = c then 0 else h)) (B := fun j : Fin 8 => some (F := F) c (cWin b j)) fun j hj => by
    rw [if_neg (Finset.ne_of_mem_erase hj)]
    iintro ⟨⟨Hp, -⟩, Hw⟩
    isplitl [Hp]; · iexact Hp
    iexact Hw) $$ H
  icases H with ⟨Hp, Hw⟩
  isplitl [Hp0 Hp]
  · iapply (bigSep_give (F := F) (Finset.mem_univ c) fun j : Fin 8 => pos c (kGs b j) (if j = c then 0 else h))
    isplitl [Hp0]; · rw [if_pos rfl]; iexact Hp0
    iexact Hp
  · iapply (bigSep_give (F := F) (Finset.mem_univ c) fun j : Fin 8 => some (F := F) c (cWin b j))
    isplitl [Hw0]; · iexact Hw0
    iexact Hw

end Cert.KernelIdeal
end
-- ==== Proof.Run.lean ====
/-
  A device's whole program, from what it starts with to what it ends with.
-/
module

public import proofs.«01_k».proof.Proof.Parts

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CK → ℕ)

theorem W_fupd {c : Dev nD} {α : Type} {p : PG F α} {Q : α → sProp 𝕄} : W c p (fun a => iprop(|={Set.univ}=> Q a)) ⊢ W c p Q := by
  unfold W; exact wp_fupd frame (wpE (defs₀ (F := F)) 𝒱₀ (c : Thread nD τ) none) Set.univ p Q
theorem ite_join (c : Fin 8) (A : Fin 8 → sProp 𝕄) (B : sProp 𝕄) :
    iprop(B ∗ bigSep (Finset.univ.erase c) A) ⊢ bigSep Finset.univ (fun j : Fin 8 => if j = c then B else A j) := Entails.of_eq (ite_split c A B).symm

/-! ## Where the cells stand in the end -/

def fin (c : Fin 8) : CK → ℕ
  | kBar => 1
  | kLoc => lfin c
  | kGs _ j => if j = c then 0 else hfin c
  | kGr k => if snd k = c then 0 else 1
  | kS1 j => fr c j
  | kR1 j => fr c j
  | kS2 j => fr c j
  | kR2 j => fr c j

theorem fr_pos {c j : Fin 8} (h : j ≠ c) {r : ℕ} (hr : fr c j ≤ r) : r ≠ 0 := by
  rw [fr_ne h.symm] at hr; omega
theorem D_fin (c : Dev nD) (k : CK) (r : ℕ) (hr : fin c k ≤ r) : D c k r = ∅ := by
  match k with
  | kBar => exact if_neg (by have : 1 ≤ r := hr; omega)
  | kLoc =>
    refine if_neg ?_
    have hr' : lfin c ≤ r := hr
    unfold lfin at hr'
    rintro (⟨h, h2⟩ | ⟨h, h2⟩)
    · rw [if_pos h] at hr'; omega
    · rw [if_neg (by rw [h]; decide), if_pos h] at hr'; omega
  | kGs b j =>
    refine if_neg ?_
    have hr' : (if j = c then 0 else hfin c) ≤ r := hr
    unfold hfin at hr'
    rintro (⟨h, h3, h2⟩ | ⟨h, h3, h2⟩)
    · rw [if_neg h3, if_pos h] at hr'; omega
    · rw [if_neg h3, if_neg (by rw [h]; decide), if_pos h] at hr'; omega
  | kGr k =>
    refine if_neg ?_
    have hr' : (if snd k = c then 0 else 1) ≤ r := hr
    rintro ⟨h, h2⟩
    rw [if_neg h2] at hr'; omega
  | kS1 j => exact if_neg fun h => fr_pos h.2 hr h.1
  | kR1 j => exact if_neg fun h => fr_pos h.2 hr h.1
  | kS2 j => exact if_neg fun h => fr_pos h.2 hr h.1
  | kR2 j => exact if_neg fun h => fr_pos h.2 hr h.1

theorem close_one (c : Dev nD) (k : CK) : iprop(ctx m K ∗ pos c k (fin c k)) ⊢ |={Set.univ}=> (semVal (kcell (c, k)) 0 : sProp 𝕄) := by
  iintro ⟨#HC, Hp⟩
  iapply (Rounds.cell_close ER (Rd m) (g := kcell (c, k)) (κ := K (c, k)) (Es := Set.univ) (Set.mem_univ _) (fun h => h) (R := fin c k) (fun r hr => (Rd_duties m c k r).trans (D_fin c k r hr)))
  isplitr; · iapply (ctx_inv m K (c, k)); iexact HC
  iexact Hp
theorem close_all (c : Dev nD) : iprop(ctx m K ∗ bigSep Finset.univ fun k : CK => pos c k (fin c k)) ⊢ |={Set.univ}=> bigSep Finset.univ fun k : CK => (semVal (kcell (c, k)) 0 : sProp 𝕄) :=
  (bigSep_with_persistent (R := ctx m K) fun k _ => close_one m K c k).trans (bigSep_fupd _ _)

/-! ## Levels -/

theorem OK1_lvl1 {js : List (Fin 8)} {k : Fin 10} {l : List (Dev nD × CK)} (hl : ∀ e ∈ l, 1 < lvl e.2) : ∀ e ∈ OK1 js k ++ l, 1 < lvl e.2 := by
  intro e he
  rcases List.mem_append.mp he with h | h
  · obtain ⟨j, _, rfl⟩ := List.mem_map.mp h
    show 1 < 2
    decide
  · exact hl e h
theorem GSL_lvl {c : Dev nD} {l : List (Dev nD × CK)} (hl : ∀ e ∈ l, 1 < lvl e.2) : ∀ e ∈ GSL c l, 1 < lvl e.2 := by
  unfold GSL
  split
  · exact OK1_lvl1 (OK1_lvl1 (OK1_lvl1 (OK1_lvl1 (OK1_lvl1 (OK1_lvl1 (OK1_lvl1 (OK1_lvl1 hl)))))))
  · split
    · exact OK1_lvl1 (OK1_lvl1 hl)
    · exact hl
theorem lvl_mono {l : List (Dev nD × CK)} {a b : ℕ} (h : a ≤ b) (hl : ∀ e ∈ l, b < lvl e.2) : ∀ e ∈ l, a < lvl e.2 := fun e he => lt_of_le_of_lt h (hl e he)

/-- What is owed after the tiles, -/
def OL2 (c : Dev nD) : List (Dev nD × CK) := OWL c (fR2 c) all8 []
/-- before them, -/
def OL1 (c : Dev nD) : List (Dev nD × CK) := OWL c (fR1 c) all8 (OL2 c)
/-- and at first. -/
def OL (c : Dev nD) : List (Dev nD × CK) := OWL c (fun j => (j, kBar)) all8 (GSL c (OL1 c))
theorem OL2_lvl (c : Dev nD) : ∀ e ∈ OL2 c, 3 < lvl e.2 := OWL_lvl (fun _ => by show 3 < 4; decide) fun e he => absurd he List.not_mem_nil
theorem OL1_lvl (c : Dev nD) : ∀ e ∈ OL1 c, 2 < lvl e.2 := OWL_lvl (fun _ => by show 2 < 3; decide) (lvl_mono (by decide) (OL2_lvl c))

/-! ## From start to end -/

/-- The credit a device starts with. -/
def CRD (c : Dev nD) : sProp 𝕄 :=
  iprop(cred (tallyAt (kcell (c, kBar)) () 7) ∗ (bigSep Finset.univ fun k : Fin 10 => if snd k = c then iprop(emp) else crd c (kGr k))
    ∗ (bigSep Finset.univ fun j : Fin 8 => if j = c then iprop(emp) else crd c (kR1 j)) ∗ bigSep Finset.univ fun j : Fin 8 => if j = c then iprop(emp) else crd c (kR2 j))
/-- The scratch buffers. -/
def SCR (c : Dev nD) : sProp 𝕄 :=
  iprop(whole (F := F) c cc0_scratch0 ∗ whole (F := F) c cc0_scratch1 ∗ whole (F := F) c cc0_scratch2 ∗ whole (F := F) c cc0_scratch3
    ∗ whole (F := F) c cc0_scratch4 ∗ whole (F := F) c cc0_scratch5 ∗ whole (F := F) c cc0_scratch6 ∗ whole (F := F) c cc0_scratch7)
/-- The keys and values. -/
def ARG (c : Dev nD) : sProp 𝕄 :=
  iprop((((c : Thread nD τ).loc main_arg2) ↦{fullShare} m ((c : Thread nD τ).loc main_arg2)) ∗ (((c : Thread nD τ).loc main_arg3) ↦{fullShare} m ((c : Thread nD τ).loc main_arg3)))
/-- The staged inputs. -/
def IN (c : Dev nD) : sProp 𝕄 :=
  iprop((((c : Thread nD τ).loc cc0_stg0_0) ↦{fullShare} xst m c) ∗ (((c : Thread nD τ).loc cc0_stg1_0) ↦{fullShare} wqst m c) ∗ (((c : Thread nD τ).loc cc0_stg2_0) ↦{fullShare} wost m c))
def POS (c : Dev nD) : sProp 𝕄 := bigSep Finset.univ fun k : CK => pos c k 0
theorem POS_eq (c : Dev nD) : POS (F := F) c ⊢ iprop(pos c kBar 0 ∗ pos c kLoc 0 ∗ ((bigSep Finset.univ fun j : Fin 8 => pos c (kGs 0 j) 0) ∗ bigSep Finset.univ fun j : Fin 8 => pos c (kGs 1 j) 0)
    ∗ (bigSep Finset.univ fun k : Fin 10 => pos c (kGr k) 0) ∗ (bigSep Finset.univ fun j : Fin 8 => pos c (kS1 j) 0) ∗ (bigSep Finset.univ fun j : Fin 8 => pos c (kR1 j) 0)
    ∗ (bigSep Finset.univ fun j : Fin 8 => pos c (kS2 j) 0) ∗ bigSep Finset.univ fun j : Fin 8 => pos c (kR2 j) 0) := Entails.of_eq (cells_eq (F := F) fun k => pos c k 0)
def BPRE (c : Dev nD) : sProp 𝕄 := iprop(POS (F := F) c ∗ TOK (F := F) c ∗ CRD (F := F) c ∗ SCR (F := F) c ∗ ARG m c ∗ IN m c ∗ whole (F := F) c cc0_stg3_0)
def BPOST (c : Dev nD) : sProp 𝕄 :=
  iprop(SCR (F := F) c ∗ ARG m c ∗ IN m c ∗ (((c : Thread nD τ).loc cc0_stg3_0) ↦{fullShare} OUT m c) ∗ bigSep Finset.univ fun k : CK => (semVal (kcell (c, k)) 0 : sProp 𝕄))

theorem Pend_one (c : Dev nD) (k : Fin 10) :
    iprop(pos c (kGr k) 0 ∗ (if snd k = c then HK m c k else iprop(emp)) ∗ (if snd k = c then iprop(emp) else crd c (kGr k))) ⊢ Pend m c k := by
  unfold Pend
  by_cases h : snd k = c
  · simp only [if_pos h]
    iintro ⟨Hp, H, -⟩
    isplitl [Hp]; · iexact Hp
    iexact H
  · simp only [if_neg h]
    iintro ⟨Hp, -, H⟩
    isplitl [Hp]; · iexact Hp
    iexact H
theorem Pends (c : Dev nD) : iprop((bigSep Finset.univ fun k : Fin 10 => pos c (kGr k) 0) ∗ (bigSep Finset.univ fun k : Fin 10 => if snd k = c then HK m c k else iprop(emp))
      ∗ bigSep Finset.univ fun k : Fin 10 => if snd k = c then iprop(emp) else crd c (kGr k))
    ⊢ iprop(Pend m c 0 ∗ Pend m c 1 ∗ Pend m c 2 ∗ Pend m c 3 ∗ Pend m c 4 ∗ Pend m c 5 ∗ Pend m c 6 ∗ Pend m c 7 ∗ Pend m c 8 ∗ Pend m c 9) := by
  rw [← fin10 (Pend m c)]
  exact ((sep_mono_right (bigSep_join _ _ _)).trans (bigSep_join _ _ _)).trans (bigSep_mono fun k _ => Pend_one m c k)

theorem TPs (c : Dev nD) : iprop((bigSep Finset.univ fun t : Fin 8 => some (F := F) c (outTile t)) ∗ (bigSep Finset.univ fun t : Fin 8 => some (F := F) c (sTile t))
      ∗ (bigSep (Finset.univ.erase c) fun t : Fin 8 => some (F := F) t (rSlot c)) ∗ (bigSep Finset.univ fun t : Fin 8 => tok c (kS1 t) 0 c) ∗ bigSep Finset.univ fun t : Fin 8 => tok t (kR1 c) 0 c)
    ⊢ bigSep Finset.univ (TP (F := F) c) := by
  iintro ⟨Ho, Hs, Hr, T1, T2⟩
  ihave T1 := (bigSep_take (F := F) (Finset.mem_univ c) fun t : Fin 8 => tok c (kS1 t) 0 c) $$ T1
  icases T1 with ⟨-, T1⟩
  ihave T2 := (bigSep_take (F := F) (Finset.mem_univ c) fun t : Fin 8 => tok t (kR1 c) 0 c) $$ T2
  icases T2 with ⟨-, T2⟩
  ihave T := (bigSep_join (F := F) (Finset.univ.erase c) (fun t : Fin 8 => tok c (kS1 t) 0 c) fun t : Fin 8 => tok t (kR1 c) 0 c) $$ [T1 T2]
  · isplitl [T1]; · iexact T1
    iexact T2
  ihave T := (bigSep_join (F := F) (Finset.univ.erase c) (fun t : Fin 8 => some (F := F) t (rSlot c)) fun t : Fin 8 => iprop(tok c (kS1 t) 0 c ∗ tok t (kR1 c) 0 c)) $$ [Hr T]
  · isplitl [Hr]; · iexact Hr
    iexact T
  ihave T := (ite_join (F := F) c (fun t : Fin 8 => iprop(some (F := F) t (rSlot c) ∗ tok c (kS1 t) 0 c ∗ tok t (kR1 c) 0 c)) iprop(emp)) $$ [T]
  · isplitr; · iempintro
    iexact T
  ihave T := (bigSep_join (F := F) Finset.univ (fun t : Fin 8 => some (F := F) c (sTile t)) _) $$ [Hs T]
  · isplitl [Hs]; · iexact Hs
    iexact T
  iapply (zip (F := F) (s := Finset.univ) (A := fun t : Fin 8 => some (F := F) c (outTile t)) (B := fun t : Fin 8 => iprop(some (F := F) c (sTile t) ∗ (if t = c then iprop(emp) else iprop(some (F := F) t (rSlot c) ∗ tok c (kS1 t) 0 c ∗ tok t (kR1 c) 0 c)))) fun t _ => Entails.of_eq rfl)
  isplitl [Ho]; · iexact Ho
  iexact T

theorem SPs (c : Dev nD) : iprop(Pts (F := F) c aM (AB m c) ∗ (bigSep (Finset.univ.erase c) fun t : Fin 8 => some (F := F) t (gSlot c))
      ∗ (bigSep Finset.univ fun t : Fin 8 => tok c (kS2 t) 0 c) ∗ bigSep Finset.univ fun t : Fin 8 => tok t (kR2 c) 0 c)
    ⊢ bigSep Finset.univ (SP m c) := by
  iintro ⟨Ha, Hr, T1, T2⟩
  ihave T1 := (bigSep_take (F := F) (Finset.mem_univ c) fun t : Fin 8 => tok c (kS2 t) 0 c) $$ T1
  icases T1 with ⟨-, T1⟩
  ihave T2 := (bigSep_take (F := F) (Finset.mem_univ c) fun t : Fin 8 => tok t (kR2 c) 0 c) $$ T2
  icases T2 with ⟨-, T2⟩
  ihave T := (bigSep_join (F := F) (Finset.univ.erase c) (fun t : Fin 8 => tok c (kS2 t) 0 c) fun t : Fin 8 => tok t (kR2 c) 0 c) $$ [T1 T2]
  · isplitl [T1]; · iexact T1
    iexact T2
  ihave T := (bigSep_join (F := F) (Finset.univ.erase c) (fun t : Fin 8 => some (F := F) t (gSlot c)) fun t : Fin 8 => iprop(tok c (kS2 t) 0 c ∗ tok t (kR2 c) 0 c)) $$ [Hr T]
  · isplitl [Hr]; · iexact Hr
    iexact T
  ihave T := (ite_join (F := F) c (fun t : Fin 8 => iprop(some (F := F) t (gSlot c) ∗ tok c (kS2 t) 0 c ∗ tok t (kR2 c) 0 c)) iprop(emp)) $$ [T]
  · isplitr; · iempintro
    iexact T
  iapply (zip (F := F) (s := Finset.univ) (A := AP m c) (B := fun t : Fin 8 => (if t = c then iprop(emp) else iprop(some (F := F) t (gSlot c) ∗ tok c (kS2 t) 0 c ∗ tok t (kR2 c) 0 c))) fun t _ => Entails.of_eq rfl)
  isplitl [Ha]; · iapply (Entails.of_eq (aM_leaves m c)); iexact Ha
  iexact T

/-- A family of positions with one entry of a kind and the others of another. -/
theorem pos_ite (c : Dev nD) (P A : Fin 8 → sProp 𝕄) (B : sProp 𝕄) (C : Fin 8 → sProp 𝕄) (h : ∀ j, C j = iprop(P j ∗ (if j = c then B else A j))) :
    iprop(bigSep Finset.univ P ∗ B ∗ bigSep (Finset.univ.erase c) A) ⊢ bigSep Finset.univ C :=
  (sep_mono_right (ite_join c A B)).trans (zip fun j _ => Entails.of_eq (h j).symm)
/-- A family with its own entry dropped. -/
theorem emp_ite (c : Fin 8) (A : Fin 8 → sProp 𝕄) : (bigSep Finset.univ fun j : Fin 8 => if j = c then iprop(emp) else A j) ⊢ bigSep (Finset.univ.erase c) A := by
  rw [ite_split]; iintro ⟨-, H⟩; iexact H

theorem S1P_eq (c : Dev nD) (j : Fin 8) : S1P (F := F) c j = iprop(pos c (kS1 j) 0 ∗ (if j = c then some (F := F) c (sTile c) else crd c (kS1 j))) := by
  unfold S1P
  by_cases h : j = c
  · subst h; rfl
  · simp only [if_neg h]
theorem RQ_parts (c : Dev nD) : bigSep Finset.univ (RQ (F := F) c) ⊢ iprop((bigSep Finset.univ fun j : Fin 8 => pos c (kR1 j) (fr c j)) ∗ bigSep Finset.univ fun j : Fin 8 => some (F := F) c (rSlot j)) :=
  bigSep_split (F := F) Finset.univ (fun j : Fin 8 => pos c (kR1 j) (fr c j)) fun j : Fin 8 => some (F := F) c (rSlot j)
theorem GQ_parts (c : Dev nD) : bigSep Finset.univ (GQ m c)
    ⊢ iprop((bigSep Finset.univ fun j : Fin 8 => pos c (kR2 j) (fr c j)) ∗ (bigSep Finset.univ fun j : Fin 8 => hold (F := F) c (outTile j) (OT m c j)) ∗ bigSep Finset.univ fun j : Fin 8 => some (F := F) c (gSlot j)) :=
  (bigSep_split (F := F) Finset.univ (fun j : Fin 8 => pos c (kR2 j) (fr c j)) fun j : Fin 8 => iprop(hold (F := F) c (outTile j) (OT m c j) ∗ some (F := F) c (gSlot j))).trans (sep_mono_right (bigSep_split (F := F) Finset.univ (fun j : Fin 8 => hold (F := F) c (outTile j) (OT m c j)) fun j : Fin 8 => some (F := F) c (gSlot j)))
theorem S1Q_parts (c : Dev nD) : bigSep Finset.univ (S1Q (F := F) c) ⊢ iprop((bigSep Finset.univ fun j : Fin 8 => pos c (kS1 j) (fr c j)) ∗ bigSep Finset.univ fun j : Fin 8 => some (F := F) c (sTile j)) :=
  bigSep_split (F := F) Finset.univ (fun j : Fin 8 => pos c (kS1 j) (fr c j)) fun j : Fin 8 => some (F := F) c (sTile j)
theorem S2Q_parts (c : Dev nD) : bigSep Finset.univ (S2Q m c) ⊢ iprop((bigSep Finset.univ fun j : Fin 8 => pos c (kS2 j) (fr c j)) ∗ bigSep Finset.univ (AP m c)) :=
  bigSep_split (F := F) Finset.univ (fun j : Fin 8 => pos c (kS2 j) (fr c j)) (AP m c)
theorem TQ_other (c : Dev nD) : bigSep (Finset.univ.erase c) (TQ m c)
    ⊢ iprop((bigSep (Finset.univ.erase c) fun t : Fin 8 => some (F := F) c (outTile t)) ∗ bigSep (Finset.univ.erase c) fun t : Fin 8 => crd c (kS1 t)) := by
  refine unzip fun t ht => ?_
  unfold TQ
  rw [if_neg (Finset.ne_of_mem_erase ht)]
  exact sep_mono_left (hold_some c (outTile t) _)
theorem TQ_own (c : Dev nD) : TQ m c c ⊢ iprop(hold (F := F) c (outTile c) (PT m c c) ∗ some (F := F) c (sTile c)) := by
  unfold TQ; rw [if_pos rfl]

theorem x_load (c : Dev nD) : (((c : Thread nD τ).loc cc0_stg0_0) ↦{fullShare} xst m c)
    ⊢ W c (Prog.lift (.load xM (Rect.unit (s := S1x1024x1024) ![0, 0, 0] S1x1024x1024.size inb_S1x1024x1024_S1x1024x1024_0_0_0).toLoadRect (View.loadsAt_vmem h_S1x1024x1024)) : PG F _)
      (fun v => iprop(⌜v = xst m c⌝ ∗ (((c : Thread nD τ).loc cc0_stg0_0) ↦{fullShare} xst m c))) := by
  have h := st_load (c := c) (M := xM) (r := (Rect.unit (s := S1x1024x1024) ![0, 0, 0] S1x1024x1024.size inb_S1x1024x1024_S1x1024x1024_0_0_0).toLoadRect) (hl := View.loadsAt_vmem h_S1x1024x1024)
    (S := Finset.univ) (q := fullShare) (f := xst m c) (Finset.subset_univ _)
  have e : xM.view.readAt (Elt F) (Rect.unit (s := S1x1024x1024) ![0, 0, 0] S1x1024x1024.size inb_S1x1024x1024_S1x1024x1024_0_0_0).toLoadRect (xst m c) = xst m c := Memref.readAt_unit_zero (Elt F) cc0_stg0_0 (by decide) _ (xst m c)
  rw [e] at h
  exact h
theorem wq_load (c : Dev nD) : (((c : Thread nD τ).loc cc0_stg1_0) ↦{fullShare} wqst m c)
    ⊢ W c (Prog.lift (.load wqM (Rect.unit (s := S1024x1024) ![0, 0] S1024x1024.size inb_S1024x1024_S1024x1024_0_0).toLoadRect (View.loadsAt_vmem h_S1024x1024)) : PG F _)
      (fun v => iprop(⌜v = wqst m c⌝ ∗ (((c : Thread nD τ).loc cc0_stg1_0) ↦{fullShare} wqst m c))) := by
  have h := st_load (c := c) (M := wqM) (r := (Rect.unit (s := S1024x1024) ![0, 0] S1024x1024.size inb_S1024x1024_S1024x1024_0_0).toLoadRect) (hl := View.loadsAt_vmem h_S1024x1024)
    (S := Finset.univ) (q := fullShare) (f := wqst m c) (Finset.subset_univ _)
  have e : wqM.view.readAt (Elt F) (Rect.unit (s := S1024x1024) ![0, 0] S1024x1024.size inb_S1024x1024_S1024x1024_0_0).toLoadRect (wqst m c) = wqst m c := Memref.readAt_unit_zero (Elt F) cc0_stg1_0 (by decide) _ (wqst m c)
  rw [e] at h
  exact h
theorem wo_load (c : Dev nD) : (((c : Thread nD τ).loc cc0_stg2_0) ↦{fullShare} wost m c)
    ⊢ W c (Prog.lift (.load woM (Rect.unit (s := S1024x1024) ![0, 0] S1024x1024.size inb_S1024x1024_S1024x1024_0_0).toLoadRect (View.loadsAt_vmem h_S1024x1024)) : PG F _)
      (fun v => iprop(⌜v = wost m c⌝ ∗ (((c : Thread nD τ).loc cc0_stg2_0) ↦{fullShare} wost m c))) := by
  have h := st_load (c := c) (M := woM) (r := (Rect.unit (s := S1024x1024) ![0, 0] S1024x1024.size inb_S1024x1024_S1024x1024_0_0).toLoadRect) (hl := View.loadsAt_vmem h_S1024x1024)
    (S := Finset.univ) (q := fullShare) (f := wost m c) (Finset.subset_univ _)
  have e : woM.view.readAt (Elt F) (Rect.unit (s := S1024x1024) ![0, 0] S1024x1024.size inb_S1024x1024_S1024x1024_0_0).toLoadRect (wost m c) = wost m c := Memref.readAt_unit_zero (Elt F) cc0_stg2_0 (by decide) _ (wost m c)
  rw [e] at h
  exact h

theorem LS_intro (c : Dev nD) : iprop(ctx m K ∗ pos c kLoc 0 ∗ whole (F := F) c cc0_scratch2 ∗ ARG m c) ⊢ LS m c 0 := by
  unfold LS ARG
  rw [some_whole]
  iintro ⟨#HC, Hp, Hs, H0, H1⟩
  isplitl [Hp]; · iexact Hp
  isplitr; · iapply (ctx_reached m K (c, kLoc)); iexact HC
  isplitl [Hs]; · iexact Hs
  isplitl [H0]; · iexact H0
  iexact H1
theorem LS_elim (c : Dev nD) (r : ℕ) : LS m c r ⊢ iprop(pos c kLoc r ∗ whole (F := F) c cc0_scratch2 ∗ ARG m c) := by
  unfold LS ARG
  rw [some_whole]
  iintro ⟨Hp, -, Hs, H0, H1⟩
  isplitl [Hp]; · iexact Hp
  isplitl [Hs]; · iexact Hs
  isplitl [H0]; · iexact H0
  iexact H1
theorem a_join (c : Dev nD) : bigSep Finset.univ (AP m c) ⊢ whole (F := F) c cc0_scratch5 := by
  refine (Entails.of_eq (aM_leaves m c).symm).trans ?_
  rw [← some_whole]
  exact some_intro c aM _

end Cert.KernelIdeal
end
-- ==== Proof.Run2.lean ====
/-
  A device's whole program, put together.
-/
module

public import proofs.«01_k».proof.Proof.Run

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CK → ℕ)

set_option maxHeartbeats 4000000 in
theorem prog_step (c : Dev nD) : iprop(ctx m K ∗ BPRE m c ∗ ow c (OL c)) ⊢ W c (prog c) (fun _ => iprop(BPOST m c ∗ ow c [])) := by
  refine (show iprop(ctx m K ∗ BPRE m c ∗ ow c (OL c)) ⊢ W c (prog c) (fun _ => iprop(|={Set.univ}=> (BPOST m c ∗ ow c []))) from ?_).trans (W_fupd (p := prog c) (Q := fun _ => iprop(BPOST m c ∗ ow c [])))
  unfold prog BPRE CRD SCR IN OL
  iintro ⟨#HC, ⟨HP, HT, ⟨cB, cGr, cR1, cR2⟩, ⟨s0, s1, s2, s3, s4, s5, s6, s7⟩, HA, ⟨Hx, Hwq, Hwo⟩, Hout⟩, HO⟩
  ihave HP := (POS_eq (F := F) c) $$ HP
  icases HP with ⟨pB, pL, ⟨pG0, pG1⟩, pGr, pS1, pR1, pS2, pR2⟩
  ihave HT := (Entails.of_eq (TOK_eq (F := F) c)) $$ HT
  icases HT with ⟨tB, tL, tG, tGr, tS1, tR1, tS2, tR2⟩
  -- entering
  ihave s6 := (r_split (F := F) c) $$ s6
  ihave s7 := (g_split (F := F) c) $$ s7
  ihave s0 := (b_split (F := F) c) $$ [s0 s1]
  · isplitl [s0]; · iexact s0
    iexact s1
  ihave HG := (give_all (F := F) c) $$ [s6 s7 s0]
  · isplitl [s6]; · iexact s6
    isplitl [s7]; · iexact s7
    iexact s0
  ihave HG := (bigSep_join (F := F) Finset.univ (fun j : Fin 8 => tok j kBar 0 c) fun j : Fin 8 => Give (F := F) c j) $$ [tB HG]
  · isplitl [tB]; · iexact tB
    iexact HG
  iapply (W_use (sigs m K c (GSL c (OL1 c)))) $$ [HG HO]
  · isplitr; · iexact HC
    isplitl [HG]; · iexact HG
    iexact HO
  iintro %_ ⟨HG, HO⟩
  ihave HG := (Entails.of_eq (ite_split (F := F) c (fun _ => iprop(emp)) (Give (F := F) c c))) $$ HG
  icases HG with ⟨HG, -⟩
  iapply (W_use (bar_wait m K c (GSL c (OL1 c)) (GSL_lvl (lvl_mono (by decide) (OL1_lvl c))))) $$ [cB pB HO]
  · isplitr; · iexact HC
    isplitl [cB]; · iexact cB
    isplitl [pB]; · iexact pB
    iexact HO
  iintro %_ ⟨pB, HGs, HO⟩
  ihave HG := (bigSep_give (F := F) (Finset.mem_univ c) fun d : Fin 8 => Give (F := F) d c) $$ [HG HGs]
  · isplitl [HG]; · iexact HG
    iexact HGs
  ihave HG := (give_got (F := F) c) $$ HG
  icases HG with ⟨Hr, Hg, Hb⟩
  -- spreading
  ihave s3 := (c_split (F := F) c) $$ s3
  icases s3 with ⟨s30, s31⟩
  ihave W0 := (WB_intro m K c 0) $$ [pG0 s30]
  · isplitr; · iexact HC
    isplitl [pG0]; · iexact pG0
    iexact s30
  icases W0 with ⟨W0, pG0⟩
  ihave W1 := (WB_intro m K c 1) $$ [pG1 s31]
  · isplitr; · iexact HC
    isplitl [pG1]; · iexact pG1
    iexact s31
  icases W1 with ⟨W1, pG1⟩
  ihave HL := (LS_intro m K c) $$ [pL s2 HA]
  · isplitr; · iexact HC
    isplitl [pL]; · iexact pL
    isplitl [s2]; · iexact s2
    iexact HA
  ihave HS := (SKs (F := F) c) $$ [tL tG tGr Hb]
  · isplitl [tL]; · iexact tL
    isplitl [tG]; · iexact tG
    isplitl [tGr]; · iexact tGr
    iexact Hb
  iapply (W_use (spread0 m K c (OL1 c) (lvl_mono (by decide) (OL1_lvl c)))) $$ [HL W0 W1 HS HO]
  · isplitr; · iexact HC
    isplitr [HO]
    · unfold SPRE
      isplitl [HL]; · iexact HL
      isplitl [W0]; · iexact W0
      isplitl [W1]; · iexact W1
      iexact HS
    iexact HO
  iintro %_ ⟨HS, HO⟩
  iapply (W_use (spread1 m K c (OL1 c) (lvl_mono (by decide) (OL1_lvl c)))) $$ [HS HO]
  · isplitr; · iexact HC
    isplitl [HS]; · iexact HS
    iexact HO
  iintro %_ ⟨HS, HO⟩
  ihave HS := (Entails.of_eq (show SPOST m c = iprop(LS m c (lfin c) ∗ WB (F := F) c 0 (hfin c) ∗ WB (F := F) c 1 (hfin c) ∗ bigSep Finset.univ fun k : Fin 10 => if snd k = c then HK m c k else iprop(emp)) from rfl)) $$ HS
  icases HS with ⟨HL, W0, W1, HS⟩
  -- the inputs and the last chunk
  iapply (W_use (x_load m c)) $$ [Hx]
  · iexact Hx
  iintro %x ⟨%hx, Hx⟩
  subst hx
  iapply (W_use (wq_load m c)) $$ [Hwq]
  · iexact Hwq
  iintro %wq ⟨%hwq, Hwq⟩
  subst hwq
  ihave HP := (Pends m c) $$ [pGr HS cGr]
  · isplitl [pGr]; · iexact pGr
    isplitl [HS]; · iexact HS
    iexact cGr
  icases HP with ⟨P0, P1, P2, P3, P4, P5, P6, P7, P8, P9⟩
  iapply (W_use (recvStep1_step m K c (OL1 c) (OL1_lvl c))) $$ [P8 P9 HO]
  · isplitr; · iexact HC
    isplitl [P8]; · iexact P8
    isplitl [P9]; · iexact P9
    iexact HO
  iintro %_ ⟨P8, P9, HO⟩
  ihave HK := (kv_first m c 4) $$ [P8 P9]
  · isplitl [P8]; · iexact P8
    iexact P9
  icases HK with ⟨HK, P8, P9⟩
  iapply (W_use (wo_load m c)) $$ [Hwo]
  · iexact Hwo
  iintro %wo ⟨%hwo, Hwo⟩
  subst hwo
  -- the tiles
  ihave Hout := (out_split (F := F) c) $$ Hout
  ihave s4 := (s_split (F := F) c) $$ s4
  ihave Hr := (bigSep_take (F := F) (Finset.mem_univ c) fun j : Fin 8 => some (F := F) j (rSlot c)) $$ Hr
  icases Hr with ⟨Hrc, Hr⟩
  ihave Hg := (bigSep_take (F := F) (Finset.mem_univ c) fun j : Fin 8 => some (F := F) j (gSlot c)) $$ Hg
  icases Hg with ⟨Hgc, Hg⟩
  ihave HT := (TPs (F := F) c) $$ [Hout s4 Hr tS1 tR1]
  · isplitl [Hout]; · iexact Hout
    isplitl [s4]; · iexact s4
    isplitl [Hr]; · iexact Hr
    isplitl [tS1]; · iexact tS1
    iexact tR1
  iapply (W_use (tiles_step m K c (OL2 c) (lvl_mono (by decide) (OL2_lvl c)))) $$ [HK P0 P1 P2 P3 P4 P5 P6 P7 HT HO]
  · isplitr; · iexact HC
    isplitl [HK]; · iexact HK
    isplitl [P0 P1 P2 P3 P4 P5 P6 P7]
    · isplitl [P0]; · iexact P0
      isplitl [P1]; · iexact P1
      isplitl [P2]; · iexact P2
      isplitl [P3]; · iexact P3
      isplitl [P4]; · iexact P4
      isplitl [P5]; · iexact P5
      isplitl [P6]; · iexact P6
      iexact P7
    isplitl [HT]; · iexact HT
    iexact HO
  iintro %_ ⟨HK, ⟨P0, P1, P2, P3, P4, P5, P6, P7⟩, HT, HO⟩
  ihave HT := (bigSep_take (F := F) (Finset.mem_univ c) (TQ m c)) $$ HT
  icases HT with ⟨HTc, HT⟩
  ihave HTc := (TQ_own m c) $$ HTc
  icases HTc with ⟨Hoc, Hsc⟩
  ihave HT := (TQ_other m c) $$ HT
  icases HT with ⟨Hos, Hcs⟩
  -- the sum
  ihave cR1 := (emp_ite (F := F) c fun j => crd c (kR1 j)) $$ cR1
  ihave cR2 := (emp_ite (F := F) c fun j => crd c (kR2 j)) $$ cR2
  ihave HR := (pos_ite (F := F) c (fun j => pos c (kR1 j) 0) (fun j => crd c (kR1 j)) (some (F := F) c (rSlot c)) (RP (F := F) c) fun j => rfl) $$ [pR1 Hrc cR1]
  · isplitl [pR1]; · iexact pR1
    isplitl [Hrc]; · iexact Hrc
    iexact cR1
  iapply (W_use (reduce_step m K c (ro c) (ro_le c) (ro_eq c) (OL2 c) (OL2_lvl c))) $$ [Hoc HR s5 HO]
  · isplitr; · iexact HC
    isplitl [Hoc]; · iexact Hoc
    isplitl [HR]; · iexact HR
    isplitl [s5]; · iapply (Entails.of_eq (some_whole (F := F) c cc0_scratch5).symm); iexact s5
    iexact HO
  iintro %_ ⟨Hoc, HR, Ha, HO⟩
  ihave HSP := (SPs m c) $$ [Ha Hg tS2 tR2]
  · isplitl [Ha]; · iexact Ha
    isplitl [Hg]; · iexact Hg
    isplitl [tS2]; · iexact tS2
    iexact tR2
  iapply (W_use (sendSums m K c [])) $$ [HSP HO]
  · isplitr; · iexact HC
    isplitl [HSP]; · iexact HSP
    iexact HO
  iintro %_ ⟨HSQ, HO⟩
  ihave Hoo := (bigSep_join (F := F) (Finset.univ.erase c) (fun t : Fin 8 => some (F := F) c (outTile t)) fun j : Fin 8 => crd c (kR2 j)) $$ [Hos cR2]
  · isplitl [Hos]; · iexact Hos
    iexact cR2
  ihave HGP := (pos_ite (F := F) c (fun j => pos c (kR2 j) 0) (fun j => iprop(some (F := F) c (outTile j) ∗ crd c (kR2 j))) iprop(hold (F := F) c (outTile c) (AC m c) ∗ some (F := F) c (gSlot c)) (GP m c) fun j => rfl) $$ [pR2 Hoc Hgc Hoo]
  · isplitl [pR2]; · iexact pR2
    isplitr [Hoo]
    · isplitl [Hoc]; · iexact Hoc
      iexact Hgc
    iexact Hoo
  iapply (W_use (gathers m K c)) $$ [HGP HO]
  · isplitr; · iexact HC
    isplitl [HGP]; · iexact HGP
    iexact HO
  iintro %_ ⟨HGQ, HO⟩
  ihave HS1 := (pos_ite (F := F) c (fun j => pos c (kS1 j) 0) (fun j => crd c (kS1 j)) (some (F := F) c (sTile c)) (S1P (F := F) c) (S1P_eq (F := F) c)) $$ [pS1 Hsc Hcs]
  · isplitl [pS1]; · iexact pS1
    isplitl [Hsc]; · iexact Hsc
    iexact Hcs
  iapply (W_use (waitS1s m K c)) $$ [HS1 HO]
  · isplitr; · iexact HC
    isplitl [HS1]; · iexact HS1
    iexact HO
  iintro %_ ⟨HS1, HO⟩
  ihave HS2 := (zip (F := F) (s := Finset.univ) (A := fun j : Fin 8 => pos c (kS2 j) 0) (B := SQ m c) (C := S2P m c) fun j _ => Entails.of_eq rfl) $$ [pS2 HSQ]
  · isplitl [pS2]; · iexact pS2
    iexact HSQ
  iapply (W_last (waitS2s m K c)) $$ [HS2 HO]
  · isplitr; · iexact HC
    isplitl [HS2]; · iexact HS2
    iexact HO
  iintro %_ ⟨HS2, HO⟩
  -- the end
  ihave HL := (LS_elim m c (lfin c)) $$ HL
  icases HL with ⟨pL, s2, HA⟩
  ihave W0 := (WB_elim (F := F) c 0 (hfin c)) $$ [W0 pG0]
  · isplitl [W0]; · iexact W0
    iexact pG0
  icases W0 with ⟨pG0, s30⟩
  ihave W1 := (WB_elim (F := F) c 1 (hfin c)) $$ [W1 pG1]
  · isplitl [W1]; · iexact W1
    iexact pG1
  icases W1 with ⟨pG1, s31⟩
  ihave HR := (RQ_parts (F := F) c) $$ HR
  icases HR with ⟨pR1, s6⟩
  ihave HGQ := (GQ_parts m c) $$ HGQ
  icases HGQ with ⟨pR2, Hout, s7⟩
  ihave HS1 := (S1Q_parts (F := F) c) $$ HS1
  icases HS1 with ⟨pS1, s4⟩
  ihave HS2 := (S2Q_parts m c) $$ HS2
  icases HS2 with ⟨pS2, s5⟩
  ihave HB := (b_join m c) $$ HK
  icases HB with ⟨s0, s1⟩
  imod (close_all m K c) $$ [pB pL pG0 pG1 P0 P1 P2 P3 P4 P5 P6 P7 P8 P9 pS1 pR1 pS2 pR2] with Hz
  · isplitr; · iexact HC
    iapply (Entails.of_eq (cells_eq (F := F) fun k => pos c k (fin c k)).symm)
    isplitl [pB]; · iexact pB
    isplitl [pL]; · iexact pL
    isplitl [pG0 pG1]
    · isplitl [pG0]; · iexact pG0
      iexact pG1
    isplitl [P0 P1 P2 P3 P4 P5 P6 P7 P8 P9]
    · iapply (Entails.of_eq (fin10 (F := F) fun k => posGr c k).symm)
      isplitl [P0]; · iexact P0
      isplitl [P1]; · iexact P1
      isplitl [P2]; · iexact P2
      isplitl [P3]; · iexact P3
      isplitl [P4]; · iexact P4
      isplitl [P5]; · iexact P5
      isplitl [P6]; · iexact P6
      isplitl [P7]; · iexact P7
      isplitl [P8]; · iexact P8
      iexact P9
    isplitl [pS1]; · iexact pS1
    isplitl [pR1]; · iexact pR1
    isplitl [pS2]; · iexact pS2
    iexact pR2
  imodintro
  isplitr [HO]
  · unfold BPOST SCR IN
    isplitl [s0 s1 s2 s30 s31 s4 s5 s6 s7]
    · isplitl [s0]; · iexact s0
      isplitl [s1]; · iexact s1
      isplitl [s2]; · iexact s2
      isplitl [s30 s31]
      · iapply (c_join m c)
        isplitl [s30]; · iexact s30
        iexact s31
      isplitl [s4]; · iapply (s_join m c); iexact s4
      isplitl [s5]; · iapply (a_join m c); iexact s5
      isplitl [s6]; · iapply (r_join m c); iexact s6
      iapply (g_join m c); iexact s7
    isplitl [HA]; · iexact HA
    isplitl [Hx Hwq Hwo]
    · isplitl [Hx]; · iexact Hx
      isplitl [Hwq]; · iexact Hwq
      iexact Hwo
    isplitl [Hout]; · iapply (out_join m c); iexact Hout
    iexact Hz
  iexact HO

end Cert.KernelIdeal
end
-- ==== Proof.BodyDev.lean ====
/-
  The branches of devices 0 and 1 are the programs of loops.
-/
module

public import proofs.«01_k».proof.Proof.Prog
public import proofs.«01_k».proof.Proof.Gen.KernelIdeal.Frame

@[expose] public section

noncomputable section

namespace Cert.KernelIdeal

open Idealize.ShloMosaic Idealize.SL.Sem Cert.KernelIdeal.Gen

variable {F : FTy → Type} [FloatOps F] [Named F]

set_option maxHeartbeats 2000000 in
set_option maxRecDepth 10000 in
theorem dev0_eq (d0 : Dev nD) (k0_h9 : k0_cond9 d0 = 1#1) : (do
    k0_part45 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 k0_h9
    let v2677 : Memref sig .tc .vmem S1x256x8x128 .bf16 := (Memref.whole cc0_scratch3).slice (Rect.unit (s := S2x256x64x128) ![1, 0, 56, 0] S1x256x8x128.size inb_S2x256x64x128_S1x256x8x128_1_0_56_0) (fun _ => rfl)
    let v2678 : Memref sig .tc .vmem S256x8x128 .bf16 := v2677.squeeze S256x8x128 squeezes_S1x256x8x128_S256x8x128
    let v2679 : Memref sig .tc .vmem S256x8x128 .bf16 := (Memref.whole cc0_scratch1).slice (Rect.unit (s := S1280x8x128) ![768, 0, 0] S256x8x128.size inb_S1280x8x128_S256x8x128_768_0_0) (fun _ => rfl)
    let v2675 : DmaSems sig S1x1 := cc0_scratch9.slice (Rect.unit (s := S2x8) ![1, 7] S1x1.size inb_S2x8_S1x1_1_7)
    let v2676 : DmaSems sig S_ := v2675.squeeze S_ squeezes_S1x1_S_
    Prog.lift (.waitDma2 v2676.sem v2679 v2678 ((Memref.isWhole_whole _).wordExact_slice rfl _ wordsbf16_S1280x8x128_S256x8x128_768_0_0) (((Memref.isWhole_whole _).wordExact_slice rfl _ wordsbf16_S2x256x64x128_S1x256x8x128_1_0_56_0).reshape _ _))
  : PG F PUnit) = dev0 := by
  simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel,
    dev0, chunk0, seg, forL, js0, bind_assoc, pure_bind]
  rfl

set_option maxHeartbeats 2000000 in
set_option maxRecDepth 10000 in
theorem dev1_eq (d0 : Dev nD) (k0_h10 : k0_cond10 d0 = 1#1) : (do
    k0_part46 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 k0_h10
    k0_part47 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 k0_h10
    k0_part48 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 k0_h10
    k0_part49 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 k0_h10
    k0_part50 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14
    let v1877 : FVec F S256x64x128 .bf16 ← k0_part51 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14
    let ⟨v1899, c0_i32_1246⟩ : Σ' (v1899 : BitVec 32), BitVec 32 ← k0_part52 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 k0_h10 v1877
    k0_part53 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 k0_h10 v1899 c0_i32_1246
    k0_part54 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 k0_h10
    k0_part55 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14
    k0_part56 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14
    let v1981 : Memref sig .tc .vmem S1x256x8x128 .bf16 := (Memref.whole cc0_scratch3).slice (Rect.unit (s := S2x256x64x128) ![1, 0, 56, 0] S1x256x8x128.size inb_S2x256x64x128_S1x256x8x128_1_0_56_0) (fun _ => rfl)
    let v1982 : Memref sig .tc .vmem S256x8x128 .bf16 := v1981.squeeze S256x8x128 squeezes_S1x256x8x128_S256x8x128
    let v1983 : Memref sig .tc .vmem S256x8x128 .bf16 := (Memref.whole cc0_scratch1).slice (Rect.unit (s := S1280x8x128) ![1024, 0, 0] S256x8x128.size inb_S1280x8x128_S256x8x128_1024_0_0) (fun _ => rfl)
    let v1979 : DmaSems sig S1x1 := cc0_scratch9.slice (Rect.unit (s := S2x8) ![1, 7] S1x1.size inb_S2x8_S1x1_1_7)
    let v1980 : DmaSems sig S_ := v1979.squeeze S_ squeezes_S1x1_S_
    Prog.lift (.waitDma2 v1980.sem v1983 v1982 ((Memref.isWhole_whole _).wordExact_slice rfl _ wordsbf16_S1280x8x128_S256x8x128_1024_0_0) (((Memref.isWhole_whole _).wordExact_slice rfl _ wordsbf16_S2x256x64x128_S1x256x8x128_1_0_56_0).reshape _ _))
  : PG F PUnit) = dev1 := by
  simp only [k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel,
    dev1, chunk1, seg, forL, js1, bind_assoc, pure_bind]
  rfl
end Cert.KernelIdeal
end
-- ==== Proof.BodyParts.lean ====
/-
  The parts of the printed body, with their conditional steps folded.
-/
module

public import proofs.«01_k».proof.Proof.BodyDev

@[expose] public section

noncomputable section

namespace Cert.KernelIdeal

open Idealize.ShloMosaic Idealize.SL.Sem Cert.KernelIdeal.Gen

variable {F : FTy → Type} [FloatOps F] [Named F]

section Steps
variable {α β γ δ : Type}

theorem st_if0 {c : Prop} [Decidable c] {A : c → PG F PUnit} {J R : PG F α} (h : J = R) :
    (dite c (fun hc => A hc >>= fun _ => J) (fun _ => J) : PG F α) = (ifT A >>= fun _ => R) := by
  subst h; unfold ifT; split <;> rfl
theorem st_if1 {c : Prop} [Decidable c] {A : c → PG F PUnit} {J : PG F α} {k : α → PG F β} {R : PG F β} (h : J >>= k = R) :
    (dite c (fun hc => A hc >>= fun _ => J) (fun _ => J) : PG F α) >>= k = (ifT A >>= fun _ => R) := by
  subst h; unfold ifT; split
  · exact bind_assoc _ _ _
  · rfl
theorem st_if2 {c : Prop} [Decidable c] {A : c → PG F PUnit} {J : PG F α} {k : α → PG F β} {l : β → PG F γ} {R : PG F γ}
    (h : (J >>= k) >>= l = R) :
    ((dite c (fun hc => A hc >>= fun _ => J) (fun _ => J) : PG F α) >>= k) >>= l = (ifT A >>= fun _ => R) := by
  subst h; unfold ifT; split
  · rw [bind_assoc, bind_assoc, bind_assoc]
  · rfl
theorem st_ifX {c : Prop} [Decidable c] {X : c → PG F α} {A : c → PG F PUnit} {J : PG F α} {k : α → PG F β} {l : β → PG F γ} {R : PG F γ}
    (hX : ∀ hc, X hc = A hc >>= fun _ => J) (h : (J >>= k) >>= l = R) :
    ((dite c X (fun _ => J) : PG F α) >>= k) >>= l = (ifT A >>= fun _ => R) := by
  have : X = fun hc => A hc >>= fun _ => J := funext hX
  subst this; exact st_if2 h
theorem st_op {X : Type} {e : TpuEff nD τ sig (Elt F) Λ₀ .tc X} {k k' : X → PG F α} (h : ∀ a, k a = k' a) :
    (Prog.op e k : PG F α) = Prog.op e k' := congrArg (Prog.op e) (funext h)

theorem st_ifJ {c : Prop} [Decidable c] {X : c → PG F α} {A : c → PG F PUnit} {J R : PG F α}
    (hX : ∀ hc, X hc = A hc >>= fun _ => J) (h : J = R) :
    (dite c X (fun _ => J) : PG F α) = (ifT A >>= fun _ => R) := by
  have : X = fun hc => A hc >>= fun _ => J := funext hX
  subst this; subst h; unfold ifT; split <;> rfl
theorem st_bind (p : PG F α) {k k' : α → PG F β} (h : ∀ a, k a = k' a) : p >>= k = p >>= k' := by
  rw [funext h]

end Steps

theorem k0_part57_prog  :
    (k0_part57 (F := F) xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14  : PG F (Σ' (d0 : Dev nD) (v2 : BitVec 32), BitVec 1)) = (do
  let d0 : Dev nD ← Prog.lift .deviceId
  let v0 : BitVec 32 := Dev.word d0
  let v1 : BitVec 32 := Scalar.divsi v0 1#32
  let v2 : BitVec 32 := Scalar.remsi v1 8#32
  let v3 : Sems sig S_ := SemArray.scalar (sig.barrier 0 rfl)
  sigStep d0 0
  sigStep d0 1
  sigStep d0 2
  sigStep d0 3
  sigStep d0 4
  sigStep d0 5
  sigStep d0 6
  sigStep d0 7
  semWaitWord v3.sem 7#32
  let v28 : BitVec 1 := Scalar.cmpi .eq v2 0#32
  pure ⟨d0, v2, v28⟩) := by
  rw [k0_part57_eq_skeleton]; unfold k0_part57_skel
  repeat first
    | (refine st_ifJ (fun hc => ?_) ?_; · rfl)
    | refine st_bind _ fun _ => ?_
  rfl

theorem k0_part58_prog (d0 : Dev nD) :
    (k0_part58 (F := F) xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 ((Scalar.remsi (Scalar.divsi (Dev.word d0) 1#32) 8#32)) ((Scalar.cmpi .eq (Scalar.remsi (Scalar.divsi (Dev.word d0) 1#32) 8#32) 0#32)) : PG F (Σ' (v41 : FVec F S1024x1024 .bf16) (v47 : FVec F S1024x1024 .bf16) (v60 : IVec S128x256 1) (v61 : FVec F S128x128 .bf16), FVec F S256x128 .bf16)) = (do
  ifT (c := eqB d0 0 = 1#1) fun _ => dev0
  ifT (c := eqB d0 1 = 1#1) fun _ => dev1
  let v34 : Vec F S1x1024x1024 .f32 ← Prog.lift (.load xM (Rect.unit (s := S1x1024x1024) ![0, 0, 0] S1x1024x1024.size inb_S1x1024x1024_S1x1024x1024_0_0_0).toLoadRect (View.loadsAt_vmem h_S1x1024x1024))
  let v37 : Vec F S1024x1024 .f32 ← Prog.lift (.load wqM (Rect.unit (s := S1024x1024) ![0, 0] S1024x1024.size inb_S1024x1024_S1024x1024_0_0).toLoadRect (View.loadsAt_vmem h_S1024x1024))
  let v42 : BitVec 1 := Scalar.cmpi .ne (Scalar.remsi (Scalar.divsi (Dev.word d0) 1#32) 8#32) 1#32
  let v43 : BitVec 32 := Scalar.extui v42
  let v44 : BitVec 1 := Scalar.cmpi .ne v43 0#32
  recvStep1 d0
  let v45 : Vec F S1024x1024 .f32 ← Prog.lift (.load woM (Rect.unit (s := S1024x1024) ![0, 0] S1024x1024.size inb_S1024x1024_S1024x1024_0_0).toLoadRect (View.loadsAt_vmem h_S1024x1024))
  let v48 : BitVec 1 := Scalar.cmpi .ne (Scalar.remsi (Scalar.divsi (Dev.word d0) 1#32) 8#32) 0#32
  let v49 : BitVec 32 := Scalar.extui v48
  let v50 : BitVec 1 := Scalar.cmpi .ne v49 0#32
  recvStep d0 0
  let v62 : Vec F S256x1x128 .bf16 ← Prog.lift (.load (Memref.whole cc0_scratch0) (Rect.unit (s := S1280x8x128) ![0, 0, 0] S256x1x128.size inb_S1280x8x128_S256x1x128_0_0_0).toLoadRect (View.loadsAt_vmem h_S256x1x128))
  pure ⟨k0_pay24 v34 v37, k0_pay25 v45, k0_pay26, k0_pay27 v34 v37, k0_pay28 v62⟩) := by
  rw [k0_part58_eq_skeleton]; unfold k0_part58_skel
  repeat first
    | (refine st_ifJ (fun hc => ?_) ?_; · first | (rw [← dev0_eq d0 hc]; simp only [bind_assoc]; done) | (rw [← dev1_eq d0 hc]; simp only [bind_assoc]; done) | rfl)
    | refine st_bind _ fun _ => ?_
  rfl

theorem k0_part63_prog (d0 : Dev nD) (v41 : FVec F S1024x1024 .bf16) (v47 : FVec F S1024x1024 .bf16) (v60 : IVec S128x256 1) (v81 : FVec F S128x128 .f32) (v102 : FVec F S128x128 .f32) (v123 : FVec F S128x128 .f32) (v144 : FVec F S128x128 .f32) (v165 : FVec F S128x128 .f32) (v186 : FVec F S128x128 .f32) (v207 : FVec F S128x128 .f32) (v212 : FVec F S256x128 .bf16) (v213 : FVec F S128x256 .f32) (v214 : FVec F S128x256 .f32) :
    (k0_part63 (F := F) xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 ((Scalar.remsi (Scalar.divsi (Dev.word d0) 1#32) 8#32)) v41 v47 v60 v81 v102 v123 v144 v165 v186 v207 v212 v213 v214 : PG F (Σ' (v252 : IVec S128x384 1), FVec F S128x128 .bf16)) = (do
  let v232 : Vec F S128x1024 .f32 ← Prog.lift (.load outM (Rect.unit (s := S1024x1024) ![0, 0] S128x1024.size inb_S1024x1024_S128x1024_0_0).toLoadRect (View.loadsAt_vmem h_S128x1024))
  Prog.lift (.store outM (Rect.unit (s := S1024x1024) ![0, 0] S128x1024.size inb_S1024x1024_S128x1024_0_0) (k0_pay45 v47 v60 v81 v102 v123 v144 v165 v186 v207 v212 v213 v214) Finset.univ (View.stores_vmem_bits_univ h_S128x1024 rfl) (.inl rfl))
  let v234 : Vec F S128x1024 .bf16 ← Prog.lift (.load (Memref.whole cc0_scratch4) (Rect.unit (s := S1024x1024) ![0, 0] S128x1024.size inb_S1024x1024_S128x1024_0_0).toLoadRect (View.loadsAt_vmem h_S128x1024))
  Prog.lift (.store (Memref.whole cc0_scratch4) (Rect.unit (s := S1024x1024) ![0, 0] S128x1024.size inb_S1024x1024_S128x1024_0_0) (k0_pay46 v47 v60 v81 v102 v123 v144 v165 v186 v207 v212 v213 v214) Finset.univ (View.stores_vmem h_S128x1024 ((Memref.isWhole_whole _).storeExact_slice rfl _ packedbf16_S1024x1024_S128x1024_0_0) (fun _ => rfl)) (.inl rfl))
  sendTile d0 (wi d0) 0
  let v240 : BitVec 1 := Scalar.cmpi .ne (Scalar.remsi (Scalar.divsi (Dev.word d0) 1#32) 8#32) 0#32
  let v241 : BitVec 32 := Scalar.extui v240
  let v242 : BitVec 1 := Scalar.cmpi .ne v241 0#32
  recvStep d0 1
  pure ⟨k0_pay47, k0_pay48 v41⟩) := by
  rw [k0_part63_eq_skeleton]; unfold k0_part63_skel
  repeat first
    | (refine st_ifJ (fun hc => ?_) ?_; · rfl)
    | refine st_bind _ fun _ => ?_
  rfl

theorem k0_part68_prog (d0 : Dev nD) (v41 : FVec F S1024x1024 .bf16) (v47 : FVec F S1024x1024 .bf16) (v252 : IVec S128x384 1) (v273 : FVec F S128x128 .f32) (v294 : FVec F S128x128 .f32) (v315 : FVec F S128x128 .f32) (v336 : FVec F S128x128 .f32) (v357 : FVec F S128x128 .f32) (v378 : FVec F S128x128 .f32) (v399 : FVec F S128x128 .f32) (v400 : FVec F S128x128 .bf16) (v402 : FVec F S384x128 .bf16) (v403 : Vec F S384x1x128 .bf16) :
    (k0_part68 (F := F) xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 ((Scalar.remsi (Scalar.divsi (Dev.word d0) 1#32) 8#32)) v41 v47 v252 v273 v294 v315 v336 v357 v378 v399 v400 v402 v403 : PG F (Σ' (v441 : IVec S128x384 1), FVec F S128x128 .bf16)) = (do
  let v424 : Vec F S128x1024 .f32 ← Prog.lift (.load outM (Rect.unit (s := S1024x1024) ![128, 0] S128x1024.size inb_S1024x1024_S128x1024_128_0).toLoadRect (View.loadsAt_vmem h_S128x1024))
  Prog.lift (.store outM (Rect.unit (s := S1024x1024) ![128, 0] S128x1024.size inb_S1024x1024_S128x1024_128_0) (k0_pay66 v47 v252 v273 v294 v315 v336 v357 v378 v399 v400 v402 v403) Finset.univ (View.stores_vmem_bits_univ h_S128x1024 rfl) (.inl rfl))
  let v426 : Vec F S128x1024 .bf16 ← Prog.lift (.load (Memref.whole cc0_scratch4) (Rect.unit (s := S1024x1024) ![128, 0] S128x1024.size inb_S1024x1024_S128x1024_128_0).toLoadRect (View.loadsAt_vmem h_S128x1024))
  Prog.lift (.store (Memref.whole cc0_scratch4) (Rect.unit (s := S1024x1024) ![128, 0] S128x1024.size inb_S1024x1024_S128x1024_128_0) (k0_pay67 v47 v252 v273 v294 v315 v336 v357 v378 v399 v400 v402 v403) Finset.univ (View.stores_vmem h_S128x1024 ((Memref.isWhole_whole _).storeExact_slice rfl _ packedbf16_S1024x1024_S128x1024_128_0) (fun _ => rfl)) (.inl rfl))
  sendTile d0 (wi d0) 1
  pure ⟨k0_pay68, k0_pay69 v41⟩) := by
  rw [k0_part68_eq_skeleton]; unfold k0_part68_skel
  repeat first
    | (refine st_ifJ (fun hc => ?_) ?_; · rfl)
    | refine st_bind _ fun _ => ?_
  rfl

theorem k0_part73_prog (d0 : Dev nD) (v47 : FVec F S1024x1024 .bf16) (v441 : IVec S128x384 1) (v462 : FVec F S128x128 .f32) (v483 : FVec F S128x128 .f32) (v504 : FVec F S128x128 .f32) (v525 : FVec F S128x128 .f32) (v546 : FVec F S128x128 .f32) (v567 : FVec F S128x128 .f32) (v588 : FVec F S128x128 .f32) (v589 : FVec F S128x128 .bf16) (v591 : FVec F S384x128 .bf16) (v593 : FVec F S384x128 .bf16) :
    (k0_part73 (F := F) xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 ((Scalar.remsi (Scalar.divsi (Dev.word d0) 1#32) 8#32)) v47 v441 v462 v483 v504 v525 v546 v567 v588 v589 v591 v593 : PG F (IVec S128x384 32)) = (do
  let v613 : Vec F S128x1024 .f32 ← Prog.lift (.load outM (Rect.unit (s := S1024x1024) ![256, 0] S128x1024.size inb_S1024x1024_S128x1024_256_0).toLoadRect (View.loadsAt_vmem h_S128x1024))
  Prog.lift (.store outM (Rect.unit (s := S1024x1024) ![256, 0] S128x1024.size inb_S1024x1024_S128x1024_256_0) (k0_pay88 v47 v441 v462 v483 v504 v525 v546 v567 v588 v589 v591 v593) Finset.univ (View.stores_vmem_bits_univ h_S128x1024 rfl) (.inl rfl))
  let v615 : Vec F S128x1024 .bf16 ← Prog.lift (.load (Memref.whole cc0_scratch4) (Rect.unit (s := S1024x1024) ![256, 0] S128x1024.size inb_S1024x1024_S128x1024_256_0).toLoadRect (View.loadsAt_vmem h_S128x1024))
  Prog.lift (.store (Memref.whole cc0_scratch4) (Rect.unit (s := S1024x1024) ![256, 0] S128x1024.size inb_S1024x1024_S128x1024_256_0) (k0_pay89 v47 v441 v462 v483 v504 v525 v546 v567 v588 v589 v591 v593) Finset.univ (View.stores_vmem h_S128x1024 ((Memref.isWhole_whole _).storeExact_slice rfl _ packedbf16_S1024x1024_S128x1024_256_0) (fun _ => rfl)) (.inl rfl))
  sendTile d0 (wi d0) 2
  let v621 : BitVec 1 := Scalar.cmpi .ne (Scalar.remsi (Scalar.divsi (Dev.word d0) 1#32) 8#32) 0#32
  let v622 : BitVec 32 := Scalar.extui v621
  let v623 : BitVec 1 := Scalar.cmpi .ne v622 0#32
  recvStep d0 2
  pure k0_pay90) := by
  rw [k0_part73_eq_skeleton]; unfold k0_part73_skel
  repeat first
    | (refine st_ifJ (fun hc => ?_) ?_; · rfl)
    | refine st_bind _ fun _ => ?_
  rfl

theorem k0_part78_prog (d0 : Dev nD) (v47 : FVec F S1024x1024 .bf16) (v633 : IVec S128x384 1) (v654 : FVec F S128x128 .f32) (v675 : FVec F S128x128 .f32) (v696 : FVec F S128x128 .f32) (v717 : FVec F S128x128 .f32) (v738 : FVec F S128x128 .f32) (v759 : FVec F S128x128 .f32) (v780 : FVec F S128x128 .f32) (v781 : FVec F S128x128 .bf16) (v783 : FVec F S384x128 .bf16) :
    (k0_part78 (F := F) xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 ((Scalar.remsi (Scalar.divsi (Dev.word d0) 1#32) 8#32)) v47 v633 v654 v675 v696 v717 v738 v759 v780 v781 v783 : PG F (Σ' (v820 : IVec S128x384 32), BitVec 32)) = (do
  let v784 : Vec F S384x1x128 .bf16 ← Prog.lift (.load (Memref.whole cc0_scratch1) (Rect.unit (s := S1280x8x128) ![256, 7, 0] S384x1x128.size inb_S1280x8x128_S384x1x128_256_7_0).toLoadRect (View.loadsAt_vmem h_S384x1x128))
  let v805 : Vec F S128x1024 .f32 ← Prog.lift (.load outM (Rect.unit (s := S1024x1024) ![384, 0] S128x1024.size inb_S1024x1024_S128x1024_384_0).toLoadRect (View.loadsAt_vmem h_S128x1024))
  Prog.lift (.store outM (Rect.unit (s := S1024x1024) ![384, 0] S128x1024.size inb_S1024x1024_S128x1024_384_0) (k0_pay109 v47 v633 v654 v675 v696 v717 v738 v759 v780 v781 v783 v784) Finset.univ (View.stores_vmem_bits_univ h_S128x1024 rfl) (.inl rfl))
  let v807 : Vec F S128x1024 .bf16 ← Prog.lift (.load (Memref.whole cc0_scratch4) (Rect.unit (s := S1024x1024) ![384, 0] S128x1024.size inb_S1024x1024_S128x1024_384_0).toLoadRect (View.loadsAt_vmem h_S128x1024))
  Prog.lift (.store (Memref.whole cc0_scratch4) (Rect.unit (s := S1024x1024) ![384, 0] S128x1024.size inb_S1024x1024_S128x1024_384_0) (k0_pay110 v47 v633 v654 v675 v696 v717 v738 v759 v780 v781 v783 v784) Finset.univ (View.stores_vmem h_S128x1024 ((Memref.isWhole_whole _).storeExact_slice rfl _ packedbf16_S1024x1024_S128x1024_384_0) (fun _ => rfl)) (.inl rfl))
  sendTile d0 (wi d0) 3
  pure ⟨k0_pay111, 128#32⟩) := by
  rw [k0_part78_eq_skeleton]; unfold k0_part78_skel
  repeat first
    | (refine st_ifJ (fun hc => ?_) ?_; · rfl)
    | refine st_bind _ fun _ => ?_
  rfl

theorem k0_part83_prog (d0 : Dev nD) (v47 : FVec F S1024x1024 .bf16) (v822 : IVec S128x384 1) (v843 : FVec F S128x128 .f32) (v864 : FVec F S128x128 .f32) (v885 : FVec F S128x128 .f32) (v906 : FVec F S128x128 .f32) (v927 : FVec F S128x128 .f32) (v948 : FVec F S128x128 .f32) (v969 : FVec F S128x128 .f32) (v970 : FVec F S128x128 .bf16) (v972 : FVec F S384x128 .bf16) :
    (k0_part83 (F := F) xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 ((Scalar.remsi (Scalar.divsi (Dev.word d0) 1#32) 8#32)) v47 v822 v843 v864 v885 v906 v927 v948 v969 v970 v972 : PG F (Σ' (v1007 : IVec S128x384 32) (v1008 : IVec S128x384 32), BitVec 32)) = (do
  let v973 : Vec F S384x1x128 .bf16 ← Prog.lift (.load (Memref.whole cc0_scratch1) (Rect.unit (s := S1280x8x128) ![384, 7, 0] S384x1x128.size inb_S1280x8x128_S384x1x128_384_7_0).toLoadRect (View.loadsAt_vmem h_S384x1x128))
  let v994 : Vec F S128x1024 .f32 ← Prog.lift (.load outM (Rect.unit (s := S1024x1024) ![512, 0] S128x1024.size inb_S1024x1024_S128x1024_512_0).toLoadRect (View.loadsAt_vmem h_S128x1024))
  Prog.lift (.store outM (Rect.unit (s := S1024x1024) ![512, 0] S128x1024.size inb_S1024x1024_S128x1024_512_0) (k0_pay128 v47 v822 v843 v864 v885 v906 v927 v948 v969 v970 v972 v973) Finset.univ (View.stores_vmem_bits_univ h_S128x1024 rfl) (.inl rfl))
  let v996 : Vec F S128x1024 .bf16 ← Prog.lift (.load (Memref.whole cc0_scratch4) (Rect.unit (s := S1024x1024) ![512, 0] S128x1024.size inb_S1024x1024_S128x1024_512_0).toLoadRect (View.loadsAt_vmem h_S128x1024))
  Prog.lift (.store (Memref.whole cc0_scratch4) (Rect.unit (s := S1024x1024) ![512, 0] S128x1024.size inb_S1024x1024_S128x1024_512_0) (k0_pay129 v47 v822 v843 v864 v885 v906 v927 v948 v969 v970 v972 v973) Finset.univ (View.stores_vmem h_S128x1024 ((Memref.isWhole_whole _).storeExact_slice rfl _ packedbf16_S1024x1024_S128x1024_512_0) (fun _ => rfl)) (.inl rfl))
  sendTile d0 (wi d0) 4
  let v1002 : BitVec 1 := Scalar.cmpi .ne (Scalar.remsi (Scalar.divsi (Dev.word d0) 1#32) 8#32) 0#32
  let v1003 : BitVec 32 := Scalar.extui v1002
  let v1004 : BitVec 1 := Scalar.cmpi .ne v1003 0#32
  recvStep d0 3
  have v1008 : IVec S128x384 32 := iota .tc S128x384 32 [1] iota_S128x384_d1_w32
  pure ⟨k0_pay130, v1008, 512#32⟩) := by
  rw [k0_part83_eq_skeleton]; unfold k0_part83_skel
  repeat first
    | (refine st_ifJ (fun hc => ?_) ?_; · rfl)
    | refine st_bind _ fun _ => ?_
  rfl

theorem k0_part88_prog (d0 : Dev nD) (v47 : FVec F S1024x1024 .bf16) (v1014 : IVec S128x384 1) (v1035 : FVec F S128x128 .f32) (v1056 : FVec F S128x128 .f32) (v1077 : FVec F S128x128 .f32) (v1098 : FVec F S128x128 .f32) (v1119 : FVec F S128x128 .f32) (v1140 : FVec F S128x128 .f32) (v1161 : FVec F S128x128 .f32) (v1162 : FVec F S128x128 .bf16) :
    (k0_part88 (F := F) xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 ((Scalar.remsi (Scalar.divsi (Dev.word d0) 1#32) 8#32)) v47 v1014 v1035 v1056 v1077 v1098 v1119 v1140 v1161 v1162 : PG F (Σ' (v1196 : IVec S128x384 32) (v1197 : IVec S128x384 32), IVec S128x384 32)) = (do
  let v1163 : Vec F S384x1x128 .bf16 ← Prog.lift (.load (Memref.whole cc0_scratch0) (Rect.unit (s := S1280x8x128) ![512, 7, 0] S384x1x128.size inb_S1280x8x128_S384x1x128_512_7_0).toLoadRect (View.loadsAt_vmem h_S384x1x128))
  let v1165 : Vec F S384x1x128 .bf16 ← Prog.lift (.load (Memref.whole cc0_scratch1) (Rect.unit (s := S1280x8x128) ![512, 7, 0] S384x1x128.size inb_S1280x8x128_S384x1x128_512_7_0).toLoadRect (View.loadsAt_vmem h_S384x1x128))
  let v1186 : Vec F S128x1024 .f32 ← Prog.lift (.load outM (Rect.unit (s := S1024x1024) ![640, 0] S128x1024.size inb_S1024x1024_S128x1024_640_0).toLoadRect (View.loadsAt_vmem h_S128x1024))
  Prog.lift (.store outM (Rect.unit (s := S1024x1024) ![640, 0] S128x1024.size inb_S1024x1024_S128x1024_640_0) (k0_pay146 v47 v1014 v1035 v1056 v1077 v1098 v1119 v1140 v1161 v1162 v1163 v1165) Finset.univ (View.stores_vmem_bits_univ h_S128x1024 rfl) (.inl rfl))
  let v1188 : Vec F S128x1024 .bf16 ← Prog.lift (.load (Memref.whole cc0_scratch4) (Rect.unit (s := S1024x1024) ![640, 0] S128x1024.size inb_S1024x1024_S128x1024_640_0).toLoadRect (View.loadsAt_vmem h_S128x1024))
  Prog.lift (.store (Memref.whole cc0_scratch4) (Rect.unit (s := S1024x1024) ![640, 0] S128x1024.size inb_S1024x1024_S128x1024_640_0) (k0_pay147 v47 v1014 v1035 v1056 v1077 v1098 v1119 v1140 v1161 v1162 v1163 v1165) Finset.univ (View.stores_vmem h_S128x1024 ((Memref.isWhole_whole _).storeExact_slice rfl _ packedbf16_S1024x1024_S128x1024_640_0) (fun _ => rfl)) (.inl rfl))
  sendTile d0 (wi d0) 5
  have v1197 : IVec S128x384 32 := iota .tc S128x384 32 [1] iota_S128x384_d1_w32
  pure ⟨k0_pay148, v1197, k0_pay149⟩) := by
  rw [k0_part88_eq_skeleton]; unfold k0_part88_skel
  repeat first
    | (refine st_ifJ (fun hc => ?_) ?_; · rfl)
    | refine st_bind _ fun _ => ?_
  rfl

theorem k0_part93_prog (d0 : Dev nD) (v47 : FVec F S1024x1024 .bf16) (v1203 : IVec S128x384 1) (v1224 : FVec F S128x128 .f32) (v1245 : FVec F S128x128 .f32) (v1266 : FVec F S128x128 .f32) (v1287 : FVec F S128x128 .f32) (v1308 : FVec F S128x128 .f32) (v1329 : FVec F S128x128 .f32) (v1350 : FVec F S128x128 .f32) (v1351 : FVec F S128x128 .bf16) :
    (k0_part93 (F := F) xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 ((Scalar.remsi (Scalar.divsi (Dev.word d0) 1#32) 8#32)) v47 v1203 v1224 v1245 v1266 v1287 v1308 v1329 v1350 v1351 : PG F (Σ' (v1385 : IVec S128x384 32), IVec S128x384 32)) = (do
  let v1352 : Vec F S384x1x128 .bf16 ← Prog.lift (.load (Memref.whole cc0_scratch0) (Rect.unit (s := S1280x8x128) ![640, 7, 0] S384x1x128.size inb_S1280x8x128_S384x1x128_640_7_0).toLoadRect (View.loadsAt_vmem h_S384x1x128))
  let v1354 : Vec F S384x1x128 .bf16 ← Prog.lift (.load (Memref.whole cc0_scratch1) (Rect.unit (s := S1280x8x128) ![640, 7, 0] S384x1x128.size inb_S1280x8x128_S384x1x128_640_7_0).toLoadRect (View.loadsAt_vmem h_S384x1x128))
  let v1375 : Vec F S128x1024 .f32 ← Prog.lift (.load outM (Rect.unit (s := S1024x1024) ![768, 0] S128x1024.size inb_S1024x1024_S128x1024_768_0).toLoadRect (View.loadsAt_vmem h_S128x1024))
  Prog.lift (.store outM (Rect.unit (s := S1024x1024) ![768, 0] S128x1024.size inb_S1024x1024_S128x1024_768_0) (k0_pay167 v47 v1203 v1224 v1245 v1266 v1287 v1308 v1329 v1350 v1351 v1352 v1354) Finset.univ (View.stores_vmem_bits_univ h_S128x1024 rfl) (.inl rfl))
  let v1377 : Vec F S128x1024 .bf16 ← Prog.lift (.load (Memref.whole cc0_scratch4) (Rect.unit (s := S1024x1024) ![768, 0] S128x1024.size inb_S1024x1024_S128x1024_768_0).toLoadRect (View.loadsAt_vmem h_S128x1024))
  Prog.lift (.store (Memref.whole cc0_scratch4) (Rect.unit (s := S1024x1024) ![768, 0] S128x1024.size inb_S1024x1024_S128x1024_768_0) (k0_pay168 v47 v1203 v1224 v1245 v1266 v1287 v1308 v1329 v1350 v1351 v1352 v1354) Finset.univ (View.stores_vmem h_S128x1024 ((Memref.isWhole_whole _).storeExact_slice rfl _ packedbf16_S1024x1024_S128x1024_768_0) (fun _ => rfl)) (.inl rfl))
  sendTile d0 (wi d0) 6
  pure ⟨k0_pay169, k0_pay170⟩) := by
  rw [k0_part93_eq_skeleton]; unfold k0_part93_skel
  repeat first
    | (refine st_ifJ (fun hc => ?_) ?_; · rfl)
    | refine st_bind _ fun _ => ?_
  rfl

theorem k0_part98_prog (d0 : Dev nD) (v47 : FVec F S1024x1024 .bf16) (v1392 : IVec S128x384 1) (v1413 : FVec F S128x128 .f32) (v1434 : FVec F S128x128 .f32) (v1455 : FVec F S128x128 .f32) (v1476 : FVec F S128x128 .f32) (v1497 : FVec F S128x128 .f32) (v1518 : FVec F S128x128 .f32) (v1539 : FVec F S128x128 .f32) (v1540 : FVec F S128x128 .bf16) :
    (k0_part98 (F := F) xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 ((Scalar.remsi (Scalar.divsi (Dev.word d0) 1#32) 8#32)) v47 v1392 v1413 v1434 v1455 v1476 v1497 v1518 v1539 v1540 : PG F (Σ' (v1575 : FVec F S128x1024 .f32) (v1576 : FVec F S128x1024 .f32), BitVec 32)) = (do
  let v1541 : Vec F S384x1x128 .bf16 ← Prog.lift (.load (Memref.whole cc0_scratch0) (Rect.unit (s := S1280x8x128) ![768, 7, 0] S384x1x128.size inb_S1280x8x128_S384x1x128_768_7_0).toLoadRect (View.loadsAt_vmem h_S384x1x128))
  let v1543 : Vec F S384x1x128 .bf16 ← Prog.lift (.load (Memref.whole cc0_scratch1) (Rect.unit (s := S1280x8x128) ![768, 7, 0] S384x1x128.size inb_S1280x8x128_S384x1x128_768_7_0).toLoadRect (View.loadsAt_vmem h_S384x1x128))
  let v1564 : Vec F S128x1024 .f32 ← Prog.lift (.load outM (Rect.unit (s := S1024x1024) ![896, 0] S128x1024.size inb_S1024x1024_S128x1024_896_0).toLoadRect (View.loadsAt_vmem h_S128x1024))
  Prog.lift (.store outM (Rect.unit (s := S1024x1024) ![896, 0] S128x1024.size inb_S1024x1024_S128x1024_896_0) (k0_pay187 v47 v1392 v1413 v1434 v1455 v1476 v1497 v1518 v1539 v1540 v1541 v1543) Finset.univ (View.stores_vmem_bits_univ h_S128x1024 rfl) (.inl rfl))
  let v1566 : Vec F S128x1024 .bf16 ← Prog.lift (.load (Memref.whole cc0_scratch4) (Rect.unit (s := S1024x1024) ![896, 0] S128x1024.size inb_S1024x1024_S128x1024_896_0).toLoadRect (View.loadsAt_vmem h_S128x1024))
  Prog.lift (.store (Memref.whole cc0_scratch4) (Rect.unit (s := S1024x1024) ![896, 0] S128x1024.size inb_S1024x1024_S128x1024_896_0) (k0_pay188 v47 v1392 v1413 v1434 v1455 v1476 v1497 v1518 v1539 v1540 v1541 v1543) Finset.univ (View.stores_vmem h_S128x1024 ((Memref.isWhole_whole _).storeExact_slice rfl _ packedbf16_S1024x1024_S128x1024_896_0) (fun _ => rfl)) (.inl rfl))
  sendTile d0 (wi d0) 7
  let v1574 : Vec F S128x1024 .f32 ← Prog.lift (.load outM (Rect.unit (s := S1024x1024) (k0_off17 d0) S128x1024.size (k0_off17_inb d0)).toLoadRect (View.loadsAt_vmem h_S128x1024))
  pure ⟨k0_pay189 v1574, k0_pay190 (F := F), 0#32⟩) := by
  rw [k0_part98_eq_skeleton]; unfold k0_part98_skel
  repeat first
    | (refine st_ifJ (fun hc => ?_) ?_; · rfl)
    | refine st_bind _ fun _ => ?_
  rfl

theorem k0_part99_prog (d0 : Dev nD) (v1575 : FVec F S128x1024 .f32) (v1576 : FVec F S128x1024 .f32) :
    (k0_part99 (F := F) xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 ((Scalar.remsi (Scalar.divsi (Dev.word d0) 1#32) 8#32)) v1575 v1576 (0#32) : PG F (Σ' (v1603 : FVec F S128x1024 .f32) (v1607 : BitVec 1), FVec F S128x1024 .bf16)) = (do
  let v1577 : BitVec 1 := Scalar.cmpi .ne (Scalar.remsi (Scalar.divsi (Dev.word d0) 1#32) 8#32) 0#32
  let v1578 : BitVec 32 := Scalar.extui v1577
  let v1579 : BitVec 1 := Scalar.cmpi .ne v1578 0#32
  waitR1 d0 0
  let v1581 : Vec F S1x128x1024 .bf16 ← Prog.lift (.load (Memref.whole cc0_scratch6) (Rect.unit (s := S8x128x1024) ![0, 0, 0] S1x128x1024.size inb_S8x128x1024_S1x128x1024_0_0_0).toLoadRect (View.loadsAt_vmem h_S1x128x1024))
  let v1586 : BitVec 1 := Scalar.cmpi .ne (Scalar.remsi (Scalar.divsi (Dev.word d0) 1#32) 8#32) 1#32
  let v1587 : BitVec 32 := Scalar.extui v1586
  let v1588 : BitVec 1 := Scalar.cmpi .ne v1587 0#32
  waitR1 d0 1
  let v1590 : Vec F S1x128x1024 .bf16 ← Prog.lift (.load (Memref.whole cc0_scratch6) (Rect.unit (s := S8x128x1024) ![1, 0, 0] S1x128x1024.size inb_S8x128x1024_S1x128x1024_1_0_0).toLoadRect (View.loadsAt_vmem h_S1x128x1024))
  let v1595 : BitVec 1 := Scalar.cmpi .ne (Scalar.remsi (Scalar.divsi (Dev.word d0) 1#32) 8#32) 2#32
  let v1596 : BitVec 32 := Scalar.extui v1595
  let v1597 : BitVec 1 := Scalar.cmpi .ne v1596 0#32
  waitR1 d0 2
  let v1599 : Vec F S1x128x1024 .bf16 ← Prog.lift (.load (Memref.whole cc0_scratch6) (Rect.unit (s := S8x128x1024) ![2, 0, 0] S1x128x1024.size inb_S8x128x1024_S1x128x1024_2_0_0).toLoadRect (View.loadsAt_vmem h_S1x128x1024))
  let v1604 : BitVec 1 := Scalar.cmpi .ne (Scalar.remsi (Scalar.divsi (Dev.word d0) 1#32) 8#32) 3#32
  let v1605 : BitVec 32 := Scalar.extui v1604
  let v1606 : BitVec 1 := Scalar.cmpi .ne v1605 0#32
  waitR1 d0 3
  let v1607 : BitVec 1 := Scalar.cmpi .eq (Scalar.remsi (Scalar.divsi (Dev.word d0) 1#32) 8#32) 3#32
  let v1608 : Vec F S1x128x1024 .bf16 ← Prog.lift (.load (Memref.whole cc0_scratch6) (Rect.unit (s := S8x128x1024) ![3, 0, 0] S1x128x1024.size inb_S8x128x1024_S1x128x1024_3_0_0).toLoadRect (View.loadsAt_vmem h_S1x128x1024))
  pure ⟨k0_pay191 (Scalar.remsi (Scalar.divsi (Dev.word d0) 1#32) 8#32) v1575 v1576 v1581 v1590 v1599, v1607, k0_pay192 v1608⟩) := by
  rw [k0_part99_eq_skeleton]; unfold k0_part99_skel
  repeat first
    | (refine st_ifJ (fun hc => ?_) ?_; · rfl)
    | refine st_bind _ fun _ => ?_
  rfl

theorem k0_part100_prog (d0 : Dev nD) (v1575 : FVec F S128x1024 .f32) (v1603 : FVec F S128x1024 .f32) (v1609 : FVec F S128x1024 .bf16) :
    (k0_part100 (F := F) xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 ((Scalar.remsi (Scalar.divsi (Dev.word d0) 1#32) 8#32)) v1575 v1603 ((Scalar.cmpi .eq (Scalar.remsi (Scalar.divsi (Dev.word d0) 1#32) 8#32) 3#32)) v1609 : PG F (Σ' (v1639 : FVec F S128x1024 .f32), BitVec 1)) = (do
  let v1613 : BitVec 1 := Scalar.cmpi .ne (Scalar.remsi (Scalar.divsi (Dev.word d0) 1#32) 8#32) 4#32
  let v1614 : BitVec 32 := Scalar.extui v1613
  let v1615 : BitVec 1 := Scalar.cmpi .ne v1614 0#32
  waitR1 d0 4
  let v1617 : Vec F S1x128x1024 .bf16 ← Prog.lift (.load (Memref.whole cc0_scratch6) (Rect.unit (s := S8x128x1024) ![4, 0, 0] S1x128x1024.size inb_S8x128x1024_S1x128x1024_4_0_0).toLoadRect (View.loadsAt_vmem h_S1x128x1024))
  let v1622 : BitVec 1 := Scalar.cmpi .ne (Scalar.remsi (Scalar.divsi (Dev.word d0) 1#32) 8#32) 5#32
  let v1623 : BitVec 32 := Scalar.extui v1622
  let v1624 : BitVec 1 := Scalar.cmpi .ne v1623 0#32
  waitR1 d0 5
  let v1626 : Vec F S1x128x1024 .bf16 ← Prog.lift (.load (Memref.whole cc0_scratch6) (Rect.unit (s := S8x128x1024) ![5, 0, 0] S1x128x1024.size inb_S8x128x1024_S1x128x1024_5_0_0).toLoadRect (View.loadsAt_vmem h_S1x128x1024))
  let v1631 : BitVec 1 := Scalar.cmpi .ne (Scalar.remsi (Scalar.divsi (Dev.word d0) 1#32) 8#32) 6#32
  let v1632 : BitVec 32 := Scalar.extui v1631
  let v1633 : BitVec 1 := Scalar.cmpi .ne v1632 0#32
  waitR1 d0 6
  let v1635 : Vec F S1x128x1024 .bf16 ← Prog.lift (.load (Memref.whole cc0_scratch6) (Rect.unit (s := S8x128x1024) ![6, 0, 0] S1x128x1024.size inb_S8x128x1024_S1x128x1024_6_0_0).toLoadRect (View.loadsAt_vmem h_S1x128x1024))
  let v1640 : BitVec 1 := Scalar.cmpi .ne (Scalar.remsi (Scalar.divsi (Dev.word d0) 1#32) 8#32) 7#32
  let v1641 : BitVec 32 := Scalar.extui v1640
  let v1642 : BitVec 1 := Scalar.cmpi .ne v1641 0#32
  waitR1 d0 7
  let v1643 : BitVec 1 := Scalar.cmpi .eq (Scalar.remsi (Scalar.divsi (Dev.word d0) 1#32) 8#32) 7#32
  pure ⟨k0_pay193 (Scalar.remsi (Scalar.divsi (Dev.word d0) 1#32) 8#32) v1575 v1603 (Scalar.cmpi .eq (Scalar.remsi (Scalar.divsi (Dev.word d0) 1#32) 8#32) 3#32) v1609 v1617 v1626 v1635, v1643⟩) := by
  rw [k0_part100_eq_skeleton]; unfold k0_part100_skel
  repeat first
    | (refine st_ifJ (fun hc => ?_) ?_; · rfl)
    | refine st_bind _ fun _ => ?_
  rfl

theorem k0_part101_prog (d0 : Dev nD) (v1575 : FVec F S128x1024 .f32) (v1639 : FVec F S128x1024 .f32) :
    (k0_part101 (F := F) xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 ((Scalar.remsi (Scalar.divsi (Dev.word d0) 1#32) 8#32)) v1575 v1639 ((Scalar.cmpi .eq (Scalar.remsi (Scalar.divsi (Dev.word d0) 1#32) 8#32) 7#32)) : PG F (Σ' (v1672 : BitVec 32), BitVec 32)) = (do
  let v1644 : Vec F S1x128x1024 .bf16 ← Prog.lift (.load (Memref.whole cc0_scratch6) (Rect.unit (s := S8x128x1024) ![7, 0, 0] S1x128x1024.size inb_S8x128x1024_S1x128x1024_7_0_0).toLoadRect (View.loadsAt_vmem h_S1x128x1024))
  let v1651 : Vec F S128x1024 .f32 ← Prog.lift (.load outM (Rect.unit (s := S1024x1024) (k0_off17 d0) S128x1024.size (k0_off17_inb d0)).toLoadRect (View.loadsAt_vmem h_S128x1024))
  Prog.lift (.store outM (Rect.unit (s := S1024x1024) (k0_off17 d0) S128x1024.size (k0_off17_inb d0)) (k0_pay194 v1575 v1639 (Scalar.cmpi .eq (Scalar.remsi (Scalar.divsi (Dev.word d0) 1#32) 8#32) 7#32) v1644) Finset.univ (View.stores_vmem_bits_univ h_S128x1024 rfl) (.inl rfl))
  let v1653 : Vec F S128x1024 .bf16 ← Prog.lift (.load (Memref.whole cc0_scratch5) (Rect.unit (s := S128x1024) ![0, 0] S128x1024.size inb_S128x1024_S128x1024_0_0).toLoadRect (View.loadsAt_vmem h_S128x1024))
  Prog.lift (.store (Memref.whole cc0_scratch5) (Rect.unit (s := S128x1024) ![0, 0] S128x1024.size inb_S128x1024_S128x1024_0_0) (k0_pay195 v1575 v1639 (Scalar.cmpi .eq (Scalar.remsi (Scalar.divsi (Dev.word d0) 1#32) 8#32) 7#32) v1644) Finset.univ (View.stores_vmem h_S128x1024 ((Memref.isWhole_whole _).storeExact_slice rfl _ packedbf16_S128x1024_S128x1024_0_0) (fun _ => rfl)) (.inl rfl))
  sendSum d0 (wi d0) 0
  sendSum d0 (wi d0) 1
  sendSum d0 (wi d0) 2
  sendSum d0 (wi d0) 3
  sendSum d0 (wi d0) 4
  let v1671 : BitVec 1 := Scalar.cmpi .ne (Scalar.remsi (Scalar.divsi (Dev.word d0) 1#32) 8#32) 5#32
  let v1672 : BitVec 32 := Scalar.extui v1671
  pure ⟨v1672, 0#32⟩) := by
  rw [k0_part101_eq_skeleton]; unfold k0_part101_skel
  repeat first
    | (refine st_ifJ (fun hc => ?_) ?_; · rfl)
    | refine st_bind _ fun _ => ?_
  rfl

theorem k0_part102_prog (d0 : Dev nD) :
    (k0_part102 (F := F) xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 ((Scalar.remsi (Scalar.divsi (Dev.word d0) 1#32) 8#32)) ((Scalar.extui (Scalar.cmpi .ne (Scalar.remsi (Scalar.divsi (Dev.word d0) 1#32) 8#32) 5#32))) (0#32) : PG F (BitVec 1)) = (do
  sendSum d0 (wi d0) 5
  sendSum d0 (wi d0) 6
  sendSum d0 (wi d0) 7
  let v1680 : BitVec 1 := Scalar.cmpi .ne (Scalar.remsi (Scalar.divsi (Dev.word d0) 1#32) 8#32) 0#32
  let v1681 : BitVec 32 := Scalar.extui v1680
  let v1682 : BitVec 1 := Scalar.cmpi .ne v1681 0#32
  gather d0 0
  let v1683 : BitVec 1 := Scalar.cmpi .ne (Scalar.remsi (Scalar.divsi (Dev.word d0) 1#32) 8#32) 1#32
  let v1684 : BitVec 32 := Scalar.extui v1683
  let v1685 : BitVec 1 := Scalar.cmpi .ne v1684 0#32
  gather d0 1
  let v1686 : BitVec 1 := Scalar.cmpi .ne (Scalar.remsi (Scalar.divsi (Dev.word d0) 1#32) 8#32) 2#32
  let v1687 : BitVec 32 := Scalar.extui v1686
  let v1688 : BitVec 1 := Scalar.cmpi .ne v1687 0#32
  gather d0 2
  let v1689 : BitVec 1 := Scalar.cmpi .ne (Scalar.remsi (Scalar.divsi (Dev.word d0) 1#32) 8#32) 3#32
  let v1690 : BitVec 32 := Scalar.extui v1689
  let v1691 : BitVec 1 := Scalar.cmpi .ne v1690 0#32
  gather d0 3
  let v1692 : BitVec 1 := Scalar.cmpi .ne (Scalar.remsi (Scalar.divsi (Dev.word d0) 1#32) 8#32) 4#32
  let v1693 : BitVec 32 := Scalar.extui v1692
  let v1694 : BitVec 1 := Scalar.cmpi .ne v1693 0#32
  gather d0 4
  let v1695 : BitVec 1 := Scalar.cmpi .ne (Scalar.remsi (Scalar.divsi (Dev.word d0) 1#32) 8#32) 5#32
  let v1696 : BitVec 32 := Scalar.extui v1695
  let v1697 : BitVec 1 := Scalar.cmpi .ne v1696 0#32
  gather d0 5
  let v1698 : BitVec 1 := Scalar.cmpi .ne (Scalar.remsi (Scalar.divsi (Dev.word d0) 1#32) 8#32) 6#32
  let v1699 : BitVec 32 := Scalar.extui v1698
  let v1700 : BitVec 1 := Scalar.cmpi .ne v1699 0#32
  gather d0 6
  let v1701 : BitVec 1 := Scalar.cmpi .ne (Scalar.remsi (Scalar.divsi (Dev.word d0) 1#32) 8#32) 7#32
  pure v1701) := by
  rw [k0_part102_eq_skeleton]; unfold k0_part102_skel
  repeat first
    | (refine st_ifJ (fun hc => ?_) ?_; · rfl)
    | refine st_bind _ fun _ => ?_
  rfl

theorem k0_part103_prog (d0 : Dev nD) :
    (k0_part103 (F := F) xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 ((Scalar.remsi (Scalar.divsi (Dev.word d0) 1#32) 8#32)) ((Scalar.cmpi .ne (Scalar.remsi (Scalar.divsi (Dev.word d0) 1#32) 8#32) 7#32)) : PG F (PUnit)) = (do
  let v1702 : BitVec 32 := Scalar.extui (Scalar.cmpi .ne (Scalar.remsi (Scalar.divsi (Dev.word d0) 1#32) 8#32) 7#32)
  let v1703 : BitVec 1 := Scalar.cmpi .ne v1702 0#32
  gather d0 7
  waitS1 d0 (wi d0) 0
  waitS1 d0 (wi d0) 1
  waitS1 d0 (wi d0) 2
  waitS1 d0 (wi d0) 3
  waitS1 d0 (wi d0) 4
  waitS1 d0 (wi d0) 5
  waitS1 d0 (wi d0) 6
  waitS1 d0 (wi d0) 7
  pure ⟨⟩) := by
  rw [k0_part103_eq_skeleton]; unfold k0_part103_skel
  repeat first
    | (refine st_ifJ (fun hc => ?_) ?_; · rfl)
    | refine st_bind _ fun _ => ?_
  rfl

theorem k0_part104_prog  :
    (k0_part104 (F := F) xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14  : PG F (Σ' (d0 : Dev nD), BitVec 32)) = (do
  let ⟨d0, v2, v28⟩ : Σ' (d0 : Dev nD) (v2 : BitVec 32), BitVec 1 ← k0_part57 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14
  let ⟨v41, v47, v60, v61, v63⟩ : Σ' (v41 : FVec F S1024x1024 .bf16) (v47 : FVec F S1024x1024 .bf16) (v60 : IVec S128x256 1) (v61 : FVec F S128x128 .bf16), FVec F S256x128 .bf16 ← k0_part58 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 v2 v28
  let ⟨v81, v102⟩ : Σ' (v81 : FVec F S128x128 .f32), FVec F S128x128 .f32 ← k0_part59 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v60 v61 v63
  let ⟨v123, v128, v138, v139⟩ : Σ' (v123 : FVec F S128x128 .f32) (v128 : FVec F S256x128 .bf16) (v138 : FVec F S128x256 .f32), FVec F S128 .f32 ← k0_part60 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v60
  let ⟨v144, v165, v170, v175, v176⟩ : Σ' (v144 : FVec F S128x128 .f32) (v165 : FVec F S128x128 .f32) (v170 : FVec F S256x128 .bf16) (v175 : FVec F S128x256 .f32), FVec F S128 .f32 ← k0_part61 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v60 v128 v138 v139
  let ⟨v186, v207, v212, v213, v214⟩ : Σ' (v186 : FVec F S128x128 .f32) (v207 : FVec F S128x128 .f32) (v212 : FVec F S256x128 .bf16) (v213 : FVec F S128x256 .f32), FVec F S128x256 .f32 ← k0_part62 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v60 v170 v175 v176
  let ⟨v252, v253⟩ : Σ' (v252 : IVec S128x384 1), FVec F S128x128 .bf16 ← k0_part63 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 v2 v41 v47 v60 v81 v102 v123 v144 v165 v186 v207 v212 v213 v214
  let ⟨v273, v278, v288, v290⟩ : Σ' (v273 : FVec F S128x128 .f32) (v278 : FVec F S384x128 .bf16) (v288 : FVec F S128x384 .f32), FVec F S128x1 .f32 ← k0_part64 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v252 v253
  let ⟨v294, v315, v320, v325, v327⟩ : Σ' (v294 : FVec F S128x128 .f32) (v315 : FVec F S128x128 .f32) (v320 : FVec F S384x128 .bf16) (v325 : FVec F S128x384 .f32), FVec F S128x1 .f32 ← k0_part65 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v252 v278 v288 v290
  let ⟨v336, v357, v362, v365⟩ : Σ' (v336 : FVec F S128x128 .f32) (v357 : FVec F S128x128 .f32) (v362 : FVec F S384x128 .bf16), FVec F S128x384 .f32 ← k0_part66 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v252 v320 v325 v327
  let ⟨v378, v399, v400, v402, v403⟩ : Σ' (v378 : FVec F S128x128 .f32) (v399 : FVec F S128x128 .f32) (v400 : FVec F S128x128 .bf16) (v402 : FVec F S384x128 .bf16), Vec F S384x1x128 .bf16 ← k0_part67 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v252 v362 v365
  let ⟨v441, v442⟩ : Σ' (v441 : IVec S128x384 1), FVec F S128x128 .bf16 ← k0_part68 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 v2 v41 v47 v252 v273 v294 v315 v336 v357 v378 v399 v400 v402 v403
  let ⟨v462, v467, v477, v480⟩ : Σ' (v462 : FVec F S128x128 .f32) (v467 : FVec F S384x128 .bf16) (v477 : FVec F S128x384 .f32), FVec F S128x384 .f32 ← k0_part69 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v441 v442
  let ⟨v483, v504, v509, v514, v517⟩ : Σ' (v483 : FVec F S128x128 .f32) (v504 : FVec F S128x128 .f32) (v509 : FVec F S384x128 .bf16) (v514 : FVec F S128x384 .f32), FVec F S128x384 .f32 ← k0_part70 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v441 v467 v477 v480
  let ⟨v525, v546, v551, v554, cst_301⟩ : Σ' (v525 : FVec F S128x128 .f32) (v546 : FVec F S128x128 .f32) (v551 : FVec F S384x128 .bf16) (v554 : FVec F S128x384 .f32), F .f32 ← k0_part71 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v441 v509 v514 v517
  let ⟨v567, v588, v589, v591, v593⟩ : Σ' (v567 : FVec F S128x128 .f32) (v588 : FVec F S128x128 .f32) (v589 : FVec F S128x128 .bf16) (v591 : FVec F S384x128 .bf16), FVec F S384x128 .bf16 ← k0_part72 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v441 v551 v554 cst_301
  let v631 : IVec S128x384 32 ← k0_part73 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 v2 v47 v441 v462 v483 v504 v525 v546 v567 v588 v589 v591 v593
  let ⟨v633, v654, v659, v668⟩ : Σ' (v633 : IVec S128x384 1) (v654 : FVec F S128x128 .f32) (v659 : FVec F S384x128 .bf16), FVec F S128x384 .f32 ← k0_part74 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v631
  let ⟨v675, v696, v701, v704, v705⟩ : Σ' (v675 : FVec F S128x128 .f32) (v696 : FVec F S128x128 .f32) (v701 : FVec F S384x128 .bf16) (v704 : FVec F S128x384 .f32), FVec F S128x384 .f32 ← k0_part75 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v633 v659 v668
  let ⟨v717, v738, v739, v741, v743, cst_406⟩ : Σ' (v717 : FVec F S128x128 .f32) (v738 : FVec F S128x128 .f32) (v739 : FVec F S128x128 .bf16) (v741 : FVec F S384x128 .bf16) (v743 : FVec F S384x128 .bf16), FVec F S128x384 .f32 ← k0_part76 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v633 v701 v704 v705
  let ⟨v759, v780, v781, v783⟩ : Σ' (v759 : FVec F S128x128 .f32) (v780 : FVec F S128x128 .f32) (v781 : FVec F S128x128 .bf16), FVec F S384x128 .bf16 ← k0_part77 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v633 v739 v741 v743 cst_406
  let ⟨v820, c128_i32_444⟩ : Σ' (v820 : IVec S128x384 32), BitVec 32 ← k0_part78 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 v2 v47 v633 v654 v675 v696 v717 v738 v759 v780 v781 v783
  let ⟨v822, v843, v848, v858⟩ : Σ' (v822 : IVec S128x384 1) (v843 : FVec F S128x128 .f32) (v848 : FVec F S384x128 .bf16), FVec F S128x384 .f32 ← k0_part79 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v820 c128_i32_444
  let ⟨v864, v885, v890, v895⟩ : Σ' (v864 : FVec F S128x128 .f32) (v885 : FVec F S128x128 .f32) (v890 : FVec F S384x128 .bf16), FVec F S128x384 .f32 ← k0_part80 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v822 v848 v858
  let ⟨v906, v927, v932, v933⟩ : Σ' (v906 : FVec F S128x128 .f32) (v927 : FVec F S128x128 .f32) (v932 : FVec F S384x128 .bf16), FVec F S128x384 .f32 ← k0_part81 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v822 v890 v895
  let ⟨v948, v969, v970, v972⟩ : Σ' (v948 : FVec F S128x128 .f32) (v969 : FVec F S128x128 .f32) (v970 : FVec F S128x128 .bf16), FVec F S384x128 .bf16 ← k0_part82 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v822 v932 v933
  let ⟨v1007, v1008, c512_i32_550⟩ : Σ' (v1007 : IVec S128x384 32) (v1008 : IVec S128x384 32), BitVec 32 ← k0_part83 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 v2 v47 v822 v843 v864 v885 v906 v927 v948 v969 v970 v972
  let ⟨v1014, v1035, v1040, v1045⟩ : Σ' (v1014 : IVec S128x384 1) (v1035 : FVec F S128x128 .f32) (v1040 : FVec F S384x128 .bf16), FVec F S128x384 .f32 ← k0_part84 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v1007 v1008 c512_i32_550
  let ⟨v1056, v1077, v1082, v1083, cst_595⟩ : Σ' (v1056 : FVec F S128x128 .f32) (v1077 : FVec F S128x128 .f32) (v1082 : FVec F S384x128 .bf16) (v1083 : FVec F S128x384 .f32), F .f32 ← k0_part85 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v1014 v1040 v1045
  let ⟨v1098, v1119, v1120, v1122⟩ : Σ' (v1098 : FVec F S128x128 .f32) (v1119 : FVec F S128x128 .f32) (v1120 : FVec F S128x128 .bf16), FVec F S384x128 .bf16 ← k0_part86 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v1014 v1082 v1083 cst_595
  let ⟨v1140, v1161, v1162⟩ : Σ' (v1140 : FVec F S128x128 .f32) (v1161 : FVec F S128x128 .f32), FVec F S128x128 .bf16 ← k0_part87 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v1014 v1120 v1122
  let ⟨v1196, v1197, v1198⟩ : Σ' (v1196 : IVec S128x384 32) (v1197 : IVec S128x384 32), IVec S128x384 32 ← k0_part88 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 v2 v47 v1014 v1035 v1056 v1077 v1098 v1119 v1140 v1161 v1162
  let ⟨v1203, v1224, v1229, v1234, v1235⟩ : Σ' (v1203 : IVec S128x384 1) (v1224 : FVec F S128x128 .f32) (v1229 : FVec F S384x128 .bf16) (v1234 : FVec F S128x384 .f32), FVec F S128 .f32 ← k0_part89 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v1196 v1197 v1198
  let ⟨v1245, v1266, v1271, v1272, v1273⟩ : Σ' (v1245 : FVec F S128x128 .f32) (v1266 : FVec F S128x128 .f32) (v1271 : FVec F S384x128 .bf16) (v1272 : FVec F S128x384 .f32), FVec F S128x384 .f32 ← k0_part90 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v1203 v1229 v1234 v1235
  let ⟨v1287, v1308, v1309, v1311⟩ : Σ' (v1287 : FVec F S128x128 .f32) (v1308 : FVec F S128x128 .f32) (v1309 : FVec F S128x128 .bf16), FVec F S384x128 .bf16 ← k0_part91 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v1203 v1271 v1272 v1273
  let ⟨v1329, v1350, v1351⟩ : Σ' (v1329 : FVec F S128x128 .f32) (v1350 : FVec F S128x128 .f32), FVec F S128x128 .bf16 ← k0_part92 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v1203 v1309 v1311
  let ⟨v1385, v1388⟩ : Σ' (v1385 : IVec S128x384 32), IVec S128x384 32 ← k0_part93 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 v2 v47 v1203 v1224 v1245 v1266 v1287 v1308 v1329 v1350 v1351
  let ⟨v1392, v1413, v1418, v1423, v1425⟩ : Σ' (v1392 : IVec S128x384 1) (v1413 : FVec F S128x128 .f32) (v1418 : FVec F S384x128 .bf16) (v1423 : FVec F S128x384 .f32), FVec F S128x1 .f32 ← k0_part94 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v1385 v1388
  let ⟨v1434, v1455, v1460, v1463⟩ : Σ' (v1434 : FVec F S128x128 .f32) (v1455 : FVec F S128x128 .f32) (v1460 : FVec F S384x128 .bf16), FVec F S128x384 .f32 ← k0_part95 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v1392 v1418 v1423 v1425
  let ⟨v1476, v1497, v1498, v1500, v1501⟩ : Σ' (v1476 : FVec F S128x128 .f32) (v1497 : FVec F S128x128 .f32) (v1498 : FVec F S128x128 .bf16) (v1500 : FVec F S384x128 .bf16), Vec F S384x1x128 .bf16 ← k0_part96 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v1392 v1460 v1463
  let ⟨v1518, v1539, v1540⟩ : Σ' (v1518 : FVec F S128x128 .f32) (v1539 : FVec F S128x128 .f32), FVec F S128x128 .bf16 ← k0_part97 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v41 v1392 v1498 v1500 v1501
  let ⟨v1575, v1576, c0_i32_868⟩ : Σ' (v1575 : FVec F S128x1024 .f32) (v1576 : FVec F S128x1024 .f32), BitVec 32 ← k0_part98 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 v2 v47 v1392 v1413 v1434 v1455 v1476 v1497 v1518 v1539 v1540
  let ⟨v1603, v1607, v1609⟩ : Σ' (v1603 : FVec F S128x1024 .f32) (v1607 : BitVec 1), FVec F S128x1024 .bf16 ← k0_part99 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v2 v1575 v1576 c0_i32_868
  let ⟨v1639, v1643⟩ : Σ' (v1639 : FVec F S128x1024 .f32), BitVec 1 ← k0_part100 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 v2 v1575 v1603 v1607 v1609
  let ⟨v1672, c0_i32_937⟩ : Σ' (v1672 : BitVec 32), BitVec 32 ← k0_part101 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 v2 v1575 v1639 v1643
  let v1701 : BitVec 1 ← k0_part102 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 v2 v1672 c0_i32_937
  k0_part103 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 d0 v2 v1701
  waitS2 d0 (wi d0) 0
  pure ⟨d0, v2⟩) := by
  rw [k0_part104_eq_skeleton]; unfold k0_part104_skel
  repeat first
    | (refine st_ifJ (fun hc => ?_) ?_; · rfl)
    | refine st_bind _ fun _ => ?_
  rfl

theorem cc0_body_prog  :
    (cc0_body (F := F) xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14  : PG F PUnit) = (do
  let ⟨d0, v2⟩ : Σ' (d0 : Dev nD), BitVec 32 ← k0_part104 xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14
  waitS2 d0 (wi d0) 1
  waitS2 d0 (wi d0) 2
  waitS2 d0 (wi d0) 3
  waitS2 d0 (wi d0) 4
  waitS2 d0 (wi d0) 5
  waitS2 d0 (wi d0) 6
  waitS2 d0 (wi d0) 7
  pure ⟨⟩) := by
  rw [cc0_body_eq_skeleton]; unfold cc0_body_skel
  repeat first
    | (refine st_ifJ (fun hc => ?_) ?_; · rfl)
    | refine st_bind _ fun _ => ?_
  rfl

end Cert.KernelIdeal
end
-- ==== Proof.Body.lean ====
/-
  The printed body is the program of loops.
-/
module

public import proofs.«01_k».proof.Proof.BodyParts

@[expose] public section

noncomputable section

namespace Cert.KernelIdeal

open Idealize.ShloMosaic Idealize.SL.Sem Cert.KernelIdeal.Gen

variable {F : FTy → Type} [FloatOps F] [Named F]

theorem st_cong {α β : Type} {p p' : PG F α} {k : α → PG F β} {R : PG F β} (h : p = p') (h2 : p' >>= k = R) : p >>= k = R := by
  subst h; exact h2

set_option maxHeartbeats 4000000 in
set_option maxRecDepth 10000 in
set_option pp.maxSteps 300 in
theorem body_eq : bodyAt0 (F := F) t0_0 = Prog.op .deviceId fun c => prog c := by
  change (cc0_body (F := F) xM (Memref.isWhole_whole _) wqM (Memref.isWhole_whole _) (Memref.whole main_arg2) (Memref.isWhole_whole _) (Memref.whole main_arg3) (Memref.isWhole_whole _) woM (Memref.isWhole_whole _) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 : PG F PUnit) = Prog.lift .deviceId >>= fun c => prog c
  rw [cc0_body_prog]
  simp only [prog, tiles, stOut, stS, tile2, tile3, eight, ld2, ld3, reduce, redStep, forL, all8, bind_assoc, pure_bind]
  refine st_cong (k0_part104_prog) ?_
  refine (bind_assoc _ _ _).trans ?_
  refine st_cong (k0_part57_prog) ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  refine st_cong (k0_part58_prog _) ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part59_eq_skeleton]
  unfold k0_part59_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part60_eq_skeleton]
  unfold k0_part60_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part61_eq_skeleton]
  unfold k0_part61_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part62_eq_skeleton]
  unfold k0_part62_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  refine st_cong (k0_part63_prog _ _ _ _ _ _ _ _ _ _ _ _ _ _) ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part64_eq_skeleton]
  unfold k0_part64_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part65_eq_skeleton]
  unfold k0_part65_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part66_eq_skeleton]
  unfold k0_part66_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part67_eq_skeleton]
  unfold k0_part67_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  refine st_cong (k0_part68_prog _ _ _ _ _ _ _ _ _ _ _ _ _ _) ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part69_eq_skeleton]
  unfold k0_part69_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part70_eq_skeleton]
  unfold k0_part70_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part71_eq_skeleton]
  unfold k0_part71_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part72_eq_skeleton]
  unfold k0_part72_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  refine st_cong (k0_part73_prog _ _ _ _ _ _ _ _ _ _ _ _ _) ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part74_eq_skeleton]
  unfold k0_part74_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part75_eq_skeleton]
  unfold k0_part75_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part76_eq_skeleton]
  unfold k0_part76_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part77_eq_skeleton]
  unfold k0_part77_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  refine st_cong (k0_part78_prog _ _ _ _ _ _ _ _ _ _ _ _) ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part79_eq_skeleton]
  unfold k0_part79_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part80_eq_skeleton]
  unfold k0_part80_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part81_eq_skeleton]
  unfold k0_part81_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part82_eq_skeleton]
  unfold k0_part82_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  refine st_cong (k0_part83_prog _ _ _ _ _ _ _ _ _ _ _ _) ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part84_eq_skeleton]
  unfold k0_part84_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part85_eq_skeleton]
  unfold k0_part85_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part86_eq_skeleton]
  unfold k0_part86_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part87_eq_skeleton]
  unfold k0_part87_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  refine st_cong (k0_part88_prog _ _ _ _ _ _ _ _ _ _ _) ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part89_eq_skeleton]
  unfold k0_part89_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part90_eq_skeleton]
  unfold k0_part90_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part91_eq_skeleton]
  unfold k0_part91_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part92_eq_skeleton]
  unfold k0_part92_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  refine st_cong (k0_part93_prog _ _ _ _ _ _ _ _ _ _ _) ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part94_eq_skeleton]
  unfold k0_part94_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part95_eq_skeleton]
  unfold k0_part95_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part96_eq_skeleton]
  unfold k0_part96_skel
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  rw [k0_part97_eq_skeleton]
  unfold k0_part97_skel
  refine (bind_assoc _ _ _).trans ?_
  refine st_bind _ fun _ => ?_
  refine (bind_assoc _ _ _).trans ?_
  refine st_bind _ fun _ => ?_
  refine (pure_bind _ _).trans ?_
  refine (bind_assoc _ _ _).trans ?_
  refine st_cong (k0_part98_prog _ _ _ _ _ _ _ _ _ _ _) ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  refine st_cong (k0_part99_prog _ _ _) ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  refine st_cong (k0_part100_prog _ _ _ _) ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  refine st_cong (k0_part101_prog _ _ _) ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  refine st_cong (k0_part102_prog _) ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  refine st_cong (k0_part103_prog _) ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (bind_assoc _ _ _).trans ?_
  refine st_bind _ fun _ => ?_
  refine (pure_bind _ _).trans ?_
  refine (bind_assoc _ _ _).trans ?_
  refine st_bind _ fun _ => ?_
  refine (pure_bind _ _).trans ?_
  rfl
end Cert.KernelIdeal
end
-- ==== Proof.Launch.lean ====
/-
  The launch: every cell's invariant, the tokens each device pays with, the credit each waits with; the whole run.
-/
module

public import proofs.«01_k».proof.Proof.Run2
public import proofs.«01_k».proof.Proof.Body
public import Idealize.ShloMosaic.Lib.Pipeline.CollectiveSegs

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × CK → ℕ)

variable (ρ : Dev nD → PrngReg)

/-! ## The proof data -/

def start (c : Dev nD) : sProp 𝕄 := iprop((∃ K, ctx m K) ∗ POS (F := F) c ∗ TOK (F := F) c ∗ CRD (F := F) c ∗ ARG m c)
def Φ₀ (c : Dev nD) : sProp 𝕄 := iprop(start m c ∗ SCR (F := F) c)
def Φ₁ (c : Dev nD) : sProp 𝕄 := iprop(SCR (F := F) c ∗ ARG m c ∗ bigSep Finset.univ fun k : CK => (semVal (kcell (c, k)) 0 : sProp 𝕄))

def dats (_ : Fin 1) (c : Dev nD) : Dat τ (Elt F) Unit ℕ UU ℕ cfg0 c where
  A w := m ((cfg0.win w).arr.view.loc (c : Thread nD τ))
  after w _ := match w with
    | ⟨0, _⟩ => xst m c
    | ⟨1, _⟩ => wqst m c
    | ⟨2, _⟩ => wost m c
    | ⟨3, _⟩ => OUT m c
  Φ t := match t with
    | ⟨0, _⟩ => Φ₀ m c
    | ⟨_ + 1, _⟩ => Φ₁ m c
  q _ := fullShare
  owed t := match t with
    | ⟨0, _⟩ => OW (OL c)
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body -/

def bodyPre (c : Dev nD) : sProp 𝕄 :=
  iprop(Φ₀ m c ∗ (dats m 0 c).owesAt () t0_0.castSucc
    ∗ (∃ d, stg c cc0_stg0_0 ((dats m 0 c).before (0 : Fin 4) t0_0 d)) ∗ (∃ d, stg c cc0_stg1_0 ((dats m 0 c).before (1 : Fin 4) t0_0 d))
    ∗ (∃ d, stg c cc0_stg2_0 ((dats m 0 c).before (2 : Fin 4) t0_0 d)) ∗ (∃ d, stg c cc0_stg3_0 ((dats m 0 c).before (3 : Fin 4) t0_0 d)))
def bodyPost (c : Dev nD) : sProp 𝕄 :=
  iprop(Φ₁ m c ∗ (dats m 0 c).owesAt () t0_0.succ ∗ stg c cc0_stg0_0 (xst m c) ∗ stg c cc0_stg1_0 (wqst m c) ∗ stg c cc0_stg2_0 (wost m c) ∗ stg c cc0_stg3_0 (OUT m c))

theorem before_0 (c : Dev nD) (d) : (dats m 0 c).before (0 : Fin 4) t0_0 d = xst m c := by
  unfold Dat.before; rw [if_pos (fetch0_0 t0_0)]; rfl
theorem before_1 (c : Dev nD) (d) : (dats m 0 c).before (1 : Fin 4) t0_0 d = wqst m c := by
  unfold Dat.before; rw [if_pos (fetch0_1 t0_0)]; rfl
theorem before_2 (c : Dev nD) (d) : (dats m 0 c).before (2 : Fin 4) t0_0 d = wost m c := by
  unfold Dat.before; rw [if_pos (fetch0_2 t0_0)]; rfl

theorem owes_in (c : Dev nD) : (dats m 0 c).owesAt () t0_0.castSucc ⊢ ow (F := F) c (OL c) := by
  unfold Dat.owesAt Pipeline.owesWithin ow
  rw [show (dats m 0 c).owed t0_0.castSucc = OW (OL c) from rfl]
  iintro ⟨%W, -, H⟩; iexists W; iexact H
theorem owes_out (c : Dev nD) : ow (F := F) c [] ⊢ (dats m 0 c).owesAt () t0_0.succ := by
  unfold Dat.owesAt Pipeline.owesWithin ow
  rw [show (dats m 0 c).owed t0_0.succ = 0 from rfl]
  iintro ⟨%W, H⟩; iexists W
  isplitr; · ipureintro; exact fun _ _ => Or.inl trivial
  iexact H

theorem sound_body (c : Dev nD) : bodyPre m c ⊢ W c (prog c) (fun _ => bodyPost m c) := by
  unfold bodyPre bodyPost Φ₀ Φ₁ start
  simp only [before_0, before_1, before_2]
  iintro ⟨⟨⟨⟨%K, #HC⟩, HP, HT, HCr, HA⟩, HS⟩, HO, ⟨%d0, %f0, %h0, H0⟩, ⟨%d1, %f1, %h1, H1⟩, ⟨%d2, %f2, %h2, H2⟩, ⟨%d3, %f3, %h3, H3⟩⟩
  subst h0 h1 h2
  ihave HO := (owes_in m c) $$ HO
  iapply (W_last (prog_step m K c)) $$ [HP HT HCr HA HS HO H0 H1 H2 H3]
  · isplitr; · iexact HC
    isplitr [HO]
    · unfold BPRE IN
      isplitl [HP]; · iexact HP
      isplitl [HT]; · iexact HT
      isplitl [HCr]; · iexact HCr
      isplitl [HS]; · iexact HS
      isplitl [HA]; · iexact HA
      isplitr [H3]
      · isplitl [H0]; · iexact H0
        isplitl [H1]; · iexact H1
        iexact H2
      iexists f3; iexact H3
    iexact HO
  iintro %_ ⟨HB, HO⟩
  ihave HB := (show BPOST m c ⊢ iprop(SCR (F := F) c ∗ ARG m c ∗ ((((c : Thread nD τ).loc cc0_stg0_0) ↦{fullShare} xst m c) ∗ (((c : Thread nD τ).loc cc0_stg1_0) ↦{fullShare} wqst m c) ∗ (((c : Thread nD τ).loc cc0_stg2_0) ↦{fullShare} wost m c))
      ∗ (((c : Thread nD τ).loc cc0_stg3_0) ↦{fullShare} OUT m c) ∗ bigSep Finset.univ fun k : CK => (semVal (kcell (c, k)) 0 : sProp 𝕄)) from Entails.of_eq rfl) $$ HB
  icases HB with ⟨HS, HA, ⟨H0, H1, H2⟩, H3, Hz⟩
  isplitl [HS HA Hz]
  · isplitl [HS]; · iexact HS
    isplitl [HA]; · iexact HA
    iexact Hz
  isplitl [HO]; · iapply (owes_out m c); iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

theorem sound_body' (c : Dev nD) : bodyPre m c ⊢ wp frame (wpE (defs₀ (F := F)) 𝒱₀ (c : Thread nD τ) none) Set.univ (bodyAt0 (F := F) t0_0) (fun _ => bodyPost m c) := by
  rw [body_eq, wp_deviceId]
  exact sound_body m c

set_option maxRecDepth 4000 in
attribute [local irreducible] OUT xst wqst wost Φ₀ Φ₁ in
theorem body_obligation (c : Dev nD) : BodyObligation (dats (F := F) m 0 c) (defs₀ (F := F)) 𝒱₀ () Set.univ := fun t => by
  have hs := sound_body' m c
  rw [fin_N0 t]
  rw [bigSep_W0, bigSep_W0]
  simp only [owns_whole_eq]
  rw [show (defs₀ (F := F)) Proc.tc (0 : Fin 1) (t0_0, cfg0.slots t0_0) = bodyAt0 (F := F) t0_0 from rfl]
  exact hs

/-! ## The launch -/

theorem share_eq (c : Dev nD) (w : Fin cfg0.W) : (dats m 0 c).share w = fullShare := by unfold Dat.share; split <;> rfl

def allCells : Finset (GSem nD τ sig) := Finset.univ.map ⟨kcell, kcell_injective⟩
def tkg (e : Dev nD × TI) : GSem nD τ sig × ℕ × Fin 8 := (kcell (tk e).1, (tk e).2)
theorem tkg_injective : Function.Injective tkg := fun a b h =>
  tk_injective (Prod.ext (kcell_injective (congrArg Prod.fst h)) (congrArg (fun x => x.2) h))
def allToks : Finset (GSem nD τ sig × ℕ × Fin 8) := Finset.univ.map ⟨tkg, tkg_injective⟩

def u₀ : UU :=
  (initOf (Pipeline.cells cfgs cellOf_inj) (Pipeline.launchToks cfgs cellOf_inj), initOf allCells allToks)

/-- What is dealt to device `c`. -/
def G (c : Dev nD) : sProp 𝕄 :=
  iprop((bigSep Finset.univ fun k : CK => roundState ER (Rd m) (kcell (c, k)) 0)
    ∗ (bigSep Finset.univ fun k : CK => iprop(pos c k 0 ∗ rch c k 0)) ∗ TOK (F := F) c)
/-- Every cell's invariant and first round. -/
def recs (K : Dev nD × CK → ℕ) : sProp 𝕄 :=
  iprop((bigSep Finset.univ fun e : Dev nD × CK => cellInv ER (Rd m) (K e) (kcell e)) ∗ bigSep Finset.univ fun e : Dev nD × CK => (reached ER (kcell e) 0 : sProp 𝕄))
instance recs_persistent (K : Dev nD × CK → ℕ) : BI.Persistent (recs m K) := by unfold recs; infer_instance
def G' (c : Dev nD) : sProp 𝕄 := iprop((∃ K, recs m K) ∗ POS (F := F) c ∗ TOK (F := F) c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => TOK (F := F) c := by
    unfold allToks; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (kcell (c, kBar)) 0 := by
  unfold unscopedSems0; rw [bigSep_eq_bigSepL_of_eq [SemLoc.reg barS] (by decide) (by decide)]; rfl
theorem sems0_eq (c : Dev nD) :
    (bigSep Finset.univ fun k : CK => semVal (kcell (c, k)) 0 : sProp 𝕄)
      = iprop(unscopedSems0 c ∗ Pipeline.ownSems0 (Ix := Unit) (Name := ℕ) (U := UU) (Lvl := ℕ) (Val := Elt F) (τ := τ) osem c) := by
  rw [unscopedSems0_eq, bigSep_univ_sum, bigSep_univ_eq_bigSepL [()] (by decide) (by decide) (fun a : Unit => (semVal (kcell (c, Sum.inl a)) 0 : sProp 𝕄))]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell (c, k))))
          ∗ (bigSep Finset.univ fun k : CK => iprop(pos c k 0 ∗ rch c k 0)) ∗ TOK (F := F) c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k : CK => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem G'_intro (K : Dev nD × CK → ℕ) (c : Dev nD) : iprop(recs m K ∗ POS (F := F) c ∗ TOK (F := F) c) ⊢ G' m c := by
  unfold G'
  iintro ⟨#H, HP, HT⟩
  isplitr; · iexists K; iexact H
  isplitl [HP]; · iexact HP
  iexact HT

theorem regroup :
    (bigSep Finset.univ fun c : Dev nD => iprop((bigSep Finset.univ fun k : CK => iprop(∃ κ : ℕ, cellInv ER (Rd m) κ (kcell (c, k))))
          ∗ (bigSep Finset.univ fun k : CK => iprop(pos c k 0 ∗ rch c k 0)) ∗ TOK (F := F) c) : sProp 𝕄)
      ⊢ bigSep Finset.univ (G' m) := by
  rw [bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (pos c k 0 : sProp 𝕄)) (fun k => rch c k 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m) κ (kcell ck) : sProp 𝕄))) $$ HI
  icases HK with ⟨%K, #HI⟩
  iapply (bigSep_with_persistent (R := recs m K) (Φ := fun c : Dev nD => iprop(POS (F := F) c ∗ TOK (F := F) c)) (Ψ := G' m) fun c _ => G'_intro m K c)
  isplitr
  · unfold recs; isplitl; · iexact HI
    iexact HR
  · iapply (Entails.of_eq (bigSep_sep' Finset.univ (POS (F := F)) (TOK (F := F))).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

def eqc (e d : Dev nD × CK) : Bool := decide (d.1 = e.1) && decide (csem d.2 = csem e.2)
theorem eqc_eq {e d : Dev nD × CK} : eqc e d = true ↔ d = e := by
  unfold eqc
  rw [Bool.and_eq_true, decide_eq_true_iff, decide_eq_true_iff]
  exact ⟨fun h => Prod.ext h.1 (csem_injective h.2), fun h => h ▸ ⟨rfl, rfl⟩⟩
theorem OW_count (e : Dev nD × CK) : ∀ l : List (Dev nD × CK), OW l (kcell e) () = l.countP (eqc e) * Am e.2
  | [] => (Nat.zero_mul _).symm
  | d :: l => by
    unfold OW
    rw [Pi.add_apply, Finsupp.add_apply, tallyAt_apply, OW_count e l, List.countP_cons]
    by_cases h : d = e
    · subst h; rw [if_pos ⟨rfl, rfl⟩, if_pos (eqc_eq.2 rfl)]; ring
    · rw [if_neg (fun h' => h (kcell_injective h'.1).symm), if_neg (fun h' => h (eqc_eq.1 h'))]; rfl

/-- How many devices owe a cell. -/
def owing (e : Dev nD × CK) : ℕ := ∑ d : Dev nD, (OL d).countP (eqc e)
theorem launch_cell (e : Dev nD × CK) :
    tallyOn (kcell e) (launchCredit (Pipeline.owing fun d => OW (OL d)) 0 (kcell e)) = (tallyAt (kcell e) () (owing e * Am e.2) : CellTallies nD τ sig Unit) := by
  unfold tallyAt; refine congrArg _ (Finsupp.ext fun u => ?_); cases u
  rw [Pipeline.launchCredit_owing, Finsupp.single_eq_same, Finset.sum_congr rfl fun d _ => OW_count e (OL d), ← Finset.sum_mul]
  rfl

theorem owing_bar : ∀ c : Dev nD, owing (c, kBar) = 7 := by decide +kernel
theorem owing_gr : ∀ (c : Dev nD) (k : Fin 10), snd k ≠ c → owing (c, kGr k) = 1 := by decide +kernel
theorem owing_r1 : ∀ (c : Dev nD) (j : Fin 8), j ≠ c → owing (c, kR1 j) = 1 := by decide +kernel
theorem owing_r2 : ∀ (c : Dev nD) (j : Fin 8), j ≠ c → owing (c, kR2 j) = 1 := by decide +kernel

theorem cred_one (c : Dev nD) (k : CK) (h : owing (c, k) = 1) : (cred (tallyAt (kcell (c, k)) () (owing (c, k) * Am k)) : sProp 𝕄) ⊢ crd c k := by
  rw [h, Nat.one_mul]
theorem cred_ite (c : Dev nD) (k : CK) (p : Prop) [Decidable p] (h : ¬ p → owing (c, k) = 1) :
    (cred (tallyAt (kcell (c, k)) () (owing (c, k) * Am k)) : sProp 𝕄) ⊢ if p then iprop(emp) else crd c k := by
  by_cases hp : p
  · rw [if_pos hp]; iintro -; iempintro
  · rw [if_neg hp]; exact cred_one c k (h hp)

theorem creds_gr (c : Dev nD) : (bigSep Finset.univ fun k : Fin 10 => (cred (tallyAt (kcell (c, kGr k)) () (owing (c, kGr k) * Am (kGr k))) : sProp 𝕄))
    ⊢ bigSep Finset.univ fun k : Fin 10 => (if snd k = c then iprop(emp) else crd c (kGr k) : sProp 𝕄) :=
  bigSep_mono fun k _ => cred_ite (F := F) c (kGr k) (snd k = c) fun h => owing_gr c k h
theorem creds_r1 (c : Dev nD) : (bigSep Finset.univ fun k : Fin 8 => (cred (tallyAt (kcell (c, kR1 k)) () (owing (c, kR1 k) * Am (kR1 k))) : sProp 𝕄))
    ⊢ bigSep Finset.univ fun k : Fin 8 => (if k = c then iprop(emp) else crd c (kR1 k) : sProp 𝕄) :=
  bigSep_mono fun k _ => cred_ite (F := F) c (kR1 k) (k = c) fun h => owing_r1 c k h
theorem creds_r2 (c : Dev nD) : (bigSep Finset.univ fun k : Fin 8 => (cred (tallyAt (kcell (c, kR2 k)) () (owing (c, kR2 k) * Am (kR2 k))) : sProp 𝕄))
    ⊢ bigSep Finset.univ fun k : Fin 8 => (if k = c then iprop(emp) else crd c (kR2 k) : sProp 𝕄) :=
  bigSep_mono fun k _ => cred_ite (F := F) c (kR2 k) (k = c) fun h => owing_r2 c k h
theorem creds (c : Dev nD) : (Pipeline.launchCred (fun d => OW (OL d)) c : sProp 𝕄) ⊢ CRD (F := F) c := by
  have h : (Pipeline.launchCred (fun d => OW (OL d)) c : sProp 𝕄) ⊢ bigSep Finset.univ fun k : CK => (cred (tallyAt (kcell (c, k)) () (owing (c, k) * Am k)) : sProp 𝕄) := by
    unfold Pipeline.launchCred
    refine (bigSep_subset (Finset.subset_univ (Finset.univ.map ⟨csem, csem_injective⟩))).trans ?_
    rw [bigSep_map]
    exact bigSep_mono fun k _ => Entails.of_eq (congrArg (fun t => (cred t : sProp 𝕄)) (launch_cell (c, k)))
  refine h.trans ?_
  rw [cells_eq]
  unfold CRD
  iintro ⟨H1, -, -, H2, -, H3, -, H4⟩
  isplitl [H1]; · iapply (Entails.of_eq (congrArg (fun n => (cred (tallyAt (kcell (c, kBar)) () n) : sProp 𝕄)) (show owing (c, kBar) * Am kBar = 7 from by rw [owing_bar]; rfl))); iexact H1
  isplitl [H2]; · iapply (creds_gr (F := F) c); iexact H2
  isplitl [H3]; · iapply (creds_r1 (F := F) c); iexact H3
  iapply (creds_r2 (F := F) c); iexact H4

/-! ## The side conditions -/

theorem start_intro (c : Dev nD) :
    iprop(Pipeline.unscopedRestP Pipeline.Prefetch.none cfg0.spec c (fun b => m ((c : Thread nD τ).loc b)) ∗ levAts L lv
        ∗ Pipeline.launchCred (fun d => OW (OL d)) c ∗ prngReg c (ρ c) ∗ G' m c)
      ⊢ |={Set.univ}=> iprop(start m c ∗ emp) := by
  rw [Pipeline.unscopedRestP_none, unscopedRest0_eq]
  unfold start G' recs ctx ARG
  iintro ⟨HA, Hlev, Hcr, -, ⟨%K, HI, HR⟩, HP, HT⟩
  ihave Hc := (creds (F := F) c) $$ Hcr
  imodintro
  isplitl
  · isplitl [Hlev HI HR]
    · iexists K
      isplitl [HI]; · iexact HI
      isplitl [HR]; · iexact HR
      iexact Hlev
    isplitl [HP]; · iexact HP
    isplitl [HT]; · iexact HT
    isplitl [Hc]; · iexact Hc
    iexact HA
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ SCR
  iintro ⟨Hs, -, Hr⟩
  isplitl [Hs]; · iexact Hs
  iexact Hr

theorem phi1_exit (c : Dev nD) :
    (dats m 0 c).Φ (Fin.last cfg0.N) ⊢ iprop((unscopedSems0 c ∗ ARG m c) ∗ Pipeline.ownSems0 osem c ∗ Pipeline.scopedRest cfg0.spec c) := by
  rw [show (dats m 0 c).Φ (Fin.last cfg0.N) = Φ₁ m c from rfl, scopedRest0_eq]
  unfold Φ₁ SCR
  iintro ⟨Hr, HA, Hz⟩
  ihave Hz := (Entails.of_eq (sems0_eq (F := F) c)) $$ Hz
  icases Hz with ⟨Hu, Ho⟩
  isplitl [Hu HA]
  · isplitl [Hu] <;> iassumption
  isplitl [Ho]; · iexact Ho
  iexact Hr

theorem OL_lvl (c : Dev nD) : ∀ e ∈ OL c, 0 < lvl e.2 :=
  OWL_lvl (fun _ => by show 0 < 1; decide) (lvl_mono (by decide) (GSL_lvl (lvl_mono (by decide) (OL1_lvl c))))
theorem stage_ne : ∀ (k : CK) (w : Fin 4) (s : Fin (spec0 w).nbuf), csem k ≠ .dma ((spec0 w).sem s) := by decide +kernel
theorem lv_stage (c : Dev nD) (w : Fin 4) (s : Fin (spec0 w).nbuf) (u : Unit) : lv ((c : Thread nD τ), .dma ((spec0 w).sem s)) u = 0 :=
  Function.extend_apply' _ _ _ fun ⟨e, he⟩ => stage_ne e.2 w s (congrArg Prod.snd he)

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait c _ 0 (OL c) (le_of_eq (lv_stage c w s ())) (OL_lvl c)
    · exact mayWait c _ 0 [] (le_of_eq (lv_stage c w s ())) fun e he => absurd he List.not_mem_nil

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg2) = m ((c : Thread nD τ).loc main_arg2) ∧ r.2.mem ((c : Thread nD τ).loc main_arg3) = m ((c : Thread nD τ).loc main_arg3)

theorem read_end (c : Dev nD) (s' : Phys nD τ sig (Elt F)) : iprop((unscopedSems0 c ∗ ARG m c) ∗ emp ∗ SI s')
    ⊢ |={Set.univ}=> iprop(⌜(∀ sm : SemLoc sig, sm.isScoped .tc = false → s'.mem.sem ((c.tc : Thread nD τ), sm) = 0)
      ∧ s'.mem.mem ((c : Thread nD τ).loc main_arg2) = m ((c : Thread nD τ).loc main_arg2) ∧ s'.mem.mem ((c : Thread nD τ).loc main_arg3) = m ((c : Thread nD τ).loc main_arg3)⌝ ∗ (SI s' : sProp 𝕄)) := by
  unfold ARG
  iintro ⟨⟨Hu, H2, H3⟩, -, HSI⟩
  icombine HSI H2 gives %h2
  icombine HSI H3 gives %h3
  imod (Pipeline.unscopedSems0_read (X := unscopedSems0 c) (c := c) fupd_intro s') $$ [Hu HSI] with ⟨%hu, HSI⟩
  · isplitl [Hu] <;> iassumption
  imodintro
  isplitr; · ipureintro; exact ⟨hu, Buf.eq_of_forall_mem_univ h2, Buf.eq_of_forall_mem_univ h3⟩
  iexact HSI

set_option maxRecDepth 8000 in
/-- Every run ends, with the result on every device, the arguments as they were, every semaphore at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => OW (OL d)) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ ARG m c)) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg2) = m ((c : Thread nD τ).loc main_arg2) ∧ s.mem ((c : Thread nD τ).loc main_arg3) = m ((c : Thread nD τ).loc main_arg3))
    (hY := fun c s' => read_end m c s')
    (hQ := fun _ h hs => ⟨fun c => ⟨fun w => (h c).1 w, (h c).2.2.2⟩, sem_eq_zero hs fun c => (h c).2.2.1⟩)

/-- An input array ends as it began. -/
theorem finalA_in (c : Dev nD) (w : Fin cfg0.W) (h : (cfg0.win w).isOut = false) : finalA m c w = m ((cfg0.win w).arr.view.loc (c : Thread nD τ)) :=
  (dats (F := F) m 0 c).arrAt_in w h _

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨((h.1 c).1 (0 : Fin 4)).trans (finalA_in m c (0 : Fin 4) rfl), ((h.1 c).1 (1 : Fin 4)).trans (finalA_in m c (1 : Fin 4) rfl),
    (h.1 c).2.1, (h.1 c).2.2, ((h.1 c).1 (2 : Fin 4)).trans (finalA_in m c (2 : Fin 4) rfl)⟩, h.2⟩) (run_main m ρ)

attribute [local irreducible] OUT in
/-- The result's block, read back, is what the body left. -/
theorem finalA_out (c : Dev nD) : (win0_3.blk (0 : Fin 1)).view.read (Elt F) (finalA m c (3 : Fin 4)) = OUT m c := by
  unfold finalA
  rw [show cfg0.N = ((0 : Fin 1) : Fin cfg0.N).val + 1 from rfl, (dats m 0 c).arrAt_succ (3 : Fin 4) (0 : Fin 1)]
  rw [show (cfg0.win (3 : Fin 4)).flush (0 : Fin 1) = true from by decide, if_pos rfl]
  exact View.read_write_univ _ _

end Cert.KernelIdeal
end
-- ==== Proof.Printed.lean ====
/-
  The program as printed is the program read with the named constant at its own pattern: its run is that one's run.
-/
module

public import proofs.«01_k».proof.Proof.Launch
public import proofs.«01_k».proof.Defs
public import proofs.«01_k».proof.Proof.Gen.Kernel

@[expose] public section

noncomputable section

namespace Cert

open Idealize.ShloMosaic

/-- Read as printed, a named constant is its pattern. -/
@[reducible] def namedBits : Named Bits where
  named _ _ {φ} b := Scalar.ofBits φ b

attribute [local instance] namedBits in
set_option smartUnfolding false in
set_option maxRecDepth 100000 in
set_option maxHeartbeats 20000000 in
/-- The printed kernel runs, leaves its arguments alone and every semaphore at zero. -/
theorem frame_Kernel : @Cert.quiescent_Kernel Cert.Kernel.Gen.facts := fun m ρ _ =>
  KernelIdeal.frame (F := Bits) m ρ

/-- So does the kernel over the extended reals. -/
theorem frame_KernelIdeal : @Cert.quiescent_KernelIdeal Cert.KernelIdeal.Gen.facts := fun m ρ _ =>
  KernelIdeal.frame (F := Ideal) m ρ

end Cert

end
-- ==== Proof.Heads.lean ====
/-
  A tile's partial result as one formula, whatever the tile: each head is the masked, normalised product with the
  window's keys and values, the eight heads side by side are multiplied with the output weights.
-/
module

public import proofs.«01_k».proof.Proof.Prog

@[expose] public section

noncomputable section

namespace Cert.KernelIdeal

open Cert.KernelIdeal.Gen
open Idealize.ShloMosaic Idealize.SL.Sem

variable {F : FTy → Type} [FloatOps F] [Named F]

/-- The mask of a window of 256 keys: query `qo + r` against key `ko + s`. -/
def mask2 (qo ko : BitVec 32) : IVec S128x256 1 :=
  cmpi .sle (absi (subi (addi (iota .tc S128x256 32 [0] iota_S128x256_d0_w32) (broadcast S128x256 qo))
    (addi (iota .tc S128x256 32 [1] iota_S128x256_d1_w32) (broadcast S128x256 ko)))) (broadcast S128x256 128#32)

/-- The mask of a window of 384 keys. -/
def mask3 (qo ko : BitVec 32) : IVec S128x384 1 :=
  cmpi .sle (absi (subi (addi (iota .tc S128x384 32 [0] iota_S128x384_d0_w32) (broadcast S128x384 qo))
    (addi (iota .tc S128x384 32 [1] iota_S128x384_d1_w32) (broadcast S128x384 ko)))) (broadcast S128x384 128#32)

/-- The masked scores of a head over 256 keys. -/
def sc2 (mk : IVec S128x256 1) (q : FVec F S128x128 .bf16) (k : Vec F S256x1x128 .bf16) : FVec F S128x256 .f32 :=
  select mk (mulf (matmul dot_S128x128_S256x128_S128x256_1_1_0_0_n_n none q (shapeCast S256x128 k shapeCasts_S256x1x128_S256x128)
    (constant S128x256 .f32 0x00000000#32)) (broadcast S128x256 (Scalar.ofBits .f32 0x3DB504F3#32 : F .f32)))
    (broadcast S128x256 (Named.named κ "mask" 0xCE6E6B28#32 : F .f32))

/-- Their exponentials, each row shifted by its greatest. -/
def ex2 (s : FVec F S128x256 .f32) : FVec F S128x256 .f32 :=
  exp (subf s (broadcastTo S128x256 (shapeCast S128x1 (multiReduction .maximumf [1] S128 s 0xFF800000#32 reduces_S128x256_S128 (.inl rfl) rfl)
    shapeCasts_S128_S128x1) broadcasts_S128x1_S128x256))

/-- The head's rows from the exponentials. -/
def av2 (e : FVec F S128x256 .f32) (v : Vec F S256x1x128 .bf16) : FVec F S128x128 .f32 :=
  matmul dot_S128x256_S256x128_S128x128_1_0_0_1_n_n none
    (truncf .bf16 (divf e (broadcastTo S128x256 (shapeCast S128x1 (multiReduction .add [1] S128 e 0x00000000#32 reduces_S128x256_S128 (.inl rfl) rfl)
      shapeCasts_S128_S128x1) broadcasts_S128x1_S128x256)) bitsLt_bf16_f32)
    (shapeCast S256x128 v shapeCasts_S256x1x128_S256x128) (constant S128x128 .f32 0x00000000#32)

def head2 (mk : IVec S128x256 1) (q : FVec F S128x128 .bf16) (kv : KV2 F) : FVec F S128x128 .f32 := av2 (ex2 (sc2 mk q kv.1)) kv.2

/-- The masked scores of a head over 384 keys. -/
def sc3 (mk : IVec S128x384 1) (q : FVec F S128x128 .bf16) (k : Vec F S384x1x128 .bf16) : FVec F S128x384 .f32 :=
  select mk (mulf (matmul dot_S128x128_S384x128_S128x384_1_1_0_0_n_n none q (shapeCast S384x128 k shapeCasts_S384x1x128_S384x128)
    (constant S128x384 .f32 0x00000000#32)) (broadcast S128x384 (Scalar.ofBits .f32 0x3DB504F3#32 : F .f32)))
    (broadcast S128x384 (Named.named κ "mask" 0xCE6E6B28#32 : F .f32))

def ex3 (s : FVec F S128x384 .f32) : FVec F S128x384 .f32 :=
  exp (subf s (broadcastTo S128x384 (shapeCast S128x1 (multiReduction .maximumf [1] S128 s 0xFF800000#32 reduces_S128x384_S128 (.inl rfl) rfl)
    shapeCasts_S128_S128x1) broadcasts_S128x1_S128x384))

def av3 (e : FVec F S128x384 .f32) (v : Vec F S384x1x128 .bf16) : FVec F S128x128 .f32 :=
  matmul dot_S128x384_S384x128_S128x128_1_0_0_1_n_n none
    (truncf .bf16 (divf e (broadcastTo S128x384 (shapeCast S128x1 (multiReduction .add [1] S128 e 0x00000000#32 reduces_S128x384_S128 (.inl rfl) rfl)
      shapeCasts_S128_S128x1) broadcasts_S128x1_S128x384)) bitsLt_bf16_f32)
    (shapeCast S384x128 v shapeCasts_S384x1x128_S384x128) (constant S128x128 .f32 0x00000000#32)

def head3 (mk : IVec S128x384 1) (q : FVec F S128x128 .bf16) (kv : KV3 F) : FVec F S128x128 .f32 := av3 (ex3 (sc3 mk q kv.1)) kv.2

/-- The eight heads side by side. -/
def strip (h0 h1 h2 h3 h4 h5 h6 h7 : FVec F S128x128 .f32) : FVec F S128x1024 .f32 :=
  concatenate S128x1024 1 [⟨S128x128, h0⟩, ⟨S128x128, h1⟩, ⟨S128x128, h2⟩, ⟨S128x128, h3⟩, ⟨S128x128, h4⟩, ⟨S128x128, h5⟩, ⟨S128x128, h6⟩, ⟨S128x128, h7⟩]
    concatenates_S128x128_S128x128_S128x128_S128x128_S128x128_S128x128_S128x128_S128x128_S128x1024_d1

/-- Times the output weights. -/
def proj (s : FVec F S128x1024 .f32) (wo : FVec F S1024x1024 .bf16) : FVec F S128x1024 .f32 :=
  matmul dot_S128x1024_S1024x1024_S128x1024_1_0_0_1_n_n none (truncf .bf16 s bitsLt_bf16_f32) wo (constant S128x1024 .f32 0x00000000#32)

def out2 (wo : FVec F S1024x1024 .bf16) (mk : IVec S128x256 1) (q : Fin 8 → FVec F S128x128 .bf16) (kv : Fin 8 → KV2 F) : FVec F S128x1024 .f32 :=
  proj (strip (head2 mk (q 0) (kv 0)) (head2 mk (q 1) (kv 1)) (head2 mk (q 2) (kv 2)) (head2 mk (q 3) (kv 3))
    (head2 mk (q 4) (kv 4)) (head2 mk (q 5) (kv 5)) (head2 mk (q 6) (kv 6)) (head2 mk (q 7) (kv 7))) wo

def out3 (wo : FVec F S1024x1024 .bf16) (mk : IVec S128x384 1) (q : Fin 8 → FVec F S128x128 .bf16) (kv : Fin 8 → KV3 F) : FVec F S128x1024 .f32 :=
  proj (strip (head3 mk (q 0) (kv 0)) (head3 mk (q 1) (kv 1)) (head3 mk (q 2) (kv 2)) (head3 mk (q 3) (kv 3))
    (head3 mk (q 4) (kv 4)) (head3 mk (q 5) (kv 5)) (head3 mk (q 6) (kv 6)) (head3 mk (q 7) (kv 7))) wo

theorem qt_slices (t h : Fin 8) : S1024x1024.Slices ![128 * t.val, 128 * h.val] S128x128 :=
  ⟨rfl, fun a => by
    have := t.isLt; have := h.isLt
    match a with
    | ⟨0, _⟩ => show 128 * t.val + 128 ≤ 1024; omega
    | ⟨1, _⟩ => show 128 * h.val + 128 ≤ 1024; omega⟩

/-- The queries of tile `t` at head `h`. -/
def qt (q : FVec F S1024x1024 .bf16) (t h : Fin 8) : FVec F S128x128 .bf16 :=
  extractStridedSlice S128x128 ![128 * t.val, 128 * h.val] q (qt_slices t h)

set_option maxRecDepth 100000 in
theorem outPay2_eq (x : Vec F S1x1024x1024 .f32) (wq wo : Vec F S1024x1024 .f32) (kv : Fin 8 → KV2 F) :
    outPay2 x wq wo kv = out2 (k0_pay25 wo) (mask2 0#32 0#32) (qt (k0_pay24 x wq) 0) kv := rfl

set_option maxRecDepth 100000 in
theorem outPay3_eq_0 (x : Vec F S1x1024x1024 .f32) (wq wo : Vec F S1024x1024 .f32) (kv : Fin 8 → KV3 F) :
    outPay3 0 x wq wo kv = out3 (k0_pay25 wo) (mask3 128#32 0#32) (qt (k0_pay24 x wq) 1) kv := rfl

set_option maxRecDepth 100000 in
theorem outPay3_eq_1 (x : Vec F S1x1024x1024 .f32) (wq wo : Vec F S1024x1024 .f32) (kv : Fin 8 → KV3 F) :
    outPay3 1 x wq wo kv = out3 (k0_pay25 wo) (mask3 256#32 128#32) (qt (k0_pay24 x wq) 2) kv := rfl

set_option maxRecDepth 100000 in
theorem outPay3_eq_2 (x : Vec F S1x1024x1024 .f32) (wq wo : Vec F S1024x1024 .f32) (kv : Fin 8 → KV3 F) :
    outPay3 2 x wq wo kv = out3 (k0_pay25 wo) (mask3 384#32 256#32) (qt (k0_pay24 x wq) 3) kv := rfl

set_option maxRecDepth 100000 in
theorem outPay3_eq_3 (x : Vec F S1x1024x1024 .f32) (wq wo : Vec F S1024x1024 .f32) (kv : Fin 8 → KV3 F) :
    outPay3 3 x wq wo kv = out3 (k0_pay25 wo) (mask3 512#32 384#32) (qt (k0_pay24 x wq) 4) kv := rfl

set_option maxRecDepth 100000 in
theorem outPay3_eq_4 (x : Vec F S1x1024x1024 .f32) (wq wo : Vec F S1024x1024 .f32) (kv : Fin 8 → KV3 F) :
    outPay3 4 x wq wo kv = out3 (k0_pay25 wo) (mask3 640#32 512#32) (qt (k0_pay24 x wq) 5) kv := rfl

set_option maxRecDepth 100000 in
theorem outPay3_eq_5 (x : Vec F S1x1024x1024 .f32) (wq wo : Vec F S1024x1024 .f32) (kv : Fin 8 → KV3 F) :
    outPay3 5 x wq wo kv = out3 (k0_pay25 wo) (mask3 768#32 640#32) (qt (k0_pay24 x wq) 6) kv := rfl

set_option maxRecDepth 100000 in
theorem outPay3_eq_6 (x : Vec F S1x1024x1024 .f32) (wq wo : Vec F S1024x1024 .f32) (kv : Fin 8 → KV3 F) :
    outPay3 6 x wq wo kv = out3 (k0_pay25 wo) (mask3 896#32 768#32) (qt (k0_pay24 x wq) 7) kv := rfl

theorem outPay3_eq (i : Fin 7) (x : Vec F S1x1024x1024 .f32) (wq wo : Vec F S1024x1024 .f32) (kv : Fin 8 → KV3 F) :
    outPay3 i x wq wo kv
      = out3 (k0_pay25 wo) (mask3 (BitVec.ofNat 32 (128 * (i.val + 1))) (BitVec.ofNat 32 (128 * i.val))) (qt (k0_pay24 x wq) i.succ) kv := by
  match i with
  | 0 => exact outPay3_eq_0 x wq wo kv
  | 1 => exact outPay3_eq_1 x wq wo kv
  | 2 => exact outPay3_eq_2 x wq wo kv
  | 3 => exact outPay3_eq_3 x wq wo kv
  | 4 => exact outPay3_eq_4 x wq wo kv
  | 5 => exact outPay3_eq_5 x wq wo kv
  | 6 => exact outPay3_eq_6 x wq wo kv

/-- The rounded tile is the tile, rounded. -/
theorem sPay2_eq (x : Vec F S1x1024x1024 .f32) (wq wo : Vec F S1024x1024 .f32) (kv : Fin 8 → KV2 F) :
    sPay2 x wq wo kv = shapeCast S128x1024 (truncf .bf16 (outPay2 x wq wo kv : FVec F S128x1024 .f32) bitsLt_bf16_f32) shapeCasts_S128x1024_S128x1024 := rfl

theorem sPay3_eq (i : Fin 7) (x : Vec F S1x1024x1024 .f32) (wq wo : Vec F S1024x1024 .f32) (kv : Fin 8 → KV3 F) :
    sPay3 i x wq wo kv = shapeCast S128x1024 (truncf .bf16 (outPay3 i x wq wo kv : FVec F S128x1024 .f32) bitsLt_bf16_f32) shapeCasts_S128x1024_S128x1024 := by
  match i with
  | 0 => rfl
  | 1 => rfl
  | 2 => rfl
  | 3 => rfl
  | 4 => rfl
  | 5 => rfl
  | 6 => rfl

end Cert.KernelIdeal

end
-- ==== Proof.Soft.lean ====
/-
  A normalised exponential average over the extended reals: entries at −∞ take no part in it, so an average over all
  positions is the average over any window that holds the others.
-/
module

public import Idealize.ShloMosaic.PureOps.Ideal
public import Idealize.ShloMosaic.PureOps.Values
public import Idealize.ShloMosaic.Lib.FinSumWindow

@[expose] public section

noncomputable section

namespace Cert.KernelIdeal

open Idealize.ShloMosaic

/-- The greatest entry. -/
def top {n : ℕ} (sc : Fin n → EReal) : EReal := Finset.univ.fold max ⊥ sc

/-- An entry's exponential under the greatest. -/
def ee {n : ℕ} (sc : Fin n → EReal) (j : Fin n) : EReal := Ideal.exp (sc j - top sc)

/-- The average of `v` with the normalised exponentials of `sc`. -/
def smx {n : ℕ} (sc v : Fin n → EReal) : EReal :=
  ∑ j, Ideal.div (ee sc j) (∑ y, ee sc y) * v j

theorem top_sup {n : ℕ} (sc : Fin n → EReal) : top sc = Finset.univ.sup sc := rfl

theorem exp_nonneg (x : EReal) : 0 ≤ Ideal.exp x := by
  induction x with
  | bot => simp
  | top => simp
  | coe r => simp only [Ideal.exp_coe]; exact_mod_cast (Real.exp_pos r).le

theorem ee_bot {n : ℕ} (sc : Fin n → EReal) (j : Fin n) (h : sc j = ⊥) : ee sc j = 0 := by
  unfold ee; rw [h, EReal.bot_sub]; rfl

/-- Entries below +∞, one of them above −∞: the exponentials do not sum to zero. -/
theorem sum_ee_ne {n : ℕ} (sc : Fin n → EReal) (hT : ∀ j, sc j ≠ ⊤) (j : Fin n) (hj : sc j ≠ ⊥) : (∑ y, ee sc y) ≠ 0 := by
  have h1 : top sc < ⊤ := by
    rw [top_sup, Finset.sup_lt_iff bot_lt_top]; exact fun b _ => lt_top_iff_ne_top.mpr (hT b)
  have h2 : sc j ≤ top sc := by rw [top_sup]; exact Finset.le_sup (Finset.mem_univ j)
  have h3 : top sc ≠ ⊥ := fun h => hj (le_bot_iff.mp (h ▸ h2))
  have h4 : 0 < ee sc j := by
    unfold ee
    generalize top sc = T at *
    induction T with
    | bot => exact absurd rfl h3
    | top => exact absurd h1 (lt_irrefl _)
    | coe t =>
      have h5 := hT j
      generalize sc j = a at *
      induction a with
      | bot => exact absurd rfl hj
      | top => exact absurd rfl h5
      | coe a =>
        rw [← EReal.coe_sub, Ideal.exp_coe]
        exact_mod_cast Real.exp_pos _
  have h6 : ee sc j ≤ ∑ y, ee sc y := Finset.single_le_sum (f := ee sc) (fun i _ => exp_nonneg _) (Finset.mem_univ j)
  exact (lt_of_lt_of_le h4 h6).ne'

/-- The average over all positions is the average over a window outside which every entry is −∞. -/
theorem smx_window {N W : ℕ} (lo : ℕ) (hlo : lo + W ≤ N) (sc v : Fin N → EReal)
    (hout : ∀ j : Fin N, ¬(lo ≤ j.val ∧ j.val < lo + W) → sc j = ⊥) (hne : (∑ y, ee sc y) ≠ 0) :
    smx sc v = smx (fun s : Fin W => sc ⟨lo + s.val, by omega⟩) (fun s : Fin W => v ⟨lo + s.val, by omega⟩) := by
  have ht : top (fun s : Fin W => sc ⟨lo + s.val, by omega⟩) = top sc := by
    apply le_antisymm
    · rw [top_sup, top_sup]
      exact Finset.sup_le fun b _ => Finset.le_sup (f := sc) (Finset.mem_univ _)
    · rw [top_sup, top_sup]
      refine Finset.sup_le fun b _ => ?_
      by_cases hb : lo ≤ b.val ∧ b.val < lo + W
      · have := Finset.le_sup (f := fun s : Fin W => sc ⟨lo + s.val, by omega⟩) (Finset.mem_univ (⟨b.val - lo, by omega⟩ : Fin W))
        refine le_trans (le_of_eq ?_) this
        congr 1; apply Fin.ext; simp; omega
      · rw [hout b hb]; exact bot_le
  have he : ∀ s : Fin W, ee (fun s : Fin W => sc ⟨lo + s.val, by omega⟩) s = ee sc ⟨lo + s.val, by omega⟩ := fun s => by
    unfold ee; rw [ht]
  have hz : ∀ j : Fin N, ¬(lo ≤ j.val ∧ j.val < lo + W) → ee sc j = 0 := fun j hj => ee_bot sc j (hout j hj)
  have hs : (∑ y, ee (fun s : Fin W => sc ⟨lo + s.val, by omega⟩) y) = ∑ y, ee sc y := by
    rw [FinSumWindow.sum_window lo hlo (ee sc) hz]
    exact Finset.sum_congr rfl fun s _ => he s
  unfold smx
  rw [hs, FinSumWindow.sum_window lo hlo _ (fun j hj => by
    rw [hz j hj, Ideal.div, if_neg hne, zero_mul, zero_mul])]
  exact Finset.sum_congr rfl fun s _ => by rw [he s]

/-! ## Finite values -/

/-- Neither infinity. -/
def IsFin (x : EReal) : Prop := x ≠ ⊤ ∧ x ≠ ⊥

theorem fin_coe {x : EReal} (h : IsFin x) : ∃ r : ℝ, x = r := by
  induction x with
  | bot => exact absurd rfl h.2
  | top => exact absurd rfl h.1
  | coe r => exact ⟨r, rfl⟩

theorem coe_fin (r : ℝ) : IsFin (r : EReal) := ⟨EReal.coe_ne_top r, EReal.coe_ne_bot r⟩

theorem fin_mul {x y : EReal} (hx : IsFin x) (hy : IsFin y) : IsFin (x * y) := by
  obtain ⟨a, rfl⟩ := fin_coe hx
  obtain ⟨b, rfl⟩ := fin_coe hy
  rw [← EReal.coe_mul]; exact coe_fin _

theorem fin_add {x y : EReal} (hx : IsFin x) (hy : IsFin y) : IsFin (x + y) := by
  obtain ⟨a, rfl⟩ := fin_coe hx
  obtain ⟨b, rfl⟩ := fin_coe hy
  rw [← EReal.coe_add]; exact coe_fin _

theorem fin_sum {n : ℕ} (f : Fin n → EReal) (h : ∀ i, IsFin (f i)) : IsFin (∑ i, f i) :=
  Finset.sum_induction f IsFin (fun _ _ => fin_add) (coe_fin 0) (fun i _ => h i)

/-! ## The mask -/

/-- Query `i` sees key `j`. -/
def maskB (i j : ℕ) : BitVec 1 := IntOp.cmpi .sle (IntOp.absi (IntOp.subi (BitVec.ofNat 32 i) (BitVec.ofNat 32 j))) 128#32

theorem sle_128 (n : ℕ) (h : n < 2 ^ 20) : (BitVec.ofNat 32 n).sle 128#32 = decide (n ≤ 128) := by
  rw [BitVec.sle_eq_decide, show (128#32).toInt = 128 from rfl, BitVec.toInt_ofNat']
  apply decide_eq_decide.mpr
  have h1 : (n : ℤ).bmod (2 ^ 32) = n := by
    apply Int.bmod_eq_of_le <;> omega
  rw [h1]; omega

theorem abs_pos (n : ℕ) (h : n < 2 ^ 20) : IntOp.absi (BitVec.ofNat 32 n) = BitVec.ofNat 32 n := by
  unfold IntOp.absi
  rw [if_neg]
  rw [BitVec.msb_eq_decide, BitVec.toNat_ofNat, Nat.mod_eq_of_lt (by omega)]
  simp; omega

theorem abs_neg (n : ℕ) (h0 : 0 < n) (h : n < 2 ^ 20) : IntOp.absi (-(BitVec.ofNat 32 n)) = BitVec.ofNat 32 n := by
  unfold IntOp.absi
  rw [if_pos, BitVec.neg_neg]
  rw [BitVec.msb_eq_decide, BitVec.toNat_neg, BitVec.toNat_ofNat, Nat.mod_eq_of_lt (a := n) (by omega), Nat.mod_eq_of_lt (by omega)]
  simp; omega

theorem sub_add_neg (a d : BitVec 32) : a - (a + d) = -d := by
  apply BitVec.eq_of_toNat_eq
  simp only [BitVec.toNat_sub, BitVec.toNat_add, BitVec.toNat_neg]
  have := a.isLt; have := d.isLt
  omega

/-- A query sees the keys at most 128 away. -/
theorem maskB_iff (i j : ℕ) (hi : i < 2 ^ 16) (hj : j < 2 ^ 16) : maskB i j = 1#1 ↔ i ≤ j + 128 ∧ j ≤ i + 128 := by
  have key : ∀ n : ℕ, n < 2 ^ 20 → (BitVec.ofBool ((BitVec.ofNat 32 n).sle 128#32) = 1#1 ↔ n ≤ 128) := fun n hn => by
    rw [sle_128 n hn]
    by_cases h : n ≤ 128
    · simp [h]
    · simp [h]
  unfold maskB IntOp.cmpi IntOp.subi
  rcases Nat.lt_or_ge i j with h | h
  · have e : BitVec.ofNat 32 i - BitVec.ofNat 32 j = -(BitVec.ofNat 32 (j - i)) := by
      have : BitVec.ofNat 32 j = BitVec.ofNat 32 i + BitVec.ofNat 32 (j - i) := by
        rw [← BitVec.ofNat_add]; congr 1; omega
      rw [this, sub_add_neg]
    rw [e, abs_neg _ (by omega) (by omega)]
    refine (key _ (by omega)).trans ?_
    omega
  · have e : BitVec.ofNat 32 i - BitVec.ofNat 32 j = BitVec.ofNat 32 (i - j) := by
      have : BitVec.ofNat 32 i = BitVec.ofNat 32 j + BitVec.ofNat 32 (i - j) := by
        rw [← BitVec.ofNat_add]; congr 1; omega
      rw [this, BitVec.add_comm, BitVec.add_sub_cancel]
    rw [e, abs_pos _ (by omega)]
    refine (key _ (by omega)).trans ?_
    omega

theorem bit_ne {b : BitVec 1} (h : b ≠ 1#1) : b = 0#1 := by
  revert h; revert b; decide

end Cert.KernelIdeal

end
-- ==== Proof.Read.lean ====
/-
  The kernel's pieces read at an index, over the extended reals.
-/
module

public import proofs.«01_k».proof.Proof.Heads
public import proofs.«01_k».proof.Proof.Soft
public import Idealize.ShloMosaic.Lib.Pointwise

@[expose] public section

noncomputable section

namespace Cert.KernelIdeal

open Cert.KernelIdeal.Gen
open Idealize.ShloMosaic Idealize.SL.Sem

/-- The scale of the scores. -/
abbrev scal : EReal := Ideal.ofBits .f32 0x3DB504F3#32

theorem maskN : (Named.named κ "mask" 0xCE6E6B28#32 : Ideal .f32) = (⊥ : EReal) := by
  first | rfl | simp [Named.named, κ]

theorem ninf : (Ideal.ofBits .f32 0xFF800000#32 : EReal) = ⊥ := by
  first | rfl | simp

theorem mask2_at (a b : ℕ) (r : Fin 128) (s : Fin 256) :
    mask2 (BitVec.ofNat 32 a) (BitVec.ofNat 32 b) (ix2 r s) = maskB (a + r.val) (b + s.val) := by
  have h : mask2 (BitVec.ofNat 32 a) (BitVec.ofNat 32 b) (ix2 r s)
      = IntOp.cmpi .sle (IntOp.absi (IntOp.subi (IntOp.addi (BitVec.ofNat 32 r.val) (BitVec.ofNat 32 a))
          (IntOp.addi (BitVec.ofNat 32 s.val) (BitVec.ofNat 32 b)))) 128#32 := by
    pointwise [mask2]
  rw [h]; unfold maskB IntOp.addi
  rw [← BitVec.ofNat_add, ← BitVec.ofNat_add, Nat.add_comm r.val, Nat.add_comm s.val]

theorem sc2_at (mk : IVec S128x256 1) (q : FVec Ideal S128x128 .bf16) (k : Vec Ideal S256x1x128 .bf16) (r : Fin 128) (s : Fin 256) :
    sc2 mk q k (ix2 r s) = Scalar.select (mk (ix2 r s)) ((∑ e : Fin 128, q (ix2 r e) * k (ix3 s 0 e)) * scal) (⊥ : EReal) := by
  rw [← maskN]
  pointwise [sc2]

theorem ex2_at (sc : FVec Ideal S128x256 .f32) (r : Fin 128) (s : Fin 256) :
    ex2 sc (ix2 r s) = ee (fun x : Fin 256 => (sc (ix2 r x) : EReal)) s := by
  unfold ee top
  rw [← ninf]
  pointwise [ex2]

theorem av2_at (e : FVec Ideal S128x256 .f32) (v : Vec Ideal S256x1x128 .bf16) (r : Fin 128) (d : Fin 128) :
    av2 e v (ix2 r d) = ∑ x : Fin 256, Ideal.div (e (ix2 r x)) (∑ x : Fin 256, e (ix2 r x)) * v (ix3 x 0 d) := by
  pointwise [av2]

/-- A head over 256 keys is the normalised average. -/
theorem head2_at (mk : IVec S128x256 1) (q : FVec Ideal S128x128 .bf16) (kv : KV2 Ideal) (r d : Fin 128) :
    head2 mk q kv (ix2 r d)
      = smx (fun s : Fin 256 => Scalar.select (mk (ix2 r s)) ((∑ e : Fin 128, q (ix2 r e) * kv.1 (ix3 s 0 e)) * scal) (⊥ : EReal))
          (fun s => kv.2 (ix3 s 0 d)) := by
  unfold head2 smx
  rw [av2_at]
  simp only [ex2_at, sc2_at]

theorem mask3_at (a b : ℕ) (r : Fin 128) (s : Fin 384) :
    mask3 (BitVec.ofNat 32 a) (BitVec.ofNat 32 b) (ix2 r s) = maskB (a + r.val) (b + s.val) := by
  have h : mask3 (BitVec.ofNat 32 a) (BitVec.ofNat 32 b) (ix2 r s)
      = IntOp.cmpi .sle (IntOp.absi (IntOp.subi (IntOp.addi (BitVec.ofNat 32 r.val) (BitVec.ofNat 32 a))
          (IntOp.addi (BitVec.ofNat 32 s.val) (BitVec.ofNat 32 b)))) 128#32 := by
    pointwise [mask3]
  rw [h]; unfold maskB IntOp.addi
  rw [← BitVec.ofNat_add, ← BitVec.ofNat_add, Nat.add_comm r.val, Nat.add_comm s.val]

theorem sc3_at (mk : IVec S128x384 1) (q : FVec Ideal S128x128 .bf16) (k : Vec Ideal S384x1x128 .bf16) (r : Fin 128) (s : Fin 384) :
    sc3 mk q k (ix2 r s) = Scalar.select (mk (ix2 r s)) ((∑ e : Fin 128, q (ix2 r e) * k (ix3 s 0 e)) * scal) (⊥ : EReal) := by
  rw [← maskN]
  pointwise [sc3]

theorem ex3_at (sc : FVec Ideal S128x384 .f32) (r : Fin 128) (s : Fin 384) :
    ex3 sc (ix2 r s) = ee (fun x : Fin 384 => (sc (ix2 r x) : EReal)) s := by
  unfold ee top
  rw [← ninf]
  pointwise [ex3]

theorem av3_at (e : FVec Ideal S128x384 .f32) (v : Vec Ideal S384x1x128 .bf16) (r : Fin 128) (d : Fin 128) :
    av3 e v (ix2 r d) = ∑ x : Fin 384, Ideal.div (e (ix2 r x)) (∑ x : Fin 384, e (ix2 r x)) * v (ix3 x 0 d) := by
  pointwise [av3]

/-- A head over 384 keys is the normalised average. -/
theorem head3_at (mk : IVec S128x384 1) (q : FVec Ideal S128x128 .bf16) (kv : KV3 Ideal) (r d : Fin 128) :
    head3 mk q kv (ix2 r d)
      = smx (fun s : Fin 384 => Scalar.select (mk (ix2 r s)) ((∑ e : Fin 128, q (ix2 r e) * kv.1 (ix3 s 0 e)) * scal) (⊥ : EReal))
          (fun s => kv.2 (ix3 s 0 d)) := by
  unfold head3 smx
  rw [av3_at]
  simp only [ex3_at, sc3_at]

theorem proj_at (e : FVec Ideal S128x1024 .f32) (wo : Vec Ideal S1024x1024 .bf16) (r : Fin 128) (d : Fin 1024) :
    proj e wo (ix2 r d) = ∑ x : Fin 1024, (e (ix2 r x) : EReal) * wo (ix2 x d) := by
  pointwise [proj]

theorem qt_at (x : Vec Ideal S1x1024x1024 .f32) (wq : Vec Ideal S1024x1024 .f32) (t h : Fin 8) (r d : Fin 128) :
    qt (k0_pay24 x wq) t h (ix2 r d)
      = ∑ a : Fin 1024, (x (ix3 0 ⟨128 * t.val + r.val, by omega⟩ a) : EReal) * wq (ix2 a ⟨128 * h.val + d.val, by omega⟩) := by
  pointwise [qt, k0_pay24]

theorem wo_at (wo : Vec Ideal S1024x1024 .f32) (r d : Fin 1024) : k0_pay25 wo (ix2 r d) = wo (ix2 r d) := by
  pointwise [k0_pay25]

theorem strip_at (h : Fin 8 → FVec Ideal S128x128 .f32) (r : Fin 128) (d : Fin 1024) :
    strip (h 0) (h 1) (h 2) (h 3) (h 4) (h 5) (h 6) (h 7) (ix2 r d)
      = h ⟨d.val / 128, by omega⟩ (ix2 r ⟨d.val % 128, by omega⟩) := by
  pointwise [strip]
  have key : ∀ (a b : Fin 8) (x y : Fin 128), a = b → x = y → h a (ix2 r x) = h b (ix2 r y) := fun a b x y e1 e2 => by rw [e1, e2]
  split_ifs <;> exact key _ _ _ _ (Fin.ext (by simp only [Fin.isValue, Fin.val_zero, Fin.val_one, Fin.val_ofNat]; omega)) (Fin.ext (by simp only; omega))

/-- The query of row `i` at column `k` of a device's slice. -/
def qv (x : Vec Ideal S1x1024x1024 .f32) (wq : Vec Ideal S1024x1024 .f32) (i k : Fin 1024) : EReal :=
  ∑ a : Fin 1024, (x (ix3 0 i a) : EReal) * wq (ix2 a k)

/-- A tile over 256 keys. -/
theorem out2_at (x : Vec Ideal S1x1024x1024 .f32) (wq wo : Vec Ideal S1024x1024 .f32) (kv : Fin 8 → KV2 Ideal) (r : Fin 128) (n : Fin 1024) :
    outPay2 x wq wo kv (ix2 r n)
      = ∑ k : Fin 1024, smx (fun s : Fin 256 => Scalar.select (maskB r.val s.val)
            ((∑ e : Fin 128, qv x wq ⟨r.val, by omega⟩ ⟨128 * (k.val / 128) + e.val, by omega⟩ * (kv ⟨k.val / 128, by omega⟩).1 (ix3 s 0 e)) * scal) (⊥ : EReal))
          (fun s => (kv ⟨k.val / 128, by omega⟩).2 (ix3 s 0 ⟨k.val % 128, by omega⟩)) * wo (ix2 k n) := by
  rw [outPay2_eq]
  unfold out2
  rw [proj_at]
  refine Finset.sum_congr rfl fun k _ => ?_
  rw [strip_at (fun h => head2 (mask2 0#32 0#32) (qt (k0_pay24 x wq) 0 h) (kv h)), wo_at, head2_at]
  congr 2
  funext s
  rw [show mask2 0#32 0#32 (ix2 r s) = maskB r.val s.val from (mask2_at 0 0 r s).trans (by rw [Nat.zero_add, Nat.zero_add])]
  congr 2
  refine Finset.sum_congr rfl fun e _ => ?_
  rw [qt_at]
  unfold qv
  simp only [Fin.isValue, Fin.val_zero, Nat.mul_zero, Nat.zero_add]

/-- A tile over 384 keys. -/
theorem out3_at (i : Fin 7) (x : Vec Ideal S1x1024x1024 .f32) (wq wo : Vec Ideal S1024x1024 .f32) (kv : Fin 8 → KV3 Ideal) (r : Fin 128) (n : Fin 1024) :
    outPay3 i x wq wo kv (ix2 r n)
      = ∑ k : Fin 1024, smx (fun s : Fin 384 => Scalar.select (maskB (128 * (i.val + 1) + r.val) (128 * i.val + s.val))
            ((∑ e : Fin 128, qv x wq ⟨128 * (i.val + 1) + r.val, by omega⟩ ⟨128 * (k.val / 128) + e.val, by omega⟩ * (kv ⟨k.val / 128, by omega⟩).1 (ix3 s 0 e)) * scal) (⊥ : EReal))
          (fun s => (kv ⟨k.val / 128, by omega⟩).2 (ix3 s 0 ⟨k.val % 128, by omega⟩)) * wo (ix2 k n) := by
  rw [outPay3_eq]
  unfold out3
  rw [proj_at]
  refine Finset.sum_congr rfl fun k _ => ?_
  rw [strip_at (fun h => head3 (mask3 (BitVec.ofNat 32 (128 * (i.val + 1))) (BitVec.ofNat 32 (128 * i.val))) (qt (k0_pay24 x wq) i.succ h) (kv h)), wo_at, head3_at]
  congr 2
  funext s
  rw [mask3_at]
  congr 2
  refine Finset.sum_congr rfl fun e _ => ?_
  rw [qt_at]
  rfl

theorem scal_fin : scal ≠ ⊤ ∧ scal ≠ ⊥ := by
  constructor <;> simp [Ideal.ofBits, Ideal.ieee, -EReal.coe_mul]

end Cert.KernelIdeal

end
-- ==== Proof.Whole.lean ====
/-
  The whole attention layer over the extended reals, and a device's tile as its share: the eight heads of the device,
  over the keys within reach of the tile.
-/
module

public import proofs.«01_k».proof.Proof.Read

@[expose] public section

noncomputable section

namespace Cert.KernelIdeal

open Cert.KernelIdeal.Gen
open Idealize.ShloMosaic Idealize.SL.Sem

/-- The layer's inputs: activations, query weights, keys, values, output weights. -/
structure Inp where
  X : Fin 1024 → Fin 1024 → EReal
  WQ : Fin 1024 → Fin 8192 → EReal
  K : Fin 8192 → Fin 64 → Fin 128 → EReal
  V : Fin 8192 → Fin 64 → Fin 128 → EReal
  WO : Fin 8192 → Fin 1024 → EReal

/-- The activations, the query weights and the keys are finite. -/
structure Inp.Ok (I : Inp) : Prop where
  x : ∀ i a, IsFin (I.X i a)
  wq : ∀ a k, IsFin (I.WQ a k)
  k : ∀ j h e, IsFin (I.K j h e)

/-- The query of row `i` at column `k`. -/
def Inp.Q (I : Inp) (i : Fin 1024) (k : Fin 8192) : EReal := ∑ a : Fin 1024, I.X i a * I.WQ a k

/-- The masked score of query `i` and key `j` at head `h`. -/
def Inp.S (I : Inp) (i : Fin 1024) (h : Fin 64) (j : Fin 8192) : EReal :=
  Scalar.select (maskB i.val j.val) ((∑ e : Fin 128, I.Q i ⟨128 * h.val + e.val, by omega⟩ * I.K j h e) * scal) (⊥ : EReal)

/-- Column `k` of the heads' outputs, times the output weight. -/
def Inp.T (I : Inp) (i n : Fin 1024) (k : Fin 8192) : EReal :=
  smx (I.S i ⟨k.val / 128, by omega⟩) (fun j => I.V j ⟨k.val / 128, by omega⟩ ⟨k.val % 128, by omega⟩) * I.WO k n

theorem Inp.S_raw (I : Inp) (hI : I.Ok) (i : Fin 1024) (h : Fin 64) (j : Fin 8192) :
    IsFin ((∑ e : Fin 128, I.Q i ⟨128 * h.val + e.val, by omega⟩ * I.K j h e) * scal) :=
  fin_mul (fin_sum _ fun e => fin_mul (fin_sum _ fun a => fin_mul (hI.x _ _) (hI.wq _ _)) (hI.k _ _ _)) scal_fin

theorem Inp.S_out (I : Inp) (i : Fin 1024) (h : Fin 64) (j : Fin 8192) (hj : ¬(i.val ≤ j.val + 128 ∧ j.val ≤ i.val + 128)) :
    I.S i h j = ⊥ := by
  unfold Inp.S
  rw [bit_ne (fun e => hj ((maskB_iff _ _ (by omega) (by omega)).mp e))]
  rfl

theorem Inp.S_in (I : Inp) (i : Fin 1024) (h : Fin 64) (j : Fin 8192) (hj : i.val ≤ j.val + 128 ∧ j.val ≤ i.val + 128) :
    I.S i h j = (∑ e : Fin 128, I.Q i ⟨128 * h.val + e.val, by omega⟩ * I.K j h e) * scal := by
  unfold Inp.S
  rw [(maskB_iff _ _ (by omega) (by omega)).mpr hj]
  rfl

theorem Inp.sum_ne (I : Inp) (hI : I.Ok) (i : Fin 1024) (h : Fin 64) : (∑ y, ee (I.S i h) y) ≠ 0 := by
  refine sum_ee_ne _ (fun j => ?_) ⟨i.val, by omega⟩ ?_
  · by_cases hj : i.val ≤ j.val + 128 ∧ j.val ≤ i.val + 128
    · rw [I.S_in i h j hj]; exact (I.S_raw hI i h j).1
    · rw [I.S_out i h j hj]; exact bot_ne_top
  · rw [I.S_in i h _ (by simp only; omega)]; exact (I.S_raw hI i h _).2

theorem Inp.smx_win (I : Inp) (hI : I.Ok) (i : Fin 1024) (h : Fin 64) (v : Fin 8192 → EReal) {W : ℕ} (lo : ℕ) (hlo : lo + W ≤ 8192)
    (h0 : lo = 0 ∨ lo + 128 ≤ i.val) (h1 : i.val + 128 < lo + W) :
    smx (I.S i h) v = smx (fun s : Fin W => I.S i h ⟨lo + s.val, by omega⟩) (fun s : Fin W => v ⟨lo + s.val, by omega⟩) :=
  smx_window lo hlo _ _ (fun j hj => I.S_out i h j (by omega)) (I.sum_ne hI i h)

/-- What a device holds of the inputs. -/
structure Inp.Dev (I : Inp) (c : Fin 8) (x : Vec Ideal S1x1024x1024 .f32) (wq wo : Vec Ideal S1024x1024 .f32) : Prop where
  x : ∀ i a : Fin 1024, x (ix3 0 i a) = I.X i a
  wq : ∀ a k : Fin 1024, wq (ix2 a k) = I.WQ a ⟨1024 * c.val + k.val, by omega⟩
  wo : ∀ k n : Fin 1024, wo (ix2 k n) = I.WO ⟨1024 * c.val + k.val, by omega⟩ n

theorem tile2_at (I : Inp) (hI : I.Ok) (c : Fin 8) (x : Vec Ideal S1x1024x1024 .f32) (wq wo : Vec Ideal S1024x1024 .f32) (hd : I.Dev c x wq wo)
    (kv : Fin 8 → KV2 Ideal)
    (hk : ∀ (h : Fin 8) (s : Fin 256) (e : Fin 128), (kv h).1 (ix3 s 0 e) = I.K ⟨s.val, by omega⟩ ⟨8 * c.val + h.val, by omega⟩ e)
    (hv : ∀ (h : Fin 8) (s : Fin 256) (e : Fin 128), (kv h).2 (ix3 s 0 e) = I.V ⟨s.val, by omega⟩ ⟨8 * c.val + h.val, by omega⟩ e)
    (r : Fin 128) (n : Fin 1024) :
    outPay2 x wq wo kv (ix2 r n) = ∑ k : Fin 1024, I.T ⟨r.val, by omega⟩ n ⟨1024 * c.val + k.val, by omega⟩ := by
  rw [out2_at]
  refine Finset.sum_congr rfl fun k _ => ?_
  have hh : (⟨(1024 * c.val + k.val) / 128, by omega⟩ : Fin 64) = ⟨8 * c.val + k.val / 128, by omega⟩ := Fin.ext (by simp only; omega)
  have hm : (⟨(1024 * c.val + k.val) % 128, by omega⟩ : Fin 128) = ⟨k.val % 128, by omega⟩ := Fin.ext (by simp only; omega)
  unfold Inp.T
  rw [hd.wo, I.smx_win hI ⟨r.val, by omega⟩ _ _ (W := 256) 0 (by omega) (.inl rfl) (by simp only; omega)]
  congr 2
  · funext s
    unfold Inp.S
    simp only [hh]
    simp only [Nat.zero_add]
    congr 2
    refine Finset.sum_congr rfl fun e _ => ?_
    rw [hk]
    congr 1
    unfold qv Inp.Q
    refine Finset.sum_congr rfl fun a _ => ?_
    rw [hd.x, hd.wq]
    congr 2
    exact Fin.ext (by simp only; omega)
  · funext s
    simp only [hh, hm, hv, Nat.zero_add]

theorem tile3_at (I : Inp) (hI : I.Ok) (c : Fin 8) (x : Vec Ideal S1x1024x1024 .f32) (wq wo : Vec Ideal S1024x1024 .f32) (hd : I.Dev c x wq wo)
    (i : Fin 7) (kv : Fin 8 → KV3 Ideal)
    (hk : ∀ (h : Fin 8) (s : Fin 384) (e : Fin 128), (kv h).1 (ix3 s 0 e) = I.K ⟨128 * i.val + s.val, by omega⟩ ⟨8 * c.val + h.val, by omega⟩ e)
    (hv : ∀ (h : Fin 8) (s : Fin 384) (e : Fin 128), (kv h).2 (ix3 s 0 e) = I.V ⟨128 * i.val + s.val, by omega⟩ ⟨8 * c.val + h.val, by omega⟩ e)
    (r : Fin 128) (n : Fin 1024) :
    outPay3 i x wq wo kv (ix2 r n)
      = ∑ k : Fin 1024, I.T ⟨128 * (i.val + 1) + r.val, by omega⟩ n ⟨1024 * c.val + k.val, by omega⟩ := by
  rw [out3_at]
  refine Finset.sum_congr rfl fun k _ => ?_
  have hh : (⟨(1024 * c.val + k.val) / 128, by omega⟩ : Fin 64) = ⟨8 * c.val + k.val / 128, by omega⟩ := Fin.ext (by simp only; omega)
  have hm : (⟨(1024 * c.val + k.val) % 128, by omega⟩ : Fin 128) = ⟨k.val % 128, by omega⟩ := Fin.ext (by simp only; omega)
  unfold Inp.T
  rw [hd.wo, I.smx_win hI ⟨128 * (i.val + 1) + r.val, by omega⟩ _ _ (W := 384) (128 * i.val) (by omega) (.inr (by simp only; omega)) (by simp only; omega)]
  congr 2
  · funext s
    unfold Inp.S
    simp only [hh]
    congr 2
    refine Finset.sum_congr rfl fun e _ => ?_
    rw [hk]
    congr 1
    unfold qv Inp.Q
    refine Finset.sum_congr rfl fun a _ => ?_
    rw [hd.x, hd.wq]
    congr 2
    exact Fin.ext (by simp only; omega)
  · funext s
    simp only [hh, hm, hv]

/-- The devices' shares make up the whole. -/
theorem sum_shares (f : Fin 8192 → EReal) :
    ∑ c : Fin 8, ∑ k : Fin 1024, f ⟨1024 * c.val + k.val, by omega⟩ = ∑ k : Fin 8192, f k := by
  rw [← Fintype.sum_prod_type']
  refine Fintype.sum_equiv finProdFinEquiv _ _ fun p => ?_
  congr 1
  exact Fin.ext (by simp only [finProdFinEquiv_apply_val]; omega)

end Cert.KernelIdeal

end
-- ==== Proof.RefVal.lean ====
/-
  The reference's result read at an index, over the extended reals, stage by stage.
-/
module

public import proofs.«01_k».proof.Proof.Whole
public import proofs.«01_k».proof.Proof.Gen.ReferenceIdeal.Run
public import Idealize.ShloMosaic.Lib.Pointwise
public import Idealize.ShloMosaic.Lib.Routing.OpsOrder

@[expose] public section

noncomputable section

namespace Cert.ReferenceIdeal

open Cert.ReferenceIdeal.Gen Cert.ReferenceIdeal.Value
open Idealize.ShloMosaic Idealize.ShloMosaic.TcCoe Idealize.SL.Sem
open Cert.KernelIdeal (maskB maskB_iff ee smx scal top ninf Inp)

/-- Which query sees which key. -/
def rMask : IVec S1024x8192 1 :=
  cmpi .sle (absi (subi (broadcastInDim S1024x8192 ![0, 1] bcast_S1024x1_S1024x8192_0_1 (broadcastInDim S1024x1 ![0] bcast_S1024_S1024x1_0 (iotaInDim S1024 32 0)))
    (broadcastInDim S1024x8192 ![0, 1] bcast_S1x8192_S1024x8192_0_1 (broadcastInDim S1x8192 ![1] bcast_S8192_S1x8192_1 (iotaInDim S8192 32 0)))))
    (broadcastInDim S1024x8192 ![] bcast_S_S1024x8192 (constantI S_ 32 128#32))

/-- Which query sees any key. -/
def rAny : IVec S1024 1 := Host.reduce IntOp.ori rMask (constantI S_ 1 0#1) reducesTo_S1024x8192_S1024_d1 h_S_

/-- The queries by head. -/
def rQ (x : FVec Ideal S1x1024x1024 .f32) (wq : FVec Ideal S1024x8192 .f32) : FVec Ideal S1x1024x64x128 .f32 :=
  shapeCast S1x1024x64x128 (Host.dotGeneral dot_S1x1024x1024_S1024x8192_S1x1024x8192_2_0_01_1_n_n none x wq) shapeCasts_S1x1024x8192_S1x1024x64x128

/-- The masked scores. -/
def rSc (q : FVec Ideal S1x1024x64x128 .f32) (k : FVec Ideal S1x8192x64x128 .f32) : FVec Ideal S1x64x1024x8192 .f32 :=
  select (broadcastInDim S1x64x1024x8192 ![0, 1, 2, 3] bcast_S1x1x1024x8192_S1x64x1024x8192_0_1_2_3 (broadcastInDim S1x1x1024x8192 ![2, 3] bcast_S1024x8192_S1x1x1024x8192_2_3 rMask))
    (mulf (Host.dotGeneral dot_S1x1024x64x128_S1x8192x64x128_S1x64x1024x8192_3_3_1_1_02_02 none q k) (broadcastInDim S1x64x1024x8192 ![] bcast_S_S1x64x1024x8192 (constant S_ .f32 0x3DB504F3#32)))
    (broadcastInDim S1x64x1024x8192 ![] bcast_S_S1x64x1024x8192 (constant S_ .f32 0xFF800000#32))

/-- Their exponentials. -/
def rEx (s : FVec Ideal S1x64x1024x8192 .f32) : FVec Ideal S1x64x1024x8192 .f32 :=
  Host.exp (subf s (broadcastInDim S1x64x1024x8192 ![0, 1, 2, 3] bcast_S1x64x1024x1_S1x64x1024x8192_0_1_2_3 (broadcastInDim S1x64x1024x1 ![0, 1, 2] bcast_S1x64x1024_S1x64x1024x1_0_1_2
    (Host.reduce FloatOps.maximumf s (constant S_ .f32 0xFF800000#32) reducesTo_S1x64x1024x8192_S1x64x1024_d3 h_S_))))

/-- The exponentials' sums. -/
def rSum (e : FVec Ideal S1x64x1024x8192 .f32) : FVec Ideal S1x64x1024 .f32 :=
  Host.reduceAdd e (constant S_ .f32 0x00000000#32) reducesTo_S1x64x1024x8192_S1x64x1024_d3 h_S_

/-- The weights' denominators. -/
def rDen (z : FVec Ideal S1x64x1024 .f32) : FVec Ideal S1x64x1024x1 .f32 :=
  select (broadcastInDim S1x64x1024x1 ![0, 1, 2, 3] bcast_S1x1x1024x1_S1x64x1024x1_0_1_2_3 (broadcastInDim S1x1x1024x1 ![2] bcast_S1024_S1x1x1024x1_2 rAny))
    (broadcastInDim S1x64x1024x1 ![0, 1, 2] bcast_S1x64x1024_S1x64x1024x1_0_1_2 z)
    (broadcastInDim S1x64x1024x1 ![] bcast_S_S1x64x1024x1 (constant S_ .f32 0x3F800000#32))

/-- The weights. -/
def rW (e : FVec Ideal S1x64x1024x8192 .f32) (d : FVec Ideal S1x64x1024x1 .f32) : FVec Ideal S1x64x1024x8192 .f32 :=
  select (broadcastInDim S1x64x1024x8192 ![0, 1, 2, 3] bcast_S1x1x1024x1_S1x64x1024x8192_0_1_2_3 (broadcastInDim S1x1x1024x1 ![2] bcast_S1024_S1x1x1024x1_2 rAny))
    (Host.divf e (broadcastInDim S1x64x1024x8192 ![0, 1, 2, 3] bcast_S1x64x1024x1_S1x64x1024x8192_0_1_2_3
      d))
    (broadcastInDim S1x64x1024x8192 ![] bcast_S_S1x64x1024x8192 (constant S_ .f32 0x00000000#32))

/-- The weights of exponentials. -/
def rWs (e : FVec Ideal S1x64x1024x8192 .f32) : FVec Ideal S1x64x1024x8192 .f32 := rW e (rDen (rSum e))

/-- The heads' rows, heads side by side. -/
def rAv (w : FVec Ideal S1x64x1024x8192 .f32) (v : FVec Ideal S1x8192x64x128 .f32) : FVec Ideal S1x1024x8192 .f32 :=
  shapeCast S1x1024x8192 (transpose S1x1024x64x128 [0, 3, 1, 2] (Host.dotGeneral dot_S1x8192x64x128_S1x64x1024x8192_S1x64x128x1024_1_3_3_2_02_01 none v w)
    transposes_S1x64x128x1024_S1x1024x64x128_0_3_1_2) shapeCasts_S1x1024x64x128_S1x1024x8192

/-- Times the output weights. -/
def rOut (a : FVec Ideal S1x1024x8192 .f32) (wo : FVec Ideal S8192x1024 .f32) : FVec Ideal S1024x1024 .f32 :=
  shapeCast S1024x1024 (Host.dotGeneral dot_S1x1024x8192_S8192x1024_S1x1024x1024_2_0_01_1_n_n none a wo) shapeCasts_S1x1024x1024_S1024x1024

set_option maxRecDepth 20000 in
theorem res_eq (m : (ℓ : Loc nD τ sig) → Buf (Elt Ideal) ℓ) (c : Dev nD) :
    res_out0 m c = rOut (rAv (rWs (rEx (rSc (rQ (m ((c.tc : Thread nD τ).loc main_arg0)) (m ((c.tc : Thread nD τ).loc main_arg1))) (m ((c.tc : Thread nD τ).loc main_arg2)))))
      (m ((c.tc : Thread nD τ).loc main_arg3))) (m ((c.tc : Thread nD τ).loc main_arg4)) := rfl

theorem rMask_at (i : Fin 1024) (j : Fin 8192) : rMask (ix2 i j) = maskB i.val j.val := by
  unfold maskB
  pointwise [rMask]

theorem rAny_at (i : Fin 1024) : rAny (ix1 i) = 1#1 := by
  have h : rAny (ix1 i) = Finset.univ.fold IntOp.ori 0#1 (fun j : Fin 8192 => rMask (ix2 i j)) := by
    pointwise [rAny]
  rw [h, Routing.fold_ori]
  exact ⟨⟨i.val, by omega⟩, Finset.mem_univ _, by rw [rMask_at]; exact (maskB_iff _ _ (by omega) (by simp only; omega)).mpr ⟨by simp only; omega, by simp only; omega⟩⟩

theorem rQ_at (x : FVec Ideal S1x1024x1024 .f32) (wq : FVec Ideal S1024x8192 .f32) (i : Fin 1024) (H : Fin 64) (e : Fin 128) :
    rQ x wq (ix4 0 i H e) = ∑ a : Fin 1024, (x (ix3 0 i a) : EReal) * wq (ix2 a ⟨128 * H.val + e.val, by omega⟩) := by
  have h : rQ x wq (ix4 0 i H e) = ∑ a : Fin 1024, (x (ix3 0 i a) : EReal) * wq (ix2 a ⟨H.val * 128 + e.val, by omega⟩) := by
    pointwise [rQ]
  rw [h]
  refine Finset.sum_congr rfl fun a _ => ?_
  congr 2
  exact congrArg (ix2 a) (Fin.ext (by simp only; omega))

theorem rSc_at (q : FVec Ideal S1x1024x64x128 .f32) (k : FVec Ideal S1x8192x64x128 .f32) (H : Fin 64) (i : Fin 1024) (j : Fin 8192) :
    rSc q k (ix4 0 H i j) = Scalar.select (rMask (ix2 i j)) ((∑ e : Fin 128, (q (ix4 0 i H e) : EReal) * k (ix4 0 j H e)) * scal) (⊥ : EReal) := by
  rw [← ninf]
  pointwise [rSc]

theorem rEx_at (s : FVec Ideal S1x64x1024x8192 .f32) (H : Fin 64) (i : Fin 1024) (j : Fin 8192) :
    rEx s (ix4 0 H i j) = ee (fun y : Fin 8192 => (s (ix4 0 H i y) : EReal)) j := by
  unfold ee top
  rw [← ninf]
  pointwise [rEx]

theorem rSum_at (e : FVec Ideal S1x64x1024x8192 .f32) (H : Fin 64) (i : Fin 1024) :
    rSum e (ix3 0 H i) = ∑ y : Fin 8192, (e (ix4 0 H i y) : EReal) := by
  unfold rSum
  rw [Host.reduceAdd_apply, Ideal.hostReduceAdd_def, Ideal.hostReduceAdd_r4_a3]
  have h0 : (constant (F := Ideal) S_ FTy.f32 0x00000000#32) (Shape.Idx.first h_S_) = (0 : EReal) := Ideal.ofBits_zero_f32
  refine (congrArg (· + _) h0).trans ((zero_add _).trans ?_)
  rfl

theorem rDen_at (z : FVec Ideal S1x64x1024 .f32) (H : Fin 64) (i : Fin 1024) :
    rDen z (ix4 0 H i 0) = Scalar.select (rAny (ix1 i)) (z (ix3 0 H i)) (Ideal.ofBits .f32 0x3F800000#32) := by
  pointwise [rDen]

theorem rW_at (e : FVec Ideal S1x64x1024x8192 .f32) (d : FVec Ideal S1x64x1024x1 .f32) (H : Fin 64) (i : Fin 1024) (j : Fin 8192) :
    rW e d (ix4 0 H i j) = Scalar.select (rAny (ix1 i)) (Ideal.div (e (ix4 0 H i j)) (d (ix4 0 H i 0))) (Ideal.ofBits .f32 0x00000000#32) := by
  pointwise [rW]

theorem sel_one (a b : EReal) (p : BitVec 1) (h : p = 1#1) : Scalar.select p a b = a := by
  subst h; rfl

theorem rWs_at (e : FVec Ideal S1x64x1024x8192 .f32) (H : Fin 64) (i : Fin 1024) (j : Fin 8192) :
    rWs e (ix4 0 H i j) = Ideal.div (e (ix4 0 H i j)) (∑ y : Fin 8192, (e (ix4 0 H i y) : EReal)) := by
  have h1 := (rDen_at (rSum e) H i).trans (sel_one _ _ _ (rAny_at i))
  unfold rWs
  refine (rW_at e _ H i j).trans ((sel_one _ _ _ (rAny_at i)).trans ?_)
  exact congrArg _ (h1.trans (rSum_at e H i))

theorem rAv_at (w : FVec Ideal S1x64x1024x8192 .f32) (v : FVec Ideal S1x8192x64x128 .f32) (i : Fin 1024) (k : Fin 8192) :
    rAv w v (ix3 0 i k) = ∑ j : Fin 8192, (v (ix4 0 j ⟨k.val / 128, by omega⟩ ⟨k.val % 128, by omega⟩) : EReal) * w (ix4 0 ⟨k.val / 128, by omega⟩ i j) := by
  pointwise [rAv]

theorem rOut_at (a : FVec Ideal S1x1024x8192 .f32) (wo : FVec Ideal S8192x1024 .f32) (i n : Fin 1024) :
    rOut a wo (ix2 i n) = ∑ k : Fin 8192, (a (ix3 0 i k) : EReal) * wo (ix2 k n) := by
  pointwise [rOut]

/-- The reference's result over arrays that hold the layer's inputs. -/
theorem out_at (I : Inp) (x : FVec Ideal S1x1024x1024 .f32) (wq : FVec Ideal S1024x8192 .f32) (k v : FVec Ideal S1x8192x64x128 .f32) (wo : FVec Ideal S8192x1024 .f32)
    (hx : ∀ i a, x (ix3 0 i a) = I.X i a) (hwq : ∀ a l, wq (ix2 a l) = I.WQ a l) (hk : ∀ j H e, k (ix4 0 j H e) = I.K j H e)
    (hv : ∀ j H e, v (ix4 0 j H e) = I.V j H e) (hwo : ∀ l n, wo (ix2 l n) = I.WO l n) (i n : Fin 1024) :
    rOut (rAv (rWs (rEx (rSc (rQ x wq) k))) v) wo (ix2 i n) = ∑ l : Fin 8192, I.T i n l := by
  have hs : ∀ (H : Fin 64) (y : Fin 8192), rSc (rQ x wq) k (ix4 0 H i y) = I.S i H y := fun H y => by
    rw [rSc_at, rMask_at]
    unfold Inp.S Inp.Q
    congr 2
    refine Finset.sum_congr rfl fun e _ => ?_
    rw [rQ_at, hk]
    congr 1
    refine Finset.sum_congr rfl fun a _ => ?_
    rw [hx, hwq]
  rw [rOut_at]
  refine Finset.sum_congr rfl fun l _ => ?_
  rw [rAv_at, hwo]
  unfold Inp.T smx
  refine congrArg (fun z : EReal => z * I.WO l n) (Finset.sum_congr rfl fun j _ => ?_)
  rw [mul_comm, rWs_at, hv]
  simp only [rEx_at, hs]

variable (m : (ℓ : Loc nD τ sig) → Buf (Elt Ideal) ℓ)

/-- The layer's inputs as the reference's one device holds them. -/
def inp : Inp where
  X i a := (m (((0 : Dev nD).tc : Thread nD τ).loc main_arg0) : FVec Ideal S1x1024x1024 .f32) (ix3 0 i a)
  WQ a k := (m (((0 : Dev nD).tc : Thread nD τ).loc main_arg1) : FVec Ideal S1024x8192 .f32) (ix2 a k)
  K j H e := (m (((0 : Dev nD).tc : Thread nD τ).loc main_arg2) : FVec Ideal S1x8192x64x128 .f32) (ix4 0 j H e)
  V j H e := (m (((0 : Dev nD).tc : Thread nD τ).loc main_arg3) : FVec Ideal S1x8192x64x128 .f32) (ix4 0 j H e)
  WO k n := (m (((0 : Dev nD).tc : Thread nD τ).loc main_arg4) : FVec Ideal S8192x1024 .f32) (ix2 k n)

attribute [local irreducible] rOut rAv rWs rEx rSc rQ in
/-- The reference's result. -/
theorem res_at (i n : Fin 1024) : @Eq EReal ((res_out0 m (0 : Dev nD) : FVec Ideal S1024x1024 .f32) (ix2 i n)) (∑ k : Fin 8192, (inp m).T i n k) :=
  (congrFun (res_eq m 0) (ix2 i n)).trans (out_at (inp m) _ _ _ _ _ (fun _ _ => rfl) (fun _ _ => rfl) (fun _ _ _ => rfl) (fun _ _ _ => rfl) (fun _ _ => rfl) i n)

end Cert.ReferenceIdeal
end
-- ==== Proof.Mem.lean ====
/-
  The buffers' contents read at an index, over the extended reals: a device's window of keys and values is its heads of
  the sequence's first 1280 rows, which the first two devices hold.
-/
module

public import proofs.«01_k».proof.Proof.Whole
public import proofs.«01_k».proof.Proof.Sched
public import Idealize.ShloMosaic.Lib.Pipeline.Value

@[expose] public section

noncomputable section

namespace Cert.KernelIdeal

open Cert.KernelIdeal.Gen
open Idealize.ShloMosaic Idealize.SL.Sem Idealize.ShloMosaic.TcCoe

variable (m : (ℓ : Loc nD τ sig) → Buf (Elt Ideal) ℓ)

/-- A device's keys or values. -/
def HV (o : Dev nD) : Fin 2 → Vec Ideal S1x1024x64x128 .f32
  | 0 => m ((o : Thread nD τ).loc main_arg2)
  | 1 => m ((o : Thread nD τ).loc main_arg3)

theorem unit_val {s : Shape} (off size : Fin s.rank → Nat) (inb : ∀ a, off a + size a ≤ s.size a) (j : (Rect.unit off size inb).shape.Idx) (a : Fin s.rank) :
    ((Rect.unit off size inb).emb j a).val = off a + (j a).val := by
  show off a + 1 * (j a).val = _; rw [Nat.one_mul]

/-- An element written through a rectangle of a whole buffer. -/
theorem write_whole (b : Ref sig .tc) (r : Rect b.ty.shape) (f : b.ty.Contents (Elt Ideal)) (w : r.shape.Idx → Elt Ideal b.ty.elt) (x : r.shape.Idx) :
    ((Memref.whole b).access r : View sig .tc _ _ _).write (Elt Ideal) f w Finset.univ (r.emb x) = w x :=
  View.write_emb_of_mem (v := ((Memref.whole b).access r : View sig .tc _ _ _)) (Val := Elt Ideal) f w (M := Finset.univ) (x := x) (Finset.mem_univ x)

theorem LV_at (o : Dev nD) (b : Fin 2) (q : Fin 4) (r : Fin 256) (H : Fin 64) (d : Fin 128) :
    LV m o b q (ix3 r H d) = HV m o b (ix4 0 ⟨256 * q.val + r.val, by omega⟩ H d) := by
  have e : LV m o b q = shapeCast S256x64x128 (fun x : S1x256x64x128.Idx => HV m o b ((hR q).emb x)) (by decide) := by
    match b with
    | 0 => rfl
    | 1 => rfl
  rw [e]
  pointwise []
  refine congrArg (HV m o b) (funext fun a => Fin.ext ?_)
  rw [unit_val]
  match a with
  | ⟨0, _⟩ => rfl
  | ⟨1, _⟩ => rfl
  | ⟨2, _⟩ => exact Nat.zero_add _
  | ⟨3, _⟩ => exact Nat.zero_add _

/-- The buffer of rounded chunks, as a vector. -/
def CV (o : Dev nD) (b : Fin 2) (q : Fin 4) : Vec Ideal S2x256x64x128 .bf16 := CB m o b q

theorem CV_at (o : Dev nD) (b : Fin 2) (q : Fin 4) (r : Fin 256) (H : Fin 64) (d : Fin 128) :
    CV m o b q (ix4 b r H d) = LV m o b q (ix3 r H d) := by
  have e : CV m o b q ((cR b).emb (ix4 0 r H d)) = k0_pay1 (LV m o b q) (ix4 0 r H d) :=
    write_whole cc0_scratch3 (cR b) (m (cM.view.loc (o : Thread nD τ))) (k0_pay1 (LV m o b q)) (ix4 0 r H d)
  have e2 : k0_pay1 (LV m o b q) (ix4 0 r H d) = LV m o b q (ix3 r H d) := by
    pointwise [k0_pay1]
  rw [← e2, ← e]
  refine congrArg (CV m o b q) (funext fun a => Fin.ext ?_)
  rw [unit_val]
  match a with
  | ⟨0, _⟩ => exact (Nat.add_zero _).symm
  | ⟨1, _⟩ => exact (Nat.zero_add _).symm
  | ⟨2, _⟩ => exact (Nat.zero_add _).symm
  | ⟨3, _⟩ => exact (Nat.zero_add _).symm

/-- What a load through a rectangle of a whole buffer reads. -/
theorem read_whole (b : Ref sig .tc) (r : Rect b.ty.shape) (f : b.ty.Contents (Elt Ideal)) (x : r.shape.Idx) :
    (Memref.whole b : Memref sig .tc _ _ _).view.readAt (Elt Ideal) r.toLoadRect f x = f (r.emb x) := rfl

attribute [local irreducible] CB LV k0_pay2 in
theorem KC_at (c : Dev nD) (k : Fin 10) (r : Fin 256) (h : Fin 8) (d : Fin 128) :
    KC m c k (ix3 r h d) = CV m (snd k) (kb k) (kh k) (ix4 (kb k) r ⟨8 * c.val + h.val, by have : c.val < 8 := c.isLt; omega⟩ d) := by
  have hi : (cwR (kb k) c).emb (ix4 0 r h d) = ix4 (kb k) r ⟨8 * c.val + h.val, by have : c.val < 8 := c.isLt; omega⟩ d := by
    funext a
    apply Fin.ext
    rw [unit_val]
    match a with
    | ⟨0, _⟩ => rfl
    | ⟨1, _⟩ => exact Nat.zero_add _
    | ⟨2, _⟩ => rfl
    | ⟨3, _⟩ => exact Nat.zero_add _
  have h1 : ∀ v : Vec Ideal S1x256x8x128 .bf16, k0_pay2 v (ix3 r h d) = v (ix4 0 r h d) := fun v => by
    pointwise [k0_pay2]
  have h2 : ∀ v : Vec Ideal S1x256x8x128 .bf16, shapeCast S256x8x128 v shapeCasts_S1x256x8x128_S256x8x128 (ix3 r h d) = v (ix4 0 r h d) := fun v => by
    pointwise []
  unfold KC
  split_ifs
  · exact (h1 _).trans ((read_whole cc0_scratch3 (cwR (kb k) c) (CB m (snd k) (kb k) (kh k)) (ix4 0 r h d)).trans (congrArg (CV m (snd k) (kb k) (kh k)) hi))
  · refine (h2 (fun x : S1x256x8x128.Idx => CV m (snd k) (kb k) (kh k) ((cwR (kb k) c).emb x))).trans ?_
    exact congrArg (CV m (snd k) (kb k) (kh k)) hi

/-- Device `c`'s window of keys or values, as a vector. -/
def KW (c : Dev nD) : Fin 2 → Vec Ideal S1280x8x128 .bf16
  | 0 => KB m c 0
  | 1 => KB m c 1

theorem KW_chunk (c : Dev nD) (b : Fin 2) (R : Fin 1280) (h : Fin 8) (d : Fin 128) :
    KW m c b (ix3 R h d)
      = KC m c (kk b ⟨R.val / 256, by omega⟩) (ix3 ⟨R.val % 256, by omega⟩ h d) := by
  have e := congrFun (KB_read m c b ⟨R.val / 256, by omega⟩) (ix3 ⟨R.val % 256, by omega⟩ h d)
  rw [← e]
  have hi : (bR ⟨R.val / 256, by omega⟩).emb (ix3 ⟨R.val % 256, by omega⟩ h d) = ix3 R h d := by
    funext a
    apply Fin.ext
    rw [unit_val]
    match a with
    | ⟨0, _⟩ => show 256 * (R.val / 256) + R.val % 256 = R.val; omega
    | ⟨1, _⟩ => show 0 + h.val = h.val; omega
    | ⟨2, _⟩ => show 0 + d.val = d.val; omega
  match b with
  | 0 => exact congrArg (KB m c 0) hi.symm
  | 1 => exact congrArg (KB m c 1) hi.symm

/-- The window's rows are the first 1280 of the sequence, at the device's heads. -/
theorem KW_at (c : Dev nD) (b : Fin 2) (R : Fin 1280) (h : Fin 8) (d : Fin 128) :
    KW m c b (ix3 R h d)
      = HV m ⟨R.val / 1024, by show _ < 8; omega⟩ b (ix4 0 ⟨R.val % 1024, by omega⟩ ⟨8 * c.val + h.val, by have : c.val < 8 := c.isLt; omega⟩ d) := by
  rw [KW_chunk, KC_at, CV_at, LV_at, kb_kk]
  have h1 : snd (kk b ⟨R.val / 256, by omega⟩) = ⟨R.val / 1024, by show _ < 8; omega⟩ := by
    unfold snd kk
    apply Fin.ext
    split_ifs with h
    · simp only at h ⊢; show 0 = _; omega
    · simp only at h ⊢; show 1 = _; omega
  have h2 : 256 * (kh (kk b ⟨R.val / 256, by omega⟩)).val + R.val % 256 = R.val % 1024 := by
    unfold kh kk
    split_ifs with h
    · simp only at h ⊢; omega
    · simp only at h ⊢; show 256 * 0 + _ = _; omega
  rw [h1]
  congr 2
  exact Fin.ext h2

theorem kv2_at (c : Dev nD) (h : Fin 8) (s : Fin 256) (e : Fin 128) :
    (kv2 m c h).1 (ix3 s 0 e) = KW m c 0 (ix3 ⟨s.val, by omega⟩ h e) ∧ (kv2 m c h).2 (ix3 s 0 e) = KW m c 1 (ix3 ⟨s.val, by omega⟩ h e) := by
  have hi : (l2R h).emb (ix3 s 0 e) = ix3 (⟨s.val, by omega⟩ : Fin 1280) h e := by
    funext a
    apply Fin.ext
    rw [unit_val]
    match a with
    | ⟨0, _⟩ => exact Nat.zero_add _
    | ⟨1, _⟩ => rfl
    | ⟨2, _⟩ => exact Nat.zero_add _
  exact ⟨congrArg (KW m c 0) hi, congrArg (KW m c 1) hi⟩

theorem kv3_at (c : Dev nD) (i : Fin 7) (h : Fin 8) (s : Fin 384) (e : Fin 128) :
    (kv3 m c i h).1 (ix3 s 0 e) = KW m c 0 (ix3 ⟨128 * i.val + s.val, by omega⟩ h e)
      ∧ (kv3 m c i h).2 (ix3 s 0 e) = KW m c 1 (ix3 ⟨128 * i.val + s.val, by omega⟩ h e) := by
  have hi : (l3R i h).emb (ix3 s 0 e) = ix3 (⟨128 * i.val + s.val, by omega⟩ : Fin 1280) h e := by
    funext a
    apply Fin.ext
    rw [unit_val]
    match a with
    | ⟨0, _⟩ => rfl
    | ⟨1, _⟩ => rfl
    | ⟨2, _⟩ => exact Nat.zero_add _
  exact ⟨congrArg (KW m c 0) hi, congrArg (KW m c 1) hi⟩

theorem xst_at (c : Dev nD) (i a : Fin 1024) :
    (xst m c : Vec Ideal S1x1024x1024 .f32) (ix3 0 i a) = (m ((c : Thread nD τ).loc main_arg0) : Vec Ideal S1x1024x1024 .f32) (ix3 0 i a) := by
  refine congrArg (m ((c : Thread nD τ).loc main_arg0) : Vec Ideal S1x1024x1024 .f32) (funext fun x => Fin.ext ?_)
  match x with
  | ⟨0, _⟩ => rfl
  | ⟨1, _⟩ => show 0 * 1024 + 1 * i.val = i.val; omega
  | ⟨2, _⟩ => show 0 * 1024 + 1 * a.val = a.val; omega

theorem wqst_at (c : Dev nD) (i a : Fin 1024) :
    (wqst m c : Vec Ideal S1024x1024 .f32) (ix2 i a) = (m ((c : Thread nD τ).loc main_arg1) : Vec Ideal S1024x1024 .f32) (ix2 i a) := by
  refine congrArg (m ((c : Thread nD τ).loc main_arg1) : Vec Ideal S1024x1024 .f32) (funext fun x => Fin.ext ?_)
  match x with
  | ⟨0, _⟩ => show 0 * 1024 + 1 * i.val = i.val; omega
  | ⟨1, _⟩ => show 0 * 1024 + 1 * a.val = a.val; omega

theorem wost_at (c : Dev nD) (i a : Fin 1024) :
    (wost m c : Vec Ideal S1024x1024 .f32) (ix2 i a) = (m ((c : Thread nD τ).loc main_arg4) : Vec Ideal S1024x1024 .f32) (ix2 i a) := by
  refine congrArg (m ((c : Thread nD τ).loc main_arg4) : Vec Ideal S1024x1024 .f32) (funext fun x => Fin.ext ?_)
  match x with
  | ⟨0, _⟩ => show 0 * 1024 + 1 * i.val = i.val; omega
  | ⟨1, _⟩ => show 0 * 1024 + 1 * a.val = a.val; omega

theorem rnd_at (v : Vec Ideal S128x1024 .f32) (r : Fin 128) (n : Fin 1024) :
    shapeCast S128x1024 (truncf (F := Ideal) .bf16 (v : FVec Ideal S128x1024 .f32) bitsLt_bf16_f32) shapeCasts_S128x1024_S128x1024 (ix2 r n) = v (ix2 r n) := by
  pointwise []

theorem sq_at (v : Vec Ideal S1x128x1024 .bf16) (r : Fin 128) (n : Fin 1024) :
    shapeCast S128x1024 v shapeCasts_S1x128x1024_S128x1024 (ix2 r n) = v (ix3 0 r n) := by
  pointwise []

/-- A rounded tile is the tile. -/
theorem ST_at (c : Dev nD) (t : Fin 8) (r : Fin 128) (n : Fin 1024) : ST m c t (ix2 r n) = PT m c t (ix2 r n) := by
  unfold ST PT
  refine Fin.cases ?_ (fun i => ?_) t
  · show sPay2 (xst m c) (wqst m c) (wost m c) (kv2 m c) (ix2 r n) = outPay2 (xst m c) (wqst m c) (wost m c) (kv2 m c) (ix2 r n)
    rw [sPay2_eq]; exact rnd_at _ r n
  · show sPay3 i (xst m c) (wqst m c) (wost m c) (kv3 m c i) (ix2 r n) = outPay3 i (xst m c) (wqst m c) (wost m c) (kv3 m c i) (ix2 r n)
    rw [sPay3_eq]; exact rnd_at _ r n

theorem RV_at (c : Dev nD) (j : Fin 8) (r : Fin 128) (n : Fin 1024) : RV m c j (ix3 0 r n) = PT m j c (ix2 r n) := by
  rw [← sq_at (RV m c j), ← ST_at]
  exact congrFun (View.read_write_univ (v := (rSlot j).view) (m (rM.view.loc (c : Thread nD τ))) (ST m j c)) (ix2 r n)

theorem GV_at (c : Dev nD) (j : Fin 8) (r : Fin 128) (n : Fin 1024) : GV m c j (ix3 0 r n) = AB m j (ix2 r n) := by
  rw [← sq_at (GV m c j)]
  exact congrFun (View.read_write_univ (v := (gSlot j).view) (m (gM.view.loc (c : Thread nD τ))) (AB m j)) (ix2 r n)

theorem AB_at (c : Dev nD) (r : Fin 128) (n : Fin 1024) : AB m c (ix2 r n) = AC m c (ix2 r n) := rnd_at _ r n

theorem acc_at (c : Dev nD) (own : Vec Ideal S128x1024 .f32) (R : Fin 8 → Vec Ideal S1x128x1024 .bf16) (r : Fin 128) (n : Fin 1024) :
    accPay c own R (ix2 r n) = ∑ j : Fin 8, if c = j then own (ix2 r n) else R j (ix3 0 r n) := by
  rw [Fin.sum_univ_eight]
  unfold accPay
  pointwise [k0_pay189, k0_pay190, k0_pay191, k0_pay192, k0_pay193, k0_pay194]
  have h : ∀ (j : Fin 8) (x y : EReal), (if c = j then x else y) = Scalar.select (Scalar.cmpi .eq (v2 c) (BitVec.ofNat 32 j.val)) x y := fun j x y => by
    have e : Scalar.cmpi .eq (v2 c) (BitVec.ofNat 32 j.val) = 1#1 ↔ c = j := by revert c j; decide
    by_cases hc : c = j
    · rw [if_pos hc, e.mpr hc]; rfl
    · rw [if_neg hc, bit_ne (fun h => hc (e.mp h))]; rfl
  rw [h 0, h 1, h 2, h 3, h 4, h 5, h 6, h 7]
  rfl

theorem OT_at (c : Dev nD) (t : Fin 8) (r : Fin 128) (n : Fin 1024) : OT m c t (ix2 r n) = ∑ j : Fin 8, PT m j t (ix2 r n) := by
  have h : AC m t (ix2 r n) = ∑ j : Fin 8, PT m j t (ix2 r n) := by
    unfold AC
    rw [acc_at]
    refine Finset.sum_congr rfl fun j _ => ?_
    split_ifs with h
    · rw [h]
    · exact RV_at m t j r n
  rw [← h]
  have h2 : ∀ v : Vec Ideal S1x128x1024 .bf16, k0_pay196 v (ix2 r n) = v (ix3 0 r n) := fun v => by
    pointwise [k0_pay196]
  unfold OT
  split_ifs with e
  · rw [e]
  · rw [h2, GV_at, AB_at]

/-- The result, as a vector. -/
def OV (c : Dev nD) : Vec Ideal S1024x1024 .f32 := OUT m c

theorem OV_tile (c : Dev nD) (t : Fin 8) (i : S1024x1024.Idx) (h : rowt i = t) :
    OV m c i = ((Memref.whole cc0_stg3_0).access (tR t) : View sig .tc _ _ _).write (Elt Ideal) (m (outM.view.loc (c : Thread nD τ))) (OT m c t) Finset.univ i := by
  subst h; rfl

attribute [local irreducible] OV OT PT in
theorem OV_at (c : Dev nD) (i n : Fin 1024) :
    OV m c (ix2 i n) = ∑ j : Fin 8, PT m j ⟨i.val / 128, by omega⟩ (ix2 ⟨i.val % 128, by omega⟩ n) := by
  rw [← OT_at m c]
  have e := write_whole cc0_stg3_0 (tR ⟨i.val / 128, by omega⟩) (m (outM.view.loc (c : Thread nD τ)))
    (OT m c ⟨i.val / 128, by omega⟩) (ix2 ⟨i.val % 128, by omega⟩ n)
  rw [← e]
  have hi : ix2 i n = (tR ⟨i.val / 128, by omega⟩).emb (ix2 ⟨i.val % 128, by omega⟩ n) := by
    funext a
    apply Fin.ext
    rw [unit_val]
    match a with
    | ⟨0, _⟩ => show i.val = 128 * (i.val / 128) + i.val % 128; omega
    | ⟨1, _⟩ => exact (Nat.zero_add _).symm
  rw [OV_tile m c ⟨i.val / 128, by omega⟩ (ix2 i n) rfl, hi]

end Cert.KernelIdeal

end
-- ==== Proof.KernelVal.lean ====
/-
  The kernel's result as the whole attention layer: each device's output is the sum of the eight devices' shares.
-/
module

public import proofs.«01_k».proof.Proof.Mem

@[expose] public section

noncomputable section

namespace Cert.KernelIdeal

open Cert.KernelIdeal.Gen
open Idealize.ShloMosaic Idealize.SL.Sem Idealize.ShloMosaic.TcCoe

variable (m : (ℓ : Loc nD τ sig) → Buf (Elt Ideal) ℓ)

/-- The devices hold their parts of the layer's inputs. -/
structure Holds (I : Inp) : Prop where
  x : ∀ (c : Dev nD) (i a : Fin 1024), (m ((c : Thread nD τ).loc main_arg0) : Vec Ideal S1x1024x1024 .f32) (ix3 0 i a) = I.X i a
  wq : ∀ (c : Fin 8) (a k : Fin 1024), (m (((c : Dev nD) : Thread nD τ).loc main_arg1) : Vec Ideal S1024x1024 .f32) (ix2 a k) = I.WQ a ⟨1024 * c.val + k.val, by omega⟩
  wo : ∀ (c : Fin 8) (k n : Fin 1024), (m (((c : Dev nD) : Thread nD τ).loc main_arg4) : Vec Ideal S1024x1024 .f32) (ix2 k n) = I.WO ⟨1024 * c.val + k.val, by omega⟩ n
  k : ∀ (c : Fin 8) (r : Fin 1024) (H : Fin 64) (d : Fin 128), HV m c 0 (ix4 0 r H d) = I.K ⟨1024 * c.val + r.val, by omega⟩ H d
  v : ∀ (c : Fin 8) (r : Fin 1024) (H : Fin 64) (d : Fin 128), HV m c 1 (ix4 0 r H d) = I.V ⟨1024 * c.val + r.val, by omega⟩ H d

variable {m} {I : Inp}

theorem Holds.dev (h : Holds m I) (c : Fin 8) : I.Dev c (xst m c) (wqst m c) (wost m c) :=
  ⟨fun i a => (xst_at m c i a).trans (h.x c i a), fun a k => (wqst_at m c a k).trans (h.wq c a k), fun k n => (wost_at m c k n).trans (h.wo c k n)⟩

theorem Holds.kw0 (h : Holds m I) (c : Fin 8) (R : Fin 1280) (H : Fin 8) (d : Fin 128) :
    KW m c 0 (ix3 R H d) = I.K ⟨R.val, by omega⟩ ⟨8 * c.val + H.val, by omega⟩ d := by
  rw [KW_at, h.k ⟨R.val / 1024, by omega⟩]
  congr 1
  exact Fin.ext (by simp only; omega)

theorem Holds.kw1 (h : Holds m I) (c : Fin 8) (R : Fin 1280) (H : Fin 8) (d : Fin 128) :
    KW m c 1 (ix3 R H d) = I.V ⟨R.val, by omega⟩ ⟨8 * c.val + H.val, by omega⟩ d := by
  rw [KW_at, h.v ⟨R.val / 1024, by omega⟩]
  congr 1
  exact Fin.ext (by simp only; omega)

theorem Holds.PT_at (h : Holds m I) (hI : I.Ok) (c t : Fin 8) (r : Fin 128) (n : Fin 1024) :
    PT m c t (ix2 r n) = ∑ k : Fin 1024, I.T ⟨128 * t.val + r.val, by omega⟩ n ⟨1024 * c.val + k.val, by omega⟩ := by
  unfold PT
  refine Fin.cases ?_ (fun i => ?_) t
  · refine (tile2_at I hI c _ _ _ (h.dev c) (kv2 m c) (fun H s e => (kv2_at m c H s e).1.trans (h.kw0 c _ _ _))
      (fun H s e => (kv2_at m c H s e).2.trans (h.kw1 c _ _ _)) r n).trans ?_
    refine Finset.sum_congr rfl fun k _ => ?_
    congr 1
    exact Fin.ext (by simp only [Fin.val_zero]; omega)
  · exact tile3_at I hI c _ _ _ (h.dev c) i (kv3 m c i) (fun H s e => (kv3_at m c i H s e).1.trans (h.kw0 c _ _ _))
      (fun H s e => (kv3_at m c i H s e).2.trans (h.kw1 c _ _ _)) r n

/-- The kernel's result. -/
theorem Holds.OV_at (h : Holds m I) (hI : I.Ok) (c : Dev nD) (i n : Fin 1024) : OV m c (ix2 i n) = ∑ k : Fin 8192, I.T i n k := by
  rw [Cert.KernelIdeal.OV_at, ← sum_shares]
  refine Finset.sum_congr rfl fun j _ => ?_
  rw [h.PT_at hI]
  refine Finset.sum_congr rfl fun k _ => ?_
  congr 1
  exact Fin.ext (by simp only; omega)

end Cert.KernelIdeal

end
-- ==== Proof.Value.lean ====
/-
  The kernel over the extended reals computes the reference's result: where the activations, the query weights and the
  keys are finite, every device of the ideal kernel ends holding what the reference ends holding.
-/
module

public import proofs.«01_k».proof.Defs
public import proofs.«01_k».proof.Proof.RefVal
public import proofs.«01_k».proof.Proof.KernelVal
public import proofs.«01_k».proof.Proof.Launch
public import Idealize.ShloMosaic.Lib.ReduceAll
public import Idealize.ShloMosaic.Lib.LayoutAt
public import Idealize.ShloMosaic.Lib.Pointwise.Select

@[expose] public section

noncomputable section

namespace Cert.Proof

open Idealize.ShloMosaic Idealize.SL.Sem Idealize.ShloMosaic.TcCoe
open Cert.KernelIdeal (IsFin Inp)

theorem preK : Cert.Pre_finite_scores_KernelIdeal.Facts where
  bcast_S_S1x1024x1024 := by decide
  reducesTo_S1x1024x1024_S_d0_1_2 := by decide
  h_S_ := by decide
  bcast_S_S1024x1024 := by decide
  reducesTo_S1024x1024_S_d0_1 := by decide
  bcast_S_S1x1024x64x128 := by decide
  reducesTo_S1x1024x64x128_S_d0_1_2_3 := by decide

theorem preR : Cert.Pre_finite_scores_ReferenceIdeal.Facts where
  bcast_S_S1x1024x1024 := by decide
  reducesTo_S1x1024x1024_S_d0_1_2 := by decide
  h_S_ := by decide
  bcast_S_S1024x8192 := by decide
  reducesTo_S1024x8192_S_d0_1 := by decide
  bcast_S_S1x8192x64x128 := by decide
  reducesTo_S1x8192x64x128_S_d0_1_2_3 := by decide

/-! ## The precondition read back -/

theorem pinf : (Ideal.ofBits .f32 0x7F800000#32 : EReal) = ⊤ := by
  first | rfl | simp

/-- An element whose absolute value is below infinity is finite. -/
theorem fin_of_abs (x : EReal) (h : Ideal.cmp .olt (max x (-x)) (Ideal.ofBits .f32 0x7F800000#32) = 1#1) : IsFin x := by
  rw [pinf] at h
  have h' : max x (-x) < ⊤ := by
    by_contra hn
    have e : Ideal.cmp .olt (max x (-x)) ⊤ = BitVec.ofBool (decide (max x (-x) < (⊤ : EReal))) := rfl
    rw [e, decide_eq_false hn] at h
    exact absurd h (by decide)
  refine ⟨fun e => ?_, fun e => ?_⟩
  · subst e; simp at h'
  · subst e; simp at h'

theorem andi_both {s : Shape} {x y : IVec s 1} (h : andi x y = fun _ => 1#1) : (x = fun _ => 1#1) ∧ y = fun _ => 1#1 :=
  ⟨funext fun i => (IntOp.andi_eq_one.1 (congrFun h i)).1, funext fun i => (IntOp.andi_eq_one.1 (congrFun h i)).2⟩

theorem sub0 : Subsingleton (⟨0, ![]⟩ : Shape).Idx := ⟨fun a b => funext fun i => i.elim0⟩

/-- An array whose elements all pass the test is finite. -/
theorem fin_all {s : Shape} {axes : List (Fin s.rank)} (x : FVec Ideal s .f32) (hb : (⟨0, ![]⟩ : Shape).BroadcastsInDim s (![] : Fin 0 → Fin s.rank))
    (hr : s.ReducesTo axes ⟨0, ![]⟩) (hn : 0 < (⟨0, ![]⟩ : Shape).numel)
    (e : Host.reduce IntOp.andi (cmpf .olt (Host.absf x) (broadcastInDim s ![] hb (constant ⟨0, ![]⟩ .f32 0x7F800000#32))) (constantI ⟨0, ![]⟩ 1 1#1) hr hn = fun _ => 1#1)
    (i : s.Idx) : IsFin (x i) :=
  haveI := sub0
  fin_of_abs (x i) (Host.reduce_andi_all _ _ hr hn (fun a => a.elim0) (congrFun e _) i)

/-- What the precondition says of one device's blocks. -/
theorem pre_fin (x : FVec Ideal ⟨3, ![1, 1024, 1024]⟩ .f32) (wq : FVec Ideal ⟨2, ![1024, 1024]⟩ .f32) (k v : FVec Ideal ⟨4, ![1, 1024, 64, 128]⟩ .f32)
    (wo : FVec Ideal ⟨2, ![1024, 1024]⟩ .f32) (h : @Cert.Pre_finite_scores_KernelIdeal.fn preK Ideal _ x wq k v wo = fun _ => 1#1) :
    (∀ i, IsFin (x i)) ∧ (∀ i, IsFin (wq i)) ∧ ∀ i, IsFin (k i) := by
  obtain ⟨h1, h3⟩ := andi_both h
  obtain ⟨h1, h2⟩ := andi_both h1
  exact ⟨fin_all x _ _ _ h1, fin_all wq _ _ _ h2, fin_all k _ _ _ h3⟩

/-! ## The devices' blocks -/

theorem block1_at (v : FVec Ideal ⟨2, ![1024, 8192]⟩ .f32) (c : Fin 8) (a k : Fin 1024) :
    Layout.block ⟨2, ![1024, 1024]⟩ ⟨2, ![1024, 8192]⟩ 1 8 c v (by decide) (ix2 a k) = v (ix2 a ⟨1024 * c.val + k.val, by omega⟩) := by
  rw [Layout.block_apply]
  refine congrArg v (funext fun b => Fin.ext ?_)
  match b with
  | ⟨0, _⟩ => rfl
  | ⟨1, _⟩ => exact congrArg (· + k.val) (Nat.mul_comm c.val 1024)

theorem block0_at (v : FVec Ideal ⟨2, ![8192, 1024]⟩ .f32) (c : Fin 8) (k n : Fin 1024) :
    Layout.block ⟨2, ![1024, 1024]⟩ ⟨2, ![8192, 1024]⟩ 0 8 c v (by decide) (ix2 k n) = v (ix2 ⟨1024 * c.val + k.val, by omega⟩ n) := by
  rw [Layout.block_apply]
  refine congrArg v (funext fun b => Fin.ext ?_)
  match b with
  | ⟨0, _⟩ => exact congrArg (· + k.val) (Nat.mul_comm c.val 1024)
  | ⟨1, _⟩ => rfl

theorem block4_at (v : FVec Ideal ⟨4, ![1, 8192, 64, 128]⟩ .f32) (c : Fin 8) (r : Fin 1024) (H : Fin 64) (d : Fin 128) :
    Layout.block ⟨4, ![1, 1024, 64, 128]⟩ ⟨4, ![1, 8192, 64, 128]⟩ 1 8 c v (by decide) (ix4 0 r H d) = v (ix4 0 ⟨1024 * c.val + r.val, by omega⟩ H d) := by
  rw [Layout.block_apply]
  refine congrArg v (funext fun b => Fin.ext ?_)
  match b with
  | ⟨0, _⟩ => rfl
  | ⟨1, _⟩ => exact congrArg (· + r.val) (Nat.mul_comm c.val 1024)
  | ⟨2, _⟩ => rfl
  | ⟨3, _⟩ => rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The kernel's memory holds the reference's arguments: copies, or blocks by device. -/
def Agree : Prop := ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![1, 1024, 64, 128]⟩ ⟨4, ![1, 8192, 64, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 64, 128]⟩ ⟨4, ![1, 8192, 64, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))

variable {m m'}

theorem holds (h : Agree m m') : Cert.KernelIdeal.Holds m (Cert.ReferenceIdeal.inp m') where
  x c i a := congrFun (h c).1 (ix3 0 i a)
  wq c a k := (congrFun (h c).2.1 (ix2 a k)).trans (block1_at _ c a k)
  wo c k n := (congrFun (h c).2.2.2.2 (ix2 k n)).trans (block0_at _ c k n)
  k c r H d := (congrFun (h c).2.2.1 (ix4 0 r H d)).trans (block4_at _ c r H d)
  v c r H d := (congrFun (h c).2.2.2.1 (ix4 0 r H d)).trans (block4_at _ c r H d)

theorem okay (h : Agree m m') (hp : @Cert.Pre_KernelIdeal_finite_scores_KernelIdeal preK m) : (Cert.ReferenceIdeal.inp m').Ok := by
  have hh := holds h
  have hf := fun c : Dev Cert.KernelIdeal.nD => pre_fin _ _ _ _ _ (hp c)
  refine ⟨fun i a => ?_, fun a k => ?_, fun j H e => ?_⟩
  · rw [← hh.x (0 : Fin 8) i a]; exact (hf (0 : Fin 8)).1 _
  · have hk := hh.wq ⟨k.val / 1024, by omega⟩ a ⟨k.val % 1024, by omega⟩
    rw [show (⟨1024 * (k.val / 1024) + k.val % 1024, by omega⟩ : Fin 8192) = k from Fin.ext (by simp only; omega)] at hk
    rw [← hk]; exact (hf (⟨k.val / 1024, by omega⟩ : Fin 8)).2.1 _
  · have hk := hh.k ⟨j.val / 1024, by omega⟩ ⟨j.val % 1024, by omega⟩ H e
    rw [show (⟨1024 * (j.val / 1024) + j.val % 1024, by omega⟩ : Fin 8192) = j from Fin.ext (by simp only; omega)] at hk
    rw [← hk]; exact (hf (⟨j.val / 1024, by omega⟩ : Fin 8)).2.2 _

/-- An index of a matrix is its two coordinates. -/
theorem idx_two {a b : ℕ} (f g : (⟨2, ![a, b]⟩ : Shape).Idx → EReal) (h : ∀ i j, f (ix2 i j) = g (ix2 i j)) : f = g := by
  funext x
  have e : x = ix2 (x 0) (x 1) := by
    funext d
    match d with
    | ⟨0, _⟩ => rfl
    | ⟨1, _⟩ => rfl
  rw [e]; exact h _ _

/-- Every device's output is the reference's result. -/
theorem out_eq (h : Agree m m') (hp : @Cert.Pre_KernelIdeal_finite_scores_KernelIdeal preK m) (c : Dev Cert.KernelIdeal.nD) :
    (Cert.KernelIdeal.OV m c : FVec Ideal ⟨2, ![1024, 1024]⟩ .f32) = Cert.ReferenceIdeal.Value.res_out0 m' (0 : Dev Cert.ReferenceIdeal.nD) :=
  idx_two _ _ fun i n => ((holds h).OV_at (okay h hp) c i n).trans (Cert.ReferenceIdeal.res_at m' i n).symm

variable (m)

/-- The output window is the whole of the kernel's result array. -/
theorem final_out (c : Dev Cert.KernelIdeal.nD) :
    (Cert.KernelIdeal.finalA (F := Ideal) m c (3 : Fin 4) : FVec Ideal ⟨2, ![1024, 1024]⟩ .f32) = Cert.KernelIdeal.OV m c := by
  refine idx_two _ _ fun i n => Eq.trans ?_ (congrFun (Cert.KernelIdeal.finalA_out m c) (ix2 i n))
  refine congrArg (Cert.KernelIdeal.finalA (F := Ideal) m c (3 : Fin 4) : FVec Ideal ⟨2, ![1024, 1024]⟩ .f32) (funext fun x => Fin.ext ?_)
  match x with
  | ⟨0, _⟩ => show i.val = 0 * 1024 + 1 * i.val; omega
  | ⟨1, _⟩ => show n.val = 0 * 1024 + 1 * n.val; omega

theorem algebraic : @Cert.algebraic_KernelIdeal_ReferenceIdeal_pre_finite_scores_KernelIdeal Cert.KernelIdeal.Gen.facts Cert.ReferenceIdeal.Gen.facts preK := by
  intro m g m' g' hp h
  refine ⟨Cert.ReferenceIdeal.Value.res_out0 m' (0 : Dev Cert.ReferenceIdeal.nD), ?_, ?_⟩
  · refine (θ_run Cert.KernelIdeal.defs _ _).mono (fun r hr c => ?_) (Cert.KernelIdeal.run_main m g)
    have hc := hr.1 c
    exact ⟨((hc.1 (3 : Fin 4)).trans (final_out m c)).trans (out_eq h hp c), (hc.1 (0 : Fin 4)).trans (Cert.KernelIdeal.finalA_in m c (0 : Fin 4) rfl),
      (hc.1 (1 : Fin 4)).trans (Cert.KernelIdeal.finalA_in m c (1 : Fin 4) rfl), hc.2.1, hc.2.2, (hc.1 (2 : Fin 4)).trans (Cert.KernelIdeal.finalA_in m c (2 : Fin 4) rfl)⟩
  · exact (θ_run Cert.ReferenceIdeal.defs _ _).mono (fun r hr => hr (0 : Dev Cert.ReferenceIdeal.nD)) (Cert.ReferenceIdeal.Value.run m' g')

end Cert.Proof
end
-- ==== Proof.lean ====
/-
  The certificate's claims: the kernel as printed, the kernel over the extended reals and the reference each run and
  leave their arguments alone; the ideal kernel is the printed one with its mask's literal named; and the ideal kernel's
  result, on every device, is the reference's where the activations, the query weights and the keys are finite.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Printed
public import proofs.«01_k».proof.Proof.Value
public import Idealize.ShloMosaic.Adequacy
public import Idealize.ShloMosaic.Lib.Quiescent
public import Idealize.ShloMosaic.Init

@[expose] public section

noncomputable section

namespace Cert.Proof

open Idealize.ShloMosaic Idealize.SL.Sem

/-- The reference runs, leaves its arguments alone and has no semaphore. -/
theorem frame_r : @Cert.quiescent_ReferenceIdeal Cert.ReferenceIdeal.Gen.facts := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The named constant is the mask's value over the extended reals and its own pattern in the program as printed. -/
theorem preserves : Cert.preserves_Kernel_KernelIdeal :=
  IdealRules.named_const.statement Cert.KernelIdeal.κ "mask" .f32 0xCE6E6B28#32 ⊥ rfl

theorem frame_i_pre : @Cert.quiescent_KernelIdeal_pre_finite_scores_KernelIdeal Cert.KernelIdeal.Gen.facts preK := fun m ρ _ =>
  Cert.frame_KernelIdeal m ρ trivial

theorem frame_r_pre : @Cert.quiescent_ReferenceIdeal_pre_finite_scores_ReferenceIdeal Cert.ReferenceIdeal.Gen.facts preR := fun m ρ _ =>
  frame_r m ρ trivial

theorem claim : Cert.Claim := ⟨Cert.Kernel.Gen.facts, Cert.KernelIdeal.Gen.facts, Cert.ReferenceIdeal.Gen.facts, preK, preR,
  Cert.frame_Kernel, Cert.frame_KernelIdeal, frame_i_pre, frame_r, frame_r_pre, preserves, algebraic⟩

end Cert.Proof

end
